-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelResid (m : (ℓ : Loc Cert.KernelResid.nD Cert.KernelResid.τ Cert.KernelResid.sig) → Buf (Elt Bits) ℓ) : Prop :=
  True

def Pre_KernelResidIdeal (m : (ℓ : Loc Cert.KernelResidIdeal.nD Cert.KernelResidIdeal.τ Cert.KernelResidIdeal.sig) → Buf (Elt Ideal) ℓ) : Prop :=
  True

def Pre_ReferenceResidIdeal (m : (ℓ : Loc Cert.ReferenceResidIdeal.nD Cert.ReferenceResidIdeal.τ Cert.ReferenceResidIdeal.sig) → Buf (Elt Ideal) ℓ) : Prop :=
  True

def Pre_KernelNorms (m : (ℓ : Loc Cert.KernelNorms.nD Cert.KernelNorms.τ Cert.KernelNorms.sig) → Buf (Elt Bits) ℓ) : Prop :=
  True

def Pre_KernelNormsIdeal (m : (ℓ : Loc Cert.KernelNormsIdeal.nD Cert.KernelNormsIdeal.τ Cert.KernelNormsIdeal.sig) → Buf (Elt Ideal) ℓ) : Prop :=
  True

def Pre_KernelNormsIdeal_all_finite [hPre_all_finite : Cert.Pre_all_finite.Facts] (m : (ℓ : Loc Cert.KernelNormsIdeal.nD Cert.KernelNormsIdeal.τ Cert.KernelNormsIdeal.sig) → Buf (Elt Ideal) ℓ) : Prop :=
  ∀ c : Dev Cert.KernelNormsIdeal.nD,
    (Cert.Pre_all_finite.fn (F := Ideal) (m ((c.tc : Thread Cert.KernelNormsIdeal.nD Cert.KernelNormsIdeal.τ).loc Cert.KernelNormsIdeal.main_arg0)) (m ((c.tc : Thread Cert.KernelNormsIdeal.nD Cert.KernelNormsIdeal.τ).loc Cert.KernelNormsIdeal.main_arg1)) (m ((c.tc : Thread Cert.KernelNormsIdeal.nD Cert.KernelNormsIdeal.τ).loc Cert.KernelNormsIdeal.main_arg2)) (m ((c.tc : Thread Cert.KernelNormsIdeal.nD Cert.KernelNormsIdeal.τ).loc Cert.KernelNormsIdeal.main_arg3)) (m ((c.tc : Thread Cert.KernelNormsIdeal.nD Cert.KernelNormsIdeal.τ).loc Cert.KernelNormsIdeal.main_arg4)) (m ((c.tc : Thread Cert.KernelNormsIdeal.nD Cert.KernelNormsIdeal.τ).loc Cert.KernelNormsIdeal.main_arg5)) (m ((c.tc : Thread Cert.KernelNormsIdeal.nD Cert.KernelNormsIdeal.τ).loc Cert.KernelNormsIdeal.main_arg6))) = (fun _ => 1#1)

def Pre_ReferenceNormsIdeal (m : (ℓ : Loc Cert.ReferenceNormsIdeal.nD Cert.ReferenceNormsIdeal.τ Cert.ReferenceNormsIdeal.sig) → Buf (Elt Ideal) ℓ) : Prop :=
  True

def Pre_ReferenceNormsIdeal_all_finite [hPre_all_finite : Cert.Pre_all_finite.Facts] (m : (ℓ : Loc Cert.ReferenceNormsIdeal.nD Cert.ReferenceNormsIdeal.τ Cert.ReferenceNormsIdeal.sig) → Buf (Elt Ideal) ℓ) : Prop :=
  ∀ c : Dev Cert.ReferenceNormsIdeal.nD,
    (Cert.Pre_all_finite.fn (F := Ideal) (m ((c.tc : Thread Cert.ReferenceNormsIdeal.nD Cert.ReferenceNormsIdeal.τ).loc Cert.ReferenceNormsIdeal.main_arg0)) (m ((c.tc : Thread Cert.ReferenceNormsIdeal.nD Cert.ReferenceNormsIdeal.τ).loc Cert.ReferenceNormsIdeal.main_arg1)) (m ((c.tc : Thread Cert.ReferenceNormsIdeal.nD Cert.ReferenceNormsIdeal.τ).loc Cert.ReferenceNormsIdeal.main_arg2)) (m ((c.tc : Thread Cert.ReferenceNormsIdeal.nD Cert.ReferenceNormsIdeal.τ).loc Cert.ReferenceNormsIdeal.main_arg3)) (m ((c.tc : Thread Cert.ReferenceNormsIdeal.nD Cert.ReferenceNormsIdeal.τ).loc Cert.ReferenceNormsIdeal.main_arg4)) (m ((c.tc : Thread Cert.ReferenceNormsIdeal.nD Cert.ReferenceNormsIdeal.τ).loc Cert.ReferenceNormsIdeal.main_arg5)) (m ((c.tc : Thread Cert.ReferenceNormsIdeal.nD Cert.ReferenceNormsIdeal.τ).loc Cert.ReferenceNormsIdeal.main_arg6))) = (fun _ => 1#1)

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelInA (m : (ℓ : Loc Cert.KernelInA.nD Cert.KernelInA.τ Cert.KernelInA.sig) → Buf (Elt Bits) ℓ) : Prop :=
  True

def Pre_KernelInAIdeal (m : (ℓ : Loc Cert.KernelInAIdeal.nD Cert.KernelInAIdeal.τ Cert.KernelInAIdeal.sig) → Buf (Elt Ideal) ℓ) : Prop :=
  True

def Pre_ReferenceInAIdeal (m : (ℓ : Loc Cert.ReferenceInAIdeal.nD Cert.ReferenceInAIdeal.τ Cert.ReferenceInAIdeal.sig) → Buf (Elt Ideal) ℓ) : Prop :=
  True

def Pre_KernelInB (m : (ℓ : Loc Cert.KernelInB.nD Cert.KernelInB.τ Cert.KernelInB.sig) → Buf (Elt Bits) ℓ) : Prop :=
  True

def Pre_KernelInBIdeal (m : (ℓ : Loc Cert.KernelInBIdeal.nD Cert.KernelInBIdeal.τ Cert.KernelInBIdeal.sig) → Buf (Elt Ideal) ℓ) : Prop :=
  True

def Pre_ReferenceInBIdeal (m : (ℓ : Loc Cert.ReferenceInBIdeal.nD Cert.ReferenceInBIdeal.τ Cert.ReferenceInBIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelRowsA (m : (ℓ : Loc Cert.KernelRowsA.nD Cert.KernelRowsA.τ Cert.KernelRowsA.sig) → Buf (Elt Bits) ℓ) : Prop :=
  True

def Pre_KernelRowsAIdeal (m : (ℓ : Loc Cert.KernelRowsAIdeal.nD Cert.KernelRowsAIdeal.τ Cert.KernelRowsAIdeal.sig) → Buf (Elt Ideal) ℓ) : Prop :=
  True

def Pre_ReferenceRowsAIdeal (m : (ℓ : Loc Cert.ReferenceRowsAIdeal.nD Cert.ReferenceRowsAIdeal.τ Cert.ReferenceRowsAIdeal.sig) → Buf (Elt Ideal) ℓ) : Prop :=
  True

def Pre_KernelProjA (m : (ℓ : Loc Cert.KernelProjA.nD Cert.KernelProjA.τ Cert.KernelProjA.sig) → Buf (Elt Bits) ℓ) : Prop :=
  True

def Pre_KernelProjAIdeal (m : (ℓ : Loc Cert.KernelProjAIdeal.nD Cert.KernelProjAIdeal.τ Cert.KernelProjAIdeal.sig) → Buf (Elt Ideal) ℓ) : Prop :=
  True

def Pre_ReferenceProjAIdeal (m : (ℓ : Loc Cert.ReferenceProjAIdeal.nD Cert.ReferenceProjAIdeal.τ Cert.ReferenceProjAIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_KernelFirstIdeal_first_finite [hPre_first_finite : Cert.Pre_first_finite.Facts] (m : (ℓ : Loc Cert.KernelFirstIdeal.nD Cert.KernelFirstIdeal.τ Cert.KernelFirstIdeal.sig) → Buf (Elt Ideal) ℓ) : Prop :=
  ∀ c : Dev Cert.KernelFirstIdeal.nD,
    (Cert.Pre_first_finite.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4))) = (fun _ => 1#1)

def Pre_ReferenceFirstIdeal (m : (ℓ : Loc Cert.ReferenceFirstIdeal.nD Cert.ReferenceFirstIdeal.τ Cert.ReferenceFirstIdeal.sig) → Buf (Elt Ideal) ℓ) : Prop :=
  True

def Pre_ReferenceFirstIdeal_first_finite [hPre_first_finite : Cert.Pre_first_finite.Facts] (m : (ℓ : Loc Cert.ReferenceFirstIdeal.nD Cert.ReferenceFirstIdeal.τ Cert.ReferenceFirstIdeal.sig) → Buf (Elt Ideal) ℓ) : Prop :=
  ∀ c : Dev Cert.ReferenceFirstIdeal.nD,
    (Cert.Pre_first_finite.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4))) = (fun _ => 1#1)

def Pre_KernelLarge (m : (ℓ : Loc Cert.KernelLarge.nD Cert.KernelLarge.τ Cert.KernelLarge.sig) → Buf (Elt Bits) ℓ) : Prop :=
  True

def Pre_KernelLargeIdeal (m : (ℓ : Loc Cert.KernelLargeIdeal.nD Cert.KernelLargeIdeal.τ Cert.KernelLargeIdeal.sig) → Buf (Elt Ideal) ℓ) : Prop :=
  True

def Pre_ReferenceLargeIdeal (m : (ℓ : Loc Cert.ReferenceLargeIdeal.nD Cert.ReferenceLargeIdeal.τ Cert.ReferenceLargeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelResid [hKernelResid : Cert.KernelResid.Facts] : Prop :=
  ∀ (m : (ℓ : Loc Cert.KernelResid.nD Cert.KernelResid.τ Cert.KernelResid.sig) → Buf (Elt Bits) ℓ) (g : Dev Cert.KernelResid.nD → PrngReg), Pre_KernelResid m →
    θ_run (Cert.KernelResid.defs (F := Bits)) (onTc (τ := Cert.KernelResid.τ) (Cert.KernelResid.main (F := Bits))) ⟨m, fun _ => 0, g⟩ (fun r => (∀ c : Dev Cert.KernelResid.nD,
      r.2.mem ((c.tc : Thread Cert.KernelResid.nD Cert.KernelResid.τ).loc Cert.KernelResid.main_arg0) = m ((c.tc : Thread Cert.KernelResid.nD Cert.KernelResid.τ).loc Cert.KernelResid.main_arg0)
      ∧ r.2.mem ((c.tc : Thread Cert.KernelResid.nD Cert.KernelResid.τ).loc Cert.KernelResid.main_arg1) = m ((c.tc : Thread Cert.KernelResid.nD Cert.KernelResid.τ).loc Cert.KernelResid.main_arg1)
      ∧ r.2.mem ((c.tc : Thread Cert.KernelResid.nD Cert.KernelResid.τ).loc Cert.KernelResid.main_arg2) = m ((c.tc : Thread Cert.KernelResid.nD Cert.KernelResid.τ).loc Cert.KernelResid.main_arg2)
      ∧ r.2.mem ((c.tc : Thread Cert.KernelResid.nD Cert.KernelResid.τ).loc Cert.KernelResid.main_arg3) = m ((c.tc : Thread Cert.KernelResid.nD Cert.KernelResid.τ).loc Cert.KernelResid.main_arg3)
      ∧ r.2.mem ((c.tc : Thread Cert.KernelResid.nD Cert.KernelResid.τ).loc Cert.KernelResid.main_arg4) = m ((c.tc : Thread Cert.KernelResid.nD Cert.KernelResid.τ).loc Cert.KernelResid.main_arg4))
      ∧ r.2.sem = fun _ => 0)

def quiescent_KernelResidIdeal [hKernelResidIdeal : Cert.KernelResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg), Pre_KernelResidIdeal m →
    θ_run (Cert.KernelResidIdeal.defs (F := Ideal)) (onTc (τ := Cert.KernelResidIdeal.τ) (Cert.KernelResidIdeal.main (F := Ideal))) ⟨m, fun _ => 0, g⟩ (fun r => (∀ c : Dev Cert.KernelResidIdeal.nD,
      r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
      ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
      ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
      ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
      ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4))
      ∧ r.2.sem = fun _ => 0)

def quiescent_ReferenceResidIdeal [hReferenceResidIdeal : Cert.ReferenceResidIdeal.Facts] : Prop :=
  ∀ (m : (ℓ : Loc Cert.ReferenceResidIdeal.nD Cert.ReferenceResidIdeal.τ Cert.ReferenceResidIdeal.sig) → Buf (Elt Ideal) ℓ) (g : Dev Cert.ReferenceResidIdeal.nD → PrngReg), Pre_ReferenceResidIdeal m →
    θ_run (Cert.ReferenceResidIdeal.defs (F := Ideal)) (onTc (τ := Cert.ReferenceResidIdeal.τ) (Cert.ReferenceResidIdeal.main (F := Ideal))) ⟨m, fun _ => 0, g⟩ (fun r => (∀ c : Dev Cert.ReferenceResidIdeal.nD,
      r.2.mem ((c.tc : Thread Cert.ReferenceResidIdeal.nD Cert.ReferenceResidIdeal.τ).loc Cert.ReferenceResidIdeal.main_arg0) = m ((c.tc : Thread Cert.ReferenceResidIdeal.nD Cert.ReferenceResidIdeal.τ).loc Cert.ReferenceResidIdeal.main_arg0)
      ∧ r.2.mem ((c.tc : Thread Cert.ReferenceResidIdeal.nD Cert.ReferenceResidIdeal.τ).loc Cert.ReferenceResidIdeal.main_arg1) = m ((c.tc : Thread Cert.ReferenceResidIdeal.nD Cert.ReferenceResidIdeal.τ).loc Cert.ReferenceResidIdeal.main_arg1)
      ∧ r.2.mem ((c.tc : Thread Cert.ReferenceResidIdeal.nD Cert.ReferenceResidIdeal.τ).loc Cert.ReferenceResidIdeal.main_arg2) = m ((c.tc : Thread Cert.ReferenceResidIdeal.nD Cert.ReferenceResidIdeal.τ).loc Cert.ReferenceResidIdeal.main_arg2)
      ∧ r.2.mem ((c.tc : Thread Cert.ReferenceResidIdeal.nD Cert.ReferenceResidIdeal.τ).loc Cert.ReferenceResidIdeal.main_arg3) = m ((c.tc : Thread Cert.ReferenceResidIdeal.nD Cert.ReferenceResidIdeal.τ).loc Cert.ReferenceResidIdeal.main_arg3)
      ∧ r.2.mem ((c.tc : Thread Cert.ReferenceResidIdeal.nD Cert.ReferenceResidIdeal.τ).loc Cert.ReferenceResidIdeal.main_arg4) = m ((c.tc : Thread Cert.ReferenceResidIdeal.nD Cert.ReferenceResidIdeal.τ).loc Cert.ReferenceResidIdeal.main_arg4))
      ∧ r.2.sem = fun _ => 0)

def quiescent_KernelNorms [hKernelNorms : Cert.KernelNorms.Facts] : Prop :=
  ∀ (m : (ℓ : Loc Cert.KernelNorms.nD Cert.KernelNorms.τ Cert.KernelNorms.sig) → Buf (Elt Bits) ℓ) (g : Dev Cert.KernelNorms.nD → PrngReg), Pre_KernelNorms m →
    θ_run (Cert.KernelNorms.defs (F := Bits)) (onTc (τ := Cert.KernelNorms.τ) (Cert.KernelNorms.main (F := Bits))) ⟨m, fun _ => 0, g⟩ (fun r => (∀ c : Dev Cert.KernelNorms.nD,
      r.2.mem ((c.tc : Thread Cert.KernelNorms.nD Cert.KernelNorms.τ).loc Cert.KernelNorms.main_arg0) = m ((c.tc : Thread Cert.KernelNorms.nD Cert.KernelNorms.τ).loc Cert.KernelNorms.main_arg0)
      ∧ r.2.mem ((c.tc : Thread Cert.KernelNorms.nD Cert.KernelNorms.τ).loc Cert.KernelNorms.main_arg1) = m ((c.tc : Thread Cert.KernelNorms.nD Cert.KernelNorms.τ).loc Cert.KernelNorms.main_arg1)
      ∧ r.2.mem ((c.tc : Thread Cert.KernelNorms.nD Cert.KernelNorms.τ).loc Cert.KernelNorms.main_arg2) = m ((c.tc : Thread Cert.KernelNorms.nD Cert.KernelNorms.τ).loc Cert.KernelNorms.main_arg2)
      ∧ r.2.mem ((c.tc : Thread Cert.KernelNorms.nD Cert.KernelNorms.τ).loc Cert.KernelNorms.main_arg3) = m ((c.tc : Thread Cert.KernelNorms.nD Cert.KernelNorms.τ).loc Cert.KernelNorms.main_arg3)
      ∧ r.2.mem ((c.tc : Thread Cert.KernelNorms.nD Cert.KernelNorms.τ).loc Cert.KernelNorms.main_arg4) = m ((c.tc : Thread Cert.KernelNorms.nD Cert.KernelNorms.τ).loc Cert.KernelNorms.main_arg4)
      ∧ r.2.mem ((c.tc : Thread Cert.KernelNorms.nD Cert.KernelNorms.τ).loc Cert.KernelNorms.main_arg5) = m ((c.tc : Thread Cert.KernelNorms.nD Cert.KernelNorms.τ).loc Cert.KernelNorms.main_arg5)
      ∧ r.2.mem ((c.tc : Thread Cert.KernelNorms.nD Cert.KernelNorms.τ).loc Cert.KernelNorms.main_arg6) = m ((c.tc : Thread Cert.KernelNorms.nD Cert.KernelNorms.τ).loc Cert.KernelNorms.main_arg6))
      ∧ r.2.sem = fun _ => 0)

def quiescent_KernelNormsIdeal [hKernelNormsIdeal : Cert.KernelNormsIdeal.Facts] : Prop :=
  ∀ (m : (ℓ : Loc Cert.KernelNormsIdeal.nD Cert.KernelNormsIdeal.τ Cert.KernelNormsIdeal.sig) → Buf (Elt Ideal) ℓ) (g : Dev Cert.KernelNormsIdeal.nD → PrngReg), Pre_KernelNormsIdeal m →
    θ_run (Cert.KernelNormsIdeal.defs (F := Ideal)) (onTc (τ := Cert.KernelNormsIdeal.τ) (Cert.KernelNormsIdeal.main (F := Ideal))) ⟨m, fun _ => 0, g⟩ (fun r => (∀ c : Dev Cert.KernelNormsIdeal.nD,
      r.2.mem ((c.tc : Thread Cert.KernelNormsIdeal.nD Cert.KernelNormsIdeal.τ).loc Cert.KernelNormsIdeal.main_arg0) = m ((c.tc : Thread Cert.KernelNormsIdeal.nD Cert.KernelNormsIdeal.τ).loc Cert.KernelNormsIdeal.main_arg0)
      ∧ r.2.mem ((c.tc : Thread Cert.KernelNormsIdeal.nD Cert.KernelNormsIdeal.τ).loc Cert.KernelNormsIdeal.main_arg1) = m ((c.tc : Thread Cert.KernelNormsIdeal.nD Cert.KernelNormsIdeal.τ).loc Cert.KernelNormsIdeal.main_arg1)
      ∧ r.2.mem ((c.tc : Thread Cert.KernelNormsIdeal.nD Cert.KernelNormsIdeal.τ).loc Cert.KernelNormsIdeal.main_arg2) = m ((c.tc : Thread Cert.KernelNormsIdeal.nD Cert.KernelNormsIdeal.τ).loc Cert.KernelNormsIdeal.main_arg2)
      ∧ r.2.mem ((c.tc : Thread Cert.KernelNormsIdeal.nD Cert.KernelNormsIdeal.τ).loc Cert.KernelNormsIdeal.main_arg3) = m ((c.tc : Thread Cert.KernelNormsIdeal.nD Cert.KernelNormsIdeal.τ).loc Cert.KernelNormsIdeal.main_arg3)
      ∧ r.2.mem ((c.tc : Thread Cert.KernelNormsIdeal.nD Cert.KernelNormsIdeal.τ).loc Cert.KernelNormsIdeal.main_arg4) = m ((c.tc : Thread Cert.KernelNormsIdeal.nD Cert.KernelNormsIdeal.τ).loc Cert.KernelNormsIdeal.main_arg4)
      ∧ r.2.mem ((c.tc : Thread Cert.KernelNormsIdeal.nD Cert.KernelNormsIdeal.τ).loc Cert.KernelNormsIdeal.main_arg5) = m ((c.tc : Thread Cert.KernelNormsIdeal.nD Cert.KernelNormsIdeal.τ).loc Cert.KernelNormsIdeal.main_arg5)
      ∧ r.2.mem ((c.tc : Thread Cert.KernelNormsIdeal.nD Cert.KernelNormsIdeal.τ).loc Cert.KernelNormsIdeal.main_arg6) = m ((c.tc : Thread Cert.KernelNormsIdeal.nD Cert.KernelNormsIdeal.τ).loc Cert.KernelNormsIdeal.main_arg6))
      ∧ r.2.sem = fun _ => 0)

def quiescent_KernelNormsIdeal_pre_all_finite [hKernelNormsIdeal : Cert.KernelNormsIdeal.Facts] [hPre_all_finite : Cert.Pre_all_finite.Facts] : Prop :=
  ∀ (m : (ℓ : Loc Cert.KernelNormsIdeal.nD Cert.KernelNormsIdeal.τ Cert.KernelNormsIdeal.sig) → Buf (Elt Ideal) ℓ) (g : Dev Cert.KernelNormsIdeal.nD → PrngReg), Pre_KernelNormsIdeal_all_finite m →
    θ_run (Cert.KernelNormsIdeal.defs (F := Ideal)) (onTc (τ := Cert.KernelNormsIdeal.τ) (Cert.KernelNormsIdeal.main (F := Ideal))) ⟨m, fun _ => 0, g⟩ (fun r => (∀ c : Dev Cert.KernelNormsIdeal.nD,
      r.2.mem ((c.tc : Thread Cert.KernelNormsIdeal.nD Cert.KernelNormsIdeal.τ).loc Cert.KernelNormsIdeal.main_arg0) = m ((c.tc : Thread Cert.KernelNormsIdeal.nD Cert.KernelNormsIdeal.τ).loc Cert.KernelNormsIdeal.main_arg0)
      ∧ r.2.mem ((c.tc : Thread Cert.KernelNormsIdeal.nD Cert.KernelNormsIdeal.τ).loc Cert.KernelNormsIdeal.main_arg1) = m ((c.tc : Thread Cert.KernelNormsIdeal.nD Cert.KernelNormsIdeal.τ).loc Cert.KernelNormsIdeal.main_arg1)
      ∧ r.2.mem ((c.tc : Thread Cert.KernelNormsIdeal.nD Cert.KernelNormsIdeal.τ).loc Cert.KernelNormsIdeal.main_arg2) = m ((c.tc : Thread Cert.KernelNormsIdeal.nD Cert.KernelNormsIdeal.τ).loc Cert.KernelNormsIdeal.main_arg2)
      ∧ r.2.mem ((c.tc : Thread Cert.KernelNormsIdeal.nD Cert.KernelNormsIdeal.τ).loc Cert.KernelNormsIdeal.main_arg3) = m ((c.tc : Thread Cert.KernelNormsIdeal.nD Cert.KernelNormsIdeal.τ).loc Cert.KernelNormsIdeal.main_arg3)
      ∧ r.2.mem ((c.tc : Thread Cert.KernelNormsIdeal.nD Cert.KernelNormsIdeal.τ).loc Cert.KernelNormsIdeal.main_arg4) = m ((c.tc : Thread Cert.KernelNormsIdeal.nD Cert.KernelNormsIdeal.τ).loc Cert.KernelNormsIdeal.main_arg4)
      ∧ r.2.mem ((c.tc : Thread Cert.KernelNormsIdeal.nD Cert.KernelNormsIdeal.τ).loc Cert.KernelNormsIdeal.main_arg5) = m ((c.tc : Thread Cert.KernelNormsIdeal.nD Cert.KernelNormsIdeal.τ).loc Cert.KernelNormsIdeal.main_arg5)
      ∧ r.2.mem ((c.tc : Thread Cert.KernelNormsIdeal.nD Cert.KernelNormsIdeal.τ).loc Cert.KernelNormsIdeal.main_arg6) = m ((c.tc : Thread Cert.KernelNormsIdeal.nD Cert.KernelNormsIdeal.τ).loc Cert.KernelNormsIdeal.main_arg6))
      ∧ r.2.sem = fun _ => 0)

def quiescent_ReferenceNormsIdeal [hReferenceNormsIdeal : Cert.ReferenceNormsIdeal.Facts] : Prop :=
  ∀ (m : (ℓ : Loc Cert.ReferenceNormsIdeal.nD Cert.ReferenceNormsIdeal.τ Cert.ReferenceNormsIdeal.sig) → Buf (Elt Ideal) ℓ) (g : Dev Cert.ReferenceNormsIdeal.nD → PrngReg), Pre_ReferenceNormsIdeal m →
    θ_run (Cert.ReferenceNormsIdeal.defs (F := Ideal)) (onTc (τ := Cert.ReferenceNormsIdeal.τ) (Cert.ReferenceNormsIdeal.main (F := Ideal))) ⟨m, fun _ => 0, g⟩ (fun r => (∀ c : Dev Cert.ReferenceNormsIdeal.nD,
      r.2.mem ((c.tc : Thread Cert.ReferenceNormsIdeal.nD Cert.ReferenceNormsIdeal.τ).loc Cert.ReferenceNormsIdeal.main_arg0) = m ((c.tc : Thread Cert.ReferenceNormsIdeal.nD Cert.ReferenceNormsIdeal.τ).loc Cert.ReferenceNormsIdeal.main_arg0)
      ∧ r.2.mem ((c.tc : Thread Cert.ReferenceNormsIdeal.nD Cert.ReferenceNormsIdeal.τ).loc Cert.ReferenceNormsIdeal.main_arg1) = m ((c.tc : Thread Cert.ReferenceNormsIdeal.nD Cert.ReferenceNormsIdeal.τ).loc Cert.ReferenceNormsIdeal.main_arg1)
      ∧ r.2.mem ((c.tc : Thread Cert.ReferenceNormsIdeal.nD Cert.ReferenceNormsIdeal.τ).loc Cert.ReferenceNormsIdeal.main_arg2) = m ((c.tc : Thread Cert.ReferenceNormsIdeal.nD Cert.ReferenceNormsIdeal.τ).loc Cert.ReferenceNormsIdeal.main_arg2)
      ∧ r.2.mem ((c.tc : Thread Cert.ReferenceNormsIdeal.nD Cert.ReferenceNormsIdeal.τ).loc Cert.ReferenceNormsIdeal.main_arg3) = m ((c.tc : Thread Cert.ReferenceNormsIdeal.nD Cert.ReferenceNormsIdeal.τ).loc Cert.ReferenceNormsIdeal.main_arg3)
      ∧ r.2.mem ((c.tc : Thread Cert.ReferenceNormsIdeal.nD Cert.ReferenceNormsIdeal.τ).loc Cert.ReferenceNormsIdeal.main_arg4) = m ((c.tc : Thread Cert.ReferenceNormsIdeal.nD Cert.ReferenceNormsIdeal.τ).loc Cert.ReferenceNormsIdeal.main_arg4)
      ∧ r.2.mem ((c.tc : Thread Cert.ReferenceNormsIdeal.nD Cert.ReferenceNormsIdeal.τ).loc Cert.ReferenceNormsIdeal.main_arg5) = m ((c.tc : Thread Cert.ReferenceNormsIdeal.nD Cert.ReferenceNormsIdeal.τ).loc Cert.ReferenceNormsIdeal.main_arg5)
      ∧ r.2.mem ((c.tc : Thread Cert.ReferenceNormsIdeal.nD Cert.ReferenceNormsIdeal.τ).loc Cert.ReferenceNormsIdeal.main_arg6) = m ((c.tc : Thread Cert.ReferenceNormsIdeal.nD Cert.ReferenceNormsIdeal.τ).loc Cert.ReferenceNormsIdeal.main_arg6))
      ∧ r.2.sem = fun _ => 0)

def quiescent_ReferenceNormsIdeal_pre_all_finite [hReferenceNormsIdeal : Cert.ReferenceNormsIdeal.Facts] [hPre_all_finite : Cert.Pre_all_finite.Facts] : Prop :=
  ∀ (m : (ℓ : Loc Cert.ReferenceNormsIdeal.nD Cert.ReferenceNormsIdeal.τ Cert.ReferenceNormsIdeal.sig) → Buf (Elt Ideal) ℓ) (g : Dev Cert.ReferenceNormsIdeal.nD → PrngReg), Pre_ReferenceNormsIdeal_all_finite m →
    θ_run (Cert.ReferenceNormsIdeal.defs (F := Ideal)) (onTc (τ := Cert.ReferenceNormsIdeal.τ) (Cert.ReferenceNormsIdeal.main (F := Ideal))) ⟨m, fun _ => 0, g⟩ (fun r => (∀ c : Dev Cert.ReferenceNormsIdeal.nD,
      r.2.mem ((c.tc : Thread Cert.ReferenceNormsIdeal.nD Cert.ReferenceNormsIdeal.τ).loc Cert.ReferenceNormsIdeal.main_arg0) = m ((c.tc : Thread Cert.ReferenceNormsIdeal.nD Cert.ReferenceNormsIdeal.τ).loc Cert.ReferenceNormsIdeal.main_arg0)
      ∧ r.2.mem ((c.tc : Thread Cert.ReferenceNormsIdeal.nD Cert.ReferenceNormsIdeal.τ).loc Cert.ReferenceNormsIdeal.main_arg1) = m ((c.tc : Thread Cert.ReferenceNormsIdeal.nD Cert.ReferenceNormsIdeal.τ).loc Cert.ReferenceNormsIdeal.main_arg1)
      ∧ r.2.mem ((c.tc : Thread Cert.ReferenceNormsIdeal.nD Cert.ReferenceNormsIdeal.τ).loc Cert.ReferenceNormsIdeal.main_arg2) = m ((c.tc : Thread Cert.ReferenceNormsIdeal.nD Cert.ReferenceNormsIdeal.τ).loc Cert.ReferenceNormsIdeal.main_arg2)
      ∧ r.2.mem ((c.tc : Thread Cert.ReferenceNormsIdeal.nD Cert.ReferenceNormsIdeal.τ).loc Cert.ReferenceNormsIdeal.main_arg3) = m ((c.tc : Thread Cert.ReferenceNormsIdeal.nD Cert.ReferenceNormsIdeal.τ).loc Cert.ReferenceNormsIdeal.main_arg3)
      ∧ r.2.mem ((c.tc : Thread Cert.ReferenceNormsIdeal.nD Cert.ReferenceNormsIdeal.τ).loc Cert.ReferenceNormsIdeal.main_arg4) = m ((c.tc : Thread Cert.ReferenceNormsIdeal.nD Cert.ReferenceNormsIdeal.τ).loc Cert.ReferenceNormsIdeal.main_arg4)
      ∧ r.2.mem ((c.tc : Thread Cert.ReferenceNormsIdeal.nD Cert.ReferenceNormsIdeal.τ).loc Cert.ReferenceNormsIdeal.main_arg5) = m ((c.tc : Thread Cert.ReferenceNormsIdeal.nD Cert.ReferenceNormsIdeal.τ).loc Cert.ReferenceNormsIdeal.main_arg5)
      ∧ r.2.mem ((c.tc : Thread Cert.ReferenceNormsIdeal.nD Cert.ReferenceNormsIdeal.τ).loc Cert.ReferenceNormsIdeal.main_arg6) = m ((c.tc : Thread Cert.ReferenceNormsIdeal.nD Cert.ReferenceNormsIdeal.τ).loc Cert.ReferenceNormsIdeal.main_arg6))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1))
      ∧ r.2.sem = fun _ => 0)

def quiescent_KernelInA [hKernelInA : Cert.KernelInA.Facts] : Prop :=
  ∀ (m : (ℓ : Loc Cert.KernelInA.nD Cert.KernelInA.τ Cert.KernelInA.sig) → Buf (Elt Bits) ℓ) (g : Dev Cert.KernelInA.nD → PrngReg), Pre_KernelInA m →
    θ_run (Cert.KernelInA.defs (F := Bits)) (onTc (τ := Cert.KernelInA.τ) (Cert.KernelInA.main (F := Bits))) ⟨m, fun _ => 0, g⟩ (fun r => (∀ c : Dev Cert.KernelInA.nD,
      r.2.mem ((c.tc : Thread Cert.KernelInA.nD Cert.KernelInA.τ).loc Cert.KernelInA.main_arg0) = m ((c.tc : Thread Cert.KernelInA.nD Cert.KernelInA.τ).loc Cert.KernelInA.main_arg0)
      ∧ r.2.mem ((c.tc : Thread Cert.KernelInA.nD Cert.KernelInA.τ).loc Cert.KernelInA.main_arg1) = m ((c.tc : Thread Cert.KernelInA.nD Cert.KernelInA.τ).loc Cert.KernelInA.main_arg1))
      ∧ r.2.sem = fun _ => 0)

def quiescent_KernelInAIdeal [hKernelInAIdeal : Cert.KernelInAIdeal.Facts] : Prop :=
  ∀ (m : (ℓ : Loc Cert.KernelInAIdeal.nD Cert.KernelInAIdeal.τ Cert.KernelInAIdeal.sig) → Buf (Elt Ideal) ℓ) (g : Dev Cert.KernelInAIdeal.nD → PrngReg), Pre_KernelInAIdeal m →
    θ_run (Cert.KernelInAIdeal.defs (F := Ideal)) (onTc (τ := Cert.KernelInAIdeal.τ) (Cert.KernelInAIdeal.main (F := Ideal))) ⟨m, fun _ => 0, g⟩ (fun r => (∀ c : Dev Cert.KernelInAIdeal.nD,
      r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
      ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1))
      ∧ r.2.sem = fun _ => 0)

def quiescent_ReferenceInAIdeal [hReferenceInAIdeal : Cert.ReferenceInAIdeal.Facts] : Prop :=
  ∀ (m : (ℓ : Loc Cert.ReferenceInAIdeal.nD Cert.ReferenceInAIdeal.τ Cert.ReferenceInAIdeal.sig) → Buf (Elt Ideal) ℓ) (g : Dev Cert.ReferenceInAIdeal.nD → PrngReg), Pre_ReferenceInAIdeal m →
    θ_run (Cert.ReferenceInAIdeal.defs (F := Ideal)) (onTc (τ := Cert.ReferenceInAIdeal.τ) (Cert.ReferenceInAIdeal.main (F := Ideal))) ⟨m, fun _ => 0, g⟩ (fun r => (∀ c : Dev Cert.ReferenceInAIdeal.nD,
      r.2.mem ((c.tc : Thread Cert.ReferenceInAIdeal.nD Cert.ReferenceInAIdeal.τ).loc Cert.ReferenceInAIdeal.main_arg0) = m ((c.tc : Thread Cert.ReferenceInAIdeal.nD Cert.ReferenceInAIdeal.τ).loc Cert.ReferenceInAIdeal.main_arg0)
      ∧ r.2.mem ((c.tc : Thread Cert.ReferenceInAIdeal.nD Cert.ReferenceInAIdeal.τ).loc Cert.ReferenceInAIdeal.main_arg1) = m ((c.tc : Thread Cert.ReferenceInAIdeal.nD Cert.ReferenceInAIdeal.τ).loc Cert.ReferenceInAIdeal.main_arg1))
      ∧ r.2.sem = fun _ => 0)

def quiescent_KernelInB [hKernelInB : Cert.KernelInB.Facts] : Prop :=
  ∀ (m : (ℓ : Loc Cert.KernelInB.nD Cert.KernelInB.τ Cert.KernelInB.sig) → Buf (Elt Bits) ℓ) (g : Dev Cert.KernelInB.nD → PrngReg), Pre_KernelInB m →
    θ_run (Cert.KernelInB.defs (F := Bits)) (onTc (τ := Cert.KernelInB.τ) (Cert.KernelInB.main (F := Bits))) ⟨m, fun _ => 0, g⟩ (fun r => (∀ c : Dev Cert.KernelInB.nD,
      r.2.mem ((c.tc : Thread Cert.KernelInB.nD Cert.KernelInB.τ).loc Cert.KernelInB.main_arg0) = m ((c.tc : Thread Cert.KernelInB.nD Cert.KernelInB.τ).loc Cert.KernelInB.main_arg0)
      ∧ r.2.mem ((c.tc : Thread Cert.KernelInB.nD Cert.KernelInB.τ).loc Cert.KernelInB.main_arg1) = m ((c.tc : Thread Cert.KernelInB.nD Cert.KernelInB.τ).loc Cert.KernelInB.main_arg1))
      ∧ r.2.sem = fun _ => 0)

def quiescent_KernelInBIdeal [hKernelInBIdeal : Cert.KernelInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg), Pre_KernelInBIdeal m →
    θ_run (Cert.KernelInBIdeal.defs (F := Ideal)) (onTc (τ := Cert.KernelInBIdeal.τ) (Cert.KernelInBIdeal.main (F := Ideal))) ⟨m, fun _ => 0, g⟩ (fun r => (∀ c : Dev Cert.KernelInBIdeal.nD,
      r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
      ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ r.2.sem = fun _ => 0)

def quiescent_ReferenceInBIdeal [hReferenceInBIdeal : Cert.ReferenceInBIdeal.Facts] : Prop :=
  ∀ (m : (ℓ : Loc Cert.ReferenceInBIdeal.nD Cert.ReferenceInBIdeal.τ Cert.ReferenceInBIdeal.sig) → Buf (Elt Ideal) ℓ) (g : Dev Cert.ReferenceInBIdeal.nD → PrngReg), Pre_ReferenceInBIdeal m →
    θ_run (Cert.ReferenceInBIdeal.defs (F := Ideal)) (onTc (τ := Cert.ReferenceInBIdeal.τ) (Cert.ReferenceInBIdeal.main (F := Ideal))) ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1))
      ∧ r.2.sem = fun _ => 0)

def quiescent_KernelRowsA [hKernelRowsA : Cert.KernelRowsA.Facts] : Prop :=
  ∀ (m : (ℓ : Loc Cert.KernelRowsA.nD Cert.KernelRowsA.τ Cert.KernelRowsA.sig) → Buf (Elt Bits) ℓ) (g : Dev Cert.KernelRowsA.nD → PrngReg), Pre_KernelRowsA m →
    θ_run (Cert.KernelRowsA.defs (F := Bits)) (onTc (τ := Cert.KernelRowsA.τ) (Cert.KernelRowsA.main (F := Bits))) ⟨m, fun _ => 0, g⟩ (fun r => (∀ c : Dev Cert.KernelRowsA.nD,
      r.2.mem ((c.tc : Thread Cert.KernelRowsA.nD Cert.KernelRowsA.τ).loc Cert.KernelRowsA.main_arg0) = m ((c.tc : Thread Cert.KernelRowsA.nD Cert.KernelRowsA.τ).loc Cert.KernelRowsA.main_arg0)
      ∧ r.2.mem ((c.tc : Thread Cert.KernelRowsA.nD Cert.KernelRowsA.τ).loc Cert.KernelRowsA.main_arg1) = m ((c.tc : Thread Cert.KernelRowsA.nD Cert.KernelRowsA.τ).loc Cert.KernelRowsA.main_arg1))
      ∧ r.2.sem = fun _ => 0)

def quiescent_KernelRowsAIdeal [hKernelRowsAIdeal : Cert.KernelRowsAIdeal.Facts] : Prop :=
  ∀ (m : (ℓ : Loc Cert.KernelRowsAIdeal.nD Cert.KernelRowsAIdeal.τ Cert.KernelRowsAIdeal.sig) → Buf (Elt Ideal) ℓ) (g : Dev Cert.KernelRowsAIdeal.nD → PrngReg), Pre_KernelRowsAIdeal m →
    θ_run (Cert.KernelRowsAIdeal.defs (F := Ideal)) (onTc (τ := Cert.KernelRowsAIdeal.τ) (Cert.KernelRowsAIdeal.main (F := Ideal))) ⟨m, fun _ => 0, g⟩ (fun r => (∀ c : Dev Cert.KernelRowsAIdeal.nD,
      r.2.mem ((c.tc : Thread Cert.KernelRowsAIdeal.nD Cert.KernelRowsAIdeal.τ).loc Cert.KernelRowsAIdeal.main_arg0) = m ((c.tc : Thread Cert.KernelRowsAIdeal.nD Cert.KernelRowsAIdeal.τ).loc Cert.KernelRowsAIdeal.main_arg0)
      ∧ r.2.mem ((c.tc : Thread Cert.KernelRowsAIdeal.nD Cert.KernelRowsAIdeal.τ).loc Cert.KernelRowsAIdeal.main_arg1) = m ((c.tc : Thread Cert.KernelRowsAIdeal.nD Cert.KernelRowsAIdeal.τ).loc Cert.KernelRowsAIdeal.main_arg1))
      ∧ r.2.sem = fun _ => 0)

def quiescent_ReferenceRowsAIdeal [hReferenceRowsAIdeal : Cert.ReferenceRowsAIdeal.Facts] : Prop :=
  ∀ (m : (ℓ : Loc Cert.ReferenceRowsAIdeal.nD Cert.ReferenceRowsAIdeal.τ Cert.ReferenceRowsAIdeal.sig) → Buf (Elt Ideal) ℓ) (g : Dev Cert.ReferenceRowsAIdeal.nD → PrngReg), Pre_ReferenceRowsAIdeal m →
    θ_run (Cert.ReferenceRowsAIdeal.defs (F := Ideal)) (onTc (τ := Cert.ReferenceRowsAIdeal.τ) (Cert.ReferenceRowsAIdeal.main (F := Ideal))) ⟨m, fun _ => 0, g⟩ (fun r => (∀ c : Dev Cert.ReferenceRowsAIdeal.nD,
      r.2.mem ((c.tc : Thread Cert.ReferenceRowsAIdeal.nD Cert.ReferenceRowsAIdeal.τ).loc Cert.ReferenceRowsAIdeal.main_arg0) = m ((c.tc : Thread Cert.ReferenceRowsAIdeal.nD Cert.ReferenceRowsAIdeal.τ).loc Cert.ReferenceRowsAIdeal.main_arg0)
      ∧ r.2.mem ((c.tc : Thread Cert.ReferenceRowsAIdeal.nD Cert.ReferenceRowsAIdeal.τ).loc Cert.ReferenceRowsAIdeal.main_arg1) = m ((c.tc : Thread Cert.ReferenceRowsAIdeal.nD Cert.ReferenceRowsAIdeal.τ).loc Cert.ReferenceRowsAIdeal.main_arg1))
      ∧ r.2.sem = fun _ => 0)

def quiescent_KernelProjA [hKernelProjA : Cert.KernelProjA.Facts] : Prop :=
  ∀ (m : (ℓ : Loc Cert.KernelProjA.nD Cert.KernelProjA.τ Cert.KernelProjA.sig) → Buf (Elt Bits) ℓ) (g : Dev Cert.KernelProjA.nD → PrngReg), Pre_KernelProjA m →
    θ_run (Cert.KernelProjA.defs (F := Bits)) (onTc (τ := Cert.KernelProjA.τ) (Cert.KernelProjA.main (F := Bits))) ⟨m, fun _ => 0, g⟩ (fun r => (∀ c : Dev Cert.KernelProjA.nD,
      r.2.mem ((c.tc : Thread Cert.KernelProjA.nD Cert.KernelProjA.τ).loc Cert.KernelProjA.main_arg0) = m ((c.tc : Thread Cert.KernelProjA.nD Cert.KernelProjA.τ).loc Cert.KernelProjA.main_arg0)
      ∧ r.2.mem ((c.tc : Thread Cert.KernelProjA.nD Cert.KernelProjA.τ).loc Cert.KernelProjA.main_arg1) = m ((c.tc : Thread Cert.KernelProjA.nD Cert.KernelProjA.τ).loc Cert.KernelProjA.main_arg1)
      ∧ r.2.mem ((c.tc : Thread Cert.KernelProjA.nD Cert.KernelProjA.τ).loc Cert.KernelProjA.main_arg2) = m ((c.tc : Thread Cert.KernelProjA.nD Cert.KernelProjA.τ).loc Cert.KernelProjA.main_arg2))
      ∧ r.2.sem = fun _ => 0)

def quiescent_KernelProjAIdeal [hKernelProjAIdeal : Cert.KernelProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg), Pre_KernelProjAIdeal m →
    θ_run (Cert.KernelProjAIdeal.defs (F := Ideal)) (onTc (τ := Cert.KernelProjAIdeal.τ) (Cert.KernelProjAIdeal.main (F := Ideal))) ⟨m, fun _ => 0, g⟩ (fun r => (∀ c : Dev Cert.KernelProjAIdeal.nD,
      r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
      ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
      ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2))
      ∧ r.2.sem = fun _ => 0)

def quiescent_ReferenceProjAIdeal [hReferenceProjAIdeal : Cert.ReferenceProjAIdeal.Facts] : Prop :=
  ∀ (m : (ℓ : Loc Cert.ReferenceProjAIdeal.nD Cert.ReferenceProjAIdeal.τ Cert.ReferenceProjAIdeal.sig) → Buf (Elt Ideal) ℓ) (g : Dev Cert.ReferenceProjAIdeal.nD → PrngReg), Pre_ReferenceProjAIdeal m →
    θ_run (Cert.ReferenceProjAIdeal.defs (F := Ideal)) (onTc (τ := Cert.ReferenceProjAIdeal.τ) (Cert.ReferenceProjAIdeal.main (F := Ideal))) ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1)
      ∧ r.2.mem ((c.tc : Thread Cert.ReferenceProjAIdeal.nD Cert.ReferenceProjAIdeal.τ).loc Cert.ReferenceProjAIdeal.main_arg2) = m ((c.tc : Thread Cert.ReferenceProjAIdeal.nD Cert.ReferenceProjAIdeal.τ).loc Cert.ReferenceProjAIdeal.main_arg2))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3)
      ∧ r.2.mem ((c.tc : Thread Cert.KernelFirst.nD Cert.KernelFirst.τ).loc Cert.KernelFirst.main_arg4) = m ((c.tc : Thread Cert.KernelFirst.nD Cert.KernelFirst.τ).loc Cert.KernelFirst.main_arg4))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4))
      ∧ r.2.sem = fun _ => 0)

def quiescent_KernelFirstIdeal_pre_first_finite [hKernelFirstIdeal : Cert.KernelFirstIdeal.Facts] [hPre_first_finite : Cert.Pre_first_finite.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal_first_finite m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4))
      ∧ r.2.sem = fun _ => 0)

def quiescent_ReferenceFirstIdeal_pre_first_finite [hReferenceFirstIdeal : Cert.ReferenceFirstIdeal.Facts] [hPre_first_finite : Cert.Pre_first_finite.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal_first_finite m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4))
      ∧ r.2.sem = fun _ => 0)

def quiescent_KernelLarge [hKernelLarge : Cert.KernelLarge.Facts] : Prop :=
  ∀ (m : (ℓ : Loc Cert.KernelLarge.nD Cert.KernelLarge.τ Cert.KernelLarge.sig) → Buf (Elt Bits) ℓ) (g : Dev Cert.KernelLarge.nD → PrngReg), Pre_KernelLarge m →
    θ_run (Cert.KernelLarge.defs (F := Bits)) (onTc (τ := Cert.KernelLarge.τ) (Cert.KernelLarge.main (F := Bits))) ⟨m, fun _ => 0, g⟩ (fun r => (∀ c : Dev Cert.KernelLarge.nD,
      r.2.mem ((c.tc : Thread Cert.KernelLarge.nD Cert.KernelLarge.τ).loc Cert.KernelLarge.main_arg0) = m ((c.tc : Thread Cert.KernelLarge.nD Cert.KernelLarge.τ).loc Cert.KernelLarge.main_arg0)
      ∧ r.2.mem ((c.tc : Thread Cert.KernelLarge.nD Cert.KernelLarge.τ).loc Cert.KernelLarge.main_arg1) = m ((c.tc : Thread Cert.KernelLarge.nD Cert.KernelLarge.τ).loc Cert.KernelLarge.main_arg1)
      ∧ r.2.mem ((c.tc : Thread Cert.KernelLarge.nD Cert.KernelLarge.τ).loc Cert.KernelLarge.main_arg2) = m ((c.tc : Thread Cert.KernelLarge.nD Cert.KernelLarge.τ).loc Cert.KernelLarge.main_arg2)
      ∧ r.2.mem ((c.tc : Thread Cert.KernelLarge.nD Cert.KernelLarge.τ).loc Cert.KernelLarge.main_arg3) = m ((c.tc : Thread Cert.KernelLarge.nD Cert.KernelLarge.τ).loc Cert.KernelLarge.main_arg3)
      ∧ r.2.mem ((c.tc : Thread Cert.KernelLarge.nD Cert.KernelLarge.τ).loc Cert.KernelLarge.main_arg4) = m ((c.tc : Thread Cert.KernelLarge.nD Cert.KernelLarge.τ).loc Cert.KernelLarge.main_arg4)
      ∧ r.2.mem ((c.tc : Thread Cert.KernelLarge.nD Cert.KernelLarge.τ).loc Cert.KernelLarge.main_arg5) = m ((c.tc : Thread Cert.KernelLarge.nD Cert.KernelLarge.τ).loc Cert.KernelLarge.main_arg5)
      ∧ r.2.mem ((c.tc : Thread Cert.KernelLarge.nD Cert.KernelLarge.τ).loc Cert.KernelLarge.main_arg6) = m ((c.tc : Thread Cert.KernelLarge.nD Cert.KernelLarge.τ).loc Cert.KernelLarge.main_arg6)
      ∧ r.2.mem ((c.tc : Thread Cert.KernelLarge.nD Cert.KernelLarge.τ).loc Cert.KernelLarge.main_arg7) = m ((c.tc : Thread Cert.KernelLarge.nD Cert.KernelLarge.τ).loc Cert.KernelLarge.main_arg7))
      ∧ r.2.sem = fun _ => 0)

def quiescent_KernelLargeIdeal [hKernelLargeIdeal : Cert.KernelLargeIdeal.Facts] : Prop :=
  ∀ (m : (ℓ : Loc Cert.KernelLargeIdeal.nD Cert.KernelLargeIdeal.τ Cert.KernelLargeIdeal.sig) → Buf (Elt Ideal) ℓ) (g : Dev Cert.KernelLargeIdeal.nD → PrngReg), Pre_KernelLargeIdeal m →
    θ_run (Cert.KernelLargeIdeal.defs (F := Ideal)) (onTc (τ := Cert.KernelLargeIdeal.τ) (Cert.KernelLargeIdeal.main (F := Ideal))) ⟨m, fun _ => 0, g⟩ (fun r => (∀ c : Dev Cert.KernelLargeIdeal.nD,
      r.2.mem ((c.tc : Thread Cert.KernelLargeIdeal.nD Cert.KernelLargeIdeal.τ).loc Cert.KernelLargeIdeal.main_arg0) = m ((c.tc : Thread Cert.KernelLargeIdeal.nD Cert.KernelLargeIdeal.τ).loc Cert.KernelLargeIdeal.main_arg0)
      ∧ r.2.mem ((c.tc : Thread Cert.KernelLargeIdeal.nD Cert.KernelLargeIdeal.τ).loc Cert.KernelLargeIdeal.main_arg1) = m ((c.tc : Thread Cert.KernelLargeIdeal.nD Cert.KernelLargeIdeal.τ).loc Cert.KernelLargeIdeal.main_arg1)
      ∧ r.2.mem ((c.tc : Thread Cert.KernelLargeIdeal.nD Cert.KernelLargeIdeal.τ).loc Cert.KernelLargeIdeal.main_arg2) = m ((c.tc : Thread Cert.KernelLargeIdeal.nD Cert.KernelLargeIdeal.τ).loc Cert.KernelLargeIdeal.main_arg2)
      ∧ r.2.mem ((c.tc : Thread Cert.KernelLargeIdeal.nD Cert.KernelLargeIdeal.τ).loc Cert.KernelLargeIdeal.main_arg3) = m ((c.tc : Thread Cert.KernelLargeIdeal.nD Cert.KernelLargeIdeal.τ).loc Cert.KernelLargeIdeal.main_arg3)
      ∧ r.2.mem ((c.tc : Thread Cert.KernelLargeIdeal.nD Cert.KernelLargeIdeal.τ).loc Cert.KernelLargeIdeal.main_arg4) = m ((c.tc : Thread Cert.KernelLargeIdeal.nD Cert.KernelLargeIdeal.τ).loc Cert.KernelLargeIdeal.main_arg4)
      ∧ r.2.mem ((c.tc : Thread Cert.KernelLargeIdeal.nD Cert.KernelLargeIdeal.τ).loc Cert.KernelLargeIdeal.main_arg5) = m ((c.tc : Thread Cert.KernelLargeIdeal.nD Cert.KernelLargeIdeal.τ).loc Cert.KernelLargeIdeal.main_arg5)
      ∧ r.2.mem ((c.tc : Thread Cert.KernelLargeIdeal.nD Cert.KernelLargeIdeal.τ).loc Cert.KernelLargeIdeal.main_arg6) = m ((c.tc : Thread Cert.KernelLargeIdeal.nD Cert.KernelLargeIdeal.τ).loc Cert.KernelLargeIdeal.main_arg6)
      ∧ r.2.mem ((c.tc : Thread Cert.KernelLargeIdeal.nD Cert.KernelLargeIdeal.τ).loc Cert.KernelLargeIdeal.main_arg7) = m ((c.tc : Thread Cert.KernelLargeIdeal.nD Cert.KernelLargeIdeal.τ).loc Cert.KernelLargeIdeal.main_arg7))
      ∧ r.2.sem = fun _ => 0)

def quiescent_ReferenceLargeIdeal [hReferenceLargeIdeal : Cert.ReferenceLargeIdeal.Facts] : Prop :=
  ∀ (m : (ℓ : Loc Cert.ReferenceLargeIdeal.nD Cert.ReferenceLargeIdeal.τ Cert.ReferenceLargeIdeal.sig) → Buf (Elt Ideal) ℓ) (g : Dev Cert.ReferenceLargeIdeal.nD → PrngReg), Pre_ReferenceLargeIdeal m →
    θ_run (Cert.ReferenceLargeIdeal.defs (F := Ideal)) (onTc (τ := Cert.ReferenceLargeIdeal.τ) (Cert.ReferenceLargeIdeal.main (F := Ideal))) ⟨m, fun _ => 0, g⟩ (fun r => (∀ c : Dev Cert.ReferenceLargeIdeal.nD,
      r.2.mem ((c.tc : Thread Cert.ReferenceLargeIdeal.nD Cert.ReferenceLargeIdeal.τ).loc Cert.ReferenceLargeIdeal.main_arg0) = m ((c.tc : Thread Cert.ReferenceLargeIdeal.nD Cert.ReferenceLargeIdeal.τ).loc Cert.ReferenceLargeIdeal.main_arg0)
      ∧ r.2.mem ((c.tc : Thread Cert.ReferenceLargeIdeal.nD Cert.ReferenceLargeIdeal.τ).loc Cert.ReferenceLargeIdeal.main_arg1) = m ((c.tc : Thread Cert.ReferenceLargeIdeal.nD Cert.ReferenceLargeIdeal.τ).loc Cert.ReferenceLargeIdeal.main_arg1)
      ∧ r.2.mem ((c.tc : Thread Cert.ReferenceLargeIdeal.nD Cert.ReferenceLargeIdeal.τ).loc Cert.ReferenceLargeIdeal.main_arg2) = m ((c.tc : Thread Cert.ReferenceLargeIdeal.nD Cert.ReferenceLargeIdeal.τ).loc Cert.ReferenceLargeIdeal.main_arg2)
      ∧ r.2.mem ((c.tc : Thread Cert.ReferenceLargeIdeal.nD Cert.ReferenceLargeIdeal.τ).loc Cert.ReferenceLargeIdeal.main_arg3) = m ((c.tc : Thread Cert.ReferenceLargeIdeal.nD Cert.ReferenceLargeIdeal.τ).loc Cert.ReferenceLargeIdeal.main_arg3)
      ∧ r.2.mem ((c.tc : Thread Cert.ReferenceLargeIdeal.nD Cert.ReferenceLargeIdeal.τ).loc Cert.ReferenceLargeIdeal.main_arg4) = m ((c.tc : Thread Cert.ReferenceLargeIdeal.nD Cert.ReferenceLargeIdeal.τ).loc Cert.ReferenceLargeIdeal.main_arg4)
      ∧ r.2.mem ((c.tc : Thread Cert.ReferenceLargeIdeal.nD Cert.ReferenceLargeIdeal.τ).loc Cert.ReferenceLargeIdeal.main_arg5) = m ((c.tc : Thread Cert.ReferenceLargeIdeal.nD Cert.ReferenceLargeIdeal.τ).loc Cert.ReferenceLargeIdeal.main_arg5)
      ∧ r.2.mem ((c.tc : Thread Cert.ReferenceLargeIdeal.nD Cert.ReferenceLargeIdeal.τ).loc Cert.ReferenceLargeIdeal.main_arg6) = m ((c.tc : Thread Cert.ReferenceLargeIdeal.nD Cert.ReferenceLargeIdeal.τ).loc Cert.ReferenceLargeIdeal.main_arg6)
      ∧ r.2.mem ((c.tc : Thread Cert.ReferenceLargeIdeal.nD Cert.ReferenceLargeIdeal.τ).loc Cert.ReferenceLargeIdeal.main_arg7) = m ((c.tc : Thread Cert.ReferenceLargeIdeal.nD Cert.ReferenceLargeIdeal.τ).loc Cert.ReferenceLargeIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v142_0)) (v1 : (c : Dev Cert.KernelIdeal.nD) → Buf (Elt Ideal) ((c.tc : Thread Cert.KernelIdeal.nD Cert.KernelIdeal.τ).loc Cert.KernelIdeal.main_v142_1)) (v2 : (c : Dev Cert.KernelIdeal.nD) → Buf (Elt Ideal) ((c.tc : Thread Cert.KernelIdeal.nD Cert.KernelIdeal.τ).loc Cert.KernelIdeal.main_v142_2)) (v3 : (c : Dev Cert.KernelIdeal.nD) → Buf (Elt Ideal) ((c.tc : Thread Cert.KernelIdeal.nD Cert.KernelIdeal.τ).loc Cert.KernelIdeal.main_v142_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142_0) = v0 c
          ∧ r.2.mem ((c.tc : Thread Cert.KernelIdeal.nD Cert.KernelIdeal.τ).loc Cert.KernelIdeal.main_v142_1) = v1 c
          ∧ r.2.mem ((c.tc : Thread Cert.KernelIdeal.nD Cert.KernelIdeal.τ).loc Cert.KernelIdeal.main_v142_2) = v2 c
          ∧ r.2.mem ((c.tc : Thread Cert.KernelIdeal.nD Cert.KernelIdeal.τ).loc Cert.KernelIdeal.main_v142_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_v184) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v7) = v0 c
          ∧ r.2.mem ((c.tc : Thread Cert.ReferenceGateIdeal.nD Cert.ReferenceGateIdeal.τ).loc Cert.ReferenceGateIdeal.main_v8) = v1 c
          ∧ r.2.mem ((c.tc : Thread Cert.ReferenceGateIdeal.nD Cert.ReferenceGateIdeal.τ).loc Cert.ReferenceGateIdeal.main_v11) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelResid_KernelResidIdeal : Prop :=
  True

def algebraic_KernelResidIdeal_ReferenceResidIdeal [hKernelResidIdeal : Cert.KernelResidIdeal.Facts] [hReferenceResidIdeal : Cert.ReferenceResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg)
    (m' : (ℓ : Loc Cert.ReferenceResidIdeal.nD Cert.ReferenceResidIdeal.τ Cert.ReferenceResidIdeal.sig) → Buf (Elt Ideal) ℓ) (g' : Dev Cert.ReferenceResidIdeal.nD → PrngReg), Pre_KernelResidIdeal m →
    (∀ c : Dev Cert.KernelResidIdeal.nD,
      m' ((c.tc : Thread Cert.ReferenceResidIdeal.nD Cert.ReferenceResidIdeal.τ).loc Cert.ReferenceResidIdeal.main_arg0) = m ((c.tc : Thread Cert.KernelResidIdeal.nD Cert.KernelResidIdeal.τ).loc Cert.KernelResidIdeal.main_arg0)
      ∧ m' ((c.tc : Thread Cert.ReferenceResidIdeal.nD Cert.ReferenceResidIdeal.τ).loc Cert.ReferenceResidIdeal.main_arg1) = m ((c.tc : Thread Cert.KernelResidIdeal.nD Cert.KernelResidIdeal.τ).loc Cert.KernelResidIdeal.main_arg1)
      ∧ m' ((c.tc : Thread Cert.ReferenceResidIdeal.nD Cert.ReferenceResidIdeal.τ).loc Cert.ReferenceResidIdeal.main_arg2) = m ((c.tc : Thread Cert.KernelResidIdeal.nD Cert.KernelResidIdeal.τ).loc Cert.KernelResidIdeal.main_arg2)
      ∧ m' ((c.tc : Thread Cert.ReferenceResidIdeal.nD Cert.ReferenceResidIdeal.τ).loc Cert.ReferenceResidIdeal.main_arg3) = m ((c.tc : Thread Cert.KernelResidIdeal.nD Cert.KernelResidIdeal.τ).loc Cert.KernelResidIdeal.main_arg3)
      ∧ m' ((c.tc : Thread Cert.ReferenceResidIdeal.nD Cert.ReferenceResidIdeal.τ).loc Cert.ReferenceResidIdeal.main_arg4) = m ((c.tc : Thread Cert.KernelResidIdeal.nD Cert.KernelResidIdeal.τ).loc Cert.KernelResidIdeal.main_arg4)) →
    ∃ (v0 : (c : Dev Cert.KernelResidIdeal.nD) → Buf (Elt Ideal) ((c.tc : Thread Cert.KernelResidIdeal.nD Cert.KernelResidIdeal.τ).loc Cert.KernelResidIdeal.main_v0_0)) (v1 : (c : Dev Cert.KernelResidIdeal.nD) → Buf (Elt Ideal) ((c.tc : Thread Cert.KernelResidIdeal.nD Cert.KernelResidIdeal.τ).loc Cert.KernelResidIdeal.main_v0_1)) (v2 : (c : Dev Cert.KernelResidIdeal.nD) → Buf (Elt Ideal) ((c.tc : Thread Cert.KernelResidIdeal.nD Cert.KernelResidIdeal.τ).loc Cert.KernelResidIdeal.main_v0_2)),
      θ_run (Cert.KernelResidIdeal.defs (F := Ideal)) (onTc (τ := Cert.KernelResidIdeal.τ) (Cert.KernelResidIdeal.main (F := Ideal))) ⟨m, fun _ => 0, g⟩ (fun r => ∀ c : Dev Cert.KernelResidIdeal.nD,
          r.2.mem ((c.tc : Thread Cert.KernelResidIdeal.nD Cert.KernelResidIdeal.τ).loc Cert.KernelResidIdeal.main_v0_0) = v0 c
          ∧ r.2.mem ((c.tc : Thread Cert.KernelResidIdeal.nD Cert.KernelResidIdeal.τ).loc Cert.KernelResidIdeal.main_v0_1) = v1 c
          ∧ r.2.mem ((c.tc : Thread Cert.KernelResidIdeal.nD Cert.KernelResidIdeal.τ).loc Cert.KernelResidIdeal.main_v0_2) = v2 c
          ∧ r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
          ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
          ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
          ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
          ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4))
      ∧ θ_run (Cert.ReferenceResidIdeal.defs (F := Ideal)) (onTc (τ := Cert.ReferenceResidIdeal.τ) (Cert.ReferenceResidIdeal.main (F := Ideal))) ⟨m', fun _ => 0, g'⟩ (fun r => ∀ c : Dev Cert.ReferenceResidIdeal.nD,
          r.2.mem ((c.tc : Thread Cert.ReferenceResidIdeal.nD Cert.ReferenceResidIdeal.τ).loc Cert.ReferenceResidIdeal.main_v2) = v0 c
          ∧ r.2.mem ((c.tc : Thread Cert.ReferenceResidIdeal.nD Cert.ReferenceResidIdeal.τ).loc Cert.ReferenceResidIdeal.main_v17) = v1 c
          ∧ r.2.mem ((c.tc : Thread Cert.ReferenceResidIdeal.nD Cert.ReferenceResidIdeal.τ).loc Cert.ReferenceResidIdeal.main_v30) = v2 c
          ∧ r.2.mem ((c.tc : Thread Cert.ReferenceResidIdeal.nD Cert.ReferenceResidIdeal.τ).loc Cert.ReferenceResidIdeal.main_arg0) = m' ((c.tc : Thread Cert.ReferenceResidIdeal.nD Cert.ReferenceResidIdeal.τ).loc Cert.ReferenceResidIdeal.main_arg0)
          ∧ r.2.mem ((c.tc : Thread Cert.ReferenceResidIdeal.nD Cert.ReferenceResidIdeal.τ).loc Cert.ReferenceResidIdeal.main_arg1) = m' ((c.tc : Thread Cert.ReferenceResidIdeal.nD Cert.ReferenceResidIdeal.τ).loc Cert.ReferenceResidIdeal.main_arg1)
          ∧ r.2.mem ((c.tc : Thread Cert.ReferenceResidIdeal.nD Cert.ReferenceResidIdeal.τ).loc Cert.ReferenceResidIdeal.main_arg2) = m' ((c.tc : Thread Cert.ReferenceResidIdeal.nD Cert.ReferenceResidIdeal.τ).loc Cert.ReferenceResidIdeal.main_arg2)
          ∧ r.2.mem ((c.tc : Thread Cert.ReferenceResidIdeal.nD Cert.ReferenceResidIdeal.τ).loc Cert.ReferenceResidIdeal.main_arg3) = m' ((c.tc : Thread Cert.ReferenceResidIdeal.nD Cert.ReferenceResidIdeal.τ).loc Cert.ReferenceResidIdeal.main_arg3)
          ∧ r.2.mem ((c.tc : Thread Cert.ReferenceResidIdeal.nD Cert.ReferenceResidIdeal.τ).loc Cert.ReferenceResidIdeal.main_arg4) = m' ((c.tc : Thread Cert.ReferenceResidIdeal.nD Cert.ReferenceResidIdeal.τ).loc Cert.ReferenceResidIdeal.main_arg4))

def preserves_KernelNorms_KernelNormsIdeal : Prop :=
  True

def algebraic_KernelNormsIdeal_ReferenceNormsIdeal_pre_all_finite [hKernelNormsIdeal : Cert.KernelNormsIdeal.Facts] [hReferenceNormsIdeal : Cert.ReferenceNormsIdeal.Facts] [hPre_all_finite : Cert.Pre_all_finite.Facts] : Prop :=
  ∀ (m : (ℓ : Loc Cert.KernelNormsIdeal.nD Cert.KernelNormsIdeal.τ Cert.KernelNormsIdeal.sig) → Buf (Elt Ideal) ℓ) (g : Dev Cert.KernelNormsIdeal.nD → PrngReg)
    (m' : (ℓ : Loc Cert.ReferenceNormsIdeal.nD Cert.ReferenceNormsIdeal.τ Cert.ReferenceNormsIdeal.sig) → Buf (Elt Ideal) ℓ) (g' : Dev Cert.ReferenceNormsIdeal.nD → PrngReg), Pre_KernelNormsIdeal_all_finite m →
    (∀ c : Dev Cert.KernelNormsIdeal.nD,
      m' ((c.tc : Thread Cert.ReferenceNormsIdeal.nD Cert.ReferenceNormsIdeal.τ).loc Cert.ReferenceNormsIdeal.main_arg0) = m ((c.tc : Thread Cert.KernelNormsIdeal.nD Cert.KernelNormsIdeal.τ).loc Cert.KernelNormsIdeal.main_arg0)
      ∧ m' ((c.tc : Thread Cert.ReferenceNormsIdeal.nD Cert.ReferenceNormsIdeal.τ).loc Cert.ReferenceNormsIdeal.main_arg1) = m ((c.tc : Thread Cert.KernelNormsIdeal.nD Cert.KernelNormsIdeal.τ).loc Cert.KernelNormsIdeal.main_arg1)
      ∧ m' ((c.tc : Thread Cert.ReferenceNormsIdeal.nD Cert.ReferenceNormsIdeal.τ).loc Cert.ReferenceNormsIdeal.main_arg2) = m ((c.tc : Thread Cert.KernelNormsIdeal.nD Cert.KernelNormsIdeal.τ).loc Cert.KernelNormsIdeal.main_arg2)
      ∧ m' ((c.tc : Thread Cert.ReferenceNormsIdeal.nD Cert.ReferenceNormsIdeal.τ).loc Cert.ReferenceNormsIdeal.main_arg3) = m ((c.tc : Thread Cert.KernelNormsIdeal.nD Cert.KernelNormsIdeal.τ).loc Cert.KernelNormsIdeal.main_arg3)
      ∧ m' ((c.tc : Thread Cert.ReferenceNormsIdeal.nD Cert.ReferenceNormsIdeal.τ).loc Cert.ReferenceNormsIdeal.main_arg4) = m ((c.tc : Thread Cert.KernelNormsIdeal.nD Cert.KernelNormsIdeal.τ).loc Cert.KernelNormsIdeal.main_arg4)
      ∧ m' ((c.tc : Thread Cert.ReferenceNormsIdeal.nD Cert.ReferenceNormsIdeal.τ).loc Cert.ReferenceNormsIdeal.main_arg5) = m ((c.tc : Thread Cert.KernelNormsIdeal.nD Cert.KernelNormsIdeal.τ).loc Cert.KernelNormsIdeal.main_arg5)
      ∧ m' ((c.tc : Thread Cert.ReferenceNormsIdeal.nD Cert.ReferenceNormsIdeal.τ).loc Cert.ReferenceNormsIdeal.main_arg6) = m ((c.tc : Thread Cert.KernelNormsIdeal.nD Cert.KernelNormsIdeal.τ).loc Cert.KernelNormsIdeal.main_arg6)) →
    ∃ (v0 : (c : Dev Cert.KernelNormsIdeal.nD) → Buf (Elt Ideal) ((c.tc : Thread Cert.KernelNormsIdeal.nD Cert.KernelNormsIdeal.τ).loc Cert.KernelNormsIdeal.main_v0_0)) (v1 : (c : Dev Cert.KernelNormsIdeal.nD) → Buf (Elt Ideal) ((c.tc : Thread Cert.KernelNormsIdeal.nD Cert.KernelNormsIdeal.τ).loc Cert.KernelNormsIdeal.main_v0_1)) (v2 : (c : Dev Cert.KernelNormsIdeal.nD) → Buf (Elt Ideal) ((c.tc : Thread Cert.KernelNormsIdeal.nD Cert.KernelNormsIdeal.τ).loc Cert.KernelNormsIdeal.main_v0_2)) (v3 : (c : Dev Cert.KernelNormsIdeal.nD) → Buf (Elt Ideal) ((c.tc : Thread Cert.KernelNormsIdeal.nD Cert.KernelNormsIdeal.τ).loc Cert.KernelNormsIdeal.main_v0_3)) (v4 : (c : Dev Cert.KernelNormsIdeal.nD) → Buf (Elt Ideal) ((c.tc : Thread Cert.KernelNormsIdeal.nD Cert.KernelNormsIdeal.τ).loc Cert.KernelNormsIdeal.main_v0_4)),
      θ_run (Cert.KernelNormsIdeal.defs (F := Ideal)) (onTc (τ := Cert.KernelNormsIdeal.τ) (Cert.KernelNormsIdeal.main (F := Ideal))) ⟨m, fun _ => 0, g⟩ (fun r => ∀ c : Dev Cert.KernelNormsIdeal.nD,
          r.2.mem ((c.tc : Thread Cert.KernelNormsIdeal.nD Cert.KernelNormsIdeal.τ).loc Cert.KernelNormsIdeal.main_v0_0) = v0 c
          ∧ r.2.mem ((c.tc : Thread Cert.KernelNormsIdeal.nD Cert.KernelNormsIdeal.τ).loc Cert.KernelNormsIdeal.main_v0_1) = v1 c
          ∧ r.2.mem ((c.tc : Thread Cert.KernelNormsIdeal.nD Cert.KernelNormsIdeal.τ).loc Cert.KernelNormsIdeal.main_v0_2) = v2 c
          ∧ r.2.mem ((c.tc : Thread Cert.KernelNormsIdeal.nD Cert.KernelNormsIdeal.τ).loc Cert.KernelNormsIdeal.main_v0_3) = v3 c
          ∧ r.2.mem ((c.tc : Thread Cert.KernelNormsIdeal.nD Cert.KernelNormsIdeal.τ).loc Cert.KernelNormsIdeal.main_v0_4) = v4 c
          ∧ r.2.mem ((c.tc : Thread Cert.KernelNormsIdeal.nD Cert.KernelNormsIdeal.τ).loc Cert.KernelNormsIdeal.main_arg0) = m ((c.tc : Thread Cert.KernelNormsIdeal.nD Cert.KernelNormsIdeal.τ).loc Cert.KernelNormsIdeal.main_arg0)
          ∧ r.2.mem ((c.tc : Thread Cert.KernelNormsIdeal.nD Cert.KernelNormsIdeal.τ).loc Cert.KernelNormsIdeal.main_arg1) = m ((c.tc : Thread Cert.KernelNormsIdeal.nD Cert.KernelNormsIdeal.τ).loc Cert.KernelNormsIdeal.main_arg1)
          ∧ r.2.mem ((c.tc : Thread Cert.KernelNormsIdeal.nD Cert.KernelNormsIdeal.τ).loc Cert.KernelNormsIdeal.main_arg2) = m ((c.tc : Thread Cert.KernelNormsIdeal.nD Cert.KernelNormsIdeal.τ).loc Cert.KernelNormsIdeal.main_arg2)
          ∧ r.2.mem ((c.tc : Thread Cert.KernelNormsIdeal.nD Cert.KernelNormsIdeal.τ).loc Cert.KernelNormsIdeal.main_arg3) = m ((c.tc : Thread Cert.KernelNormsIdeal.nD Cert.KernelNormsIdeal.τ).loc Cert.KernelNormsIdeal.main_arg3)
          ∧ r.2.mem ((c.tc : Thread Cert.KernelNormsIdeal.nD Cert.KernelNormsIdeal.τ).loc Cert.KernelNormsIdeal.main_arg4) = m ((c.tc : Thread Cert.KernelNormsIdeal.nD Cert.KernelNormsIdeal.τ).loc Cert.KernelNormsIdeal.main_arg4)
          ∧ r.2.mem ((c.tc : Thread Cert.KernelNormsIdeal.nD Cert.KernelNormsIdeal.τ).loc Cert.KernelNormsIdeal.main_arg5) = m ((c.tc : Thread Cert.KernelNormsIdeal.nD Cert.KernelNormsIdeal.τ).loc Cert.KernelNormsIdeal.main_arg5)
          ∧ r.2.mem ((c.tc : Thread Cert.KernelNormsIdeal.nD Cert.KernelNormsIdeal.τ).loc Cert.KernelNormsIdeal.main_arg6) = m ((c.tc : Thread Cert.KernelNormsIdeal.nD Cert.KernelNormsIdeal.τ).loc Cert.KernelNormsIdeal.main_arg6))
      ∧ θ_run (Cert.ReferenceNormsIdeal.defs (F := Ideal)) (onTc (τ := Cert.ReferenceNormsIdeal.τ) (Cert.ReferenceNormsIdeal.main (F := Ideal))) ⟨m', fun _ => 0, g'⟩ (fun r => ∀ c : Dev Cert.ReferenceNormsIdeal.nD,
          r.2.mem ((c.tc : Thread Cert.ReferenceNormsIdeal.nD Cert.ReferenceNormsIdeal.τ).loc Cert.ReferenceNormsIdeal.main_v40) = v0 c
          ∧ r.2.mem ((c.tc : Thread Cert.ReferenceNormsIdeal.nD Cert.ReferenceNormsIdeal.τ).loc Cert.ReferenceNormsIdeal.main_v80) = v1 c
          ∧ r.2.mem ((c.tc : Thread Cert.ReferenceNormsIdeal.nD Cert.ReferenceNormsIdeal.τ).loc Cert.ReferenceNormsIdeal.main_v23) = v2 c
          ∧ r.2.mem ((c.tc : Thread Cert.ReferenceNormsIdeal.nD Cert.ReferenceNormsIdeal.τ).loc Cert.ReferenceNormsIdeal.main_v61) = v3 c
          ∧ r.2.mem ((c.tc : Thread Cert.ReferenceNormsIdeal.nD Cert.ReferenceNormsIdeal.τ).loc Cert.ReferenceNormsIdeal.main_v79) = v4 c
          ∧ r.2.mem ((c.tc : Thread Cert.ReferenceNormsIdeal.nD Cert.ReferenceNormsIdeal.τ).loc Cert.ReferenceNormsIdeal.main_arg0) = m' ((c.tc : Thread Cert.ReferenceNormsIdeal.nD Cert.ReferenceNormsIdeal.τ).loc Cert.ReferenceNormsIdeal.main_arg0)
          ∧ r.2.mem ((c.tc : Thread Cert.ReferenceNormsIdeal.nD Cert.ReferenceNormsIdeal.τ).loc Cert.ReferenceNormsIdeal.main_arg1) = m' ((c.tc : Thread Cert.ReferenceNormsIdeal.nD Cert.ReferenceNormsIdeal.τ).loc Cert.ReferenceNormsIdeal.main_arg1)
          ∧ r.2.mem ((c.tc : Thread Cert.ReferenceNormsIdeal.nD Cert.ReferenceNormsIdeal.τ).loc Cert.ReferenceNormsIdeal.main_arg2) = m' ((c.tc : Thread Cert.ReferenceNormsIdeal.nD Cert.ReferenceNormsIdeal.τ).loc Cert.ReferenceNormsIdeal.main_arg2)
          ∧ r.2.mem ((c.tc : Thread Cert.ReferenceNormsIdeal.nD Cert.ReferenceNormsIdeal.τ).loc Cert.ReferenceNormsIdeal.main_arg3) = m' ((c.tc : Thread Cert.ReferenceNormsIdeal.nD Cert.ReferenceNormsIdeal.τ).loc Cert.ReferenceNormsIdeal.main_arg3)
          ∧ r.2.mem ((c.tc : Thread Cert.ReferenceNormsIdeal.nD Cert.ReferenceNormsIdeal.τ).loc Cert.ReferenceNormsIdeal.main_arg4) = m' ((c.tc : Thread Cert.ReferenceNormsIdeal.nD Cert.ReferenceNormsIdeal.τ).loc Cert.ReferenceNormsIdeal.main_arg4)
          ∧ r.2.mem ((c.tc : Thread Cert.ReferenceNormsIdeal.nD Cert.ReferenceNormsIdeal.τ).loc Cert.ReferenceNormsIdeal.main_arg5) = m' ((c.tc : Thread Cert.ReferenceNormsIdeal.nD Cert.ReferenceNormsIdeal.τ).loc Cert.ReferenceNormsIdeal.main_arg5)
          ∧ r.2.mem ((c.tc : Thread Cert.ReferenceNormsIdeal.nD Cert.ReferenceNormsIdeal.τ).loc Cert.ReferenceNormsIdeal.main_arg6) = m' ((c.tc : Thread Cert.ReferenceNormsIdeal.nD Cert.ReferenceNormsIdeal.τ).loc Cert.ReferenceNormsIdeal.main_arg6))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v0)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v0) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v6) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)) →
    ∃ (v0 : (c : Dev Cert.KernelPleIdeal.nD) → Buf (Elt Ideal) ((c.tc : Thread Cert.KernelPleIdeal.nD Cert.KernelPleIdeal.τ).loc Cert.KernelPleIdeal.main_v0)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v6) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1))

def preserves_KernelInA_KernelInAIdeal : Prop :=
  True

def algebraic_KernelInAIdeal_ReferenceInAIdeal [hKernelInAIdeal : Cert.KernelInAIdeal.Facts] [hReferenceInAIdeal : Cert.ReferenceInAIdeal.Facts] : Prop :=
  ∀ (m : (ℓ : Loc Cert.KernelInAIdeal.nD Cert.KernelInAIdeal.τ Cert.KernelInAIdeal.sig) → Buf (Elt Ideal) ℓ) (g : Dev Cert.KernelInAIdeal.nD → PrngReg)
    (m' : (ℓ : Loc Cert.ReferenceInAIdeal.nD Cert.ReferenceInAIdeal.τ Cert.ReferenceInAIdeal.sig) → Buf (Elt Ideal) ℓ) (g' : Dev Cert.ReferenceInAIdeal.nD → PrngReg), Pre_KernelInAIdeal m →
    (∀ c : Dev Cert.KernelInAIdeal.nD,
      m' ((c.tc : Thread Cert.ReferenceInAIdeal.nD Cert.ReferenceInAIdeal.τ).loc Cert.ReferenceInAIdeal.main_arg0) = m ((c.tc : Thread Cert.KernelInAIdeal.nD Cert.KernelInAIdeal.τ).loc Cert.KernelInAIdeal.main_arg0)
      ∧ m' ((c.tc : Thread Cert.ReferenceInAIdeal.nD Cert.ReferenceInAIdeal.τ).loc Cert.ReferenceInAIdeal.main_arg1) = m ((c.tc : Thread Cert.KernelInAIdeal.nD Cert.KernelInAIdeal.τ).loc Cert.KernelInAIdeal.main_arg1)) →
    ∃ (v0 : (c : Dev Cert.KernelInAIdeal.nD) → Buf (Elt Ideal) ((c.tc : Thread Cert.KernelInAIdeal.nD Cert.KernelInAIdeal.τ).loc Cert.KernelInAIdeal.main_v0)),
      θ_run (Cert.KernelInAIdeal.defs (F := Ideal)) (onTc (τ := Cert.KernelInAIdeal.τ) (Cert.KernelInAIdeal.main (F := Ideal))) ⟨m, fun _ => 0, g⟩ (fun r => ∀ c : Dev Cert.KernelInAIdeal.nD,
          r.2.mem ((c.tc : Thread Cert.KernelInAIdeal.nD Cert.KernelInAIdeal.τ).loc Cert.KernelInAIdeal.main_v0) = v0 c
          ∧ r.2.mem ((c.tc : Thread Cert.KernelInAIdeal.nD Cert.KernelInAIdeal.τ).loc Cert.KernelInAIdeal.main_arg0) = m ((c.tc : Thread Cert.KernelInAIdeal.nD Cert.KernelInAIdeal.τ).loc Cert.KernelInAIdeal.main_arg0)
          ∧ r.2.mem ((c.tc : Thread Cert.KernelInAIdeal.nD Cert.KernelInAIdeal.τ).loc Cert.KernelInAIdeal.main_arg1) = m ((c.tc : Thread Cert.KernelInAIdeal.nD Cert.KernelInAIdeal.τ).loc Cert.KernelInAIdeal.main_arg1))
      ∧ θ_run (Cert.ReferenceInAIdeal.defs (F := Ideal)) (onTc (τ := Cert.ReferenceInAIdeal.τ) (Cert.ReferenceInAIdeal.main (F := Ideal))) ⟨m', fun _ => 0, g'⟩ (fun r => ∀ c : Dev Cert.ReferenceInAIdeal.nD,
          r.2.mem ((c.tc : Thread Cert.ReferenceInAIdeal.nD Cert.ReferenceInAIdeal.τ).loc Cert.ReferenceInAIdeal.main_v8) = v0 c
          ∧ r.2.mem ((c.tc : Thread Cert.ReferenceInAIdeal.nD Cert.ReferenceInAIdeal.τ).loc Cert.ReferenceInAIdeal.main_arg0) = m' ((c.tc : Thread Cert.ReferenceInAIdeal.nD Cert.ReferenceInAIdeal.τ).loc Cert.ReferenceInAIdeal.main_arg0)
          ∧ r.2.mem ((c.tc : Thread Cert.ReferenceInAIdeal.nD Cert.ReferenceInAIdeal.τ).loc Cert.ReferenceInAIdeal.main_arg1) = m' ((c.tc : Thread Cert.ReferenceInAIdeal.nD Cert.ReferenceInAIdeal.τ).loc Cert.ReferenceInAIdeal.main_arg1))

def preserves_KernelInB_KernelInBIdeal : Prop :=
  True

def algebraic_KernelInBIdeal_ReferenceInBIdeal [hKernelInBIdeal : Cert.KernelInBIdeal.Facts] [hReferenceInBIdeal : Cert.ReferenceInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg)
    (m' : (ℓ : Loc Cert.ReferenceInBIdeal.nD Cert.ReferenceInBIdeal.τ Cert.ReferenceInBIdeal.sig) → Buf (Elt Ideal) ℓ) (g' : Dev Cert.ReferenceInBIdeal.nD → PrngReg), Pre_KernelInBIdeal m →
    (∀ c : Dev Cert.KernelInBIdeal.nD,
      m' ((c.tc : Thread Cert.ReferenceInBIdeal.nD Cert.ReferenceInBIdeal.τ).loc Cert.ReferenceInBIdeal.main_arg0) = m ((c.tc : Thread Cert.KernelInBIdeal.nD Cert.KernelInBIdeal.τ).loc Cert.KernelInBIdeal.main_arg0)
      ∧ m' ((c.tc : Thread Cert.ReferenceInBIdeal.nD Cert.ReferenceInBIdeal.τ).loc Cert.ReferenceInBIdeal.main_arg1) = m ((c.tc : Thread Cert.KernelInBIdeal.nD Cert.KernelInBIdeal.τ).loc Cert.KernelInBIdeal.main_arg1)) →
    ∃ (v0 : (c : Dev Cert.KernelInBIdeal.nD) → Buf (Elt Ideal) ((c.tc : Thread Cert.KernelInBIdeal.nD Cert.KernelInBIdeal.τ).loc Cert.KernelInBIdeal.main_v0)),
      θ_run (Cert.KernelInBIdeal.defs (F := Ideal)) (onTc (τ := Cert.KernelInBIdeal.τ) (Cert.KernelInBIdeal.main (F := Ideal))) ⟨m, fun _ => 0, g⟩ (fun r => ∀ c : Dev Cert.KernelInBIdeal.nD,
          r.2.mem ((c.tc : Thread Cert.KernelInBIdeal.nD Cert.KernelInBIdeal.τ).loc Cert.KernelInBIdeal.main_v0) = v0 c
          ∧ r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
          ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ θ_run (Cert.ReferenceInBIdeal.defs (F := Ideal)) (onTc (τ := Cert.ReferenceInBIdeal.τ) (Cert.ReferenceInBIdeal.main (F := Ideal))) ⟨m', fun _ => 0, g'⟩ (fun r => ∀ c : Dev Cert.ReferenceInBIdeal.nD,
          r.2.mem ((c.tc : Thread Cert.ReferenceInBIdeal.nD Cert.ReferenceInBIdeal.τ).loc Cert.ReferenceInBIdeal.main_v8) = v0 c
          ∧ r.2.mem ((c.tc : Thread Cert.ReferenceInBIdeal.nD Cert.ReferenceInBIdeal.τ).loc Cert.ReferenceInBIdeal.main_arg0) = m' ((c.tc : Thread Cert.ReferenceInBIdeal.nD Cert.ReferenceInBIdeal.τ).loc Cert.ReferenceInBIdeal.main_arg0)
          ∧ r.2.mem ((c.tc : Thread Cert.ReferenceInBIdeal.nD Cert.ReferenceInBIdeal.τ).loc Cert.ReferenceInBIdeal.main_arg1) = m' ((c.tc : Thread Cert.ReferenceInBIdeal.nD Cert.ReferenceInBIdeal.τ).loc Cert.ReferenceInBIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v4) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1))

def preserves_KernelRowsA_KernelRowsAIdeal : Prop :=
  True

def algebraic_KernelRowsAIdeal_ReferenceRowsAIdeal [hKernelRowsAIdeal : Cert.KernelRowsAIdeal.Facts] [hReferenceRowsAIdeal : Cert.ReferenceRowsAIdeal.Facts] : Prop :=
  ∀ (m : (ℓ : Loc Cert.KernelRowsAIdeal.nD Cert.KernelRowsAIdeal.τ Cert.KernelRowsAIdeal.sig) → Buf (Elt Ideal) ℓ) (g : Dev Cert.KernelRowsAIdeal.nD → PrngReg)
    (m' : (ℓ : Loc Cert.ReferenceRowsAIdeal.nD Cert.ReferenceRowsAIdeal.τ Cert.ReferenceRowsAIdeal.sig) → Buf (Elt Ideal) ℓ) (g' : Dev Cert.ReferenceRowsAIdeal.nD → PrngReg), Pre_KernelRowsAIdeal m →
    (∀ c : Dev Cert.KernelRowsAIdeal.nD,
      m' ((c.tc : Thread Cert.ReferenceRowsAIdeal.nD Cert.ReferenceRowsAIdeal.τ).loc Cert.ReferenceRowsAIdeal.main_arg0) = m ((c.tc : Thread Cert.KernelRowsAIdeal.nD Cert.KernelRowsAIdeal.τ).loc Cert.KernelRowsAIdeal.main_arg0)
      ∧ m' ((c.tc : Thread Cert.ReferenceRowsAIdeal.nD Cert.ReferenceRowsAIdeal.τ).loc Cert.ReferenceRowsAIdeal.main_arg1) = m ((c.tc : Thread Cert.KernelRowsAIdeal.nD Cert.KernelRowsAIdeal.τ).loc Cert.KernelRowsAIdeal.main_arg1)) →
    ∃ (v0 : (c : Dev Cert.KernelRowsAIdeal.nD) → Buf (Elt Ideal) ((c.tc : Thread Cert.KernelRowsAIdeal.nD Cert.KernelRowsAIdeal.τ).loc Cert.KernelRowsAIdeal.main_v0)),
      θ_run (Cert.KernelRowsAIdeal.defs (F := Ideal)) (onTc (τ := Cert.KernelRowsAIdeal.τ) (Cert.KernelRowsAIdeal.main (F := Ideal))) ⟨m, fun _ => 0, g⟩ (fun r => ∀ c : Dev Cert.KernelRowsAIdeal.nD,
          r.2.mem ((c.tc : Thread Cert.KernelRowsAIdeal.nD Cert.KernelRowsAIdeal.τ).loc Cert.KernelRowsAIdeal.main_v0) = v0 c
          ∧ r.2.mem ((c.tc : Thread Cert.KernelRowsAIdeal.nD Cert.KernelRowsAIdeal.τ).loc Cert.KernelRowsAIdeal.main_arg0) = m ((c.tc : Thread Cert.KernelRowsAIdeal.nD Cert.KernelRowsAIdeal.τ).loc Cert.KernelRowsAIdeal.main_arg0)
          ∧ r.2.mem ((c.tc : Thread Cert.KernelRowsAIdeal.nD Cert.KernelRowsAIdeal.τ).loc Cert.KernelRowsAIdeal.main_arg1) = m ((c.tc : Thread Cert.KernelRowsAIdeal.nD Cert.KernelRowsAIdeal.τ).loc Cert.KernelRowsAIdeal.main_arg1))
      ∧ θ_run (Cert.ReferenceRowsAIdeal.defs (F := Ideal)) (onTc (τ := Cert.ReferenceRowsAIdeal.τ) (Cert.ReferenceRowsAIdeal.main (F := Ideal))) ⟨m', fun _ => 0, g'⟩ (fun r => ∀ c : Dev Cert.ReferenceRowsAIdeal.nD,
          r.2.mem ((c.tc : Thread Cert.ReferenceRowsAIdeal.nD Cert.ReferenceRowsAIdeal.τ).loc Cert.ReferenceRowsAIdeal.main_v5) = v0 c
          ∧ r.2.mem ((c.tc : Thread Cert.ReferenceRowsAIdeal.nD Cert.ReferenceRowsAIdeal.τ).loc Cert.ReferenceRowsAIdeal.main_arg0) = m' ((c.tc : Thread Cert.ReferenceRowsAIdeal.nD Cert.ReferenceRowsAIdeal.τ).loc Cert.ReferenceRowsAIdeal.main_arg0)
          ∧ r.2.mem ((c.tc : Thread Cert.ReferenceRowsAIdeal.nD Cert.ReferenceRowsAIdeal.τ).loc Cert.ReferenceRowsAIdeal.main_arg1) = m' ((c.tc : Thread Cert.ReferenceRowsAIdeal.nD Cert.ReferenceRowsAIdeal.τ).loc Cert.ReferenceRowsAIdeal.main_arg1))

def preserves_KernelProjA_KernelProjAIdeal : Prop :=
  True

def algebraic_KernelProjAIdeal_ReferenceProjAIdeal [hKernelProjAIdeal : Cert.KernelProjAIdeal.Facts] [hReferenceProjAIdeal : Cert.ReferenceProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg)
    (m' : (ℓ : Loc Cert.ReferenceProjAIdeal.nD Cert.ReferenceProjAIdeal.τ Cert.ReferenceProjAIdeal.sig) → Buf (Elt Ideal) ℓ) (g' : Dev Cert.ReferenceProjAIdeal.nD → PrngReg), Pre_KernelProjAIdeal m →
    (∀ c : Dev Cert.KernelProjAIdeal.nD,
      m' ((c.tc : Thread Cert.ReferenceProjAIdeal.nD Cert.ReferenceProjAIdeal.τ).loc Cert.ReferenceProjAIdeal.main_arg0) = m ((c.tc : Thread Cert.KernelProjAIdeal.nD Cert.KernelProjAIdeal.τ).loc Cert.KernelProjAIdeal.main_arg0)
      ∧ m' ((c.tc : Thread Cert.ReferenceProjAIdeal.nD Cert.ReferenceProjAIdeal.τ).loc Cert.ReferenceProjAIdeal.main_arg1) = m ((c.tc : Thread Cert.KernelProjAIdeal.nD Cert.KernelProjAIdeal.τ).loc Cert.KernelProjAIdeal.main_arg1)
      ∧ m' ((c.tc : Thread Cert.ReferenceProjAIdeal.nD Cert.ReferenceProjAIdeal.τ).loc Cert.ReferenceProjAIdeal.main_arg2) = m ((c.tc : Thread Cert.KernelProjAIdeal.nD Cert.KernelProjAIdeal.τ).loc Cert.KernelProjAIdeal.main_arg2)) →
    ∃ (v0 : (c : Dev Cert.KernelProjAIdeal.nD) → Buf (Elt Ideal) ((c.tc : Thread Cert.KernelProjAIdeal.nD Cert.KernelProjAIdeal.τ).loc Cert.KernelProjAIdeal.main_v0)),
      θ_run (Cert.KernelProjAIdeal.defs (F := Ideal)) (onTc (τ := Cert.KernelProjAIdeal.τ) (Cert.KernelProjAIdeal.main (F := Ideal))) ⟨m, fun _ => 0, g⟩ (fun r => ∀ c : Dev Cert.KernelProjAIdeal.nD,
          r.2.mem ((c.tc : Thread Cert.KernelProjAIdeal.nD Cert.KernelProjAIdeal.τ).loc Cert.KernelProjAIdeal.main_v0) = v0 c
          ∧ r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
          ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
          ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2))
      ∧ θ_run (Cert.ReferenceProjAIdeal.defs (F := Ideal)) (onTc (τ := Cert.ReferenceProjAIdeal.τ) (Cert.ReferenceProjAIdeal.main (F := Ideal))) ⟨m', fun _ => 0, g'⟩ (fun r => ∀ c : Dev Cert.ReferenceProjAIdeal.nD,
          r.2.mem ((c.tc : Thread Cert.ReferenceProjAIdeal.nD Cert.ReferenceProjAIdeal.τ).loc Cert.ReferenceProjAIdeal.main_v6) = v0 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1)
          ∧ r.2.mem ((c.tc : Thread Cert.ReferenceProjAIdeal.nD Cert.ReferenceProjAIdeal.τ).loc Cert.ReferenceProjAIdeal.main_arg2) = m' ((c.tc : Thread Cert.ReferenceProjAIdeal.nD Cert.ReferenceProjAIdeal.τ).loc Cert.ReferenceProjAIdeal.main_arg2))

def preserves_KernelFirst_KernelFirstIdeal : Prop :=
  True

def algebraic_KernelFirstIdeal_ReferenceFirstIdeal_pre_first_finite [hKernelFirstIdeal : Cert.KernelFirstIdeal.Facts] [hReferenceFirstIdeal : Cert.ReferenceFirstIdeal.Facts] [hPre_first_finite : Cert.Pre_first_finite.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal_first_finite m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)
      ∧ m' ((c.tc : Thread Cert.ReferenceFirstIdeal.nD Cert.ReferenceFirstIdeal.τ).loc Cert.ReferenceFirstIdeal.main_arg3) = m ((c.tc : Thread Cert.KernelFirstIdeal.nD Cert.KernelFirstIdeal.τ).loc Cert.KernelFirstIdeal.main_arg3)
      ∧ m' ((c.tc : Thread Cert.ReferenceFirstIdeal.nD Cert.ReferenceFirstIdeal.τ).loc Cert.ReferenceFirstIdeal.main_arg4) = m ((c.tc : Thread Cert.KernelFirstIdeal.nD Cert.KernelFirstIdeal.τ).loc Cert.KernelFirstIdeal.main_arg4)) →
    ∃ (v0 : (c : Dev Cert.KernelFirstIdeal.nD) → Buf (Elt Ideal) ((c.tc : Thread Cert.KernelFirstIdeal.nD Cert.KernelFirstIdeal.τ).loc Cert.KernelFirstIdeal.main_v0_0)) (v1 : (c : Dev Cert.KernelFirstIdeal.nD) → Buf (Elt Ideal) ((c.tc : Thread Cert.KernelFirstIdeal.nD Cert.KernelFirstIdeal.τ).loc Cert.KernelFirstIdeal.main_v0_1)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v0_0) = v0 c
          ∧ r.2.mem ((c.tc : Thread Cert.KernelFirstIdeal.nD Cert.KernelFirstIdeal.τ).loc Cert.KernelFirstIdeal.main_v0_1) = v1 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
          ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v40) = v0 c
          ∧ r.2.mem ((c.tc : Thread Cert.ReferenceFirstIdeal.nD Cert.ReferenceFirstIdeal.τ).loc Cert.ReferenceFirstIdeal.main_v23) = v1 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4))

def preserves_KernelLarge_KernelLargeIdeal : Prop :=
  True

def algebraic_KernelLargeIdeal_ReferenceLargeIdeal [hKernelLargeIdeal : Cert.KernelLargeIdeal.Facts] [hReferenceLargeIdeal : Cert.ReferenceLargeIdeal.Facts] : Prop :=
  ∀ (m : (ℓ : Loc Cert.KernelLargeIdeal.nD Cert.KernelLargeIdeal.τ Cert.KernelLargeIdeal.sig) → Buf (Elt Ideal) ℓ) (g : Dev Cert.KernelLargeIdeal.nD → PrngReg)
    (m' : (ℓ : Loc Cert.ReferenceLargeIdeal.nD Cert.ReferenceLargeIdeal.τ Cert.ReferenceLargeIdeal.sig) → Buf (Elt Ideal) ℓ) (g' : Dev Cert.ReferenceLargeIdeal.nD → PrngReg), Pre_KernelLargeIdeal m →
    (∀ c : Dev Cert.KernelLargeIdeal.nD,
      m' ((c.tc : Thread Cert.ReferenceLargeIdeal.nD Cert.ReferenceLargeIdeal.τ).loc Cert.ReferenceLargeIdeal.main_arg0) = m ((c.tc : Thread Cert.KernelLargeIdeal.nD Cert.KernelLargeIdeal.τ).loc Cert.KernelLargeIdeal.main_arg0)
      ∧ m' ((c.tc : Thread Cert.ReferenceLargeIdeal.nD Cert.ReferenceLargeIdeal.τ).loc Cert.ReferenceLargeIdeal.main_arg1) = m ((c.tc : Thread Cert.KernelLargeIdeal.nD Cert.KernelLargeIdeal.τ).loc Cert.KernelLargeIdeal.main_arg1)
      ∧ m' ((c.tc : Thread Cert.ReferenceLargeIdeal.nD Cert.ReferenceLargeIdeal.τ).loc Cert.ReferenceLargeIdeal.main_arg2) = m ((c.tc : Thread Cert.KernelLargeIdeal.nD Cert.KernelLargeIdeal.τ).loc Cert.KernelLargeIdeal.main_arg2)
      ∧ m' ((c.tc : Thread Cert.ReferenceLargeIdeal.nD Cert.ReferenceLargeIdeal.τ).loc Cert.ReferenceLargeIdeal.main_arg3) = m ((c.tc : Thread Cert.KernelLargeIdeal.nD Cert.KernelLargeIdeal.τ).loc Cert.KernelLargeIdeal.main_arg3)
      ∧ m' ((c.tc : Thread Cert.ReferenceLargeIdeal.nD Cert.ReferenceLargeIdeal.τ).loc Cert.ReferenceLargeIdeal.main_arg4) = m ((c.tc : Thread Cert.KernelLargeIdeal.nD Cert.KernelLargeIdeal.τ).loc Cert.KernelLargeIdeal.main_arg4)
      ∧ m' ((c.tc : Thread Cert.ReferenceLargeIdeal.nD Cert.ReferenceLargeIdeal.τ).loc Cert.ReferenceLargeIdeal.main_arg5) = m ((c.tc : Thread Cert.KernelLargeIdeal.nD Cert.KernelLargeIdeal.τ).loc Cert.KernelLargeIdeal.main_arg5)
      ∧ m' ((c.tc : Thread Cert.ReferenceLargeIdeal.nD Cert.ReferenceLargeIdeal.τ).loc Cert.ReferenceLargeIdeal.main_arg6) = m ((c.tc : Thread Cert.KernelLargeIdeal.nD Cert.KernelLargeIdeal.τ).loc Cert.KernelLargeIdeal.main_arg6)
      ∧ m' ((c.tc : Thread Cert.ReferenceLargeIdeal.nD Cert.ReferenceLargeIdeal.τ).loc Cert.ReferenceLargeIdeal.main_arg7) = m ((c.tc : Thread Cert.KernelLargeIdeal.nD Cert.KernelLargeIdeal.τ).loc Cert.KernelLargeIdeal.main_arg7)) →
    ∃ (v0 : (c : Dev Cert.KernelLargeIdeal.nD) → Buf (Elt Ideal) ((c.tc : Thread Cert.KernelLargeIdeal.nD Cert.KernelLargeIdeal.τ).loc Cert.KernelLargeIdeal.main_v0_0)) (v1 : (c : Dev Cert.KernelLargeIdeal.nD) → Buf (Elt Ideal) ((c.tc : Thread Cert.KernelLargeIdeal.nD Cert.KernelLargeIdeal.τ).loc Cert.KernelLargeIdeal.main_v0_1)) (v2 : (c : Dev Cert.KernelLargeIdeal.nD) → Buf (Elt Ideal) ((c.tc : Thread Cert.KernelLargeIdeal.nD Cert.KernelLargeIdeal.τ).loc Cert.KernelLargeIdeal.main_v0_2)) (v3 : (c : Dev Cert.KernelLargeIdeal.nD) → Buf (Elt Ideal) ((c.tc : Thread Cert.KernelLargeIdeal.nD Cert.KernelLargeIdeal.τ).loc Cert.KernelLargeIdeal.main_v0_3)) (v4 : (c : Dev Cert.KernelLargeIdeal.nD) → Buf (Elt Ideal) ((c.tc : Thread Cert.KernelLargeIdeal.nD Cert.KernelLargeIdeal.τ).loc Cert.KernelLargeIdeal.main_v0_4)) (v5 : (c : Dev Cert.KernelLargeIdeal.nD) → Buf (Elt Ideal) ((c.tc : Thread Cert.KernelLargeIdeal.nD Cert.KernelLargeIdeal.τ).loc Cert.KernelLargeIdeal.main_v0_5)) (v6 : (c : Dev Cert.KernelLargeIdeal.nD) → Buf (Elt Ideal) ((c.tc : Thread Cert.KernelLargeIdeal.nD Cert.KernelLargeIdeal.τ).loc Cert.KernelLargeIdeal.main_v0_6)) (v7 : (c : Dev Cert.KernelLargeIdeal.nD) → Buf (Elt Ideal) ((c.tc : Thread Cert.KernelLargeIdeal.nD Cert.KernelLargeIdeal.τ).loc Cert.KernelLargeIdeal.main_v0_7)),
      θ_run (Cert.KernelLargeIdeal.defs (F := Ideal)) (onTc (τ := Cert.KernelLargeIdeal.τ) (Cert.KernelLargeIdeal.main (F := Ideal))) ⟨m, fun _ => 0, g⟩ (fun r => ∀ c : Dev Cert.KernelLargeIdeal.nD,
          r.2.mem ((c.tc : Thread Cert.KernelLargeIdeal.nD Cert.KernelLargeIdeal.τ).loc Cert.KernelLargeIdeal.main_v0_0) = v0 c
          ∧ r.2.mem ((c.tc : Thread Cert.KernelLargeIdeal.nD Cert.KernelLargeIdeal.τ).loc Cert.KernelLargeIdeal.main_v0_1) = v1 c
          ∧ r.2.mem ((c.tc : Thread Cert.KernelLargeIdeal.nD Cert.KernelLargeIdeal.τ).loc Cert.KernelLargeIdeal.main_v0_2) = v2 c
          ∧ r.2.mem ((c.tc : Thread Cert.KernelLargeIdeal.nD Cert.KernelLargeIdeal.τ).loc Cert.KernelLargeIdeal.main_v0_3) = v3 c
          ∧ r.2.mem ((c.tc : Thread Cert.KernelLargeIdeal.nD Cert.KernelLargeIdeal.τ).loc Cert.KernelLargeIdeal.main_v0_4) = v4 c
          ∧ r.2.mem ((c.tc : Thread Cert.KernelLargeIdeal.nD Cert.KernelLargeIdeal.τ).loc Cert.KernelLargeIdeal.main_v0_5) = v5 c
          ∧ r.2.mem ((c.tc : Thread Cert.KernelLargeIdeal.nD Cert.KernelLargeIdeal.τ).loc Cert.KernelLargeIdeal.main_v0_6) = v6 c
          ∧ r.2.mem ((c.tc : Thread Cert.KernelLargeIdeal.nD Cert.KernelLargeIdeal.τ).loc Cert.KernelLargeIdeal.main_v0_7) = v7 c
          ∧ r.2.mem ((c.tc : Thread Cert.KernelLargeIdeal.nD Cert.KernelLargeIdeal.τ).loc Cert.KernelLargeIdeal.main_arg0) = m ((c.tc : Thread Cert.KernelLargeIdeal.nD Cert.KernelLargeIdeal.τ).loc Cert.KernelLargeIdeal.main_arg0)
          ∧ r.2.mem ((c.tc : Thread Cert.KernelLargeIdeal.nD Cert.KernelLargeIdeal.τ).loc Cert.KernelLargeIdeal.main_arg1) = m ((c.tc : Thread Cert.KernelLargeIdeal.nD Cert.KernelLargeIdeal.τ).loc Cert.KernelLargeIdeal.main_arg1)
          ∧ r.2.mem ((c.tc : Thread Cert.KernelLargeIdeal.nD Cert.KernelLargeIdeal.τ).loc Cert.KernelLargeIdeal.main_arg2) = m ((c.tc : Thread Cert.KernelLargeIdeal.nD Cert.KernelLargeIdeal.τ).loc Cert.KernelLargeIdeal.main_arg2)
          ∧ r.2.mem ((c.tc : Thread Cert.KernelLargeIdeal.nD Cert.KernelLargeIdeal.τ).loc Cert.KernelLargeIdeal.main_arg3) = m ((c.tc : Thread Cert.KernelLargeIdeal.nD Cert.KernelLargeIdeal.τ).loc Cert.KernelLargeIdeal.main_arg3)
          ∧ r.2.mem ((c.tc : Thread Cert.KernelLargeIdeal.nD Cert.KernelLargeIdeal.τ).loc Cert.KernelLargeIdeal.main_arg4) = m ((c.tc : Thread Cert.KernelLargeIdeal.nD Cert.KernelLargeIdeal.τ).loc Cert.KernelLargeIdeal.main_arg4)
          ∧ r.2.mem ((c.tc : Thread Cert.KernelLargeIdeal.nD Cert.KernelLargeIdeal.τ).loc Cert.KernelLargeIdeal.main_arg5) = m ((c.tc : Thread Cert.KernelLargeIdeal.nD Cert.KernelLargeIdeal.τ).loc Cert.KernelLargeIdeal.main_arg5)
          ∧ r.2.mem ((c.tc : Thread Cert.KernelLargeIdeal.nD Cert.KernelLargeIdeal.τ).loc Cert.KernelLargeIdeal.main_arg6) = m ((c.tc : Thread Cert.KernelLargeIdeal.nD Cert.KernelLargeIdeal.τ).loc Cert.KernelLargeIdeal.main_arg6)
          ∧ r.2.mem ((c.tc : Thread Cert.KernelLargeIdeal.nD Cert.KernelLargeIdeal.τ).loc Cert.KernelLargeIdeal.main_arg7) = m ((c.tc : Thread Cert.KernelLargeIdeal.nD Cert.KernelLargeIdeal.τ).loc Cert.KernelLargeIdeal.main_arg7))
      ∧ θ_run (Cert.ReferenceLargeIdeal.defs (F := Ideal)) (onTc (τ := Cert.ReferenceLargeIdeal.τ) (Cert.ReferenceLargeIdeal.main (F := Ideal))) ⟨m', fun _ => 0, g'⟩ (fun r => ∀ c : Dev Cert.ReferenceLargeIdeal.nD,
          r.2.mem ((c.tc : Thread Cert.ReferenceLargeIdeal.nD Cert.ReferenceLargeIdeal.τ).loc Cert.ReferenceLargeIdeal.main_arg2) = v0 c
          ∧ r.2.mem ((c.tc : Thread Cert.ReferenceLargeIdeal.nD Cert.ReferenceLargeIdeal.τ).loc Cert.ReferenceLargeIdeal.main_arg3) = v1 c
          ∧ r.2.mem ((c.tc : Thread Cert.ReferenceLargeIdeal.nD Cert.ReferenceLargeIdeal.τ).loc Cert.ReferenceLargeIdeal.main_v23) = v2 c
          ∧ r.2.mem ((c.tc : Thread Cert.ReferenceLargeIdeal.nD Cert.ReferenceLargeIdeal.τ).loc Cert.ReferenceLargeIdeal.main_v47) = v3 c
          ∧ r.2.mem ((c.tc : Thread Cert.ReferenceLargeIdeal.nD Cert.ReferenceLargeIdeal.τ).loc Cert.ReferenceLargeIdeal.main_v4) = v4 c
          ∧ r.2.mem ((c.tc : Thread Cert.ReferenceLargeIdeal.nD Cert.ReferenceLargeIdeal.τ).loc Cert.ReferenceLargeIdeal.main_v28) = v5 c
          ∧ r.2.mem ((c.tc : Thread Cert.ReferenceLargeIdeal.nD Cert.ReferenceLargeIdeal.τ).loc Cert.ReferenceLargeIdeal.main_v10) = v6 c
          ∧ r.2.mem ((c.tc : Thread Cert.ReferenceLargeIdeal.nD Cert.ReferenceLargeIdeal.τ).loc Cert.ReferenceLargeIdeal.main_v34) = v7 c
          ∧ r.2.mem ((c.tc : Thread Cert.ReferenceLargeIdeal.nD Cert.ReferenceLargeIdeal.τ).loc Cert.ReferenceLargeIdeal.main_arg0) = m' ((c.tc : Thread Cert.ReferenceLargeIdeal.nD Cert.ReferenceLargeIdeal.τ).loc Cert.ReferenceLargeIdeal.main_arg0)
          ∧ r.2.mem ((c.tc : Thread Cert.ReferenceLargeIdeal.nD Cert.ReferenceLargeIdeal.τ).loc Cert.ReferenceLargeIdeal.main_arg1) = m' ((c.tc : Thread Cert.ReferenceLargeIdeal.nD Cert.ReferenceLargeIdeal.τ).loc Cert.ReferenceLargeIdeal.main_arg1)
          ∧ r.2.mem ((c.tc : Thread Cert.ReferenceLargeIdeal.nD Cert.ReferenceLargeIdeal.τ).loc Cert.ReferenceLargeIdeal.main_arg2) = m' ((c.tc : Thread Cert.ReferenceLargeIdeal.nD Cert.ReferenceLargeIdeal.τ).loc Cert.ReferenceLargeIdeal.main_arg2)
          ∧ r.2.mem ((c.tc : Thread Cert.ReferenceLargeIdeal.nD Cert.ReferenceLargeIdeal.τ).loc Cert.ReferenceLargeIdeal.main_arg3) = m' ((c.tc : Thread Cert.ReferenceLargeIdeal.nD Cert.ReferenceLargeIdeal.τ).loc Cert.ReferenceLargeIdeal.main_arg3)
          ∧ r.2.mem ((c.tc : Thread Cert.ReferenceLargeIdeal.nD Cert.ReferenceLargeIdeal.τ).loc Cert.ReferenceLargeIdeal.main_arg4) = m' ((c.tc : Thread Cert.ReferenceLargeIdeal.nD Cert.ReferenceLargeIdeal.τ).loc Cert.ReferenceLargeIdeal.main_arg4)
          ∧ r.2.mem ((c.tc : Thread Cert.ReferenceLargeIdeal.nD Cert.ReferenceLargeIdeal.τ).loc Cert.ReferenceLargeIdeal.main_arg5) = m' ((c.tc : Thread Cert.ReferenceLargeIdeal.nD Cert.ReferenceLargeIdeal.τ).loc Cert.ReferenceLargeIdeal.main_arg5)
          ∧ r.2.mem ((c.tc : Thread Cert.ReferenceLargeIdeal.nD Cert.ReferenceLargeIdeal.τ).loc Cert.ReferenceLargeIdeal.main_arg6) = m' ((c.tc : Thread Cert.ReferenceLargeIdeal.nD Cert.ReferenceLargeIdeal.τ).loc Cert.ReferenceLargeIdeal.main_arg6)
          ∧ r.2.mem ((c.tc : Thread Cert.ReferenceLargeIdeal.nD Cert.ReferenceLargeIdeal.τ).loc Cert.ReferenceLargeIdeal.main_arg7) = m' ((c.tc : Thread Cert.ReferenceLargeIdeal.nD Cert.ReferenceLargeIdeal.τ).loc Cert.ReferenceLargeIdeal.main_arg7))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelGate : Cert.KernelGate.Facts) (hKernelGateIdeal : Cert.KernelGateIdeal.Facts) (hReferenceGateIdeal : Cert.ReferenceGateIdeal.Facts) (hKernelResid : Cert.KernelResid.Facts) (hKernelResidIdeal : Cert.KernelResidIdeal.Facts) (hReferenceResidIdeal : Cert.ReferenceResidIdeal.Facts) (hKernelNorms : Cert.KernelNorms.Facts) (hKernelNormsIdeal : Cert.KernelNormsIdeal.Facts) (hReferenceNormsIdeal : Cert.ReferenceNormsIdeal.Facts) (hKernelSquare : Cert.KernelSquare.Facts) (hKernelSquareIdeal : Cert.KernelSquareIdeal.Facts) (hReferenceSquareIdeal : Cert.ReferenceSquareIdeal.Facts) (hKernelPle : Cert.KernelPle.Facts) (hKernelPleIdeal : Cert.KernelPleIdeal.Facts) (hReferencePleIdeal : Cert.ReferencePleIdeal.Facts) (hKernelInA : Cert.KernelInA.Facts) (hKernelInAIdeal : Cert.KernelInAIdeal.Facts) (hReferenceInAIdeal : Cert.ReferenceInAIdeal.Facts) (hKernelInB : Cert.KernelInB.Facts) (hKernelInBIdeal : Cert.KernelInBIdeal.Facts) (hReferenceInBIdeal : Cert.ReferenceInBIdeal.Facts) (hKernelMix : Cert.KernelMix.Facts) (hKernelMixIdeal : Cert.KernelMixIdeal.Facts) (hReferenceMixIdeal : Cert.ReferenceMixIdeal.Facts) (hKernelRowsA : Cert.KernelRowsA.Facts) (hKernelRowsAIdeal : Cert.KernelRowsAIdeal.Facts) (hReferenceRowsAIdeal : Cert.ReferenceRowsAIdeal.Facts) (hKernelProjA : Cert.KernelProjA.Facts) (hKernelProjAIdeal : Cert.KernelProjAIdeal.Facts) (hReferenceProjAIdeal : Cert.ReferenceProjAIdeal.Facts) (hKernelFirst : Cert.KernelFirst.Facts) (hKernelFirstIdeal : Cert.KernelFirstIdeal.Facts) (hReferenceFirstIdeal : Cert.ReferenceFirstIdeal.Facts) (hKernelLarge : Cert.KernelLarge.Facts) (hKernelLargeIdeal : Cert.KernelLargeIdeal.Facts) (hReferenceLargeIdeal : Cert.ReferenceLargeIdeal.Facts) (hPre_finite : Cert.Pre_finite.Facts) (hPre_all_finite : Cert.Pre_all_finite.Facts) (hPre_first_finite : Cert.Pre_first_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelResid (hKernelResid := hKernelResid)
    ∧ quiescent_KernelResidIdeal (hKernelResidIdeal := hKernelResidIdeal)
    ∧ quiescent_ReferenceResidIdeal (hReferenceResidIdeal := hReferenceResidIdeal)
    ∧ quiescent_KernelNorms (hKernelNorms := hKernelNorms)
    ∧ quiescent_KernelNormsIdeal (hKernelNormsIdeal := hKernelNormsIdeal)
    ∧ quiescent_KernelNormsIdeal_pre_all_finite (hKernelNormsIdeal := hKernelNormsIdeal) (hPre_all_finite := hPre_all_finite)
    ∧ quiescent_ReferenceNormsIdeal (hReferenceNormsIdeal := hReferenceNormsIdeal)
    ∧ quiescent_ReferenceNormsIdeal_pre_all_finite (hReferenceNormsIdeal := hReferenceNormsIdeal) (hPre_all_finite := hPre_all_finite)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelInA (hKernelInA := hKernelInA)
    ∧ quiescent_KernelInAIdeal (hKernelInAIdeal := hKernelInAIdeal)
    ∧ quiescent_ReferenceInAIdeal (hReferenceInAIdeal := hReferenceInAIdeal)
    ∧ quiescent_KernelInB (hKernelInB := hKernelInB)
    ∧ quiescent_KernelInBIdeal (hKernelInBIdeal := hKernelInBIdeal)
    ∧ quiescent_ReferenceInBIdeal (hReferenceInBIdeal := hReferenceInBIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelRowsA (hKernelRowsA := hKernelRowsA)
    ∧ quiescent_KernelRowsAIdeal (hKernelRowsAIdeal := hKernelRowsAIdeal)
    ∧ quiescent_ReferenceRowsAIdeal (hReferenceRowsAIdeal := hReferenceRowsAIdeal)
    ∧ quiescent_KernelProjA (hKernelProjA := hKernelProjA)
    ∧ quiescent_KernelProjAIdeal (hKernelProjAIdeal := hKernelProjAIdeal)
    ∧ quiescent_ReferenceProjAIdeal (hReferenceProjAIdeal := hReferenceProjAIdeal)
    ∧ quiescent_KernelFirst (hKernelFirst := hKernelFirst)
    ∧ quiescent_KernelFirstIdeal (hKernelFirstIdeal := hKernelFirstIdeal)
    ∧ quiescent_KernelFirstIdeal_pre_first_finite (hKernelFirstIdeal := hKernelFirstIdeal) (hPre_first_finite := hPre_first_finite)
    ∧ quiescent_ReferenceFirstIdeal (hReferenceFirstIdeal := hReferenceFirstIdeal)
    ∧ quiescent_ReferenceFirstIdeal_pre_first_finite (hReferenceFirstIdeal := hReferenceFirstIdeal) (hPre_first_finite := hPre_first_finite)
    ∧ quiescent_KernelLarge (hKernelLarge := hKernelLarge)
    ∧ quiescent_KernelLargeIdeal (hKernelLargeIdeal := hKernelLargeIdeal)
    ∧ quiescent_ReferenceLargeIdeal (hReferenceLargeIdeal := hReferenceLargeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelGate_KernelGateIdeal
    ∧ algebraic_KernelGateIdeal_ReferenceGateIdeal (hKernelGateIdeal := hKernelGateIdeal) (hReferenceGateIdeal := hReferenceGateIdeal)
    ∧ preserves_KernelResid_KernelResidIdeal
    ∧ algebraic_KernelResidIdeal_ReferenceResidIdeal (hKernelResidIdeal := hKernelResidIdeal) (hReferenceResidIdeal := hReferenceResidIdeal)
    ∧ preserves_KernelNorms_KernelNormsIdeal
    ∧ algebraic_KernelNormsIdeal_ReferenceNormsIdeal_pre_all_finite (hKernelNormsIdeal := hKernelNormsIdeal) (hReferenceNormsIdeal := hReferenceNormsIdeal) (hPre_all_finite := hPre_all_finite)
    ∧ preserves_KernelSquare_KernelSquareIdeal
    ∧ algebraic_KernelSquareIdeal_ReferenceSquareIdeal (hKernelSquareIdeal := hKernelSquareIdeal) (hReferenceSquareIdeal := hReferenceSquareIdeal)
    ∧ preserves_KernelPle_KernelPleIdeal
    ∧ algebraic_KernelPleIdeal_ReferencePleIdeal (hKernelPleIdeal := hKernelPleIdeal) (hReferencePleIdeal := hReferencePleIdeal)
    ∧ preserves_KernelInA_KernelInAIdeal
    ∧ algebraic_KernelInAIdeal_ReferenceInAIdeal (hKernelInAIdeal := hKernelInAIdeal) (hReferenceInAIdeal := hReferenceInAIdeal)
    ∧ preserves_KernelInB_KernelInBIdeal
    ∧ algebraic_KernelInBIdeal_ReferenceInBIdeal (hKernelInBIdeal := hKernelInBIdeal) (hReferenceInBIdeal := hReferenceInBIdeal)
    ∧ preserves_KernelMix_KernelMixIdeal
    ∧ algebraic_KernelMixIdeal_ReferenceMixIdeal (hKernelMixIdeal := hKernelMixIdeal) (hReferenceMixIdeal := hReferenceMixIdeal)
    ∧ preserves_KernelRowsA_KernelRowsAIdeal
    ∧ algebraic_KernelRowsAIdeal_ReferenceRowsAIdeal (hKernelRowsAIdeal := hKernelRowsAIdeal) (hReferenceRowsAIdeal := hReferenceRowsAIdeal)
    ∧ preserves_KernelProjA_KernelProjAIdeal
    ∧ algebraic_KernelProjAIdeal_ReferenceProjAIdeal (hKernelProjAIdeal := hKernelProjAIdeal) (hReferenceProjAIdeal := hReferenceProjAIdeal)
    ∧ preserves_KernelFirst_KernelFirstIdeal
    ∧ algebraic_KernelFirstIdeal_ReferenceFirstIdeal_pre_first_finite (hKernelFirstIdeal := hKernelFirstIdeal) (hReferenceFirstIdeal := hReferenceFirstIdeal) (hPre_first_finite := hPre_first_finite)
    ∧ preserves_KernelLarge_KernelLargeIdeal
    ∧ algebraic_KernelLargeIdeal_ReferenceLargeIdeal (hKernelLargeIdeal := hKernelLargeIdeal) (hReferenceLargeIdeal := hReferenceLargeIdeal)
-- ==== Pre_all_finite.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v32 : FVec F S1x1024 .f32) (main_v33 : FVec F S1x1024 .f32) : IVec S_ 1 :=
  let main_v34 : IVec S1x1024 1 := cmpf .olt main_v32 main_v33
  let main_c_12 : IVec S_ 1 := constantI S_ 1 1#1
  let main_v35 : IVec S_ 1 := (fun x v => Host.reduce IntOp.andi x v reducesTo_S1x1024_S_d0_1 h_S_) main_v34 main_c_12
  let main_v36 : IVec S_ 1 := andi main_v31 main_v35
  main_v36

def fn_part1 {F : FTy → Type} [FloatOps F] (main_arg3 : FVec F S4096x1024 .f32) (main_arg4 : FVec F S1x1024 .f32) (main_arg5 : FVec F S4096x1024 .f32) (main_arg6 : FVec F S1x1024 .f32) (main_v16 : IVec S_ 1) : IVec S_ 1 :=
  let main_v17 : FVec F S4096x1024 .f32 := Host.absf main_arg3
  let main_cst_5 : FVec F S_ .f32 := constant S_ .f32 0x7F800000#32
  let main_v18 : FVec F S4096x1024 .f32 := broadcastInDim S4096x1024 ![] bcast_S_S4096x1024 main_cst_5
  let main_v19 : IVec S4096x1024 1 := cmpf .olt main_v17 main_v18
  let main_c_6 : IVec S_ 1 := constantI S_ 1 1#1
  let main_v20 : IVec S_ 1 := (fun x v => Host.reduce IntOp.andi x v reducesTo_S4096x1024_S_d0_1 h_S_) main_v19 main_c_6
  let main_v21 : IVec S_ 1 := andi main_v16 main_v20
  let main_v22 : FVec F S1x1024 .f32 := Host.absf main_arg4
  let main_cst_7 : FVec F S_ .f32 := constant S_ .f32 0x7F800000#32
  let main_v23 : FVec F S1x1024 .f32 := broadcastInDim S1x1024 ![] bcast_S_S1x1024 main_cst_7
  let main_v24 : IVec S1x1024 1 := cmpf .olt main_v22 main_v23
  let main_c_8 : IVec S_ 1 := constantI S_ 1 1#1
  let main_v25 : IVec S_ 1 := (fun x v => Host.reduce IntOp.andi x v reducesTo_S1x1024_S_d0_1 h_S_) main_v24 main_c_8
  let main_v26 : IVec S_ 1 := andi main_v21 main_v25
  let main_v27 : FVec F S4096x1024 .f32 := Host.absf main_arg5
  let main_cst_9 : FVec F S_ .f32 := constant S_ .f32 0x7F800000#32
  let main_v28 : FVec F S4096x1024 .f32 := broadcastInDim S4096x1024 ![] bcast_S_S4096x1024 main_cst_9
  let main_v29 : IVec S4096x1024 1 := cmpf .olt main_v27 main_v28
  let main_c_10 : IVec S_ 1 := constantI S_ 1 1#1
  let main_v30 : IVec S_ 1 := (fun x v => Host.reduce IntOp.andi x v reducesTo_S4096x1024_S_d0_1 h_S_) main_v29 main_c_10
  let main_v31 : IVec S_ 1 := andi main_v26 main_v30
  let main_v32 : FVec F S1x1024 .f32 := Host.absf main_arg6
  let main_cst_11 : FVec F S_ .f32 := constant S_ .f32 0x7F800000#32
  let main_v33 : FVec F S1x1024 .f32 := broadcastInDim S1x1024 ![] bcast_S_S1x1024 main_cst_11
  fn_part2 (F := F) main_v31 main_v32 main_v33

def fn {F : FTy → Type} [FloatOps F] (main_arg0 : FVec F S4096x5632 .bf16) (main_arg1 : FVec F S4x1024x1408 .bf16) (main_arg2 : FVec F S4096x1024 .f32) (main_arg3 : FVec F S4096x1024 .f32) (main_arg4 : FVec F S1x1024 .f32) (main_arg5 : FVec F S4096x1024 .f32) (main_arg6 : FVec F S1x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_c_0 : IVec S_ 1 := constantI S_ 1 1#1
  let main_v5 : IVec S_ 1 := andi main_c_0 main_v4
  let main_v6 : FVec F S4x1024x1408 .f32 := (extf .f32 · bitsLt_bf16_f32) main_arg1
  let main_v7 : FVec F S4x1024x1408 .f32 := Host.absf main_v6
  let main_cst_1 : FVec F S_ .f32 := constant S_ .f32 0x7F800000#32
  let main_v8 : FVec F S4x1024x1408 .f32 := broadcastInDim S4x1024x1408 ![] bcast_S_S4x1024x1408 main_cst_1
  let main_v9 : IVec S4x1024x1408 1 := cmpf .olt main_v7 main_v8
  let main_c_2 : IVec S_ 1 := constantI S_ 1 1#1
  let main_v10 : IVec S_ 1 := (fun x v => Host.reduce IntOp.andi x v reducesTo_S4x1024x1408_S_d0_1_2 h_S_) main_v9 main_c_2
  let main_v11 : IVec S_ 1 := andi main_v5 main_v10
  let main_v12 : FVec F S4096x1024 .f32 := Host.absf main_arg2
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_c_4 : IVec S_ 1 := constantI S_ 1 1#1
  let main_v15 : IVec S_ 1 := (fun x v => Host.reduce IntOp.andi x v reducesTo_S4096x1024_S_d0_1 h_S_) main_v14 main_c_4
  let main_v16 : IVec S_ 1 := andi main_v11 main_v15
  fn_part1 (F := F) main_arg3 main_arg4 main_arg5 main_arg6 main_v16
-- ==== Pre_finite.lean ====
abbrev S4096x1536 : Shape := ⟨2, ![4096, 1536]⟩
abbrev S4096x512 : Shape := ⟨2, ![4096, 512]⟩
abbrev S8x128x256 : Shape := ⟨3, ![8, 128, 256]⟩
abbrev S4096x8 : Shape := ⟨2, ![4096, 8]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_v29 : IVec S_ 1) (main_v32 : IVec S_ 1) : IVec S_ 1 :=
  let main_v33 : IVec S_ 1 := andi main_v29 main_v32
  main_v33

def fn_part1 {F : FTy → Type} [FloatOps F] (main_arg4 : FVec F S4096x8 .f32) (main_arg5 : FVec F S4096x8 .f32) (main_v14 : IVec S_ 1) (main_v15 : FVec F S4096x512 .f32) (main_cst_5 : FVec F S_ .f32) : IVec S_ 1 :=
  let main_v16 : FVec F S4096x512 .f32 := broadcastInDim S4096x512 ![] bcast_S_S4096x512 main_cst_5
  let main_v17 : IVec S4096x512 1 := cmpf .olt main_v15 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v14 main_v18
  let main_v20 : FVec F S4096x8 .f32 := Host.absf main_arg4
  let main_cst_7 : FVec F S_ .f32 := constant S_ .f32 0x7F800000#32
  let main_v21 : FVec F S4096x8 .f32 := broadcastInDim S4096x8 ![] bcast_S_S4096x8 main_cst_7
  let main_v22 : IVec S4096x8 1 := cmpf .olt main_v20 main_v21
  let main_c_8 : IVec S_ 1 := constantI S_ 1 1#1
  let main_v23 : IVec S_ 1 := (fun x v => Host.reduce IntOp.andi x v reducesTo_S4096x8_S_d0_1 h_S_) main_v22 main_c_8
  let main_v24 : IVec S_ 1 := andi main_v19 main_v23
  let main_v25 : FVec F S4096x8 .f32 := Host.absf main_arg5
  let main_cst_9 : FVec F S_ .f32 := constant S_ .f32 0x7F800000#32
  let main_v26 : FVec F S4096x8 .f32 := broadcastInDim S4096x8 ![] bcast_S_S4096x8 main_cst_9
  let main_v27 : IVec S4096x8 1 := cmpf .olt main_v25 main_v26
  let main_c_10 : IVec S_ 1 := constantI S_ 1 1#1
  let main_v28 : IVec S_ 1 := (fun x v => Host.reduce IntOp.andi x v reducesTo_S4096x8_S_d0_1 h_S_) main_v27 main_c_10
  let main_v29 : IVec S_ 1 := andi main_v24 main_v28
  let main_cst_11 : FVec F S_ .f32 := constant S_ .f32 0x00000000#32
  let main_v30 : FVec F S4096x8 .f32 := broadcastInDim S4096x8 ![] bcast_S_S4096x8 main_cst_11
  let main_v31 : IVec S4096x8 1 := cmpf .oge main_arg5 main_v30
  let main_c_12 : IVec S_ 1 := constantI S_ 1 1#1
  let main_v32 : IVec S_ 1 := (fun x v => Host.reduce IntOp.andi x v reducesTo_S4096x8_S_d0_1 h_S_) main_v31 main_c_12
  fn_part2 (F := F) main_v29 main_v32

def fn {F : FTy → Type} [FloatOps F] (main_arg0 : FVec F S4096x1536 .f32) (main_arg1 : FVec F S4096x512 .f32) (main_arg2 : FVec F S8x128x256 .f32) (main_arg3 : FVec F S4096x512 .f32) (main_arg4 : FVec F S4096x8 .f32) (main_arg5 : FVec F S4096x8 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_c_0 : IVec S_ 1 := constantI S_ 1 1#1
  let main_v4 : IVec S_ 1 := andi main_c_0 main_v3
  let main_v5 : FVec F S4096x512 .f32 := Host.absf main_arg1
  let main_cst_1 : FVec F S_ .f32 := constant S_ .f32 0x7F800000#32
  let main_v6 : FVec F S4096x512 .f32 := broadcastInDim S4096x512 ![] bcast_S_S4096x512 main_cst_1
  let main_v7 : IVec S4096x512 1 := cmpf .olt main_v5 main_v6
  let main_c_2 : IVec S_ 1 := constantI S_ 1 1#1
  let main_v8 : IVec S_ 1 := (fun x v => Host.reduce IntOp.andi x v reducesTo_S4096x512_S_d0_1 h_S_) main_v7 main_c_2
  let main_v9 : IVec S_ 1 := andi main_v4 main_v8
  let main_v10 : FVec F S8x128x256 .f32 := Host.absf main_arg2
  let main_cst_3 : FVec F S_ .f32 := constant S_ .f32 0x7F800000#32
  let main_v11 : FVec F S8x128x256 .f32 := broadcastInDim S8x128x256 ![] bcast_S_S8x128x256 main_cst_3
  let main_v12 : IVec S8x128x256 1 := cmpf .olt main_v10 main_v11
  let main_c_4 : IVec S_ 1 := constantI S_ 1 1#1
  let main_v13 : IVec S_ 1 := (fun x v => Host.reduce IntOp.andi x v reducesTo_S8x128x256_S_d0_1_2 h_S_) main_v12 main_c_4
  let main_v14 : IVec S_ 1 := andi main_v9 main_v13
  let main_v15 : FVec F S4096x512 .f32 := Host.absf main_arg3
  let main_cst_5 : FVec F S_ .f32 := constant S_ .f32 0x7F800000#32
  fn_part1 (F := F) main_arg4 main_arg5 main_v14 main_v15 main_cst_5
-- ==== Pre_first_finite.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S4096x1024 .f32) (main_arg4 : FVec F S1x1024 .f32) (main_v16 : IVec S_ 1) : IVec S_ 1 :=
  let main_v17 : FVec F S4096x1024 .f32 := Host.absf main_arg3
  let main_cst_5 : FVec F S_ .f32 := constant S_ .f32 0x7F800000#32
  let main_v18 : FVec F S4096x1024 .f32 := broadcastInDim S4096x1024 ![] bcast_S_S4096x1024 main_cst_5
  let main_v19 : IVec S4096x1024 1 := cmpf .olt main_v17 main_v18
  let main_c_6 : IVec S_ 1 := constantI S_ 1 1#1
  let main_v20 : IVec S_ 1 := (fun x v => Host.reduce IntOp.andi x v reducesTo_S4096x1024_S_d0_1 h_S_) main_v19 main_c_6
  let main_v21 : IVec S_ 1 := andi main_v16 main_v20
  let main_v22 : FVec F S1x1024 .f32 := Host.absf main_arg4
  let main_cst_7 : FVec F S_ .f32 := constant S_ .f32 0x7F800000#32
  let main_v23 : FVec F S1x1024 .f32 := broadcastInDim S1x1024 ![] bcast_S_S1x1024 main_cst_7
  let main_v24 : IVec S1x1024 1 := cmpf .olt main_v22 main_v23
  let main_c_8 : IVec S_ 1 := constantI S_ 1 1#1
  let main_v25 : IVec S_ 1 := (fun x v => Host.reduce IntOp.andi x v reducesTo_S1x1024_S_d0_1 h_S_) main_v24 main_c_8
  let main_v26 : IVec S_ 1 := andi main_v21 main_v25
  main_v26

def fn {F : FTy → Type} [FloatOps F] (main_arg0 : FVec F S4096x5632 .bf16) (main_arg1 : FVec F S4x1024x1408 .bf16) (main_arg2 : FVec F S4096x1024 .f32) (main_arg3 : FVec F S4096x1024 .f32) (main_arg4 : FVec F S1x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_c_0 : IVec S_ 1 := constantI S_ 1 1#1
  let main_v5 : IVec S_ 1 := andi main_c_0 main_v4
  let main_v6 : FVec F S4x1024x1408 .f32 := (extf .f32 · bitsLt_bf16_f32) main_arg1
  let main_v7 : FVec F S4x1024x1408 .f32 := Host.absf main_v6
  let main_cst_1 : FVec F S_ .f32 := constant S_ .f32 0x7F800000#32
  let main_v8 : FVec F S4x1024x1408 .f32 := broadcastInDim S4x1024x1408 ![] bcast_S_S4x1024x1408 main_cst_1
  let main_v9 : IVec S4x1024x1408 1 := cmpf .olt main_v7 main_v8
  let main_c_2 : IVec S_ 1 := constantI S_ 1 1#1
  let main_v10 : IVec S_ 1 := (fun x v => Host.reduce IntOp.andi x v reducesTo_S4x1024x1408_S_d0_1_2 h_S_) main_v9 main_c_2
  let main_v11 : IVec S_ 1 := andi main_v5 main_v10
  let main_v12 : FVec F S4096x1024 .f32 := Host.absf main_arg2
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_c_4 : IVec S_ 1 := constantI S_ 1 1#1
  let main_v15 : IVec S_ 1 := (fun x v => Host.reduce IntOp.andi x v reducesTo_S4096x1024_S_d0_1 h_S_) main_v14 main_c_4
  let main_v16 : IVec S_ 1 := andi main_v11 main_v15
  fn_part1 (F := F) main_arg3 main_arg4 main_v16
-- ==== Kernel.lean ====
abbrev S4096x1536 : Shape := ⟨2, ![4096, 1536]⟩
abbrev S4096x512 : Shape := ⟨2, ![4096, 512]⟩
abbrev S8x128x256 : Shape := ⟨3, ![8, 128, 256]⟩
abbrev S4096x8 : Shape := ⟨2, ![4096, 8]⟩
abbrev S256x24576 : Shape := ⟨2, ![256, 24576]⟩
abbrev S256x8192 : Shape := ⟨2, ![256, 8192]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x8x128x256 : Shape := ⟨4, ![1, 8, 128, 256]⟩
abbrev S2x8x128x256 : Shape := ⟨4, ![2, 8, 128, 256]⟩
abbrev S1x2x8x128x256 : Shape := ⟨5, ![1, 2, 8, 128, 256]⟩
abbrev S4x2x8x128x256 : Shape := ⟨5, ![4, 2, 8, 128, 256]⟩
abbrev S4096x8x64 : Shape := ⟨3, ![4096, 8, 64]⟩
abbrev S256x16x8x64 : Shape := ⟨4, ![256, 16, 8, 64]⟩
abbrev S16x256x8x64 : Shape := ⟨4, ![16, 256, 8, 64]⟩
abbrev S16x128x8x64 : Shape := ⟨4, ![16, 128, 8, 64]⟩
abbrev S16x384x8x64 : Shape := ⟨4, ![16, 384, 8, 64]⟩
abbrev S16x1x256x8x64 : Shape := ⟨5, ![16, 1, 256, 8, 64]⟩
abbrev S16x2x256x8x64 : Shape := ⟨5, ![16, 2, 256, 8, 64]⟩
abbrev S16x2x128x8x64 : Shape := ⟨5, ![16, 2, 128, 8, 64]⟩
abbrev S16x2x8x128x256 : Shape := ⟨5, ![16, 2, 8, 128, 256]⟩
abbrev S2 : Shape := ⟨1, ![2]⟩
abbrev S2x1 : Shape := ⟨2, ![2, 1]⟩
abbrev S2x256 : Shape := ⟨2, ![2, 256]⟩
abbrev S1x128x256 : Shape := ⟨3, ![1, 128, 256]⟩
abbrev S2x1x256 : Shape := ⟨3, ![2, 1, 256]⟩
abbrev S2x128x256 : Shape := ⟨3, ![2, 128, 256]⟩
abbrev S1x2x1x128x256 : Shape := ⟨5, ![1, 2, 1, 128, 256]⟩
abbrev S1x1x8x128x256 : Shape := ⟨5, ![1, 1, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x256x8 : Shape := ⟨3, ![16, 256, 8]⟩
abbrev S256x16x8 : Shape := ⟨3, ![256, 16, 8]⟩
abbrev S4096x8x1 : Shape := ⟨3, ![4096, 8, 1]⟩
abbrev S4096x8x32 : Shape := ⟨3, ![4096, 8, 32]⟩
abbrev S256x512 : Shape := ⟨2, ![256, 512]⟩
abbrev S128x512 : Shape := ⟨2, ![128, 512]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S1x1x2x128x256 : Shape := ⟨5, ![1, 1, 2, 128, 256]⟩
abbrev S256x256 : Shape := ⟨2, ![256, 256]⟩

abbrev nBuf : Space → Nat
  | .hbm => 179
  | .vmem => 20
  | .smem => 0
  | _ => 0

abbrev hbmTy0_0 (i : Nat) : BufTy := match i % 128 with
  | 0 => ⟨S4096x1536, .f32⟩
  | 1 => ⟨S4096x512, .f32⟩
  | 2 => ⟨S8x128x256, .f32⟩
  | 3 => ⟨S4096x512, .f32⟩
  | 4 => ⟨S4096x8, .f32⟩
  | 5 => ⟨S4096x8, .f32⟩
  | 6 => ⟨S4096x1536, .bf16⟩
  | 7 => ⟨S256x24576, .bf16⟩
  | 8 => ⟨S4096x512, .bf16⟩
  | 9 => ⟨S256x8192, .bf16⟩
  | 10 => ⟨S128, .i32⟩
  | 11 => ⟨S128x1, .i32⟩
  | 12 => ⟨S256, .i32⟩
  | 13 => ⟨S1x256, .i32⟩
  | 14 => ⟨S_, .i32⟩
  | 15 => ⟨S128x1, .i32⟩
  | 16 => ⟨S128x1, .i32⟩
  | 17 => ⟨S128x256, .i32⟩
  | 18 => ⟨S128x256, .i32⟩
  | 19 => ⟨S128x256, .i32⟩
  | 20 => ⟨S_, .i32⟩
  | 21 => ⟨S128x256, .i32⟩
  | 22 => ⟨S128x256, .i1⟩
  | 23 => ⟨S_, .i32⟩
  | 24 => ⟨S128x256, .i32⟩
  | 25 => ⟨S128x256, .i1⟩
  | 26 => ⟨S128x256, .i1⟩
  | 27 => ⟨S_, .f32⟩
  | 28 => ⟨S_, .f32⟩
  | 29 => ⟨S8x128x256, .i1⟩
  | 30 => ⟨S8x128x256, .f32⟩
  | 31 => ⟨S8x128x256, .f32⟩
  | 32 => ⟨S_, .i32⟩
  | 33 => ⟨S1x256, .i32⟩
  | 34 => ⟨S1x256, .i1⟩
  | 35 => ⟨S_, .f32⟩
  | 36 => ⟨S_, .f32⟩
  | 37 => ⟨S8x128x256, .i1⟩
  | 38 => ⟨S8x128x256, .f32⟩
  | 39 => ⟨S8x128x256, .f32⟩
  | 40 => ⟨S1x8x128x256, .f32⟩
  | 41 => ⟨S1x8x128x256, .f32⟩
  | 42 => ⟨S2x8x128x256, .f32⟩
  | 43 => ⟨S1x2x8x128x256, .f32⟩
  | 44 => ⟨S4x2x8x128x256, .f32⟩
  | 45 => ⟨S4096x512, .f32⟩
  | 46 => ⟨S4096x512, .f32⟩
  | 47 => ⟨S4096x512, .f32⟩
  | 48 => ⟨S4096x8x64, .f32⟩
  | 49 => ⟨S256x16x8x64, .f32⟩
  | 50 => ⟨S16x256x8x64, .f32⟩
  | 51 => ⟨S4096x8x64, .f32⟩
  | 52 => ⟨S256x16x8x64, .f32⟩
  | 53 => ⟨S16x256x8x64, .f32⟩
  | 54 => ⟨S4096x8x64, .f32⟩
  | 55 => ⟨S256x16x8x64, .f32⟩
  | 56 => ⟨S16x256x8x64, .f32⟩
  | 57 => ⟨S_, .f32⟩
  | 58 => ⟨S16x128x8x64, .f32⟩
  | 59 => ⟨S16x384x8x64, .f32⟩
  | 60 => ⟨S16x384x8x64, .f32⟩
  | 61 => ⟨S16x256x8x64, .f32⟩
  | 62 => ⟨S16x256x8x64, .f32⟩
  | 63 => ⟨S16x1x256x8x64, .f32⟩
  | 64 => ⟨S16x1x256x8x64, .f32⟩
  | 65 => ⟨S16x2x256x8x64, .f32⟩
  | 66 => ⟨S16x256x8x64, .f32⟩
  | 67 => ⟨S16x256x8x64, .f32⟩
  | 68 => ⟨S16x1x256x8x64, .f32⟩
  | 69 => ⟨S16x1x256x8x64, .f32⟩
  | 70 => ⟨S16x2x256x8x64, .f32⟩
  | 71 => ⟨S16x2x128x8x64, .f32⟩
  | 72 => ⟨S16x2x8x128x256, .f32⟩
  | 73 => ⟨S_, .f32⟩
  | 74 => ⟨S16x2x8x128x256, .f32⟩
  | 75 => ⟨S16x2x8x128x256, .f32⟩
  | 76 => ⟨S128, .i32⟩
  | 77 => ⟨S128x1, .i32⟩
  | 78 => ⟨S_, .i32⟩
  | 79 => ⟨S128x1, .i32⟩
  | 80 => ⟨S128x1, .i32⟩
  | 81 => ⟨S256, .i32⟩
  | 82 => ⟨S1x256, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S2, .i32⟩
  | 94 => ⟨S2x1, .i32⟩
  | 95 => ⟨S_, .i32⟩
  | 96 => ⟨S2x1, .i32⟩
  | 97 => ⟨S2x1, .i32⟩
  | 98 => ⟨S256, .i32⟩
  | 99 => ⟨S1x256, .i32⟩
  | 100 => ⟨S2x256, .i32⟩
  | 101 => ⟨S2x256, .i32⟩
  | 102 => ⟨S2x256, .i32⟩
  | 103 => ⟨S_, .i32⟩
  | 104 => ⟨S2x256, .i32⟩
  | 105 => ⟨S2x256, .i32⟩
  | 106 => ⟨S1x128x256, .i1⟩
  | 107 => ⟨S_, .i32⟩
  | 108 => ⟨S2x256, .i32⟩
  | 109 => ⟨S2x256, .i1⟩
  | 110 => ⟨S2x1x256, .i1⟩
  | 111 => ⟨S2x128x256, .i1⟩
  | 112 => ⟨S2x128x256, .i1⟩
  | 113 => ⟨S2x128x256, .i1⟩
  | 114 => ⟨S1x2x1x128x256, .i1⟩
  | 115 => ⟨S1x1x8x128x256, .f32⟩
  | 116 => ⟨S16x2x8x128x256, .f32⟩
  | 117 => ⟨S16x2x8x128x256, .f32⟩
  | 118 => ⟨S_, .f32⟩
  | 119 => ⟨S_, .f32⟩
  | 120 => ⟨S16x2x8x128x256, .i1⟩
  | 121 => ⟨S16x2x8x128x256, .f32⟩
  | 122 => ⟨S16x2x8x128x256, .f32⟩
  | 123 => ⟨S_, .f32⟩
  | 124 => ⟨S16x2x8x128, .f32⟩
  | 125 => ⟨S16x2x8x128x1, .f32⟩
  | 126 => ⟨S16x2x8x128x256, .f32⟩
  | 127 => ⟨S16x2x8x128x256, .f32⟩
  | _ => ⟨S4096x1536, .f32⟩

abbrev hbmTy0_1 (i : Nat) : BufTy := match i % 128 with
  | 0 => ⟨S16x2x8x128x256, .f32⟩
  | 1 => ⟨S_, .f32⟩
  | 2 => ⟨S16x2x8x128, .f32⟩
  | 3 => ⟨S16x2x8x64x128, .f32⟩
  | 4 => ⟨S16x2x128x8x64, .f32⟩
  | 5 => ⟨S16x256x8x64, .f32⟩
  | 6 => ⟨S16x2x128x8, .f32⟩
  | 7 => ⟨S16x256x8, .f32⟩
  | 8 => ⟨S16x2x128x8, .f32⟩
  | 9 => ⟨S16x256x8, .f32⟩
  | 10 => ⟨S256x16x8x64, .f32⟩
  | 11 => ⟨S4096x8x64, .f32⟩
  | 12 => ⟨S256x16x8, .f32⟩
  | 13 => ⟨S4096x8, .f32⟩
  | 14 => ⟨S256x16x8, .f32⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S4096x8x1, .f32⟩
  | 22 => ⟨S4096x8x64, .f32⟩
  | 23 => ⟨S4096x8x64, .f32⟩
  | 24 => ⟨S4096x8x1, .f32⟩
  | 25 => ⟨S4096x8x64, .f32⟩
  | 26 => ⟨S4096x8x64, .f32⟩
  | 27 => ⟨S4096x8x64, .f32⟩
  | 28 => ⟨S4096x8x64, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S4096x8x64, .f32⟩
  | 35 => ⟨S4096x8x1, .f32⟩
  | 36 => ⟨S4096x8x64, .f32⟩
  | 37 => ⟨S4096x8x64, .f32⟩
  | 38 => ⟨S4096x8x64, .f32⟩
  | 39 => ⟨S_, .f32⟩
  | 40 => ⟨S4096x8, .f32⟩
  | 41 => ⟨S4096x8x1, .f32⟩
  | 42 => ⟨S4096x8x32, .f32⟩
  | 43 => ⟨S4096x8x1, .f32⟩
  | 44 => ⟨S4096x8x32, .f32⟩
  | 45 => ⟨S4096x8x64, .f32⟩
  | 46 => ⟨S256x8192, .f32⟩
  | 47 => ⟨S256x8192, .bf16⟩
  | 48 => ⟨S256x8192, .bf16⟩
  | 49 => ⟨S256x8192, .bf16⟩
  | 50 => ⟨S8x128x256, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S1x2x8x128x256, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S8x128x256, .f32⟩
  | .local _ .vmem, ⟨18, _⟩ => ⟨S128x512, .f32⟩
  | .local _ .vmem, ⟨19, _⟩ => ⟨S128x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_7 : Ref sig .tc := ⟨.hbm, 86, rfl⟩
abbrev main_v65 : Ref sig .tc := ⟨.hbm, 87, rfl⟩
abbrev main_v66 : Ref sig .tc := ⟨.hbm, 88, rfl⟩
abbrev main_c_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_11 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_12 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_14 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_15 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142_0 : Ref sig .tc := ⟨.hbm, 175, rfl⟩
abbrev main_v142_1 : Ref sig .tc := ⟨.hbm, 176, rfl⟩
abbrev main_v142_2 : Ref sig .tc := ⟨.hbm, 177, rfl⟩
abbrev main_v142_3 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 1], ![false, false]⟩

def k0_mult1 : BitVec 32 :=
  let c0_i32_7 : BitVec 32 := 0#32
  c0_i32_7
def k0_mult2 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c128_i32 : BitVec 32 := 128#32
  let v554 : BitVec 32 := Scalar.muli v553 c128_i32
  v554
def k0_off1 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c128_i32 : BitVec 32 := 128#32
  let v554 : BitVec 32 := Scalar.muli v553 c128_i32
  let v555 : BitVec 32 := v554
  let v556 : Index := Scalar.indexCast v555
  let c0_206 : Index := 0#32
  ![v556.toNat, 0]
def k0_mult3 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_211 : BitVec 32 := 1#32
  let v575 : BitVec 32 := Scalar.subi v553 c1_i32_211
  let c128_i32_212 : BitVec 32 := 128#32
  let v576 : BitVec 32 := Scalar.muli v575 c128_i32_212
  v576
def k0_off2 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_211 : BitVec 32 := 1#32
  let v575 : BitVec 32 := Scalar.subi v553 c1_i32_211
  let c128_i32_212 : BitVec 32 := 128#32
  let v576 : BitVec 32 := Scalar.muli v575 c128_i32_212
  let v577 : BitVec 32 := v576
  let v578 : Index := Scalar.indexCast v577
  let c0_213 : Index := 0#32
  ![v578.toNat, 0]
def k0_mult4 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_214 : BitVec 32 := 1#32
  let v581 : BitVec 32 := Scalar.subi v553 c1_i32_214
  let c128_i32_215 : BitVec 32 := 128#32
  let v582 : BitVec 32 := Scalar.muli v581 c128_i32_215
  v582
def k0_mult5 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_255 : BitVec 32 := 1#32
  let v685 : BitVec 32 := Scalar.subi v553 c1_i32_255
  let c128_i32_256 : BitVec 32 := 128#32
  let v686 : BitVec 32 := Scalar.muli v685 c128_i32_256
  v686
def k0_off3 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_255 : BitVec 32 := 1#32
  let v685 : BitVec 32 := Scalar.subi v553 c1_i32_255
  let c128_i32_256 : BitVec 32 := 128#32
  let v686 : BitVec 32 := Scalar.muli v685 c128_i32_256
  let v687 : BitVec 32 := v686
  let v692 : Index := Scalar.indexCast v687
  let c0_259 : Index := 0#32
  ![v692.toNat, 0]
def k0_off4 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c128_i32 : BitVec 32 := 128#32
  let v554 : BitVec 32 := Scalar.muli v553 c128_i32
  let v555 : BitVec 32 := v554
  let v708 : Index := Scalar.indexCast v555
  let c128_267 : Index := 128#32
  ![v708.toNat, 128]
def k0_mult6 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_272 : BitVec 32 := 1#32
  let v727 : BitVec 32 := Scalar.subi v553 c1_i32_272
  let c128_i32_273 : BitVec 32 := 128#32
  let v728 : BitVec 32 := Scalar.muli v727 c128_i32_273
  v728
def k0_off5 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_272 : BitVec 32 := 1#32
  let v727 : BitVec 32 := Scalar.subi v553 c1_i32_272
  let c128_i32_273 : BitVec 32 := 128#32
  let v728 : BitVec 32 := Scalar.muli v727 c128_i32_273
  let v729 : BitVec 32 := v728
  let v730 : Index := Scalar.indexCast v729
  let c128_274 : Index := 128#32
  ![v730.toNat, 128]
def k0_mult7 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_275 : BitVec 32 := 1#32
  let v733 : BitVec 32 := Scalar.subi v553 c1_i32_275
  let c128_i32_276 : BitVec 32 := 128#32
  let v734 : BitVec 32 := Scalar.muli v733 c128_i32_276
  v734
def k0_mult8 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_316 : BitVec 32 := 1#32
  let v837 : BitVec 32 := Scalar.subi v553 c1_i32_316
  let c128_i32_317 : BitVec 32 := 128#32
  let v838 : BitVec 32 := Scalar.muli v837 c128_i32_317
  v838
def k0_off6 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_316 : BitVec 32 := 1#32
  let v837 : BitVec 32 := Scalar.subi v553 c1_i32_316
  let c128_i32_317 : BitVec 32 := 128#32
  let v838 : BitVec 32 := Scalar.muli v837 c128_i32_317
  let v839 : BitVec 32 := v838
  let v844 : Index := Scalar.indexCast v839
  let c128_320 : Index := 128#32
  ![v844.toNat, 128]
def k0_off7 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c128_i32 : BitVec 32 := 128#32
  let v554 : BitVec 32 := Scalar.muli v553 c128_i32
  let v555 : BitVec 32 := v554
  let v860 : Index := Scalar.indexCast v555
  let c256_328 : Index := 256#32
  ![v860.toNat, 256]
def k0_mult9 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_333 : BitVec 32 := 1#32
  let v879 : BitVec 32 := Scalar.subi v553 c1_i32_333
  let c128_i32_334 : BitVec 32 := 128#32
  let v880 : BitVec 32 := Scalar.muli v879 c128_i32_334
  v880
def k0_off8 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_333 : BitVec 32 := 1#32
  let v879 : BitVec 32 := Scalar.subi v553 c1_i32_333
  let c128_i32_334 : BitVec 32 := 128#32
  let v880 : BitVec 32 := Scalar.muli v879 c128_i32_334
  let v881 : BitVec 32 := v880
  let v882 : Index := Scalar.indexCast v881
  let c256_335 : Index := 256#32
  ![v882.toNat, 256]
def k0_mult10 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_336 : BitVec 32 := 1#32
  let v885 : BitVec 32 := Scalar.subi v553 c1_i32_336
  let c128_i32_337 : BitVec 32 := 128#32
  let v886 : BitVec 32 := Scalar.muli v885 c128_i32_337
  v886
def k0_mult11 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_377 : BitVec 32 := 1#32
  let v989 : BitVec 32 := Scalar.subi v553 c1_i32_377
  let c128_i32_378 : BitVec 32 := 128#32
  let v990 : BitVec 32 := Scalar.muli v989 c128_i32_378
  v990
def k0_off9 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_377 : BitVec 32 := 1#32
  let v989 : BitVec 32 := Scalar.subi v553 c1_i32_377
  let c128_i32_378 : BitVec 32 := 128#32
  let v990 : BitVec 32 := Scalar.muli v989 c128_i32_378
  let v991 : BitVec 32 := v990
  let v996 : Index := Scalar.indexCast v991
  let c256_381 : Index := 256#32
  ![v996.toNat, 256]
def k0_off10 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c128_i32 : BitVec 32 := 128#32
  let v554 : BitVec 32 := Scalar.muli v553 c128_i32
  let v555 : BitVec 32 := v554
  let v1012 : Index := Scalar.indexCast v555
  let c384_389 : Index := 384#32
  ![v1012.toNat, 384]
def k0_mult12 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_394 : BitVec 32 := 1#32
  let v1031 : BitVec 32 := Scalar.subi v553 c1_i32_394
  let c128_i32_395 : BitVec 32 := 128#32
  let v1032 : BitVec 32 := Scalar.muli v1031 c128_i32_395
  v1032
def k0_off11 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_394 : BitVec 32 := 1#32
  let v1031 : BitVec 32 := Scalar.subi v553 c1_i32_394
  let c128_i32_395 : BitVec 32 := 128#32
  let v1032 : BitVec 32 := Scalar.muli v1031 c128_i32_395
  let v1033 : BitVec 32 := v1032
  let v1034 : Index := Scalar.indexCast v1033
  let c384_396 : Index := 384#32
  ![v1034.toNat, 384]
def k0_mult13 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_397 : BitVec 32 := 1#32
  let v1037 : BitVec 32 := Scalar.subi v553 c1_i32_397
  let c128_i32_398 : BitVec 32 := 128#32
  let v1038 : BitVec 32 := Scalar.muli v1037 c128_i32_398
  v1038
def k0_mult14 : BitVec 32 :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_438 : BitVec 32 := 1#32
  let v1141 : BitVec 32 := Scalar.subi v553 c1_i32_438
  let c128_i32_439 : BitVec 32 := 128#32
  let v1142 : BitVec 32 := Scalar.muli v1141 c128_i32_439
  v1142
def k0_off12 : Fin 2 → Nat :=
  let c1_i32_205 : BitVec 32 := 1#32
  let c0_i32_203 : BitVec 32 := 0#32
  let c1_i32_204 : BitVec 32 := 1#32
  let v552 : BitVec 32 := Scalar.muli c0_i32_203 c1_i32_204
  let v553 : BitVec 32 := Scalar.addi c1_i32_205 v552
  let c1_i32_438 : BitVec 32 := 1#32
  let v1141 : BitVec 32 := Scalar.subi v553 c1_i32_438
  let c128_i32_439 : BitVec 32 := 128#32
  let v1142 : BitVec 32 := Scalar.muli v1141 c128_i32_439
  let v1143 : BitVec 32 := v1142
  let v1148 : Index := Scalar.indexCast v1143
  let c384_442 : Index := 384#32
  ![v1148.toNat, 384]
def k0_mult15 : BitVec 32 :=
  let c128_i32_451 : BitVec 32 := 128#32
  c128_i32_451
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi c0_i32 v0
  let c1_i32 : BitVec 32 := 1#32
  let v2 : BitVec 32 := Scalar.muli v1 c1_i32
  let v3 : BitVec 32 := Scalar.addi v2 arg1
  let c0_i32_0 : BitVec 32 := 0#32
  let c0_i32_1 : BitVec 32 := 0#32
  ![c0_i32_0.toNat, v3.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi c1_i32 v0
  let c1_i32_0 : BitVec 32 := 1#32
  let v2 : BitVec 32 := Scalar.muli v1 c1_i32_0
  let v3 : BitVec 32 := Scalar.addi v2 arg1
  let c0_i32 : BitVec 32 := 0#32
  let c0_i32_1 : BitVec 32 := 0#32
  ![c0_i32.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c1_i32 : BitVec 32 := 1#32
  let v2 : BitVec 32 := Scalar.muli v1 c1_i32
  let v3 : BitVec 32 := Scalar.addi v2 arg1
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.muli v1 c1_i32_0
  let v3 : BitVec 32 := Scalar.addi v2 arg1
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.muli v1 c1_i32_0
  let v3 : BitVec 32 := Scalar.addi v2 arg1
  let c0_i32_1 : BitVec 32 := 0#32
  let c0_i32_2 : BitVec 32 := 0#32
  ![c0_i32_1.toNat, v3.toNat]

def cc0_transform_5 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.muli v1 c1_i32_0
  let v3 : BitVec 32 := Scalar.addi v2 arg1
  let c0_i32_1 : BitVec 32 := 0#32
  let c0_i32_2 : BitVec 32 := 0#32
  ![c0_i32_1.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.muli v1 c1_i32_0
  let v3 : BitVec 32 := Scalar.addi v2 arg1
  let c0_i32_1 : BitVec 32 := 0#32
  let c0_i32_2 : BitVec 32 := 0#32
  ![c0_i32_1.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let v2 : BitVec 32 := Scalar.muli v1 c1_i32_0
  let v3 : BitVec 32 := Scalar.addi v2 arg1
  let c0_i32_1 : BitVec 32 := 0#32
  let c0_i32_2 : BitVec 32 := 0#32
  ![c0_i32_1.toNat, v3.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2x8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4096x1536 : Shape := ⟨2, ![4096, 1536]⟩
abbrev S4096x512 : Shape := ⟨2, ![4096, 512]⟩
abbrev S8x128x256 : Shape := ⟨3, ![8, 128, 256]⟩
abbrev S4096x8 : Shape := ⟨2, ![4096, 8]⟩
abbrev S4096x8x64 : Shape := ⟨3, ![4096, 8, 64]⟩
abbrev S256x16x8x64 : Shape := ⟨4, ![256, 16, 8, 64]⟩
abbrev S16x256x8x64 : Shape := ⟨4, ![16, 256, 8, 64]⟩
abbrev S_ : Shape := ⟨0, ![]⟩
abbrev S16x128x8x64 : Shape := ⟨4, ![16, 128, 8, 64]⟩
abbrev S16x384x8x64 : Shape := ⟨4, ![16, 384, 8, 64]⟩
abbrev S16x1x256x8x64 : Shape := ⟨5, ![16, 1, 256, 8, 64]⟩
abbrev S16x2x256x8x64 : Shape := ⟨5, ![16, 2, 256, 8, 64]⟩
abbrev S16x2x128x8x64 : Shape := ⟨5, ![16, 2, 128, 8, 64]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1 : Shape := ⟨2, ![2, 1]⟩
abbrev S2x256 : Shape := ⟨2, ![2, 256]⟩
abbrev S1x128x256 : Shape := ⟨3, ![1, 128, 256]⟩
abbrev S2x1x256 : Shape := ⟨3, ![2, 1, 256]⟩
abbrev S2x128x256 : Shape := ⟨3, ![2, 128, 256]⟩
abbrev S1x2x1x128x256 : Shape := ⟨5, ![1, 2, 1, 128, 256]⟩
abbrev S1x1x8x128x256 : Shape := ⟨5, ![1, 1, 8, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x256x8 : Shape := ⟨3, ![16, 256, 8]⟩
abbrev S256x16x8 : Shape := ⟨3, ![256, 16, 8]⟩
abbrev S4096x8x1 : Shape := ⟨3, ![4096, 8, 1]⟩
abbrev S16x2x8x64x256 : Shape := ⟨5, ![16, 2, 8, 64, 256]⟩
abbrev S16x2x8x256x64 : Shape := ⟨5, ![16, 2, 8, 256, 64]⟩
abbrev S16x2x8x128x64 : Shape := ⟨5, ![16, 2, 8, 128, 64]⟩
abbrev S256x8192 : Shape := ⟨2, ![256, 8192]⟩

abbrev nBuf : Space → Nat
  | .hbm => 271
  | .vmem => 0
  | .smem => 0
  | _ => 0

abbrev hbmTy0_0 (i : Nat) : BufTy := match i % 128 with
  | 0 => ⟨S4096x1536, .f32⟩
  | 1 => ⟨S4096x512, .f32⟩
  | 2 => ⟨S8x128x256, .f32⟩
  | 3 => ⟨S4096x512, .f32⟩
  | 4 => ⟨S4096x8, .f32⟩
  | 5 => ⟨S4096x8, .f32⟩
  | 6 => ⟨S4096x512, .f32⟩
  | 7 => ⟨S4096x512, .f32⟩
  | 8 => ⟨S4096x512, .f32⟩
  | 9 => ⟨S4096x8x64, .f32⟩
  | 10 => ⟨S256x16x8x64, .f32⟩
  | 11 => ⟨S16x256x8x64, .f32⟩
  | 12 => ⟨S4096x8x64, .f32⟩
  | 13 => ⟨S256x16x8x64, .f32⟩
  | 14 => ⟨S16x256x8x64, .f32⟩
  | 15 => ⟨S4096x8x64, .f32⟩
  | 16 => ⟨S256x16x8x64, .f32⟩
  | 17 => ⟨S16x256x8x64, .f32⟩
  | 18 => ⟨S_, .f32⟩
  | 19 => ⟨S16x128x8x64, .f32⟩
  | 20 => ⟨S16x384x8x64, .f32⟩
  | 21 => ⟨S_, .f32⟩
  | 22 => ⟨S16x128x8x64, .f32⟩
  | 23 => ⟨S16x384x8x64, .f32⟩
  | 24 => ⟨S_, .f32⟩
  | 25 => ⟨S16x128x8x64, .f32⟩
  | 26 => ⟨S16x256x8x64, .f32⟩
  | 27 => ⟨S16x256x8x64, .f32⟩
  | 28 => ⟨S16x1x256x8x64, .f32⟩
  | 29 => ⟨S16x1x256x8x64, .f32⟩
  | 30 => ⟨S16x2x256x8x64, .f32⟩
  | 31 => ⟨S16x256x8x64, .f32⟩
  | 32 => ⟨S16x256x8x64, .f32⟩
  | 33 => ⟨S16x1x256x8x64, .f32⟩
  | 34 => ⟨S16x1x256x8x64, .f32⟩
  | 35 => ⟨S16x2x256x8x64, .f32⟩
  | 36 => ⟨S16x2x128x8x64, .f32⟩
  | 37 => ⟨S16x2x8x128x256, .f32⟩
  | 38 => ⟨S_, .f32⟩
  | 39 => ⟨S16x2x8x128x256, .f32⟩
  | 40 => ⟨S16x2x8x128x256, .f32⟩
  | 41 => ⟨S128, .i32⟩
  | 42 => ⟨S128x1, .i32⟩
  | 43 => ⟨S_, .i32⟩
  | 44 => ⟨S128x1, .i32⟩
  | 45 => ⟨S128x1, .i32⟩
  | 46 => ⟨S256, .i32⟩
  | 47 => ⟨S1x256, .i32⟩
  | 48 => ⟨S128x256, .i32⟩
  | 49 => ⟨S128x256, .i32⟩
  | 50 => ⟨S128x256, .i32⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i1⟩
  | 57 => ⟨S128x256, .i1⟩
  | 58 => ⟨S2, .i32⟩
  | 59 => ⟨S2x1, .i32⟩
  | 60 => ⟨S_, .i32⟩
  | 61 => ⟨S2x1, .i32⟩
  | 62 => ⟨S2x1, .i32⟩
  | 63 => ⟨S256, .i32⟩
  | 64 => ⟨S1x256, .i32⟩
  | 65 => ⟨S2x256, .i32⟩
  | 66 => ⟨S2x256, .i32⟩
  | 67 => ⟨S2x256, .i32⟩
  | 68 => ⟨S_, .i32⟩
  | 69 => ⟨S2x256, .i32⟩
  | 70 => ⟨S2x256, .i32⟩
  | 71 => ⟨S1x128x256, .i1⟩
  | 72 => ⟨S_, .i32⟩
  | 73 => ⟨S2x256, .i32⟩
  | 74 => ⟨S2x256, .i1⟩
  | 75 => ⟨S2x1x256, .i1⟩
  | 76 => ⟨S2x128x256, .i1⟩
  | 77 => ⟨S2x128x256, .i1⟩
  | 78 => ⟨S2x128x256, .i1⟩
  | 79 => ⟨S1x2x1x128x256, .i1⟩
  | 80 => ⟨S1x1x8x128x256, .f32⟩
  | 81 => ⟨S16x2x8x128x256, .f32⟩
  | 82 => ⟨S16x2x8x128x256, .f32⟩
  | 83 => ⟨S_, .f32⟩
  | 84 => ⟨S_, .f32⟩
  | 85 => ⟨S16x2x8x128x256, .i1⟩
  | 86 => ⟨S16x2x8x128x256, .f32⟩
  | 87 => ⟨S16x2x8x128x256, .f32⟩
  | 88 => ⟨S_, .f32⟩
  | 89 => ⟨S16x2x8x128x256, .f32⟩
  | 90 => ⟨S_, .f32⟩
  | 91 => ⟨S16x2x8x128, .f32⟩
  | 92 => ⟨S16x2x8x128x1, .f32⟩
  | 93 => ⟨S16x2x8x128x256, .f32⟩
  | 94 => ⟨S16x2x8x128x256, .i1⟩
  | 95 => ⟨S16x2x8x128x256, .f32⟩
  | 96 => ⟨S_, .f32⟩
  | 97 => ⟨S16x2x8x128, .f32⟩
  | 98 => ⟨S16x2x8x128x1, .f32⟩
  | 99 => ⟨S16x2x8x128x256, .f32⟩
  | 100 => ⟨S16x2x8x128x256, .f32⟩
  | 101 => ⟨S16x2x8x128x256, .f32⟩
  | 102 => ⟨S_, .f32⟩
  | 103 => ⟨S16x2x8x128, .f32⟩
  | 104 => ⟨S16x2x8x64x128, .f32⟩
  | 105 => ⟨S16x2x128x8x64, .f32⟩
  | 106 => ⟨S16x256x8x64, .f32⟩
  | 107 => ⟨S16x2x128x8, .f32⟩
  | 108 => ⟨S16x256x8, .f32⟩
  | 109 => ⟨S16x2x128x8, .f32⟩
  | 110 => ⟨S16x256x8, .f32⟩
  | 111 => ⟨S256x16x8x64, .f32⟩
  | 112 => ⟨S4096x8x64, .f32⟩
  | 113 => ⟨S256x16x8, .f32⟩
  | 114 => ⟨S4096x8, .f32⟩
  | 115 => ⟨S256x16x8, .f32⟩
  | 116 => ⟨S4096x8, .f32⟩
  | 117 => ⟨S4096x8, .f32⟩
  | 118 => ⟨S4096x8, .i1⟩
  | 119 => ⟨S4096x8, .i1⟩
  | 120 => ⟨S_, .f32⟩
  | 121 => ⟨S4096x8, .f32⟩
  | 122 => ⟨S_, .f32⟩
  | 123 => ⟨S4096x8, .f32⟩
  | 124 => ⟨S_, .f32⟩
  | 125 => ⟨S4096x8, .f32⟩
  | 126 => ⟨S4096x8, .f32⟩
  | 127 => ⟨S4096x8, .f32⟩
  | _ => ⟨S4096x1536, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S4096x8x1, .f32⟩
  | 5 => ⟨S4096x8x64, .f32⟩
  | 6 => ⟨S4096x8x64, .f32⟩
  | 7 => ⟨S4096x8x1, .f32⟩
  | 8 => ⟨S4096x8x64, .f32⟩
  | 9 => ⟨S4096x8x64, .f32⟩
  | 10 => ⟨S4096x8x64, .f32⟩
  | 11 => ⟨S4096x8x64, .f32⟩
  | 12 => ⟨S4096x8, .f32⟩
  | 13 => ⟨S4096x8, .f32⟩
  | 14 => ⟨S4096x8, .f32⟩
  | 15 => ⟨S4096x8x1, .f32⟩
  | 16 => ⟨S4096x8x64, .f32⟩
  | 17 => ⟨S4096x8x64, .f32⟩
  | 18 => ⟨S4096x8x1, .f32⟩
  | 19 => ⟨S_, .f32⟩
  | 20 => ⟨S4096x8x1, .f32⟩
  | 21 => ⟨S4096x8x1, .f32⟩
  | 22 => ⟨S4096x512, .f32⟩
  | 23 => ⟨S4096x8x64, .f32⟩
  | 24 => ⟨S4096x8x64, .f32⟩
  | 25 => ⟨S4096x8x64, .f32⟩
  | 26 => ⟨S4096x8x64, .f32⟩
  | 27 => ⟨S_, .f32⟩
  | 28 => ⟨S4096x8, .f32⟩
  | 29 => ⟨S4096x8x1, .f32⟩
  | 30 => ⟨S4096x8x1, .f32⟩
  | 31 => ⟨S4096x8x64, .f32⟩
  | 32 => ⟨S4096x8x64, .f32⟩
  | 33 => ⟨S_, .f32⟩
  | 34 => ⟨S4096x8, .f32⟩
  | 35 => ⟨S4096x8, .f32⟩
  | 36 => ⟨S4096x8, .f32⟩
  | 37 => ⟨S4096x8, .f32⟩
  | 38 => ⟨S4096x8x64, .f32⟩
  | 39 => ⟨S_, .f32⟩
  | 40 => ⟨S4096x8, .f32⟩
  | 41 => ⟨S4096x8x1, .f32⟩
  | 42 => ⟨S_, .f32⟩
  | 43 => ⟨S4096x8, .f32⟩
  | 44 => ⟨S4096x8, .f32⟩
  | 45 => ⟨S4096x8x64, .f32⟩
  | 46 => ⟨S4096x8x64, .f32⟩
  | 47 => ⟨S4096x8x64, .f32⟩
  | 48 => ⟨S_, .f32⟩
  | 49 => ⟨S4096x8, .f32⟩
  | 50 => ⟨S4096x8x1, .f32⟩
  | 51 => ⟨S_, .f32⟩
  | 52 => ⟨S4096x8, .f32⟩
  | 53 => ⟨S4096x8, .f32⟩
  | 54 => ⟨S4096x8, .f32⟩
  | 55 => ⟨S4096x8, .f32⟩
  | 56 => ⟨S4096x8, .f32⟩
  | 57 => ⟨S4096x8, .f32⟩
  | 58 => ⟨S4096x8, .f32⟩
  | 59 => ⟨S4096x8, .f32⟩
  | 60 => ⟨S4096x8, .f32⟩
  | 61 => ⟨S256x16x8, .f32⟩
  | 62 => ⟨S16x256x8, .f32⟩
  | 63 => ⟨S256x16x8, .f32⟩
  | 64 => ⟨S16x256x8, .f32⟩
  | 65 => ⟨S256x16x8x64, .f32⟩
  | 66 => ⟨S16x256x8x64, .f32⟩
  | 67 => ⟨S16x2x128x8, .f32⟩
  | 68 => ⟨S16x2x8x128, .f32⟩
  | 69 => ⟨S16x2x128x8, .f32⟩
  | 70 => ⟨S16x2x8x128, .f32⟩
  | 71 => ⟨S16x2x128x8x64, .f32⟩
  | 72 => ⟨S16x2x8x64x128, .f32⟩
  | 73 => ⟨S16x2x8x128x256, .f32⟩
  | 74 => ⟨S16x2x8x64x256, .f32⟩
  | 75 => ⟨S16x2x256x8x64, .f32⟩
  | 76 => ⟨S16x2x8x128x256, .f32⟩
  | 77 => ⟨S16x2x8x128x256, .f32⟩
  | 78 => ⟨S16x2x8x128x256, .f32⟩
  | 79 => ⟨S16x2x8x128x256, .f32⟩
  | 80 => ⟨S_, .f32⟩
  | 81 => ⟨S16x2x8x128, .f32⟩
  | 82 => ⟨S16x2x8x128x1, .f32⟩
  | 83 => ⟨S_, .f32⟩
  | 84 => ⟨S16x2x8x128, .f32⟩
  | 85 => ⟨S16x2x8x128, .f32⟩
  | 86 => ⟨S16x2x8x128, .f32⟩
  | 87 => ⟨S16x2x8x128x256, .f32⟩
  | 88 => ⟨S16x2x8x128x256, .f32⟩
  | 89 => ⟨S16x2x8x128x256, .f32⟩
  | 90 => ⟨S_, .f32⟩
  | 91 => ⟨S16x2x8x128x256, .f32⟩
  | 92 => ⟨S16x2x8x128x256, .f32⟩
  | 93 => ⟨S_, .f32⟩
  | 94 => ⟨S8x128x256, .f32⟩
  | 95 => ⟨S1x1x8x128x256, .f32⟩
  | 96 => ⟨S_, .f32⟩
  | 97 => ⟨S8x128x256, .f32⟩
  | 98 => ⟨S_, .f32⟩
  | 99 => ⟨S16x2x8x128x256, .f32⟩
  | 100 => ⟨S16x2x8x128x256, .f32⟩
  | 101 => ⟨S16x2x8x256x64, .f32⟩
  | 102 => ⟨S16x2x256x8x64, .f32⟩
  | 103 => ⟨S16x2x8x128x64, .f32⟩
  | 104 => ⟨S16x2x128x8x64, .f32⟩
  | 105 => ⟨S16x256x8x64, .f32⟩
  | 106 => ⟨S16x1x256x8x64, .f32⟩
  | 107 => ⟨S16x256x8x64, .f32⟩
  | 108 => ⟨S16x1x256x8x64, .f32⟩
  | 109 => ⟨S16x256x8x64, .f32⟩
  | 110 => ⟨S_, .f32⟩
  | 111 => ⟨S16x384x8x64, .f32⟩
  | 112 => ⟨S_, .f32⟩
  | 113 => ⟨S16x384x8x64, .f32⟩
  | 114 => ⟨S16x384x8x64, .f32⟩
  | 115 => ⟨S16x1x256x8x64, .f32⟩
  | 116 => ⟨S16x256x8x64, .f32⟩
  | 117 => ⟨S16x1x256x8x64, .f32⟩
  | 118 => ⟨S16x256x8x64, .f32⟩
  | 119 => ⟨S_, .f32⟩
  | 120 => ⟨S16x384x8x64, .f32⟩
  | 121 => ⟨S_, .f32⟩
  | 122 => ⟨S16x384x8x64, .f32⟩
  | 123 => ⟨S16x384x8x64, .f32⟩
  | 124 => ⟨S16x128x8x64, .f32⟩
  | 125 => ⟨S16x256x8x64, .f32⟩
  | 126 => ⟨S16x128x8x64, .f32⟩
  | 127 => ⟨S16x256x8x64, .f32⟩
  | _ => ⟨S4096x1536, .f32⟩

abbrev hbmTy0_2 (i : Nat) : BufTy := match i % 128 with
  | 0 => ⟨S256x16x8x64, .f32⟩
  | 1 => ⟨S4096x8x64, .f32⟩
  | 2 => ⟨S4096x512, .f32⟩
  | 3 => ⟨S256x16x8x64, .f32⟩
  | 4 => ⟨S4096x8x64, .f32⟩
  | 5 => ⟨S4096x512, .f32⟩
  | 6 => ⟨S256x16x8x64, .f32⟩
  | 7 => ⟨S4096x8x64, .f32⟩
  | 8 => ⟨S4096x512, .f32⟩
  | 9 => ⟨S256x8192, .f32⟩
  | 10 => ⟨S256x8192, .bf16⟩
  | 11 => ⟨S256x8192, .f32⟩
  | 12 => ⟨S256x8192, .bf16⟩
  | 13 => ⟨S256x8192, .f32⟩
  | 14 => ⟨S256x8192, .bf16⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_call0_v0 : Ref sig .tc := ⟨.hbm, 84, rfl⟩
abbrev main_v67_1 : Ref sig .tc := ⟨.hbm, 85, rfl⟩
abbrev main_call0_v2 : Ref sig .tc := ⟨.hbm, 86, rfl⟩
abbrev main_v67_0 : Ref sig .tc := ⟨.hbm, 87, rfl⟩
abbrev main_call0_cst : Ref sig .tc := ⟨.hbm, 88, rfl⟩
abbrev main_v67_2 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_15 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_16 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_17 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_18 : Ref sig .tc := ⟨.hbm, 167, rfl⟩
abbrev main_v136 : Ref sig .tc := ⟨.hbm, 168, rfl⟩
abbrev main_v137 : Ref sig .tc := ⟨.hbm, 169, rfl⟩
abbrev main_cst_19 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_20 : Ref sig .tc := ⟨.hbm, 176, rfl⟩
abbrev main_v143 : Ref sig .tc := ⟨.hbm, 177, rfl⟩
abbrev main_v144 : Ref sig .tc := ⟨.hbm, 178, rfl⟩
abbrev main_cst_21 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_22 : Ref sig .tc := ⟨.hbm, 208, rfl⟩
abbrev main_v173 : Ref sig .tc := ⟨.hbm, 209, rfl⟩
abbrev main_v174 : Ref sig .tc := ⟨.hbm, 210, rfl⟩
abbrev main_cst_23 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_call1_cst : Ref sig .tc := ⟨.hbm, 218, rfl⟩
abbrev main_call1_v0 : Ref sig .tc := ⟨.hbm, 219, rfl⟩
abbrev main_v181 : Ref sig .tc := ⟨.hbm, 220, rfl⟩
abbrev main_cst_24 : Ref sig .tc := ⟨.hbm, 221, rfl⟩
abbrev main_v182 : Ref sig .tc := ⟨.hbm, 222, rfl⟩
abbrev main_v183 : Ref sig .tc := ⟨.hbm, 223, rfl⟩
abbrev main_cst_25 : Ref sig .tc := ⟨.hbm, 224, rfl⟩
abbrev main_v184 : Ref sig .tc := ⟨.hbm, 225, rfl⟩
abbrev main_cst_26 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_cst_27 : Ref sig .tc := ⟨.hbm, 238, rfl⟩
abbrev main_v196 : Ref sig .tc := ⟨.hbm, 239, rfl⟩
abbrev main_cst_28 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_cst_29 : Ref sig .tc := ⟨.hbm, 247, rfl⟩
abbrev main_v203 : Ref sig .tc := ⟨.hbm, 248, rfl⟩
abbrev main_cst_30 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩

abbrev nD : Nat := 1
abbrev τ : Topo := Topo.v7x

variable {F : FTy → Type} [FloatOps F]
-- ==== KernelUp.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDown.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGate.lean ====
abbrev S4096x1024 : Shape := ⟨2, ![4096, 1024]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1x1024x256 : Shape := ⟨3, ![1, 1024, 256]⟩
abbrev S1024x256 : Shape := ⟨2, ![1024, 256]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGateIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== KernelResid.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceResidIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KernelNorms.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S256x1408 : Shape := ⟨2, ![256, 1408]⟩
abbrev S1x1024x1408 : Shape := ⟨3, ![1, 1024, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceNormsIdeal.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4x1024x1408, .f32⟩
  | .hbm, ⟨27, _⟩ => ⟨S1024x4x1408, .f32⟩
  | .hbm, ⟨28, _⟩ => ⟨S1024x5632, .f32⟩
  | .hbm, ⟨29, _⟩ => ⟨S4096x5632, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== KernelSquare.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSquareIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelPle.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferencePleIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInA.lean ====
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .bf16⟩
  | .local _ .vmem, ⟨0, _⟩ => ⟨S4096x768, .bf16⟩
  | .local _ .vmem, ⟨1, _⟩ => ⟨S4096x1024, .bf16⟩
  | .local _ .vmem, ⟨2, _⟩ => ⟨S768x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceInAIdeal.lean ====
abbrev S4096x768 : Shape := ⟨2, ![4096, 768]⟩
abbrev S4096x1024 : Shape := ⟨2, ![4096, 1024]⟩
abbrev S_ : Shape := ⟨0, ![]⟩
abbrev S768x1024 : Shape := ⟨2, ![768, 1024]⟩
abbrev S1024x768 : Shape := ⟨2, ![1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S_, .f32⟩
  | .hbm, ⟨3, _⟩ => ⟨S768x1024, .f32⟩
  | .hbm, ⟨4, _⟩ => ⟨S4096x1024, .f32⟩
  | .hbm, ⟨5, _⟩ => ⟨S1024x768, .f32⟩
  | .hbm, ⟨6, _⟩ => ⟨S4096x768, .f32⟩
  | .hbm, ⟨7, _⟩ => ⟨S4096x768, .f32⟩
  | .hbm, ⟨8, _⟩ => ⟨S768x1024, .f32⟩
  | .hbm, ⟨9, _⟩ => ⟨S1024x768, .f32⟩
  | .hbm, ⟨10, _⟩ => ⟨S768x1024, .f32⟩
  | .hbm, ⟨11, _⟩ => ⟨S768x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelInB.lean ====
abbrev S4096x1536 : Shape := ⟨2, ![4096, 1536]⟩
abbrev S4096x1024 : Shape := ⟨2, ![4096, 1024]⟩
abbrev S1536x1024 : Shape := ⟨2, ![1536, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInBIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1536x1024, .f32⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelMix.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMixIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelRowsA.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRowsAIdeal.lean ====
abbrev S4096x768 : Shape := ⟨2, ![4096, 768]⟩
abbrev S768x1024 : Shape := ⟨2, ![768, 1024]⟩
abbrev S_ : Shape := ⟨0, ![]⟩
abbrev S4096x1024 : Shape := ⟨2, ![4096, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S_, .f32⟩
  | .hbm, ⟨3, _⟩ => ⟨S4096x1024, .f32⟩
  | .hbm, ⟨4, _⟩ => ⟨S768x1024, .f32⟩
  | .hbm, ⟨5, _⟩ => ⟨S1024x768, .f32⟩
  | .hbm, ⟨6, _⟩ => ⟨S4096x768, .f32⟩
  | .hbm, ⟨7, _⟩ => ⟨S4096x768, .f32⟩
  | .hbm, ⟨8, _⟩ => ⟨S4096x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProjA.lean ====
abbrev S4096x1024 : Shape := ⟨2, ![4096, 1024]⟩
abbrev S768x1024 : Shape := ⟨2, ![768, 1024]⟩
abbrev S1x768 : Shape := ⟨2, ![1, 768]⟩
abbrev S4096x768 : Shape := ⟨2, ![4096, 768]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S1x768, .f32⟩
  | .hbm, ⟨3, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1x768, .f32⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjAIdeal.lean ====
abbrev S4096x1024 : Shape := ⟨2, ![4096, 1024]⟩
abbrev S768x1024 : Shape := ⟨2, ![768, 1024]⟩
abbrev S1x768 : Shape := ⟨2, ![1, 768]⟩
abbrev S1024x768 : Shape := ⟨2, ![1024, 768]⟩
abbrev S4096x768 : Shape := ⟨2, ![4096, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S1x768, .f32⟩
  | .hbm, ⟨3, _⟩ => ⟨S4096x1024, .f32⟩
  | .hbm, ⟨4, _⟩ => ⟨S768x1024, .f32⟩
  | .hbm, ⟨5, _⟩ => ⟨S1024x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFirst.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S256x1408 : Shape := ⟨2, ![256, 1408]⟩
abbrev S1x1024x1408 : Shape := ⟨3, ![1, 1024, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFirstIdeal.lean ====
abbrev S4096x5632 : Shape := ⟨2, ![4096, 5632]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x1408, .f32⟩
  | .hbm, ⟨25, _⟩ => ⟨S1024x4x1408, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelLarge.lean ====
abbrev S1024x1408 : Shape := ⟨2, ![1024, 1408]⟩
abbrev S704x1024 : Shape := ⟨2, ![704, 1024]⟩
abbrev S128x1408 : Shape := ⟨2, ![128, 1408]⟩
abbrev S88x1024 : Shape := ⟨2, ![88, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S1024x1408, .f32⟩
  | .hbm, ⟨9, _⟩ => ⟨S704x1024, .f32⟩
  | .hbm, ⟨10, _⟩ => ⟨S1024x1408, .f32⟩
  | .hbm, ⟨11, _⟩ => ⟨S704x1024, .f32⟩
  | .hbm, ⟨12, _⟩ => ⟨S1024x1408, .f32⟩
  | .hbm, ⟨13, _⟩ => ⟨S704x1024, .f32⟩
  | .hbm, ⟨14, _⟩ => ⟨S1024x1408, .f32⟩
  | .hbm, ⟨15, _⟩ => ⟨S704x1024, .f32⟩
  | .local _ .vmem, ⟨0, _⟩ => ⟨S128x1408, .f32⟩
  | .local _ .vmem, ⟨1, _⟩ => ⟨S128x1408, .f32⟩
  | .local _ .vmem, ⟨2, _⟩ => ⟨S88x1024, .f32⟩
  | .local _ .vmem, ⟨3, _⟩ => ⟨S88x1024, .f32⟩
  | .local _ .vmem, ⟨4, _⟩ => ⟨S128x1408, .f32⟩
  | .local _ .vmem, ⟨5, _⟩ => ⟨S128x1408, .f32⟩
  | .local _ .vmem, ⟨6, _⟩ => ⟨S88x1024, .f32⟩
  | .local _ .vmem, ⟨7, _⟩ => ⟨S88x1024, .f32⟩
  | .local _ .vmem, ⟨8, _⟩ => ⟨S128x1408, .f32⟩
  | .local _ .vmem, ⟨9, _⟩ => ⟨S128x1408, .f32⟩
  | .local _ .vmem, ⟨10, _⟩ => ⟨S88x1024, .f32⟩
  | .local _ .vmem, ⟨11, _⟩ => ⟨S88x1024, .f32⟩
  | .local _ .vmem, ⟨12, _⟩ => ⟨S128x1408, .f32⟩
  | .local _ .vmem, ⟨13, _⟩ => ⟨S128x1408, .f32⟩
  | .local _ .vmem, ⟨14, _⟩ => ⟨S88x1024, .f32⟩
  | .local _ .vmem, ⟨15, _⟩ => ⟨S88x1024, .f32⟩
  | .local _ .vmem, ⟨16, _⟩ => ⟨S128x1408, .f32⟩
  | .local _ .vmem, ⟨17, _⟩ => ⟨S128x1408, .f32⟩
  | .local _ .vmem, ⟨18, _⟩ => ⟨S88x1024, .f32⟩
  | .local _ .vmem, ⟨19, _⟩ => ⟨S88x1024, .f32⟩
  | .local _ .vmem, ⟨20, _⟩ => ⟨S128x1408, .f32⟩
  | .local _ .vmem, ⟨21, _⟩ => ⟨S128x1408, .f32⟩
  | .local _ .vmem, ⟨22, _⟩ => ⟨S88x1024, .f32⟩
  | .local _ .vmem, ⟨23, _⟩ => ⟨S88x1024, .f32⟩
  | .local _ .vmem, ⟨24, _⟩ => ⟨S128x1408, .f32⟩
  | .local _ .vmem, ⟨25, _⟩ => ⟨S128x1408, .f32⟩
  | .local _ .vmem, ⟨26, _⟩ => ⟨S88x1024, .f32⟩
  | .local _ .vmem, ⟨27, _⟩ => ⟨S88x1024, .f32⟩
  | .local _ .vmem, ⟨28, _⟩ => ⟨S128x1408, .f32⟩
  | .local _ .vmem, ⟨29, _⟩ => ⟨S128x1408, .f32⟩
  | .local _ .vmem, ⟨30, _⟩ => ⟨S88x1024, .f32⟩
  | .local _ .vmem, ⟨31, _⟩ => ⟨S88x1024, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceLargeIdeal.lean ====
abbrev S1024x1408 : Shape := ⟨2, ![1024, 1408]⟩
abbrev S704x1024 : Shape := ⟨2, ![704, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S704x1024, .f32⟩
  | .hbm, ⟨2, _⟩ => ⟨S1024x1408, .f32⟩
  | .hbm, ⟨3, _⟩ => ⟨S704x1024, .f32⟩
  | .hbm, ⟨4, _⟩ => ⟨S1024x1408, .f32⟩
  | .hbm, ⟨5, _⟩ => ⟨S704x1024, .f32⟩
  | .hbm, ⟨6, _⟩ => ⟨S1024x1408, .f32⟩
  | .hbm, ⟨7, _⟩ => ⟨S704x1024, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S_, .f32⟩
  | .hbm, ⟨60, _⟩ => ⟨S704x1024, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.RefFrames.lean ====
/- The frames of the five reference programs: each run's generated post already says that the arguments end unchanged, and
   a program that declares no semaphore has no counter that could end nonzero. -/
module

public import proofs.«01_k».proof.Proof.Gen.ReferenceIdeal.Run
public import proofs.«01_k».proof.Proof.Gen.ReferenceUpIdeal.Run
public import proofs.«01_k».proof.Proof.Gen.ReferenceDownIdeal.Run
public import proofs.«01_k».proof.Proof.Gen.ReferenceGateIdeal.Run
public import proofs.«01_k».proof.Proof.Gen.ReferenceResidIdeal.Run
public import proofs.«01_k».proof.Proof.Gen.ReferenceNormsIdeal.Run
public import proofs.«01_k».proof.Proof.Gen.ReferenceSquareIdeal.Run
public import proofs.«01_k».proof.Proof.Gen.ReferencePleIdeal.Run
public import proofs.«01_k».proof.Proof.Gen.ReferenceInAIdeal.Run
public import proofs.«01_k».proof.Proof.Gen.ReferenceInBIdeal.Run
public import proofs.«01_k».proof.Proof.Gen.ReferenceMixIdeal.Run
public import proofs.«01_k».proof.Proof.Gen.ReferenceRowsAIdeal.Run
public import proofs.«01_k».proof.Proof.Gen.ReferenceProjAIdeal.Run
public import proofs.«01_k».proof.Proof.Gen.ReferenceFirstIdeal.Run
public import proofs.«01_k».proof.Defs

@[expose] public section

noncomputable section

namespace Cert.Proof.RefFrames

open Idealize.ShloMosaic Idealize.SL.Sem

theorem band (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun _ h => ⟨fun c => (h c).2.2.2.2, funext fun p => by
    rcases p with ⟨_, s | s⟩ <;> exact s.elim0⟩) (Cert.ReferenceIdeal.Value.run m g)

theorem up (m : (ℓ : Loc Cert.ReferenceUpIdeal.nD Cert.ReferenceUpIdeal.τ Cert.ReferenceUpIdeal.sig) → Buf (Elt Ideal) ℓ)
    (g : Dev Cert.ReferenceUpIdeal.nD → PrngReg) :
    θ_run (Cert.ReferenceUpIdeal.defs (F := Ideal)) (onTc (τ := Cert.ReferenceUpIdeal.τ) (Cert.ReferenceUpIdeal.main (F := Ideal)))
      ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0) :=
  (θ_run _ _ _).mono (fun _ h => ⟨fun c => (h c).2, funext fun p => by
    rcases p with ⟨_, s | s⟩ <;> exact s.elim0⟩) (Cert.ReferenceUpIdeal.Value.run m g)

theorem down (m : (ℓ : Loc Cert.ReferenceDownIdeal.nD Cert.ReferenceDownIdeal.τ Cert.ReferenceDownIdeal.sig) → Buf (Elt Ideal) ℓ)
    (g : Dev Cert.ReferenceDownIdeal.nD → PrngReg) :
    θ_run (Cert.ReferenceDownIdeal.defs (F := Ideal)) (onTc (τ := Cert.ReferenceDownIdeal.τ) (Cert.ReferenceDownIdeal.main (F := Ideal)))
      ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0) :=
  (θ_run _ _ _).mono (fun _ h => ⟨fun c => (h c).2, funext fun p => by
    rcases p with ⟨_, s | s⟩ <;> exact s.elim0⟩) (Cert.ReferenceDownIdeal.Value.run m g)

theorem gate (m : (ℓ : Loc Cert.ReferenceGateIdeal.nD Cert.ReferenceGateIdeal.τ Cert.ReferenceGateIdeal.sig) → Buf (Elt Ideal) ℓ)
    (g : Dev Cert.ReferenceGateIdeal.nD → PrngReg) :
    θ_run (Cert.ReferenceGateIdeal.defs (F := Ideal)) (onTc (τ := Cert.ReferenceGateIdeal.τ) (Cert.ReferenceGateIdeal.main (F := Ideal)))
      ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0) :=
  (θ_run _ _ _).mono (fun _ h => ⟨fun c => (h c).2.2.2, funext fun p => by
    rcases p with ⟨_, s | s⟩ <;> exact s.elim0⟩) (Cert.ReferenceGateIdeal.Value.run m g)

theorem resid (m : (ℓ : Loc Cert.ReferenceResidIdeal.nD Cert.ReferenceResidIdeal.τ Cert.ReferenceResidIdeal.sig) → Buf (Elt Ideal) ℓ)
    (g : Dev Cert.ReferenceResidIdeal.nD → PrngReg) :
    θ_run (Cert.ReferenceResidIdeal.defs (F := Ideal)) (onTc (τ := Cert.ReferenceResidIdeal.τ) (Cert.ReferenceResidIdeal.main (F := Ideal)))
      ⟨m, fun _ => 0, g⟩ (fun r => (∀ c : Dev Cert.ReferenceResidIdeal.nD,
      r.2.mem ((c.tc : Thread Cert.ReferenceResidIdeal.nD Cert.ReferenceResidIdeal.τ).loc Cert.ReferenceResidIdeal.main_arg0) = m ((c.tc : Thread Cert.ReferenceResidIdeal.nD Cert.ReferenceResidIdeal.τ).loc Cert.ReferenceResidIdeal.main_arg0)
      ∧ r.2.mem ((c.tc : Thread Cert.ReferenceResidIdeal.nD Cert.ReferenceResidIdeal.τ).loc Cert.ReferenceResidIdeal.main_arg1) = m ((c.tc : Thread Cert.ReferenceResidIdeal.nD Cert.ReferenceResidIdeal.τ).loc Cert.ReferenceResidIdeal.main_arg1)
      ∧ r.2.mem ((c.tc : Thread Cert.ReferenceResidIdeal.nD Cert.ReferenceResidIdeal.τ).loc Cert.ReferenceResidIdeal.main_arg2) = m ((c.tc : Thread Cert.ReferenceResidIdeal.nD Cert.ReferenceResidIdeal.τ).loc Cert.ReferenceResidIdeal.main_arg2)
      ∧ r.2.mem ((c.tc : Thread Cert.ReferenceResidIdeal.nD Cert.ReferenceResidIdeal.τ).loc Cert.ReferenceResidIdeal.main_arg3) = m ((c.tc : Thread Cert.ReferenceResidIdeal.nD Cert.ReferenceResidIdeal.τ).loc Cert.ReferenceResidIdeal.main_arg3)
      ∧ r.2.mem ((c.tc : Thread Cert.ReferenceResidIdeal.nD Cert.ReferenceResidIdeal.τ).loc Cert.ReferenceResidIdeal.main_arg4) = m ((c.tc : Thread Cert.ReferenceResidIdeal.nD Cert.ReferenceResidIdeal.τ).loc Cert.ReferenceResidIdeal.main_arg4))
      ∧ r.2.sem = fun _ => 0) :=
  (θ_run _ _ _).mono (fun _ h => ⟨fun c => (h c).2.2.2, funext fun p => by
    rcases p with ⟨_, s | s⟩ <;> exact s.elim0⟩) (Cert.ReferenceResidIdeal.Value.run m g)

theorem norms (m : (ℓ : Loc Cert.ReferenceNormsIdeal.nD Cert.ReferenceNormsIdeal.τ Cert.ReferenceNormsIdeal.sig) → Buf (Elt Ideal) ℓ)
    (g : Dev Cert.ReferenceNormsIdeal.nD → PrngReg) :
    θ_run (Cert.ReferenceNormsIdeal.defs (F := Ideal)) (onTc (τ := Cert.ReferenceNormsIdeal.τ) (Cert.ReferenceNormsIdeal.main (F := Ideal)))
      ⟨m, fun _ => 0, g⟩ (fun r => (∀ c : Dev Cert.ReferenceNormsIdeal.nD,
      r.2.mem ((c.tc : Thread Cert.ReferenceNormsIdeal.nD Cert.ReferenceNormsIdeal.τ).loc Cert.ReferenceNormsIdeal.main_arg0) = m ((c.tc : Thread Cert.ReferenceNormsIdeal.nD Cert.ReferenceNormsIdeal.τ).loc Cert.ReferenceNormsIdeal.main_arg0)
      ∧ r.2.mem ((c.tc : Thread Cert.ReferenceNormsIdeal.nD Cert.ReferenceNormsIdeal.τ).loc Cert.ReferenceNormsIdeal.main_arg1) = m ((c.tc : Thread Cert.ReferenceNormsIdeal.nD Cert.ReferenceNormsIdeal.τ).loc Cert.ReferenceNormsIdeal.main_arg1)
      ∧ r.2.mem ((c.tc : Thread Cert.ReferenceNormsIdeal.nD Cert.ReferenceNormsIdeal.τ).loc Cert.ReferenceNormsIdeal.main_arg2) = m ((c.tc : Thread Cert.ReferenceNormsIdeal.nD Cert.ReferenceNormsIdeal.τ).loc Cert.ReferenceNormsIdeal.main_arg2)
      ∧ r.2.mem ((c.tc : Thread Cert.ReferenceNormsIdeal.nD Cert.ReferenceNormsIdeal.τ).loc Cert.ReferenceNormsIdeal.main_arg3) = m ((c.tc : Thread Cert.ReferenceNormsIdeal.nD Cert.ReferenceNormsIdeal.τ).loc Cert.ReferenceNormsIdeal.main_arg3)
      ∧ r.2.mem ((c.tc : Thread Cert.ReferenceNormsIdeal.nD Cert.ReferenceNormsIdeal.τ).loc Cert.ReferenceNormsIdeal.main_arg4) = m ((c.tc : Thread Cert.ReferenceNormsIdeal.nD Cert.ReferenceNormsIdeal.τ).loc Cert.ReferenceNormsIdeal.main_arg4)
      ∧ r.2.mem ((c.tc : Thread Cert.ReferenceNormsIdeal.nD Cert.ReferenceNormsIdeal.τ).loc Cert.ReferenceNormsIdeal.main_arg5) = m ((c.tc : Thread Cert.ReferenceNormsIdeal.nD Cert.ReferenceNormsIdeal.τ).loc Cert.ReferenceNormsIdeal.main_arg5)
      ∧ r.2.mem ((c.tc : Thread Cert.ReferenceNormsIdeal.nD Cert.ReferenceNormsIdeal.τ).loc Cert.ReferenceNormsIdeal.main_arg6) = m ((c.tc : Thread Cert.ReferenceNormsIdeal.nD Cert.ReferenceNormsIdeal.τ).loc Cert.ReferenceNormsIdeal.main_arg6))
      ∧ r.2.sem = fun _ => 0) :=
  (θ_run _ _ _).mono (fun _ h => ⟨fun c => (h c).2.2.2.2.2, funext fun p => by
    rcases p with ⟨_, s | s⟩ <;> exact s.elim0⟩) (Cert.ReferenceNormsIdeal.Value.run m g)

theorem square (m : (ℓ : Loc Cert.ReferenceSquareIdeal.nD Cert.ReferenceSquareIdeal.τ Cert.ReferenceSquareIdeal.sig) → Buf (Elt Ideal) ℓ)
    (g : Dev Cert.ReferenceSquareIdeal.nD → PrngReg) :
    θ_run (Cert.ReferenceSquareIdeal.defs (F := Ideal)) (onTc (τ := Cert.ReferenceSquareIdeal.τ) (Cert.ReferenceSquareIdeal.main (F := Ideal)))
      ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0) :=
  (θ_run _ _ _).mono (fun _ h => ⟨fun c => (h c).2, funext fun p => by
    rcases p with ⟨_, s | s⟩ <;> exact s.elim0⟩) (Cert.ReferenceSquareIdeal.Value.run m g)

theorem ple (m : (ℓ : Loc Cert.ReferencePleIdeal.nD Cert.ReferencePleIdeal.τ Cert.ReferencePleIdeal.sig) → Buf (Elt Ideal) ℓ)
    (g : Dev Cert.ReferencePleIdeal.nD → PrngReg) :
    θ_run (Cert.ReferencePleIdeal.defs (F := Ideal)) (onTc (τ := Cert.ReferencePleIdeal.τ) (Cert.ReferencePleIdeal.main (F := Ideal)))
      ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1))
      ∧ r.2.sem = fun _ => 0) :=
  (θ_run _ _ _).mono (fun _ h => ⟨fun c => (h c).2, funext fun p => by
    rcases p with ⟨_, s | s⟩ <;> exact s.elim0⟩) (Cert.ReferencePleIdeal.Value.run m g)

theorem inA (m : (ℓ : Loc Cert.ReferenceInAIdeal.nD Cert.ReferenceInAIdeal.τ Cert.ReferenceInAIdeal.sig) → Buf (Elt Ideal) ℓ)
    (g : Dev Cert.ReferenceInAIdeal.nD → PrngReg) :
    θ_run (Cert.ReferenceInAIdeal.defs (F := Ideal)) (onTc (τ := Cert.ReferenceInAIdeal.τ) (Cert.ReferenceInAIdeal.main (F := Ideal)))
      ⟨m, fun _ => 0, g⟩ (fun r => (∀ c : Dev Cert.ReferenceInAIdeal.nD,
      r.2.mem ((c.tc : Thread Cert.ReferenceInAIdeal.nD Cert.ReferenceInAIdeal.τ).loc Cert.ReferenceInAIdeal.main_arg0) = m ((c.tc : Thread Cert.ReferenceInAIdeal.nD Cert.ReferenceInAIdeal.τ).loc Cert.ReferenceInAIdeal.main_arg0)
      ∧ r.2.mem ((c.tc : Thread Cert.ReferenceInAIdeal.nD Cert.ReferenceInAIdeal.τ).loc Cert.ReferenceInAIdeal.main_arg1) = m ((c.tc : Thread Cert.ReferenceInAIdeal.nD Cert.ReferenceInAIdeal.τ).loc Cert.ReferenceInAIdeal.main_arg1))
      ∧ r.2.sem = fun _ => 0) :=
  (θ_run _ _ _).mono (fun _ h => ⟨fun c => (h c).2, funext fun p => by
    rcases p with ⟨_, s | s⟩ <;> exact s.elim0⟩) (Cert.ReferenceInAIdeal.Value.run m g)

theorem inB (m : (ℓ : Loc Cert.ReferenceInBIdeal.nD Cert.ReferenceInBIdeal.τ Cert.ReferenceInBIdeal.sig) → Buf (Elt Ideal) ℓ)
    (g : Dev Cert.ReferenceInBIdeal.nD → PrngReg) :
    θ_run (Cert.ReferenceInBIdeal.defs (F := Ideal)) (onTc (τ := Cert.ReferenceInBIdeal.τ) (Cert.ReferenceInBIdeal.main (F := Ideal)))
      ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1))
      ∧ r.2.sem = fun _ => 0) :=
  (θ_run _ _ _).mono (fun _ h => ⟨fun c => (h c).2, funext fun p => by
    rcases p with ⟨_, s | s⟩ <;> exact s.elim0⟩) (Cert.ReferenceInBIdeal.Value.run m g)

theorem mix (m : (ℓ : Loc Cert.ReferenceMixIdeal.nD Cert.ReferenceMixIdeal.τ Cert.ReferenceMixIdeal.sig) → Buf (Elt Ideal) ℓ)
    (g : Dev Cert.ReferenceMixIdeal.nD → PrngReg) :
    θ_run (Cert.ReferenceMixIdeal.defs (F := Ideal)) (onTc (τ := Cert.ReferenceMixIdeal.τ) (Cert.ReferenceMixIdeal.main (F := Ideal)))
      ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1))
      ∧ r.2.sem = fun _ => 0) :=
  (θ_run _ _ _).mono (fun _ h => ⟨fun c => (h c).2, funext fun p => by
    rcases p with ⟨_, s | s⟩ <;> exact s.elim0⟩) (Cert.ReferenceMixIdeal.Value.run m g)

theorem rowsA (m : (ℓ : Loc Cert.ReferenceRowsAIdeal.nD Cert.ReferenceRowsAIdeal.τ Cert.ReferenceRowsAIdeal.sig) → Buf (Elt Ideal) ℓ)
    (g : Dev Cert.ReferenceRowsAIdeal.nD → PrngReg) :
    θ_run (Cert.ReferenceRowsAIdeal.defs (F := Ideal)) (onTc (τ := Cert.ReferenceRowsAIdeal.τ) (Cert.ReferenceRowsAIdeal.main (F := Ideal)))
      ⟨m, fun _ => 0, g⟩ (fun r => (∀ c : Dev Cert.ReferenceRowsAIdeal.nD,
      r.2.mem ((c.tc : Thread Cert.ReferenceRowsAIdeal.nD Cert.ReferenceRowsAIdeal.τ).loc Cert.ReferenceRowsAIdeal.main_arg0) = m ((c.tc : Thread Cert.ReferenceRowsAIdeal.nD Cert.ReferenceRowsAIdeal.τ).loc Cert.ReferenceRowsAIdeal.main_arg0)
      ∧ r.2.mem ((c.tc : Thread Cert.ReferenceRowsAIdeal.nD Cert.ReferenceRowsAIdeal.τ).loc Cert.ReferenceRowsAIdeal.main_arg1) = m ((c.tc : Thread Cert.ReferenceRowsAIdeal.nD Cert.ReferenceRowsAIdeal.τ).loc Cert.ReferenceRowsAIdeal.main_arg1))
      ∧ r.2.sem = fun _ => 0) :=
  (θ_run _ _ _).mono (fun _ h => ⟨fun c => (h c).2, funext fun p => by
    rcases p with ⟨_, s | s⟩ <;> exact s.elim0⟩) (Cert.ReferenceRowsAIdeal.Value.run m g)

theorem projA (m : (ℓ : Loc Cert.ReferenceProjAIdeal.nD Cert.ReferenceProjAIdeal.τ Cert.ReferenceProjAIdeal.sig) → Buf (Elt Ideal) ℓ)
    (g : Dev Cert.ReferenceProjAIdeal.nD → PrngReg) :
    θ_run (Cert.ReferenceProjAIdeal.defs (F := Ideal)) (onTc (τ := Cert.ReferenceProjAIdeal.τ) (Cert.ReferenceProjAIdeal.main (F := Ideal)))
      ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1)
      ∧ r.2.mem ((c.tc : Thread Cert.ReferenceProjAIdeal.nD Cert.ReferenceProjAIdeal.τ).loc Cert.ReferenceProjAIdeal.main_arg2) = m ((c.tc : Thread Cert.ReferenceProjAIdeal.nD Cert.ReferenceProjAIdeal.τ).loc Cert.ReferenceProjAIdeal.main_arg2))
      ∧ r.2.sem = fun _ => 0) :=
  (θ_run _ _ _).mono (fun _ h => ⟨fun c => (h c).2, funext fun p => by
    rcases p with ⟨_, s | s⟩ <;> exact s.elim0⟩) (Cert.ReferenceProjAIdeal.Value.run m g)

theorem first (m : (ℓ : Loc Cert.ReferenceFirstIdeal.nD Cert.ReferenceFirstIdeal.τ Cert.ReferenceFirstIdeal.sig) → Buf (Elt Ideal) ℓ)
    (g : Dev Cert.ReferenceFirstIdeal.nD → PrngReg) :
    θ_run (Cert.ReferenceFirstIdeal.defs (F := Ideal)) (onTc (τ := Cert.ReferenceFirstIdeal.τ) (Cert.ReferenceFirstIdeal.main (F := Ideal)))
      ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4))
      ∧ r.2.sem = fun _ => 0) :=
  (θ_run _ _ _).mono (fun _ h => ⟨fun c => (h c).2.2, funext fun p => by
    rcases p with ⟨_, s | s⟩ <;> exact s.elim0⟩) (Cert.ReferenceFirstIdeal.Value.run m g)

end Cert.Proof.RefFrames

end
-- ==== Proof.UpGrad.lean ====
/- The gradient of the feed-forward half's up-projection weight. The kernel multiplies the transposed normalised tokens
   by the cotangents block by block; the reference is the transposed product jax's own differentiation gives. Both are
   the sum over the tokens of the same products. -/
module

public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.Pointwise

@[expose] public section

set_option maxRecDepth 16384

noncomputable section

namespace Cert.Proof.UpGrad

open Cert.KernelUpIdeal Cert.KernelUpIdeal.Gen Cert.KernelUpIdeal.Value Idealize.ShloMosaic Idealize.ShloMosaic.TcCoe
  Idealize.SL.Sem

/-- The gradient as a function of the tokens and the cotangents: stack member `s`, row `r`, column `x` is the sum over
    the tokens of the token's entry at `r` times its cotangent at column `1408 s + x`. -/
def grad (n : FVec Ideal S4096x1024 .bf16) (g : FVec Ideal S4096x5632 .bf16) : FVec Ideal S4x1024x1408 .bf16 :=
  fun i => ∑ t : Fin 4096, n (ix2 t (i 1)) * g (ix2 t ⟨(i 0).val * 1408 + (i 2).val, by
    have h0 : (i 0).val < 4 := (i 0).isLt
    have h2 : (i 2).val < 1408 := (i 2).isLt
    omega⟩)

theorem hz2 : (![0, 0] : Fin 2 → Nat) = fun _ => 0 := funext fun a => by fin_cases a <;> rfl
theorem hz3 : (![0, 0, 0] : Fin 3 → Nat) = fun _ => 0 := funext fun a => by fin_cases a <;> rfl

/-- One block of the product. -/
theorem pay_apply (x : FVec Ideal S4096x512 .bf16) (y : FVec Ideal S4096x1408 .bf16) (a : Fin 1) (r : Fin 512) (l : Fin 1408) :
    k0_pay1 x y (ix3 a r l) = ∑ t : Fin 4096, x (ix2 t r) * y (ix2 t l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 3) = t.val % 4 ∧ win0_2.index t (1 : Fin 3) = t.val / 4 ∧ win0_2.index t (2 : Fin 3) = 0 :=
  (by decide +kernel : ∀ t : Fin grid0.N, _)

theorem flushed_eq (c : Dev nD) (t : Fin cfg0.N) :
    (dats m 0 c).flushed 2 t
      = ((cfg0.win 2).blk t).view.read (Elt Ideal) (grad (V m c main_arg0) (V m c main_arg1)) := by
  rw [flushed2]
  unfold out0_2
  rw [View.canon_unit_zero hz3, View.ld_unit_zero hz2, View.ld_unit_zero hz2]
  obtain ⟨e0, e1, e2, e3, e4, e5, e6⟩ := index_facts t
  funext y
  rw [View.read_apply]
  refine (congrArg (k0_pay1 (iblk m c 0 t) (iblk m c 1 t)) (eq_ix3 (n0 := 1) (n1 := 512) (n2 := 1408) y)).trans
    ((pay_apply _ _ _ _ _).trans ?_)
  unfold grad
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 512 + 1 * (y 1).val = win0_2.index t (1 : Fin 3) * 512 + 1 * (y 1).val; omega
  · show V m c main_arg1 (((cfg0.win 1).blk t).view.emb _) = _
    refine congrArg (V m c main_arg1) (funext fun a => Fin.ext ?_)
    have h0 : (y 0).val < 1 := (y 0).isLt
    match a with
    | ⟨0, _⟩ => show win0_1.index t (0 : Fin 2) * 4096 + 1 * k.val = k.val; omega
    | ⟨1, _⟩ =>
      show win0_1.index t (1 : Fin 2) * 1408 + 1 * (y 2).val
        = (win0_2.index t (0 : Fin 3) * 1 + 1 * (y 0).val) * 1408 + (win0_2.index t (2 : Fin 3) * 1408 + 1 * (y 2).val)
      omega

theorem covered (i : S4x1024x1408.Idx) :
    ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1408 := (i 2).isLt
  have hN : cfg0.N = 8 := N_0
  refine ⟨⟨(i 1).val / 512 * 4 + (i 0).val, by omega⟩, flush0_2 _, ?_⟩
  obtain ⟨-, -, -, -, e4, e5, e6⟩ := index_facts ⟨(i 1).val / 512 * 4 + (i 0).val, by omega⟩
  refine (Finset.ext_iff.mp (View.set_slice_whole main_v0 (win0_2.rect _)) i).mpr ?_
  rw [Rect.mem_set_unit]
  intro a
  match a with
  | ⟨0, _⟩ => show win0_2.index _ (0 : Fin 3) * 1 ≤ (i 0).val ∧ (i 0).val < win0_2.index _ (0 : Fin 3) * 1 + 1
              rw [e4]; dsimp only; omega
  | ⟨1, _⟩ => show win0_2.index _ (1 : Fin 3) * 512 ≤ (i 1).val ∧ (i 1).val < win0_2.index _ (1 : Fin 3) * 512 + 512
              rw [e5]; dsimp only; omega
  | ⟨2, _⟩ => show win0_2.index _ (2 : Fin 3) * 1408 ≤ (i 2).val ∧ (i 2).val < win0_2.index _ (2 : Fin 3) * 1408 + 1408
              rw [e6]; omega

/-- The result array after the run. -/
theorem final (c : Dev nD) : (dats m 0 c).arrAt 2 cfg0.N
    = grad (m ((c : Thread nD τ).loc main_arg0)) (m ((c : Thread nD τ).loc main_arg1)) :=
  ((dats m 0 c).arrAt_eq_of_cover 2 (grad (V m c main_arg0) (V m c main_arg1)) (fun t _ => flushed_eq m c t) covered).trans
    (by rw [V_main_arg0, V_main_arg1])

/-- The reference's term. -/
theorem ref_eq (n : FVec Ideal S4096x1024 .bf16) (g : FVec Ideal S4096x5632 .bf16) :
    Cert.ReferenceUpIdeal.Read.val_main_v8 (F := Ideal) n g = grad n g := by
  funext i
  rw [Cert.ReferenceUpIdeal.Read.val_main_v8_apply, Cert.ReferenceUpIdeal.Read.val_main_v7_apply,
    Cert.ReferenceUpIdeal.Read.val_main_v6_apply, Cert.ReferenceUpIdeal.Read.val_main_v5_apply]
  show Cert.ReferenceUpIdeal.Read.val_main_v4 (F := Ideal) n g _ = _
  rw [Cert.ReferenceUpIdeal.Read.val_main_v4_apply]
  have h0 : (i 0).val < 4 := (i 0).isLt
  have h2 : (i 2).val < 1408 := (i 2).isLt
  refine Finset.sum_congr rfl fun k _ => ?_
  rw [mul_comm]
  refine congrArg₂ (· * ·) (congrArg n (funext fun a => Fin.ext ?_)) (congrArg g (funext fun a => Fin.ext ?_))
  · match a with
    | ⟨0, _⟩ => rfl
    | ⟨1, _⟩ =>
      show (((i 1).val * 4 + (i 0).val) * 1408 + (i 2).val) / 5632 = (i 1).val
      omega
  · match a with
    | ⟨0, _⟩ => rfl
    | ⟨1, _⟩ =>
      show (((i 1).val * 4 + (i 0).val) * 1408 + (i 2).val) % 5632 = (i 0).val * 1408 + (i 2).val
      omega

/-- The product computes what the reference computes: from memories agreeing on the arguments both run, end with equal
    results and leave the arguments as they were. -/
theorem agree (m' : (ℓ : Loc Cert.ReferenceUpIdeal.nD Cert.ReferenceUpIdeal.τ Cert.ReferenceUpIdeal.sig) → Buf (Elt Ideal) ℓ)
    (ρ' : Dev Cert.ReferenceUpIdeal.nD → PrngReg)
    (h : ∀ c : Dev nD,
      m' ((c.tc : Thread Cert.ReferenceUpIdeal.nD Cert.ReferenceUpIdeal.τ).loc Cert.ReferenceUpIdeal.main_arg0)
        = m ((c.tc : Thread nD τ).loc main_arg0)
      ∧ m' ((c.tc : Thread Cert.ReferenceUpIdeal.nD Cert.ReferenceUpIdeal.τ).loc Cert.ReferenceUpIdeal.main_arg1)
        = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceUpIdeal.defs (F := Ideal)) (onTc (τ := Cert.ReferenceUpIdeal.τ) (Cert.ReferenceUpIdeal.main (F := Ideal)))
          ⟨m', fun _ => 0, ρ'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0)
            = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1)
            = m' ((c.tc : Thread Cert.ReferenceUpIdeal.nD Cert.ReferenceUpIdeal.τ).loc Cert.ReferenceUpIdeal.main_arg1)) :=
  ⟨fun c => grad (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceUpIdeal.defs (F := Ideal)) _ _).mono (fun _ k c => ⟨(k c).1.trans
      ((Cert.ReferenceUpIdeal.Read.val_main_v8_eq (F := Ideal) _ _).trans
        ((congrArg₂ (Cert.ReferenceUpIdeal.Read.val_main_v8 (F := Ideal)) (h c).1 (h c).2).trans (ref_eq _ _))), (k c).2⟩)
      (Cert.ReferenceUpIdeal.Value.run m' ρ')⟩

end Cert.Proof.UpGrad

end
-- ==== Proof.DownGrad.lean ====
/- The gradient of the feed-forward half's down-projection weight. The kernel multiplies the transposed hidden values by
   the cotangents block by block; the reference is the transposed product jax's own differentiation gives. Both are the
   sum over the tokens of the same products. -/
module

public import proofs.«01_k».proof.Proof.Gen.KernelDownIdeal.Value
public import proofs.«01_k».proof.Proof.Gen.ReferenceDownIdeal.Run
public import proofs.«01_k».proof.Proof.Gen.ReferenceDownIdeal.Read
public import Idealize.ShloMosaic.Lib.Pointwise

@[expose] public section

set_option maxRecDepth 16384

noncomputable section

namespace Cert.Proof.DownGrad

open Cert.KernelDownIdeal Cert.KernelDownIdeal.Gen Cert.KernelDownIdeal.Value Idealize.ShloMosaic Idealize.ShloMosaic.TcCoe
  Idealize.SL.Sem

/-- The gradient as a function of the hidden values and the cotangents: row `r`, column `x` is the sum over the tokens
    of the token's hidden value at `r` times its cotangent at `x`. -/
def grad (n : FVec Ideal S4096x2816 .bf16) (g : FVec Ideal S4096x1024 .bf16) : FVec Ideal S2816x1024 .bf16 :=
  fun i => ∑ t : Fin 4096, n (ix2 t (i 0)) * g (ix2 t (i 1))

theorem hz2 : (![0, 0] : Fin 2 → Nat) = fun _ => 0 := funext fun a => by fin_cases a <;> rfl

/-- One block of the product. -/
theorem pay_apply (x : FVec Ideal S4096x256 .bf16) (y : FVec Ideal S4096x1024 .bf16) (r : Fin 256) (l : Fin 1024) :
    k0_pay1 x y (ix2 r l) = ∑ t : Fin 4096, x (ix2 t r) * y (ix2 t l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dats m 0 c).flushed 2 t
      = ((cfg0.win 2).blk t).view.read (Elt Ideal) (grad (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 256) (n1 := 1024) y)).trans
    ((pay_apply _ _ _ _).trans ?_)
  unfold grad
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 256 + 1 * (y 0).val = win0_2.index t (0 : Fin 2) * 256 + 1 * (y 0).val; omega
  · show V m c main_arg1 (((cfg0.win 1).blk t).view.emb _) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 1024 + 1 * (y 1).val = win0_2.index t (1 : Fin 2) * 1024 + 1 * (y 1).val; omega

theorem covered (i : S2816x1024.Idx) :
    ∃ t : Fin cfg0.N, (cfg0.win 2).flush t = true ∧ i ∈ ((cfg0.win 2).blk t).view.set := by
  have h0 : (i 0).val < 2816 := (i 0).isLt
  have h1 : (i 1).val < 1024 := (i 1).isLt
  have hN : cfg0.N = 11 := N_0
  refine ⟨⟨(i 0).val / 256, by omega⟩, flush0_2 _, ?_⟩
  obtain ⟨-, -, -, -, e4, e5⟩ := index_facts ⟨(i 0).val / 256, by omega⟩
  refine (Finset.ext_iff.mp (View.set_slice_whole main_v0 (win0_2.rect _)) i).mpr ?_
  rw [Rect.mem_set_unit]
  intro a
  match a with
  | ⟨0, _⟩ => show win0_2.index _ (0 : Fin 2) * 256 ≤ (i 0).val ∧ (i 0).val < win0_2.index _ (0 : Fin 2) * 256 + 256
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N
    = grad (m ((c : Thread nD τ).loc main_arg0)) (m ((c : Thread nD τ).loc main_arg1)) :=
  ((dats m 0 c).arrAt_eq_of_cover 2 (grad (V m c main_arg0) (V m c main_arg1)) (fun t _ => flushed_eq m c t) covered).trans
    (by rw [V_main_arg0, V_main_arg1])

/-- The reference's term. -/
theorem ref_eq (n : FVec Ideal S4096x2816 .bf16) (g : FVec Ideal S4096x1024 .bf16) :
    Cert.ReferenceDownIdeal.Read.val_main_v6 (F := Ideal) n g = grad n g := by
  funext i
  rw [Cert.ReferenceDownIdeal.Read.val_main_v6_apply, Cert.ReferenceDownIdeal.Read.val_main_v5_apply]
  show Cert.ReferenceDownIdeal.Read.val_main_v4 (F := Ideal) n g _ = _
  rw [Cert.ReferenceDownIdeal.Read.val_main_v4_apply]
  refine Finset.sum_congr rfl fun k _ => ?_
  rw [mul_comm]
  refine congrArg₂ (· * ·) (congrArg n (funext fun a => Fin.ext ?_)) (congrArg g (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceDownIdeal.nD Cert.ReferenceDownIdeal.τ Cert.ReferenceDownIdeal.sig) → Buf (Elt Ideal) ℓ)
    (ρ' : Dev Cert.ReferenceDownIdeal.nD → PrngReg)
    (h : ∀ c : Dev nD,
      m' ((c.tc : Thread Cert.ReferenceDownIdeal.nD Cert.ReferenceDownIdeal.τ).loc Cert.ReferenceDownIdeal.main_arg0)
        = m ((c.tc : Thread nD τ).loc main_arg0)
      ∧ m' ((c.tc : Thread Cert.ReferenceDownIdeal.nD Cert.ReferenceDownIdeal.τ).loc Cert.ReferenceDownIdeal.main_arg1)
        = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceDownIdeal.defs (F := Ideal)) (onTc (τ := Cert.ReferenceDownIdeal.τ) (Cert.ReferenceDownIdeal.main (F := Ideal)))
          ⟨m', fun _ => 0, ρ'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0)
            = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1)
            = m' ((c.tc : Thread Cert.ReferenceDownIdeal.nD Cert.ReferenceDownIdeal.τ).loc Cert.ReferenceDownIdeal.main_arg1)) :=
  ⟨fun c => grad (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceDownIdeal.defs (F := Ideal)) _ _).mono (fun _ k c => ⟨(k c).1.trans
      ((Cert.ReferenceDownIdeal.Read.val_main_v6_eq (F := Ideal) _ _).trans
        ((congrArg₂ (Cert.ReferenceDownIdeal.Read.val_main_v6 (F := Ideal)) (h c).1 (h c).2).trans (ref_eq _ _))), (k c).2⟩)
      (Cert.ReferenceDownIdeal.Value.run m' ρ')⟩

end Cert.Proof.DownGrad

end
-- ==== Proof.Band.Reals.lean ====
/- Small facts about extended reals and sums that the band proof uses, and the real-valued formulas of one tile: the
   probabilities, their gradients and the three products. -/
module

public import Idealize.ShloMosaic.Lib.Pointwise
public import Idealize.ShloMosaic.Lib.IdealHost

@[expose] public section

noncomputable section

namespace Cert.Proof.Band

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
theorem inv32_f32 : Ideal.ofBits .f32 0x3D000000#32 = (((1 : ℝ) / 32 : ℝ) : EReal) := by
  simp [Ideal.ofBits, Ideal.ieee, -EReal.coe_mul]; norm_num
theorem negInf_f32 : Ideal.ofBits .f32 0xFF800000#32 = ⊥ := by
  simp [Ideal.ofBits, Ideal.ieee]

theorem select_ite {α : Type} (p : Prop) [Decidable p] (a b : α) :
    Scalar.select (if p then 1#1 else 0#1) a b = if p then a else b := by
  split <;> rfl

/-- A maximum that is attained. -/
theorem fold_max_eq {n : Nat} (f : Fin n → EReal) (v : EReal) (hle : ∀ i, f i ≤ v) (i : Fin n) (hi : f i = v) :
    Finset.univ.fold max ⊥ f = v :=
  le_antisymm ((Finset.fold_max_le v).mpr ⟨bot_le, fun x _ => hle x⟩)
    ((Finset.le_fold_max v).mpr (Or.inr ⟨i, Finset.mem_univ i, hi.ge⟩))

/-- A sum over the 128 columns of a pair of heads that keeps one head's is the sum over that head's 64. -/
theorem sum_head (f : ℕ → ℝ) (h : ℕ) (hh : h < 2) :
    ∑ k : Fin 128, (if k.val / 64 = h then f k.val else 0) = ∑ d : Fin 64, f (64 * h + d.val) := by
  rw [Fin.sum_univ_add (a := 64) (b := 64) (fun k : Fin (64 + 64) => if k.val / 64 = h then f k.val else 0)]
  obtain rfl | rfl : h = 0 ∨ h = 1 := by omega
  · refine (congrArg₂ (· + ·) (Finset.sum_congr rfl (g := fun d : Fin 64 => f (64 * 0 + d.val)) fun d _ => ?_)
      (Finset.sum_eq_zero fun d _ => ?_)).trans (add_zero _)
    · rw [Fin.val_castAdd, if_pos (by omega)]; congr 1; omega
    · rw [Fin.val_natAdd, if_neg (by omega)]
  · rw [Finset.sum_eq_zero (s := (Finset.univ : Finset (Fin 64))) fun d _ => by
        rw [Fin.val_castAdd, if_neg (by omega)], zero_add]
    exact Finset.sum_congr rfl fun d _ => by rw [Fin.val_natAdd, if_pos (by omega)]

/-- A sum over the 256 stacked rows that keeps one head's is the sum over that head's 128. -/
theorem sum_rows (f : ℕ → ℝ) (h : ℕ) (hh : h < 2) :
    ∑ R : Fin 256, (if R.val / 128 = h then f (R.val % 128) else 0) = ∑ ρ : Fin 128, f ρ.val := by
  rw [Fin.sum_univ_add (a := 128) (b := 128) (fun k : Fin (128 + 128) => if k.val / 128 = h then f (k.val % 128) else 0)]
  obtain rfl | rfl : h = 0 ∨ h = 1 := by omega
  · refine (congrArg₂ (· + ·) (Finset.sum_congr rfl (g := fun d : Fin 128 => f d.val) fun d _ => ?_)
      (Finset.sum_eq_zero fun d _ => ?_)).trans (add_zero _)
    · rw [Fin.val_castAdd, if_pos (by omega)]; congr 1; omega
    · rw [Fin.val_natAdd, if_neg (by omega)]
  · rw [Finset.sum_eq_zero (s := (Finset.univ : Finset (Fin 128))) fun d _ => by
        rw [Fin.val_castAdd, if_neg (by omega)], zero_add]
    exact Finset.sum_congr rfl fun d _ => by rw [Fin.val_natAdd, if_pos (by omega)]; congr 1; omega

theorem sum_head_of {g : Fin 128 → ℝ} (f : ℕ → ℝ) (h : ℕ) (hh : h < 2)
    (hg : ∀ x : Fin 128, g x = if x.val / 64 = h then f x.val else 0) : ∑ x, g x = ∑ d : Fin 64, f (64 * h + d.val) :=
  (Finset.sum_congr rfl fun x _ => hg x).trans (sum_head f h hh)

theorem sum_rows_of {g : Fin 256 → ℝ} (f : ℕ → ℝ) (h : ℕ) (hh : h < 2)
    (hg : ∀ x : Fin 256, g x = if x.val / 128 = h then f (x.val % 128) else 0) : ∑ x, g x = ∑ ρ : Fin 128, f ρ.val :=
  (Finset.sum_congr rfl fun x _ => hg x).trans (sum_rows f h hh)

section Tile

variable (Q K V G : ℕ → ℕ → ℝ) (L D : ℕ → ℕ → ℝ) (M : ℕ → ℕ → Prop) [∀ ρ j, Decidable (M ρ j)] (B : ℕ → ℕ → ℕ → ℝ)

/-- The logit of query row `ρ` and key row `j` in head `h`. -/
def rs (h ρ j : ℕ) : ℝ := ∑ d : Fin 64, Q ρ (64 * h + d.val) * (1 / 8) * K j (64 * h + d.val) + B h ρ j

/-- The probability, from the row's log-sum `L`. -/
def rp (h ρ j : ℕ) : ℝ := if M ρ j then Real.exp (rs Q K B h ρ j - L ρ h) else 0

/-- The gradient at the logit. -/
def rds (h ρ j : ℕ) : ℝ :=
  rp Q K L M B h ρ j * (∑ d : Fin 64, G ρ (64 * h + d.val) * V j (64 * h + d.val) - D ρ h)

/-- The tile's share of the gradient at the queries, at the keys and at the values; `c` is a column. -/
def rdq (ρ c : ℕ) : ℝ := (∑ j : Fin 256, rds Q K V G L D M B (c / 64) ρ j.val * K j.val c) * (1 / 8)
def rdk (j c : ℕ) : ℝ := ∑ ρ : Fin 128, rds Q K V G L D M B (c / 64) ρ.val j * (Q ρ.val c * (1 / 8))
def rdv (j c : ℕ) : ℝ := ∑ ρ : Fin 128, rp Q K L M B (c / 64) ρ.val j * G ρ.val c

end Tile

end Cert.Proof.Band

end
-- ==== Proof.Band.Tile.lean ====
/- One tile of the band's backward pass: 128 query rows against 256 key rows, for a pair of heads stacked on top of each
   other. The tile's payloads are read over the extended reals, from operands that are real, as the formulas of
   Proof/Band/Reals.lean. The pair's heads are `2 p` and `2 p + 1`; columns are counted over the whole row. -/
module

public import proofs.«01_k».proof.Proof.Gen.KernelIdeal.Skeleton
public import proofs.«01_k».proof.Proof.Band.Reals

@[expose] public section

set_option maxRecDepth 16384

noncomputable section

namespace Cert.Proof.Band

open Cert.KernelIdeal Cert.KernelIdeal.Gen Idealize.ShloMosaic Idealize.ShloMosaic.TcCoe Idealize.SL.Sem

section Words

variable {F : FTy → Type} [FloatOps F]

/-- The tile's probabilities, the gradients at its logits (also rounded), and its shares of the three gradients, in the
    kernel's own operations: `q`, `g` the pair's query rows and cotangents, `kw`, `vw` its window of keys and values, `st` the
    rows' log-sums and deltas, `b` the bias. -/
def tP (q : Vec F S128x128 .bf16) (kw : FVec F S256x128 .bf16) (st : Vec F S128x128 .f32) (b : Vec F S1x1x2x128x256 .f32) :
    FVec F S256x256 .f32 := k0_pay82 (k0_pay74 q) kw (k0_pay79 k0_pay3 st) b
def tDS (q : Vec F S128x128 .bf16) (kw vw : FVec F S256x128 .bf16) (g : Vec F S128x128 .bf16) (st : Vec F S128x128 .f32)
    (b : Vec F S1x1x2x128x256 .f32) : FVec F S256x256 .f32 :=
  k0_pay83 k0_pay3 (k0_pay74 q) kw vw (k0_pay77 g) (k0_pay78 st) (k0_pay79 k0_pay3 st) (k0_pay80 k0_pay3) k0_pay81 b
def tDSr (q : Vec F S128x128 .bf16) (kw vw : FVec F S256x128 .bf16) (g : Vec F S128x128 .bf16) (st : Vec F S128x128 .f32)
    (b : Vec F S1x1x2x128x256 .f32) : FVec F S256x256 .bf16 :=
  k0_pay85 k0_pay3 (k0_pay74 q) kw vw (k0_pay77 g) (k0_pay78 st) (k0_pay79 k0_pay3 st) (k0_pay80 k0_pay3) k0_pay81 b
def tDQ (q : Vec F S128x128 .bf16) (kw vw : FVec F S256x128 .bf16) (g : Vec F S128x128 .bf16) (st : Vec F S128x128 .f32)
    (b : Vec F S1x1x2x128x256 .f32) : FVec F S128x128 .bf16 :=
  k0_pay90
    (k0_pay87 k0_pay3 (k0_pay74 q) kw vw (k0_pay77 g) (k0_pay78 st) (k0_pay79 k0_pay3 st) (k0_pay80 k0_pay3) k0_pay81 b)
    (k0_pay88 k0_pay3 (k0_pay74 q) kw vw (k0_pay77 g) (k0_pay78 st) (k0_pay79 k0_pay3 st) (k0_pay80 k0_pay3) k0_pay81 b)
    (k0_pay89 k0_pay4)
def tDK (q : Vec F S128x128 .bf16) (kw vw : FVec F S256x128 .bf16) (g : Vec F S128x128 .bf16) (st : Vec F S128x128 .f32)
    (b : Vec F S1x1x2x128x256 .f32) : FVec F S256x128 .f32 := k0_pay91 (k0_pay74 q) (tDSr q kw vw g st b)
def tDV (q : Vec F S128x128 .bf16) (kw : FVec F S256x128 .bf16) (g : Vec F S128x128 .bf16) (st : Vec F S128x128 .f32)
    (b : Vec F S1x1x2x128x256 .f32) : FVec F S256x128 .f32 := k0_pay92 (k0_pay77 g) (tP q kw st b)
/-- The bias gradient's two heads after this tile. -/
def tDB (q : Vec F S128x128 .bf16) (kw vw : FVec F S256x128 .bf16) (g : Vec F S128x128 .bf16) (st : Vec F S128x128 .f32)
    (b : Vec F S1x1x2x128x256 .f32) (old : Vec F S2x128x256 .f32) : FVec F S2x128x256 .f32 :=
  k0_pay84 k0_pay3 (k0_pay74 q) kw vw (k0_pay77 g) (k0_pay78 st) (k0_pay79 k0_pay3 st) (k0_pay80 k0_pay3) k0_pay81 b old
/-- The lower and the upper 128 rows of a share of the keys' or values' gradient. -/
def loRows (x : FVec F S256x128 .f32) : FVec F S128x128 .f32 := extractStridedSlice S128x128 ![0, 0] x slices_S256x128_o0_0_S128x128
def hiRows (x : FVec F S256x128 .f32) : FVec F S128x128 .f32 :=
  shapeCast S128x128 (extractStridedSlice S128x128 ![128, 0] x slices_S256x128_o128_0_S128x128) shapeCasts_S128x128_S128x128
def sumRows (old : Vec F S128x128 .f32) (x : FVec F S256x128 .f32) : FVec F S128x128 .bf16 :=
  truncf .bf16 (addf old (loRows x)) bitsLt_bf16_f32

end Words

/-! The masks over the lanes. -/

theorem mask_lo : ∀ x : Fin 128, IntOp.cmpi CmpIPredicate.slt (BitVec.ofNat 32 x.val) 64#32 = if x.val / 64 = 0 then 1#1 else 0#1 := by
  decide +kernel
theorem mask_hi : ∀ x : Fin 128, IntOp.cmpi CmpIPredicate.sge (BitVec.ofNat 32 x.val) 64#32 = if x.val / 64 = 1 then 1#1 else 0#1 := by
  decide +kernel
theorem pay3_apply : ∀ x : Fin 128, k0_pay3 (ix2 0 x) = if x.val % 64 < 32 then 1#1 else 0#1 := by decide +kernel
theorem pay4_apply : ∀ x : Fin 128, k0_pay4 (ix2 0 x) = if x.val / 64 = 0 then 1#1 else 0#1 := by decide +kernel

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]
theorem xori_ite (p : Prop) [Decidable p] : IntOp.xori (if p then 1#1 else 0#1) 1#1 = if ¬p then 1#1 else 0#1 := by
  by_cases hp : p <;> simp [hp, IntOp.xori]

section

variable {q : Vec Ideal S128x128 .bf16} {kw vw : FVec Ideal S256x128 .bf16} {g : Vec Ideal S128x128 .bf16}
  {st : Vec Ideal S128x128 .f32} {b : Vec Ideal S1x1x2x128x256 .f32}

theorem stack_q (q : Vec Ideal S128x128 .bf16) (R : Fin 256) (k : Fin 128) :
    k0_pay74 q (ix2 R k) = if k.val / 64 = R.val / 128
      then q (ix2 ⟨R.val % 128, Nat.mod_lt _ (by norm_num)⟩ k) * (((1 : ℝ) / 8 : ℝ) : EReal) else 0 := by
  pointwise [k0_pay74]
  simp only [mask_lo, mask_hi, select_ite, eighth_bf16]
  by_cases h : R.val < 128
  · rw [dif_pos h]
    have e : R.val / 128 = 0 := by omega
    have e' : R.val % 128 = R.val := by omega
    simp only [e, e']
  · rw [dif_neg h]
    have e : R.val / 128 = 1 := by omega
    have e' : R.val % 128 = R.val - 128 := by omega
    simp only [e, e']

theorem stack_g (q : Vec Ideal S128x128 .bf16) (R : Fin 256) (k : Fin 128) :
    k0_pay77 q (ix2 R k) = if k.val / 64 = R.val / 128
      then q (ix2 ⟨R.val % 128, Nat.mod_lt _ (by norm_num)⟩ k) else 0 := by
  pointwise [k0_pay77]
  simp only [mask_lo, mask_hi, select_ite]
  by_cases h : R.val < 128
  · rw [dif_pos h]
    have e : R.val / 128 = 0 := by omega
    have e' : R.val % 128 = R.val := by omega
    simp only [e, e']
  · rw [dif_neg h]
    have e : R.val / 128 = 1 := by omega
    have e' : R.val % 128 = R.val - 128 := by omega
    simp only [e, e']

theorem lse_apply (st : Vec Ideal S128x128 .f32) (R : Fin 256) :
    k0_pay79 k0_pay3 st (ix2 R 0) = Finset.univ.fold max ⊥ fun x : Fin 128 =>
      if x.val / 64 = R.val / 128 ∧ x.val % 64 < 32 then st (ix2 ⟨R.val % 128, Nat.mod_lt _ (by norm_num)⟩ x) else ⊥ := by
  pointwise [k0_pay79, k0_pay78]
  simp only [mask_lo, mask_hi, pay3_apply, andi_ite, select_ite, negInf_f32]
  by_cases h : R.val < 128
  · rw [dif_pos h]
    have e : R.val / 128 = 0 := by omega
    have e' : R.val % 128 = R.val := by omega
    simp only [e, e']
  · rw [dif_neg h]
    have e : R.val / 128 = 1 := by omega
    have e' : R.val % 128 = R.val - 128 := by omega
    simp only [e, e']

theorem p_apply (q kw l b) (R : Fin 256) (j : Fin 256) :
    k0_pay82 (F := Ideal) q kw l b (ix2 R j) = Ideal.exp (∑ x : Fin 128, q (ix2 R x) * kw (ix2 j x)
      + b (ix5 0 0 ⟨R.val / 128, by omega⟩ ⟨R.val % 128, Nat.mod_lt _ (by norm_num)⟩ j) - l (ix2 R 0)) := by
  pointwise [k0_pay82]

theorem ds_apply (R : Fin 256) (j : Fin 256) :
    tDS q kw vw g st b (ix2 R j) = tP q kw st b (ix2 R j) * (∑ x : Fin 128, k0_pay77 g (ix2 R x) * vw (ix2 j x)
      - (∑ x : Fin 128, if x.val / 64 = R.val / 128 ∧ ¬x.val % 64 < 32
          then st (ix2 ⟨R.val % 128, Nat.mod_lt _ (by norm_num)⟩ x) else 0) * (((1 : ℝ) / 32 : ℝ) : EReal)) := by
  unfold tDS tP
  pointwise [k0_pay83, k0_pay78, k0_pay80, k0_pay81]
  simp only [mask_lo, mask_hi, pay3_apply, xori_ite, andi_ite, select_ite, inv32_f32]
  by_cases h : R.val < 128
  · rw [dif_pos h]
    have e : R.val / 128 = 0 := by omega
    have e' : R.val % 128 = R.val := by omega
    simp only [e, e']
  · rw [dif_neg h]
    have e : R.val / 128 = 1 := by omega
    have e' : R.val % 128 = R.val - 128 := by omega
    simp only [e, e']

/-! ## From real operands -/

variable {p : ℕ} {Q K V G : ℕ → ℕ → ℝ} {L D : ℕ → ℕ → ℝ} {M : ℕ → ℕ → Prop} [∀ ρ j, Decidable (M ρ j)] {B : ℕ → ℕ → ℕ → ℝ}

/-- The operands of the pair `p`'s tile are real, and the bias is minus infinity outside the band. -/
structure Reals (p : ℕ) (Q K V G : ℕ → ℕ → ℝ) (L D : ℕ → ℕ → ℝ) (M : ℕ → ℕ → Prop) [∀ ρ j, Decidable (M ρ j)]
    (B : ℕ → ℕ → ℕ → ℝ) (q : Vec Ideal S128x128 .bf16) (kw vw : FVec Ideal S256x128 .bf16) (g : Vec Ideal S128x128 .bf16)
    (st : Vec Ideal S128x128 .f32) (b : Vec Ideal S1x1x2x128x256 .f32) : Prop where
  q : ∀ (ρ k : Fin 128), q (ix2 ρ k) = ((Q ρ.val (128 * p + k.val) : ℝ) : EReal)
  kw : ∀ (j : Fin 256) (k : Fin 128), kw (ix2 j k) = ((K j.val (128 * p + k.val) : ℝ) : EReal)
  vw : ∀ (j : Fin 256) (k : Fin 128), vw (ix2 j k) = ((V j.val (128 * p + k.val) : ℝ) : EReal)
  g : ∀ (ρ k : Fin 128), g (ix2 ρ k) = ((G ρ.val (128 * p + k.val) : ℝ) : EReal)
  st : ∀ (ρ k : Fin 128), st (ix2 ρ k)
    = ((if k.val % 64 < 32 then L ρ.val (2 * p + k.val / 64) else D ρ.val (2 * p + k.val / 64) : ℝ) : EReal)
  b : ∀ (h : Fin 2) (ρ : Fin 128) (j : Fin 256),
    b (ix5 0 0 h ρ j) = if M ρ.val j.val then ((B (2 * p + h.val) ρ.val j.val : ℝ) : EReal) else ⊥

theorem q2_real (H : Reals p Q K V G L D M B q kw vw g st b) (R : Fin 256) (k : Fin 128) :
    k0_pay74 q (ix2 R k)
      = ((if k.val / 64 = R.val / 128 then Q (R.val % 128) (128 * p + k.val) * (1 / 8) else 0 : ℝ) : EReal) := by
  rw [stack_q, H.q]
  split
  · rw [EReal.coe_mul]
  · rfl

theorem g2_real (H : Reals p Q K V G L D M B q kw vw g st b) (R : Fin 256) (k : Fin 128) :
    k0_pay77 g (ix2 R k)
      = ((if k.val / 64 = R.val / 128 then G (R.val % 128) (128 * p + k.val) else 0 : ℝ) : EReal) := by
  rw [stack_g, H.g]
  split <;> rfl

theorem lse_real (H : Reals p Q K V G L D M B q kw vw g st b) (R : Fin 256) :
    k0_pay79 k0_pay3 st (ix2 R 0) = ((L (R.val % 128) (2 * p + R.val / 128) : ℝ) : EReal) := by
  rw [lse_apply]
  refine fold_max_eq _ _ (fun x => ?_) ⟨64 * (R.val / 128), by omega⟩ ?_
  · split
    · rename_i h
      rw [H.st, if_pos h.2, h.1]
    · exact bot_le
  · dsimp only
    have e1 : 64 * (R.val / 128) / 64 = R.val / 128 := by omega
    have e2 : 64 * (R.val / 128) % 64 = 0 := by omega
    rw [if_pos ⟨e1, by omega⟩, H.st]
    dsimp only
    rw [e1, e2, if_pos (by norm_num)]

theorem sum_q2 (H : Reals p Q K V G L D M B q kw vw g st b) (R j : Fin 256) :
    ∑ x : Fin 128, k0_pay74 q (ix2 R x) * kw (ix2 j x)
      = ((∑ d : Fin 64, Q (R.val % 128) (64 * (2 * p + R.val / 128) + d.val) * (1 / 8)
          * K j.val (64 * (2 * p + R.val / 128) + d.val) : ℝ) : EReal) := by
  simp only [q2_real H, H.kw, ← EReal.coe_mul, coe_sum]
  refine congrArg _ ((sum_head_of (fun k => Q (R.val % 128) (128 * p + k) * (1 / 8) * K j.val (128 * p + k)) (R.val / 128)
    (by omega) fun x => by rw [ite_mul, zero_mul]).trans ?_)
  refine Finset.sum_congr rfl fun d _ => ?_
  rw [show 128 * p + (64 * (R.val / 128) + d.val) = 64 * (2 * p + R.val / 128) + d.val by ring]

theorem sum_g2 (H : Reals p Q K V G L D M B q kw vw g st b) (R j : Fin 256) :
    ∑ x : Fin 128, k0_pay77 g (ix2 R x) * vw (ix2 j x)
      = ((∑ d : Fin 64, G (R.val % 128) (64 * (2 * p + R.val / 128) + d.val)
          * V j.val (64 * (2 * p + R.val / 128) + d.val) : ℝ) : EReal) := by
  simp only [g2_real H, H.vw, ← EReal.coe_mul, coe_sum]
  refine congrArg _ ((sum_head_of (fun k => G (R.val % 128) (128 * p + k) * V j.val (128 * p + k)) (R.val / 128)
    (by omega) fun x => by rw [ite_mul, zero_mul]).trans ?_)
  refine Finset.sum_congr rfl fun d _ => ?_
  rw [show 128 * p + (64 * (R.val / 128) + d.val) = 64 * (2 * p + R.val / 128) + d.val by ring]

theorem delta_real (H : Reals p Q K V G L D M B q kw vw g st b) (R : Fin 256) :
    (∑ x : Fin 128, if x.val / 64 = R.val / 128 ∧ ¬x.val % 64 < 32
        then st (ix2 ⟨R.val % 128, Nat.mod_lt _ (by norm_num)⟩ x) else 0) * (((1 : ℝ) / 32 : ℝ) : EReal)
      = ((D (R.val % 128) (2 * p + R.val / 128) : ℝ) : EReal) := by
  rw [Finset.sum_congr rfl (g := fun x : Fin 128 => ((if x.val / 64 = R.val / 128 then
    (fun k => if ¬k % 64 < 32 then D (R.val % 128) (2 * p + R.val / 128) else 0) x.val else 0 : ℝ) : EReal)) fun x _ => by
      by_cases h1 : x.val / 64 = R.val / 128
      · by_cases h2 : x.val % 64 < 32
        · simp [h2]
        · rw [if_pos ⟨h1, h2⟩, H.st]; simp only [h1, h2, if_true, if_false, not_false_eq_true]
      · simp [h1], coe_sum, ← EReal.coe_mul]
  refine congrArg _ ((congrArg (· * ((1 : ℝ) / 32)) (sum_head_of
    (fun k => if ¬k % 64 < 32 then D (R.val % 128) (2 * p + R.val / 128) else 0) (R.val / 128) (by omega) fun x => rfl)).trans ?_)
  rw [Finset.sum_congr rfl (g := fun d : Fin 64 => if ¬d.val < 32 then D (R.val % 128) (2 * p + R.val / 128) else 0)
    fun d _ => by rw [show (64 * (R.val / 128) + d.val) % 64 = d.val by omega], ← Finset.sum_filter, Finset.sum_const,
    show (Finset.univ.filter fun d : Fin 64 => ¬d.val < 32).card = 32 by decide]
  simp
  ring

theorem p_real (H : Reals p Q K V G L D M B q kw vw g st b) (R j : Fin 256) :
    tP q kw st b (ix2 R j) = ((rp Q K L M B (2 * p + R.val / 128) (R.val % 128) j.val : ℝ) : EReal) := by
  unfold tP
  rw [p_apply, sum_q2 H, lse_real H, H.b]
  unfold rp rs
  dsimp only
  split
  · rw [← EReal.coe_add, ← EReal.coe_sub, Ideal.exp_coe]
  · simp

theorem ds_real (H : Reals p Q K V G L D M B q kw vw g st b) (R j : Fin 256) :
    tDS q kw vw g st b (ix2 R j) = ((rds Q K V G L D M B (2 * p + R.val / 128) (R.val % 128) j.val : ℝ) : EReal) := by
  rw [ds_apply, p_real H, sum_g2 H, delta_real H, ← EReal.coe_sub, ← EReal.coe_mul]
  rfl

theorem dsr_apply (R j : Fin 256) : tDSr q kw vw g st b (ix2 R j) = tDS q kw vw g st b (ix2 R j) := by
  unfold tDSr tDS
  pointwise [k0_pay85]

theorem dq_real (H : Reals p Q K V G L D M B q kw vw g st b) (ρ k : Fin 128) :
    tDQ q kw vw g st b (ix2 ρ k) = ((rdq Q K V G L D M B ρ.val (128 * p + k.val) : ℝ) : EReal) := by
  have e : tDQ q kw vw g st b (ix2 ρ k) = (if k.val / 64 = 0
      then ∑ x : Fin 256, tDSr q kw vw g st b (ix2 ⟨ρ.val, by omega⟩ x) * kw (ix2 x k)
      else ∑ x : Fin 256, tDSr q kw vw g st b (ix2 ⟨128 + ρ.val, by omega⟩ x) * kw (ix2 x k)) * (((1 : ℝ) / 8 : ℝ) : EReal) := by
    unfold tDQ tDSr
    pointwise [k0_pay90, k0_pay87, k0_pay88, k0_pay86, k0_pay89]
    simp only [pay4_apply, select_ite, eighth_f32]
  rw [e]
  simp only [dsr_apply, ds_real H, H.kw, ← EReal.coe_mul, coe_sum]
  unfold rdq
  have hk : (128 * p + k.val) / 64 = 2 * p + k.val / 64 := by omega
  rw [hk, EReal.coe_mul]
  refine congrArg (· * _) ?_
  have a1 : ρ.val / 128 = 0 := by omega
  have a2 : ρ.val % 128 = ρ.val := by omega
  have a3 : (128 + ρ.val) / 128 = 1 := by omega
  have a4 : (128 + ρ.val) % 128 = ρ.val := by omega
  by_cases h : k.val / 64 = 0
  · rw [if_pos h, h, a1, a2]
  · rw [if_neg h, show k.val / 64 = 1 by omega, a3, a4]

theorem dk_real (H : Reals p Q K V G L D M B q kw vw g st b) (j : Fin 256) (k : Fin 128) :
    tDK q kw vw g st b (ix2 j k) = ((rdk Q K V G L D M B j.val (128 * p + k.val) : ℝ) : EReal) := by
  have e : tDK q kw vw g st b (ix2 j k) = ∑ x : Fin 256, tDSr q kw vw g st b (ix2 x j) * k0_pay74 q (ix2 x k) := by
    unfold tDK
    pointwise [k0_pay91]
  rw [e]
  simp only [dsr_apply, ds_real H, q2_real H, ← EReal.coe_mul, coe_sum]
  unfold rdk
  refine congrArg _ ((sum_rows_of (fun r => rds Q K V G L D M B (2 * p + k.val / 64) r j.val * (Q r (128 * p + k.val) * (1 / 8))) (k.val / 64) (by omega) fun x => by
    by_cases h : k.val / 64 = x.val / 128
    · rw [if_pos h, if_pos h.symm, h]
    · rw [if_neg h, if_neg (Ne.symm h), mul_zero]).trans ?_)
  rw [show (128 * p + k.val) / 64 = 2 * p + k.val / 64 by omega]

theorem dv_real (H : Reals p Q K V G L D M B q kw vw g st b) (j : Fin 256) (k : Fin 128) :
    tDV q kw g st b (ix2 j k) = ((rdv Q K G L M B j.val (128 * p + k.val) : ℝ) : EReal) := by
  have e : tDV q kw g st b (ix2 j k) = ∑ x : Fin 256, tP q kw st b (ix2 x j) * k0_pay77 g (ix2 x k) := by
    unfold tDV
    pointwise [k0_pay92]
  rw [e]
  simp only [p_real H, g2_real H, ← EReal.coe_mul, coe_sum]
  unfold rdv
  refine congrArg _ ((sum_rows_of (fun r => rp Q K L M B (2 * p + k.val / 64) r j.val * G r (128 * p + k.val)) (k.val / 64) (by omega) fun x => by
    by_cases h : k.val / 64 = x.val / 128
    · rw [if_pos h, if_pos h.symm, h]
    · rw [if_neg h, if_neg (Ne.symm h), mul_zero]).trans ?_)
  rw [show (128 * p + k.val) / 64 = 2 * p + k.val / 64 by omega]

theorem db_apply (old : Vec Ideal S2x128x256 .f32) (h : Fin 2) (ρ : Fin 128) (j : Fin 256) :
    tDB q kw vw g st b old (ix3 h ρ j) = old (ix3 h ρ j) + tDS q kw vw g st b (ix2 ⟨128 * h.val + ρ.val, by omega⟩ j) := by
  unfold tDB tDS
  pointwise [k0_pay84]
  refine congrArg _ (congrArg _ ?_)
  refine congrArg (fun r => ix2 r j) (Fin.ext ?_)
  simp; omega

theorem db_real (H : Reals p Q K V G L D M B q kw vw g st b) (old : Vec Ideal S2x128x256 .f32) (h : Fin 2) (ρ : Fin 128) (j : Fin 256) :
    tDB q kw vw g st b old (ix3 h ρ j)
      = old (ix3 h ρ j) + ((rds Q K V G L D M B (2 * p + h.val) ρ.val j.val : ℝ) : EReal) := by
  rw [db_apply, ds_real H]
  dsimp only
  rw [show (128 * h.val + ρ.val) / 128 = h.val by omega, show (128 * h.val + ρ.val) % 128 = ρ.val by omega]

theorem loRows_apply (x : FVec Ideal S256x128 .f32) (r k : Fin 128) : loRows x (ix2 r k) = x (ix2 ⟨r.val, by omega⟩ k) := by
  pointwise [loRows]
theorem hiRows_apply (x : FVec Ideal S256x128 .f32) (r k : Fin 128) : hiRows x (ix2 r k) = x (ix2 ⟨128 + r.val, by omega⟩ k) := by
  pointwise [hiRows]
theorem sumRows_apply (old : Vec Ideal S128x128 .f32) (x : FVec Ideal S256x128 .f32) (r k : Fin 128) :
    sumRows old x (ix2 r k) = old (ix2 r k) + x (ix2 ⟨r.val, by omega⟩ k) := by
  pointwise [sumRows, loRows]

end

end Cert.Proof.Band

end
-- ==== Proof.Band.Block.lean ====
/- One class's band as the kernel's body meets it: two blocks of 128 query rows, four pairs of heads. Here: what the loads
   of the body read, in real numbers, and what each of its stores then holds. -/
module

public import proofs.«01_k».proof.Proof.Band.Tile
public import Idealize.ShloMosaic.Lib.Pipeline.ReadBack

@[expose] public section

set_option maxRecDepth 16384

noncomputable section

namespace Cert.Proof.Band

open Cert.KernelIdeal Cert.KernelIdeal.Gen Idealize.ShloMosaic Idealize.ShloMosaic.TcCoe Idealize.SL.Sem

/-- The band of block `b`: a query sees itself and the 128 keys before it; the first block has no keys before its own. -/
def Mb (b ρ j : ℕ) : Prop := ρ ≤ j ∧ j ≤ ρ + 128 ∧ (b = 0 → 128 ≤ j)
instance (b ρ j : ℕ) : Decidable (Mb b ρ j) := by unfold Mb; infer_instance

/-- Block `b`'s query rows, and its window of key rows (the first block's window is its own rows twice). -/
def row {α : Type} (b : ℕ) (X : ℕ → α) (ρ : ℕ) : α := X (128 * b + ρ)
def win {α : Type} (b : ℕ) (X : ℕ → α) (j : ℕ) : α := X (if b = 0 then j % 128 else j)

section

variable (Q K V G : ℕ → ℕ → ℝ) (L D : ℕ → ℕ → ℝ) (B : ℕ → ℕ → ℕ → ℝ)

/-- The gradients of one class: of the logits of block `b`, of the queries, of block `b`'s window of keys and values, and
    of the keys and values themselves. -/
def bds (b h ρ j : ℕ) : ℝ := rds (row b Q) (win b K) (win b V) (row b G) (row b L) (row b D) (Mb b) B h ρ j
def bdk (b j c : ℕ) : ℝ := rdk (row b Q) (win b K) (win b V) (row b G) (row b L) (row b D) (Mb b) B j c
def bdv (b j c : ℕ) : ℝ := rdv (row b Q) (win b K) (row b G) (row b L) (Mb b) B j c
def cdq (r c : ℕ) : ℝ :=
  rdq (row (r / 128) Q) (win (r / 128) K) (win (r / 128) V) (row (r / 128) G) (row (r / 128) L) (row (r / 128) D) (Mb (r / 128)) B (r % 128) c
def cdk (r c : ℕ) : ℝ := if r < 128 then bdk Q K V G L D B 0 (128 + r) c + bdk Q K V G L D B 1 r c else bdk Q K V G L D B 1 r c
def cdv (r c : ℕ) : ℝ := if r < 128 then bdv Q K G L B 0 (128 + r) c + bdv Q K G L B 1 r c else bdv Q K G L B 1 r c

/-- A class's blocks of the operands are real, and the bias is minus infinity outside the band. -/
structure Block (x0 x1 x2 x3 : Vec Ideal S256x512 .bf16) (x4 : Vec Ideal S256x512 .f32) (x5 : Vec Ideal S1x2x8x128x256 .f32) : Prop where
  q : ∀ (r : Fin 256) (k : Fin 512), x0 (ix2 r k) = ((Q r.val k.val : ℝ) : EReal)
  k : ∀ (r : Fin 256) (k : Fin 512), x1 (ix2 r k) = ((K r.val k.val : ℝ) : EReal)
  v : ∀ (r : Fin 256) (k : Fin 512), x2 (ix2 r k) = ((V r.val k.val : ℝ) : EReal)
  g : ∀ (r : Fin 256) (k : Fin 512), x3 (ix2 r k) = ((G r.val k.val : ℝ) : EReal)
  st : ∀ (r : Fin 256) (k : Fin 512), x4 (ix2 r k)
    = ((if k.val % 64 < 32 then L r.val (k.val / 64) else D r.val (k.val / 64) : ℝ) : EReal)
  b : ∀ (f : Fin 2) (h : Fin 8) (ρ : Fin 128) (j : Fin 256),
    x5 (ix5 0 f h ρ j) = if Mb (1 - f.val) ρ.val j.val then ((B h.val ρ.val j.val : ℝ) : EReal) else ⊥

end

variable {Q K V G : ℕ → ℕ → ℝ} {L D : ℕ → ℕ → ℝ} {B : ℕ → ℕ → ℕ → ℝ}
  {x0 x1 x2 x3 : Vec Ideal S256x512 .bf16} {x4 : Vec Ideal S256x512 .f32} {x5 : Vec Ideal S1x2x8x128x256 .f32}

/-! ## What the loads read -/

theorem ld_tile {e : EltTy} (x : Vec Ideal S256x512 e) (o : Fin 2 → ℕ) (inb : ∀ a, o a + S128x128.size a ≤ S256x512.size a)
    (ρ k : Fin 128) : View.ld x (Rect.unit (s := S256x512) o S128x128.size inb) (ix2 ρ k)
      = x (ix2 ⟨o 0 + ρ.val, by have h : o 0 + 128 ≤ 256 := inb 0; omega⟩ ⟨o 1 + k.val, by have h : o 1 + 128 ≤ 512 := inb 1; omega⟩) := by
  refine congrArg x (funext fun a => Fin.ext ?_)
  match a with
  | ⟨0, _⟩ => show o 0 + 1 * ρ.val = o 0 + ρ.val; omega
  | ⟨1, _⟩ => show o 1 + 1 * k.val = o 1 + k.val; omega

theorem ld_win {e : EltTy} (x : Vec Ideal S256x512 e) (o : Fin 2 → ℕ) (inb : ∀ a, o a + S256x128.size a ≤ S256x512.size a)
    (j : Fin 256) (k : Fin 128) : View.ld x (Rect.unit (s := S256x512) o S256x128.size inb) (ix2 j k)
      = x (ix2 ⟨o 0 + j.val, by have h : o 0 + 256 ≤ 256 := inb 0; omega⟩ ⟨o 1 + k.val, by have h : o 1 + 128 ≤ 512 := inb 1; omega⟩) := by
  refine congrArg x (funext fun a => Fin.ext ?_)
  match a with
  | ⟨0, _⟩ => show o 0 + 1 * j.val = o 0 + j.val; omega
  | ⟨1, _⟩ => show o 1 + 1 * k.val = o 1 + k.val; omega

theorem ld_bias (x : Vec Ideal S1x2x8x128x256 .f32) (o : Fin 5 → ℕ) (inb : ∀ a, o a + S1x1x2x128x256.size a ≤ S1x2x8x128x256.size a)
    (f : Fin 2) (p : ℕ) (hp : p < 4) (h0 : o 0 = 0) (h1 : o 1 = f.val) (h2 : o 2 = 2 * p) (h3 : o 3 = 0) (h4 : o 4 = 0)
    (h : Fin 2) (ρ : Fin 128) (j : Fin 256) :
    View.ld x (Rect.unit (s := S1x2x8x128x256) o S1x1x2x128x256.size inb) (ix5 0 0 h ρ j) = x (ix5 0 f ⟨2 * p + h.val, by omega⟩ ρ j) := by
  refine congrArg x (funext fun a => Fin.ext ?_)
  match a with
  | ⟨0, _⟩ => show o 0 + 1 * 0 = 0; omega
  | ⟨1, _⟩ => show o 1 + 1 * 0 = f.val; omega
  | ⟨2, _⟩ => show o 2 + 1 * h.val = 2 * p + h.val; omega
  | ⟨3, _⟩ => show o 3 + 1 * ρ.val = ρ.val; omega
  | ⟨4, _⟩ => show o 4 + 1 * j.val = j.val; omega

theorem dup_apply (x : Vec Ideal S128x128 .bf16) (j : Fin 256) (k : Fin 128) :
    k0_pay9 x (ix2 j k) = x (ix2 ⟨j.val % 128, Nat.mod_lt _ (by norm_num)⟩ k) := by
  pointwise [k0_pay9]
  by_cases h : j.val < 128
  · rw [dif_pos h]
    have e : j.val % 128 = j.val := by omega
    simp only [e]
  · rw [dif_neg h]
    have e : j.val % 128 = j.val - 128 := by omega
    simp only [e]

theorem whole_apply (x : Vec Ideal S256x128 .bf16) (j : Fin 256) (k : Fin 128) : k0_pay75 x (ix2 j k) = x (ix2 j k) := by
  pointwise [k0_pay75]

/-- Block 0's tile of the pair `p`. -/
theorem Block.reals0 (H : Block Q K V G L D B x0 x1 x2 x3 x4 x5) (p : ℕ) (hp : p < 4) (o : Fin 2 → ℕ)
    (inb : ∀ a, o a + S128x128.size a ≤ S256x512.size a) (o5 : Fin 5 → ℕ)
    (inb5 : ∀ a, o5 a + S1x1x2x128x256.size a ≤ S1x2x8x128x256.size a) (h0 : o 0 = 0) (h1 : o 1 = 128 * p)
    (g0 : o5 0 = 0) (g1 : o5 1 = 1) (g2 : o5 2 = 2 * p) (g3 : o5 3 = 0) (g4 : o5 4 = 0) :
    Reals p (row 0 Q) (win 0 K) (win 0 V) (row 0 G) (row 0 L) (row 0 D) (Mb 0) B
      (View.ld x0 (Rect.unit (s := S256x512) o S128x128.size inb)) (k0_pay9 (View.ld x1 (Rect.unit (s := S256x512) o S128x128.size inb)))
      (k0_pay9 (View.ld x2 (Rect.unit (s := S256x512) o S128x128.size inb))) (View.ld x3 (Rect.unit (s := S256x512) o S128x128.size inb))
      (View.ld x4 (Rect.unit (s := S256x512) o S128x128.size inb)) (View.ld x5 (Rect.unit (s := S1x2x8x128x256) o5 S1x1x2x128x256.size inb5)) where
  q ρ k := by
    rw [ld_tile, H.q]
    show ((Q (o 0 + ρ.val) (o 1 + k.val) : ℝ) : EReal) = ((Q (128 * 0 + ρ.val) (128 * p + k.val) : ℝ) : EReal)
    rw [h0, h1]
  kw j k := by
    rw [dup_apply, ld_tile, H.k]
    show ((K (o 0 + j.val % 128) (o 1 + k.val) : ℝ) : EReal) = ((K (j.val % 128) (128 * p + k.val) : ℝ) : EReal)
    rw [h0, h1, Nat.zero_add]
  vw j k := by
    rw [dup_apply, ld_tile, H.v]
    show ((V (o 0 + j.val % 128) (o 1 + k.val) : ℝ) : EReal) = ((V (j.val % 128) (128 * p + k.val) : ℝ) : EReal)
    rw [h0, h1, Nat.zero_add]
  g ρ k := by
    rw [ld_tile, H.g]
    show ((G (o 0 + ρ.val) (o 1 + k.val) : ℝ) : EReal) = ((G (128 * 0 + ρ.val) (128 * p + k.val) : ℝ) : EReal)
    rw [h0, h1]
  st ρ k := by
    rw [ld_tile, H.st]
    show ((if (o 1 + k.val) % 64 < 32 then L (o 0 + ρ.val) ((o 1 + k.val) / 64) else D (o 0 + ρ.val) ((o 1 + k.val) / 64) : ℝ) : EReal)
      = ((if k.val % 64 < 32 then L (128 * 0 + ρ.val) (2 * p + k.val / 64) else D (128 * 0 + ρ.val) (2 * p + k.val / 64) : ℝ) : EReal)
    rw [h0, h1, show (128 * p + k.val) % 64 = k.val % 64 by omega, show (128 * p + k.val) / 64 = 2 * p + k.val / 64 by omega]
  b h ρ j := by
    rw [ld_bias x5 o5 inb5 1 p hp g0 g1 g2 g3 g4, H.b]
    rfl

/-- Block 1's tile of the pair `p`. -/
theorem Block.reals1 (H : Block Q K V G L D B x0 x1 x2 x3 x4 x5) (p : ℕ) (hp : p < 4) (o ow : Fin 2 → ℕ)
    (inb : ∀ a, o a + S128x128.size a ≤ S256x512.size a) (inbw : ∀ a, ow a + S256x128.size a ≤ S256x512.size a) (o5 : Fin 5 → ℕ)
    (inb5 : ∀ a, o5 a + S1x1x2x128x256.size a ≤ S1x2x8x128x256.size a) (h0 : o 0 = 128) (h1 : o 1 = 128 * p)
    (w0 : ow 0 = 0) (w1 : ow 1 = 128 * p)
    (g0 : o5 0 = 0) (g1 : o5 1 = 0) (g2 : o5 2 = 2 * p) (g3 : o5 3 = 0) (g4 : o5 4 = 0) :
    Reals p (row 1 Q) (win 1 K) (win 1 V) (row 1 G) (row 1 L) (row 1 D) (Mb 1) B
      (View.ld x0 (Rect.unit (s := S256x512) o S128x128.size inb)) (k0_pay75 (View.ld x1 (Rect.unit (s := S256x512) ow S256x128.size inbw)))
      (k0_pay75 (View.ld x2 (Rect.unit (s := S256x512) ow S256x128.size inbw))) (View.ld x3 (Rect.unit (s := S256x512) o S128x128.size inb))
      (View.ld x4 (Rect.unit (s := S256x512) o S128x128.size inb)) (View.ld x5 (Rect.unit (s := S1x2x8x128x256) o5 S1x1x2x128x256.size inb5)) where
  q ρ k := by
    rw [ld_tile, H.q]
    show ((Q (o 0 + ρ.val) (o 1 + k.val) : ℝ) : EReal) = ((Q (128 * 1 + ρ.val) (128 * p + k.val) : ℝ) : EReal)
    rw [h0, h1]
  kw j k := by
    rw [whole_apply, ld_win, H.k]
    show ((K (ow 0 + j.val) (ow 1 + k.val) : ℝ) : EReal) = ((K j.val (128 * p + k.val) : ℝ) : EReal)
    rw [w0, w1, Nat.zero_add]
  vw j k := by
    rw [whole_apply, ld_win, H.v]
    show ((V (ow 0 + j.val) (ow 1 + k.val) : ℝ) : EReal) = ((V j.val (128 * p + k.val) : ℝ) : EReal)
    rw [w0, w1, Nat.zero_add]
  g ρ k := by
    rw [ld_tile, H.g]
    show ((G (o 0 + ρ.val) (o 1 + k.val) : ℝ) : EReal) = ((G (128 * 1 + ρ.val) (128 * p + k.val) : ℝ) : EReal)
    rw [h0, h1]
  st ρ k := by
    rw [ld_tile, H.st]
    show ((if (o 1 + k.val) % 64 < 32 then L (o 0 + ρ.val) ((o 1 + k.val) / 64) else D (o 0 + ρ.val) ((o 1 + k.val) / 64) : ℝ) : EReal)
      = ((if k.val % 64 < 32 then L (128 * 1 + ρ.val) (2 * p + k.val / 64) else D (128 * 1 + ρ.val) (2 * p + k.val / 64) : ℝ) : EReal)
    rw [h0, h1, show (128 * p + k.val) % 64 = k.val % 64 by omega, show (128 * p + k.val) / 64 = 2 * p + k.val / 64 by omega]
  b h ρ j := by
    rw [ld_bias x5 o5 inb5 0 p hp g0 g1 g2 g3 g4, H.b]
    rfl

/-! ## What the stores hold -/

section

variable (Q K V G : ℕ → ℕ → ℝ) (L D : ℕ → ℕ → ℝ) (B : ℕ → ℕ → ℕ → ℝ)

/-- The class's blocks of the results. -/
def Gdq : S256x512.Idx → EReal := fun y => ((cdq Q K V G L D B (y 0).val (y 1).val : ℝ) : EReal)
def Gdk : S256x512.Idx → EReal := fun y => ((cdk Q K V G L D B (y 0).val (y 1).val : ℝ) : EReal)
def Gdv : S256x512.Idx → EReal := fun y => ((cdv Q K G L B (y 0).val (y 1).val : ℝ) : EReal)
/-- The bias gradient after the class: what was there, and the class's two blocks. -/
def Gdb (old : S8x128x256.Idx → EReal) : S8x128x256.Idx → EReal := fun y =>
  old y + ((bds Q K V G L D B 0 (y 0).val (y 1).val (y 2).val : ℝ) : EReal)
    + ((bds Q K V G L D B 1 (y 0).val (y 1).val (y 2).val : ℝ) : EReal)

end

variable {p : ℕ} {q : Vec Ideal S128x128 .bf16} {kw vw : FVec Ideal S256x128 .bf16} {g : Vec Ideal S128x128 .bf16}
  {st : Vec Ideal S128x128 .f32} {bi : Vec Ideal S1x1x2x128x256 .f32}
  {q' : Vec Ideal S128x128 .bf16} {kw' vw' : FVec Ideal S256x128 .bf16} {g' : Vec Ideal S128x128 .bf16}
  {st' : Vec Ideal S128x128 .f32} {bi' : Vec Ideal S1x1x2x128x256 .f32}

theorem piece_dq (b : ℕ)
    (H : Reals p (row b Q) (win b K) (win b V) (row b G) (row b L) (row b D) (Mb b) B q kw vw g st bi)
    {pay : Vec Ideal S128x128 .bf16} (hp : pay = tDQ q kw vw g st bi) {o : Fin 2 → ℕ}
    (inb : ∀ a, o a + S128x128.size a ≤ S256x512.size a) (h0 : o 0 = 128 * b) (h1 : o 1 = 128 * p) (x : S128x128.Idx) :
    pay x = Gdq Q K V G L D B ((Rect.unit (s := S256x512) o S128x128.size inb).emb x) := by
  rw [hp]
  refine (congrArg (tDQ q kw vw g st bi) (eq_ix2 (n0 := 128) (n1 := 128) x)).trans ((dq_real H _ _).trans ?_)
  show _ = ((cdq Q K V G L D B (o 0 + 1 * (x 0).val) (o 1 + 1 * (x 1).val) : ℝ) : EReal)
  have hx : (x 0).val < 128 := (x 0).isLt
  unfold cdq
  rw [h0, h1, show (128 * b + 1 * (x 0).val) / 128 = b by omega, show (128 * b + 1 * (x 0).val) % 128 = (x 0).val by omega,
    show 128 * p + 1 * (x 1).val = 128 * p + (x 1).val by omega]

theorem hi_dk (b : ℕ)
    (H : Reals p (row b Q) (win b K) (win b V) (row b G) (row b L) (row b D) (Mb b) B q kw vw g st bi)
    {pay : Vec Ideal S128x128 .f32} (hp : pay = hiRows (tDK q kw vw g st bi)) (x : S128x128.Idx) :
    pay x = ((bdk Q K V G L D B b (128 + (x 0).val) (128 * p + (x 1).val) : ℝ) : EReal) := by
  rw [hp]
  exact (congrArg (hiRows (tDK q kw vw g st bi)) (eq_ix2 (n0 := 128) (n1 := 128) x)).trans ((hiRows_apply _ _ _).trans (dk_real H _ _))

theorem hi_dv (b : ℕ)
    (H : Reals p (row b Q) (win b K) (win b V) (row b G) (row b L) (row b D) (Mb b) B q kw vw g st bi)
    {pay : Vec Ideal S128x128 .f32} (hp : pay = hiRows (tDV q kw g st bi)) (x : S128x128.Idx) :
    pay x = ((bdv Q K G L B b (128 + (x 0).val) (128 * p + (x 1).val) : ℝ) : EReal) := by
  rw [hp]
  exact (congrArg (hiRows (tDV q kw g st bi)) (eq_ix2 (n0 := 128) (n1 := 128) x)).trans ((hiRows_apply _ _ _).trans (dv_real H _ _))

theorem dk_sum
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi) (r k : Fin 128) :
    sumRows (hiRows (tDK q' kw' vw' g' st' bi')) (tDK q kw vw g st bi) (ix2 r k)
      = ((bdk Q K V G L D B 0 (128 + r.val) (128 * p + k.val) + bdk Q K V G L D B 1 r.val (128 * p + k.val) : ℝ) : EReal) := by
  rw [sumRows_apply, hiRows_apply, dk_real H0, dk_real H, EReal.coe_add]
  rfl

/-- A store of the first block's rows of the keys' gradient: what block 0 left of it, and block 1's share. -/
theorem piece_dk
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi)
    {pay : Vec Ideal S128x128 .bf16} (hp : pay = sumRows (hiRows (tDK q' kw' vw' g' st' bi')) (tDK q kw vw g st bi))
    {o : Fin 2 → ℕ} (inb : ∀ a, o a + S128x128.size a ≤ S256x512.size a) (h0 : o 0 = 0) (h1 : o 1 = 128 * p) (x : S128x128.Idx) :
    pay x = Gdk Q K V G L D B ((Rect.unit (s := S256x512) o S128x128.size inb).emb x) := by
  rw [hp]
  refine (congrArg (sumRows (hiRows (tDK q' kw' vw' g' st' bi')) (tDK q kw vw g st bi)) (eq_ix2 (n0 := 128) (n1 := 128) x)).trans
    ((dk_sum H0 H _ _).trans ?_)
  show _ = ((cdk Q K V G L D B (o 0 + 1 * (x 0).val) (o 1 + 1 * (x 1).val) : ℝ) : EReal)
  have hx : (x 0).val < 128 := (x 0).isLt
  unfold cdk
  rw [h0, h1, show 0 + 1 * (x 0).val = (x 0).val by omega, show 128 * p + 1 * (x 1).val = 128 * p + (x 1).val by omega, if_pos hx]

theorem dv_sum
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi) (r k : Fin 128) :
    sumRows (hiRows (tDV q' kw' g' st' bi')) (tDV q kw g st bi) (ix2 r k)
      = ((bdv Q K G L B 0 (128 + r.val) (128 * p + k.val) + bdv Q K G L B 1 r.val (128 * p + k.val) : ℝ) : EReal) := by
  rw [sumRows_apply, hiRows_apply, dv_real H0, dv_real H, EReal.coe_add]
  rfl

theorem piece_dv
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi)
    {pay : Vec Ideal S128x128 .bf16} (hp : pay = sumRows (hiRows (tDV q' kw' g' st' bi')) (tDV q kw g st bi))
    {o : Fin 2 → ℕ} (inb : ∀ a, o a + S128x128.size a ≤ S256x512.size a) (h0 : o 0 = 0) (h1 : o 1 = 128 * p) (x : S128x128.Idx) :
    pay x = Gdv Q K G L B ((Rect.unit (s := S256x512) o S128x128.size inb).emb x) := by
  rw [hp]
  refine (congrArg (sumRows (hiRows (tDV q' kw' g' st' bi')) (tDV q kw g st bi)) (eq_ix2 (n0 := 128) (n1 := 128) x)).trans
    ((dv_sum H0 H _ _).trans ?_)
  show _ = ((cdv Q K G L B (o 0 + 1 * (x 0).val) (o 1 + 1 * (x 1).val) : ℝ) : EReal)
  have hx : (x 0).val < 128 := (x 0).isLt
  unfold cdv
  rw [h0, h1, show 0 + 1 * (x 0).val = (x 0).val by omega, show 128 * p + 1 * (x 1).val = 128 * p + (x 1).val by omega, if_pos hx]

/-- The scratch after block 1 has stored its four pairs, read back whole: `A` where the pairs' stores are `A`'s columns. -/
theorem scratch_whole {κ : Kind} {sp : Space} (v : View sig κ sp S128x512 .f32) (A : ℕ → ℕ → ℝ) {o3 o2 o1 o0 : Fin 2 → ℕ}
    (i3 : ∀ a, o3 a + S128x128.size a ≤ S128x512.size a) (i2 : ∀ a, o2 a + S128x128.size a ≤ S128x512.size a)
    (i1 : ∀ a, o1 a + S128x128.size a ≤ S128x512.size a) (i0 : ∀ a, o0 a + S128x128.size a ≤ S128x512.size a)
    {w3 w2 w1 w0 : S128x128.Idx → EReal} (rest : List (View.Piece (Elt Ideal) S128x512 .f32))
    (e3 : o3 0 = 0 ∧ o3 1 = 128 * 3) (e2 : o2 0 = 0 ∧ o2 1 = 128 * 2) (e1 : o1 0 = 0 ∧ o1 1 = 128 * 1) (e0 : o0 0 = 0 ∧ o0 1 = 128 * 0)
    (h3 : ∀ x, w3 x = ((A (x 0).val (128 * 3 + (x 1).val) : ℝ) : EReal)) (h2 : ∀ x, w2 x = ((A (x 0).val (128 * 2 + (x 1).val) : ℝ) : EReal))
    (h1 : ∀ x, w1 x = ((A (x 0).val (128 * 1 + (x 1).val) : ℝ) : EReal)) (h0 : ∀ x, w0 x = ((A (x 0).val (128 * 0 + (x 1).val) : ℝ) : EReal))
    {z : Fin 2 → ℕ} (inb : ∀ a, z a + S128x512.size a ≤ S128x512.size a) :
    v.readCov (⟨Rect.unit (s := S128x512) o3 S128x128.size i3, w3⟩ :: ⟨Rect.unit (s := S128x512) o2 S128x128.size i2, w2⟩
      :: ⟨Rect.unit (s := S128x512) o1 S128x128.size i1, w1⟩ :: ⟨Rect.unit (s := S128x512) o0 S128x128.size i0, w0⟩ :: rest)
      (Rect.unit (s := S128x512) z S128x512.size inb).toLoadRect
      = fun y : S128x512.Idx => ((A (y 0).val (y 1).val : ℝ) : EReal) := by
  rw [View.readCov_eq_canon']
  funext y
  have hz0 : z 0 = 0 := by have h : z 0 + 128 ≤ 128 := inb 0; omega
  have hz1 : z 1 = 0 := by have h : z 1 + 512 ≤ 512 := inb 1; omega
  have hy : (Rect.unit (s := S128x512) z S128x512.size inb).toLoadRect.idx y = y := funext fun a => Fin.ext (by
    match a with
    | ⟨0, _⟩ => show z 0 + 1 * (y 0).val = (y 0).val; omega
    | ⟨1, _⟩ => show z 1 + 1 * (y 1).val = (y 1).val; omega)
  have hy0 : (y 0).val < 128 := (y 0).isLt
  have hy1 : (y 1).val < 512 := (y 1).isLt
  dsimp only
  rw [hy]
  refine View.canon_append_of_piecesOf (fun y : S128x512.Idx => ((A (y 0).val (y 1).val : ℝ) : EReal)) rest
    [⟨Rect.unit (s := S128x512) o3 S128x128.size i3, w3⟩, ⟨Rect.unit (s := S128x512) o2 S128x128.size i2, w2⟩,
      ⟨Rect.unit (s := S128x512) o1 S128x128.size i1, w1⟩, ⟨Rect.unit (s := S128x512) o0 S128x128.size i0, w0⟩]
    ⟨fun x => ?_, fun x => ?_, fun x => ?_, fun x => ?_, trivial⟩ y ?_
  · refine (h3 x).trans ?_
    show _ = ((A (o3 0 + 1 * (x 0).val) (o3 1 + 1 * (x 1).val) : ℝ) : EReal)
    rw [e3.1, e3.2, Nat.zero_add, Nat.one_mul, Nat.one_mul]
  · refine (h2 x).trans ?_
    show _ = ((A (o2 0 + 1 * (x 0).val) (o2 1 + 1 * (x 1).val) : ℝ) : EReal)
    rw [e2.1, e2.2, Nat.zero_add, Nat.one_mul, Nat.one_mul]
  · refine (h1 x).trans ?_
    show _ = ((A (o1 0 + 1 * (x 0).val) (o1 1 + 1 * (x 1).val) : ℝ) : EReal)
    rw [e1.1, e1.2, Nat.zero_add, Nat.one_mul, Nat.one_mul]
  · refine (h0 x).trans ?_
    show _ = ((A (o0 0 + 1 * (x 0).val) (o0 1 + 1 * (x 1).val) : ℝ) : EReal)
    rw [e0.1, e0.2, Nat.one_mul, Nat.one_mul]
    simp only [Nat.mul_zero, Nat.zero_add]
  · have hm : ∀ (o : Fin 2 → ℕ) (i : ∀ a, o a + S128x128.size a ≤ S128x512.size a), o 0 = 0 → o 1 ≤ (y 1).val → (y 1).val < o 1 + 128 →
        y ∈ (Rect.unit (s := S128x512) o S128x128.size i).set := fun o i a0 a1 a2 => by
      rw [Rect.mem_set_unit]
      intro a
      match a with
      | ⟨0, _⟩ => show o 0 ≤ (y 0).val ∧ (y 0).val < o 0 + 128; omega
      | ⟨1, _⟩ => show o 1 ≤ (y 1).val ∧ (y 1).val < o 1 + 128; omega
    by_cases c1 : (y 1).val < 128
    · exact ⟨_, .tail _ (.tail _ (.tail _ (.head _))), hm o0 i0 e0.1 (by omega) (by omega)⟩
    by_cases c2 : (y 1).val < 256
    · exact ⟨_, .tail _ (.tail _ (.head _)), hm o1 i1 e1.1 (by omega) (by omega)⟩
    by_cases c3 : (y 1).val < 384
    · exact ⟨_, .tail _ (.head _), hm o2 i2 e2.1 (by omega) (by omega)⟩
    · exact ⟨_, .head _, hm o3 i3 e3.1 (by omega) (by omega)⟩

/-- The last store of the keys' and of the values' gradients: the second block's rows, out of the scratch. -/
theorem piece_dk_last {pay : Vec Ideal S128x512 .bf16} {w : Vec Ideal S128x512 .f32} (hp : pay = k0_pay1 w)
    (hw : w = fun y : S128x512.Idx => ((bdk Q K V G L D B 1 (128 + (y 0).val) (y 1).val : ℝ) : EReal))
    {o : Fin 2 → ℕ} (inb : ∀ a, o a + S128x512.size a ≤ S256x512.size a) (h0 : o 0 = 128) (x : S128x512.Idx) :
    pay x = Gdk Q K V G L D B ((Rect.unit (s := S256x512) o S128x512.size inb).emb x) := by
  rw [hp, hw]
  have h1 : o 1 = 0 := by have h : o 1 + 512 ≤ 512 := inb 1; omega
  show ((bdk Q K V G L D B 1 (128 + (x 0).val) (x 1).val : ℝ) : EReal) = ((cdk Q K V G L D B (o 0 + 1 * (x 0).val) (o 1 + 1 * (x 1).val) : ℝ) : EReal)
  unfold cdk
  rw [h0, h1, if_neg (by omega), Nat.zero_add, Nat.one_mul, Nat.one_mul]

theorem piece_dv_last {pay : Vec Ideal S128x512 .bf16} {w : Vec Ideal S128x512 .f32} (hp : pay = k0_pay1 w)
    (hw : w = fun y : S128x512.Idx => ((bdv Q K G L B 1 (128 + (y 0).val) (y 1).val : ℝ) : EReal))
    {o : Fin 2 → ℕ} (inb : ∀ a, o a + S128x512.size a ≤ S256x512.size a) (h0 : o 0 = 128) (x : S128x512.Idx) :
    pay x = Gdv Q K G L B ((Rect.unit (s := S256x512) o S128x512.size inb).emb x) := by
  rw [hp, hw]
  have h1 : o 1 = 0 := by have h : o 1 + 512 ≤ 512 := inb 1; omega
  show ((bdv Q K G L B 1 (128 + (x 0).val) (x 1).val : ℝ) : EReal) = ((cdv Q K G L B (o 0 + 1 * (x 0).val) (o 1 + 1 * (x 1).val) : ℝ) : EReal)
  unfold cdv
  rw [h0, h1, if_neg (by omega), Nat.zero_add, Nat.one_mul, Nat.one_mul]

theorem db_two
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi)
    (old : Vec Ideal S2x128x256 .f32) (h : Fin 2) (ρ : Fin 128) (j : Fin 256) :
    tDB q kw vw g st bi (tDB q' kw' vw' g' st' bi' old) (ix3 h ρ j)
      = old (ix3 h ρ j) + ((bds Q K V G L D B 0 (2 * p + h.val) ρ.val j.val : ℝ) : EReal)
        + ((bds Q K V G L D B 1 (2 * p + h.val) ρ.val j.val : ℝ) : EReal) := by
  rw [db_real H, db_real H0]
  rfl

/-- A store of two heads of the bias gradient: what was there, block 0's share and block 1's. -/
theorem piece_db
    (H0 : Reals p (row 0 Q) (win 0 K) (win 0 V) (row 0 G) (row 0 L) (row 0 D) (Mb 0) B q' kw' vw' g' st' bi')
    (H : Reals p (row 1 Q) (win 1 K) (win 1 V) (row 1 G) (row 1 L) (row 1 D) (Mb 1) B q kw vw g st bi)
    (old : S8x128x256.Idx → EReal) {oldp pay : Vec Ideal S2x128x256 .f32}
    {o : Fin 3 → ℕ} (inb : ∀ a, o a + S2x128x256.size a ≤ S8x128x256.size a) (h0 : o 0 = 2 * p) (h1 : o 1 = 0) (h2 : o 2 = 0)
    (hold : oldp = View.ld (Val := Elt Ideal) (e' := .f32) old (Rect.unit (s := S8x128x256) o S2x128x256.size inb))
    (hp : pay = tDB q kw vw g st bi (tDB q' kw' vw' g' st' bi' oldp)) (x : S2x128x256.Idx) :
    pay x = Gdb Q K V G L D B old ((Rect.unit (s := S8x128x256) o S2x128x256.size inb).emb x) := by
  rw [hp]
  refine (congrArg (tDB q kw vw g st bi (tDB q' kw' vw' g' st' bi' oldp)) (eq_ix3 (n0 := 2) (n1 := 128) (n2 := 256) x)).trans
    ((db_two H0 H oldp _ _ _).trans ?_)
  rw [hold]
  show _ = old _ + ((bds Q K V G L D B 0 (o 0 + 1 * (x 0).val) (o 1 + 1 * (x 1).val) (o 2 + 1 * (x 2).val) : ℝ) : EReal)
    + ((bds Q K V G L D B 1 (o 0 + 1 * (x 0).val) (o 1 + 1 * (x 1).val) (o 2 + 1 * (x 2).val) : ℝ) : EReal)
  rw [h0, h1, h2]
  simp only [Nat.zero_add, Nat.one_mul]
  refine congrArg₂ (· + ·) (congrArg₂ (· + ·) ?_ rfl) rfl
  exact congrArg (View.ld (Val := Elt Ideal) (e' := .f32) old (Rect.unit (s := S8x128x256) o S2x128x256.size inb)) (eq_ix3 (n0 := 2) (n1 := 128) (n2 := 256) x).symm

/-- The four stores of block 1 cover the bias gradient. -/
theorem cover_db {o3 o2 o1 o0 : Fin 3 → ℕ}
    (i3 : ∀ a, o3 a + S2x128x256.size a ≤ S8x128x256.size a) (i2 : ∀ a, o2 a + S2x128x256.size a ≤ S8x128x256.size a)
    (i1 : ∀ a, o1 a + S2x128x256.size a ≤ S8x128x256.size a) (i0 : ∀ a, o0 a + S2x128x256.size a ≤ S8x128x256.size a)
    {w3 w2 w1 w0 : S2x128x256.Idx → EReal} (e3 : o3 0 = 2 * 3) (e2 : o2 0 = 2 * 2) (e1 : o1 0 = 2 * 1) (e0 : o0 0 = 2 * 0)
    (y : S8x128x256.Idx) :
    ∃ p ∈ ([⟨Rect.unit (s := S8x128x256) o3 S2x128x256.size i3, w3⟩, ⟨Rect.unit (s := S8x128x256) o2 S2x128x256.size i2, w2⟩,
      ⟨Rect.unit (s := S8x128x256) o1 S2x128x256.size i1, w1⟩, ⟨Rect.unit (s := S8x128x256) o0 S2x128x256.size i0, w0⟩] :
        List (View.Piece (Elt Ideal) S8x128x256 .f32)), y ∈ p.1.set := by
  have hy0 : (y 0).val < 8 := (y 0).isLt
  have hy1 : (y 1).val < 128 := (y 1).isLt
  have hy2 : (y 2).val < 256 := (y 2).isLt
  have hm : ∀ (o : Fin 3 → ℕ) (i : ∀ a, o a + S2x128x256.size a ≤ S8x128x256.size a), o 0 ≤ (y 0).val → (y 0).val < o 0 + 2 →
      y ∈ (Rect.unit (s := S8x128x256) o S2x128x256.size i).set := fun o i a1 a2 => by
    have b1 : o 1 + 128 ≤ 128 := i 1
    have b2 : o 2 + 256 ≤ 256 := i 2
    rw [Rect.mem_set_unit]
    intro a
    match a with
    | ⟨0, _⟩ => show o 0 ≤ (y 0).val ∧ (y 0).val < o 0 + 2; omega
    | ⟨1, _⟩ => show o 1 ≤ (y 1).val ∧ (y 1).val < o 1 + 128; omega
    | ⟨2, _⟩ => show o 2 ≤ (y 2).val ∧ (y 2).val < o 2 + 256; omega
  by_cases c1 : (y 0).val < 2
  · exact ⟨_, .tail _ (.tail _ (.tail _ (.head _))), hm o0 i0 (by omega) (by omega)⟩
  by_cases c2 : (y 0).val < 4
  · exact ⟨_, .tail _ (.tail _ (.head _)), hm o1 i1 (by omega) (by omega)⟩
  by_cases c3 : (y 0).val < 6
  · exact ⟨_, .tail _ (.head _), hm o2 i2 (by omega) (by omega)⟩
  · exact ⟨_, .head _, hm o3 i3 (by omega) (by omega)⟩

end Cert.Proof.Band

end
-- ==== Proof.Band.Fwd.lean ====
/- The forward pass of the band in real numbers: the reference's stages up to each class's probabilities, sums and outputs,
   read at an index when the arguments are real. `Z` is the projections' array, `B` the bias. -/
module

public import proofs.«01_k».proof.Proof.Band.Block
public import proofs.«01_k».proof.Proof.Gen.ReferenceIdeal.Read

@[expose] public section

set_option maxRecDepth 16384

noncomputable section

namespace Cert.Proof.Band

open Cert.ReferenceIdeal Cert.ReferenceIdeal.Gen Cert.ReferenceIdeal.Read Idealize.ShloMosaic Idealize.ShloMosaic.TcCoe Idealize.SL.Sem

/-- Class `n`'s rows of an array whose columns of interest start at `o`: every sixteenth row from `n`. -/
def cls (X : ℕ → ℕ → ℝ) (o n : ℕ) (r c : ℕ) : ℝ := X (16 * r + n) (o + c)

/-- Block `b`'s window of an array that has 128 rows of zeros before it. -/
def pad (X : ℕ → ℕ → ℝ) (b j c : ℕ) : ℝ := if 128 * b + j < 128 then 0 else X (128 * b + j - 128) c

theorem pad_eq (X : ℕ → ℕ → ℝ) {b ρ j : ℕ} (hb : b < 2) (hj : j < 256) (h : Mb b ρ j) (c : ℕ) : pad X b j c = win b X j c := by
  have h3 := h.2.2
  obtain rfl | rfl : b = 0 ∨ b = 1 := by omega
  · have := h3 rfl
    rw [pad, if_neg (by omega), win, if_pos rfl]
    congr 1; omega
  · rw [pad, if_neg (by omega), win, if_neg (by omega)]
    congr 1; omega

section Formulas

variable (Z : ℕ → ℕ → ℝ) (B : ℕ → ℕ → ℕ → ℝ)

/-- The logit of class `n`, block `b`. -/
def lg (n b h ρ j : ℕ) : ℝ := rs (row b (cls Z 0 n)) (win b (cls Z 512 n)) B h ρ j

/-- A row of logits has a largest one in the band. -/
theorem exists_max : ∃ mx : ℕ → ℕ → ℕ → ℕ → ℝ, ∀ n b h ρ, b < 2 → ρ < 128 →
    (∃ j : Fin 256, Mb b ρ j.val ∧ lg Z B n b h ρ j.val = mx n b h ρ) ∧ ∀ j : Fin 256, Mb b ρ j.val → lg Z B n b h ρ j.val ≤ mx n b h ρ := by
  have key : ∀ n b h ρ, ∃ M : ℝ, b < 2 → ρ < 128 →
      (∃ j : Fin 256, Mb b ρ j.val ∧ lg Z B n b h ρ j.val = M) ∧ ∀ j : Fin 256, Mb b ρ j.val → lg Z B n b h ρ j.val ≤ M := by
    intro n b h ρ
    by_cases hρ : ρ < 128
    · obtain ⟨j, hj, hm⟩ := Finset.exists_max_image (Finset.univ.filter fun j : Fin 256 => Mb b ρ j.val) (fun j => lg Z B n b h ρ j.val)
        ⟨⟨ρ + 128, by omega⟩, Finset.mem_filter.mpr ⟨Finset.mem_univ _, by
          refine ⟨?_, ?_, ?_⟩
          · show ρ ≤ ρ + 128; omega
          · show ρ + 128 ≤ ρ + 128; omega
          · intro _; show 128 ≤ ρ + 128; omega⟩⟩
      exact ⟨lg Z B n b h ρ j.val, fun _ _ => ⟨⟨j, (Finset.mem_filter.mp hj).2, rfl⟩,
        fun k hk => hm k (Finset.mem_filter.mpr ⟨Finset.mem_univ _, hk⟩)⟩⟩
    · exact ⟨0, fun _ h => absurd h hρ⟩
  exact ⟨fun n b h ρ => (key n b h ρ).choose, fun n b h ρ => (key n b h ρ).choose_spec⟩

/-- That largest logit; the exponentials taken from it, their sum, and the values weighted by them. -/
def mx : ℕ → ℕ → ℕ → ℕ → ℝ := (exists_max Z B).choose
theorem mx_spec (n b h ρ : ℕ) (hb : b < 2) (hρ : ρ < 128) :
    (∃ j : Fin 256, Mb b ρ j.val ∧ lg Z B n b h ρ j.val = mx Z B n b h ρ) ∧ ∀ j : Fin 256, Mb b ρ j.val → lg Z B n b h ρ j.val ≤ mx Z B n b h ρ :=
  (exists_max Z B).choose_spec n b h ρ hb hρ
def ex (n b h ρ j : ℕ) : ℝ := if Mb b ρ j then Real.exp (lg Z B n b h ρ j - mx Z B n b h ρ) else 0
def sx (n b h ρ : ℕ) : ℝ := ∑ j : Fin 256, ex Z B n b h ρ j.val
def ox (n b h ρ d : ℕ) : ℝ := ∑ j : Fin 256, pad (cls Z 1024 n) b j.val (64 * h + d) * ex Z B n b h ρ j.val

theorem ex_nonneg (n b h ρ j : ℕ) : 0 ≤ ex Z B n b h ρ j := by
  unfold ex; split
  · exact (Real.exp_pos _).le
  · exact le_rfl

theorem sx_pos (n b h ρ : ℕ) (hb : b < 2) (hρ : ρ < 128) : 0 < sx Z B n b h ρ := by
  obtain ⟨⟨j, hj, _⟩, _⟩ := mx_spec Z B n b h ρ hb hρ
  refine Finset.sum_pos' (fun k _ => ex_nonneg Z B n b h ρ k.val) ⟨j, Finset.mem_univ _, ?_⟩
  rw [ex, if_pos hj]; exact Real.exp_pos _

end Formulas

/-! ## The stages -/

section

variable {Z : ℕ → ℕ → ℝ} {x0 : FVec Ideal S4096x1536 .f32}
variable (hz : ∀ i, x0 i = ((Z (i 0).val (i 1).val : ℝ) : EReal))
include hz

theorem v5_real (i : S16x256x8x64.Idx) : val_main_v5 (F := Ideal) x0 i
    = ((cls Z 0 (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v5_apply, val_main_v4_apply, val_main_v3_apply, val_main_v0_apply, hz]
  refine congrArg _ (congrArg₂ Z ?_ ?_) <;> dsimp only [idx_main_v5, idx_main_v4, idx_main_v3, idx_main_v0] <;> omega

theorem v8_real (i : S16x256x8x64.Idx) : val_main_v8 (F := Ideal) x0 i
    = ((cls Z 512 (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v8_apply, val_main_v7_apply, val_main_v6_apply, val_main_v1_apply, hz]
  refine congrArg _ (congrArg₂ Z ?_ ?_) <;> dsimp only [idx_main_v8, idx_main_v7, idx_main_v6, idx_main_v1] <;> omega

theorem v11_real (i : S16x256x8x64.Idx) : val_main_v11 (F := Ideal) x0 i
    = ((cls Z 1024 (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v11_apply, val_main_v10_apply, val_main_v9_apply, val_main_v2_apply, hz]
  refine congrArg _ (congrArg₂ Z ?_ ?_) <;> dsimp only [idx_main_v11, idx_main_v10, idx_main_v9, idx_main_v2] <;> omega

omit hz in
theorem v12_zero (i : S16x128x8x64.Idx) : val_main_v12 (F := Ideal) i = ((0 : ℝ) : EReal) := by
  rw [val_main_v12_apply, val_main_cst_apply]
  exact Ideal.ofBits_zero_f32

theorem v13_real (i : S16x384x8x64.Idx) : val_main_v13 (F := Ideal) x0 i
    = ((if (i 1).val < 128 then 0 else cls Z 512 (i 0).val ((i 1).val - 128) (64 * (i 2).val + (i 3).val) : ℝ) : EReal) := by
  pointwise [val_main_v13]
  split
  · exact v12_zero _
  · exact v8_real hz _

theorem v15_real (i : S16x384x8x64.Idx) : val_main_v15 (F := Ideal) x0 i
    = ((if (i 1).val < 128 then 0 else cls Z 1024 (i 0).val ((i 1).val - 128) (64 * (i 2).val + (i 3).val) : ℝ) : EReal) := by
  pointwise [val_main_v15]
  split
  · exact v12_zero _
  · exact v11_real hz _

theorem v21_real (i : S16x2x256x8x64.Idx) : val_main_v21 (F := Ideal) x0 i
    = ((pad (cls Z 512 (i 0).val) (i 1).val (i 2).val (64 * (i 3).val + (i 4).val) : ℝ) : EReal) := by
  have h1 : (i 1).val < 2 := (i 1).isLt
  have h2 : (i 2).val < 256 := (i 2).isLt
  pointwise [val_main_v21]
  split
  · rename_i h
    refine (val_main_v19_apply _ _).trans ((val_main_v17_apply _ _).trans ((v13_real hz _).trans (congrArg _ ?_)))
    have e : 128 * (i 1).val + (i 2).val = (i 2).val := by omega
    unfold pad
    rw [e]; rfl
  · rename_i h
    refine (val_main_v20_apply _ _).trans ((val_main_v18_apply _ _).trans ((v13_real hz _).trans (congrArg _ ?_)))
    have e : 128 * (i 1).val + (i 2).val = 128 + (i 2).val := by omega
    unfold pad
    rw [e]; rfl

theorem v26_real (i : S16x2x256x8x64.Idx) : val_main_v26 (F := Ideal) x0 i
    = ((pad (cls Z 1024 (i 0).val) (i 1).val (i 2).val (64 * (i 3).val + (i 4).val) : ℝ) : EReal) := by
  have h1 : (i 1).val < 2 := (i 1).isLt
  have h2 : (i 2).val < 256 := (i 2).isLt
  pointwise [val_main_v26]
  split
  · rename_i h
    refine (val_main_v24_apply _ _).trans ((val_main_v22_apply _ _).trans ((v15_real hz _).trans (congrArg _ ?_)))
    have e : 128 * (i 1).val + (i 2).val = (i 2).val := by omega
    unfold pad
    rw [e]; rfl
  · rename_i h
    refine (val_main_v25_apply _ _).trans ((val_main_v23_apply _ _).trans ((v15_real hz _).trans (congrArg _ ?_)))
    have e : 128 * (i 1).val + (i 2).val = 128 + (i 2).val := by omega
    unfold pad
    rw [e]; rfl

theorem v27_real (i : S16x2x128x8x64.Idx) : val_main_v27 (F := Ideal) x0 i
    = ((cls Z 0 (i 0).val (128 * (i 1).val + (i 2).val) (64 * (i 3).val + (i 4).val) : ℝ) : EReal) := by
  have h0 : (i 0).val < 16 := (i 0).isLt
  have h1 : (i 1).val < 2 := (i 1).isLt
  have h2 : (i 2).val < 128 := (i 2).isLt
  have h3 : (i 3).val < 8 := (i 3).isLt
  have h4 : (i 4).val < 64 := (i 4).isLt
  rw [val_main_v27_apply, v5_real hz]
  refine congrArg _ (congrArg₂ Z ?_ ?_) <;> dsimp only [idx_main_v27] <;> omega

theorem v30_real (i : S16x2x8x128x256.Idx) : val_main_v30 (F := Ideal) x0 i
    = (((∑ d : Fin 64, cls Z 0 (i 0).val (128 * (i 1).val + (i 3).val) (64 * (i 2).val + d.val)
        * pad (cls Z 512 (i 0).val) (i 1).val (i 4).val (64 * (i 2).val + d.val)) * (1 / 8) : ℝ) : EReal) := by
  rw [val_main_v30_apply, val_main_v29_apply, val_main_cst_2_apply, val_main_v28_apply]
  refine (congrArg₂ (· * ·) ((Finset.sum_congr rfl fun k _ => congrArg₂ (· * ·) (v27_real hz _) (v21_real hz _)).trans ?_) eighth_f32).trans
    (EReal.coe_mul _ _).symm
  simp only [← EReal.coe_mul]
  exact coe_sum _ _

end

/-! ## The band's mask -/

theorem ofNat_toInt {a : ℕ} (ha : a < 1024) : (BitVec.ofNat 32 a).toInt = a := by
  rw [BitVec.toInt_eq_toNat_of_lt] <;> rw [BitVec.toNat_ofNat, Nat.mod_eq_of_lt (by omega)]
  omega

theorem rel_toInt {a j : ℕ} (ha : a < 1024) (hj : j < 1024) :
    (IntOp.subi (IntOp.addi (BitVec.ofNat 32 a) 128#32) (BitVec.ofNat 32 j)).toInt = (a : ℤ) + 128 - j := by
  show (BitVec.ofNat 32 a + 128#32 - BitVec.ofNat 32 j).toInt = _
  rw [BitVec.toInt_sub, BitVec.toInt_add, ofNat_toInt ha, ofNat_toInt hj, ofNat_toInt (by norm_num)]
  simp only [Int.bmod]
  omega

theorem key_toInt {b j : ℕ} (hb : b < 8) (hj : j < 1024) :
    (IntOp.subi (IntOp.addi (IntOp.muli (BitVec.ofNat 32 b) 128#32) (BitVec.ofNat 32 j)) 128#32).toInt = 128 * (b : ℤ) + j - 128 := by
  show (BitVec.ofNat 32 b * 128#32 + BitVec.ofNat 32 j - 128#32).toInt = _
  rw [BitVec.toInt_sub, BitVec.toInt_add, BitVec.toInt_mul, ofNat_toInt (by omega), ofNat_toInt hj, ofNat_toInt (by norm_num)]
  simp only [Int.bmod]
  omega

theorem band_bit {w : BitVec 32} {a j : ℕ} (e : w.toInt = (a : ℤ) + 128 - j) :
    IntOp.andi (IntOp.cmpi .sge w 0#32) (IntOp.cmpi .sle w 128#32) = if a ≤ j ∧ j ≤ a + 128 then 1#1 else 0#1 := by
  simp only [IntOp.cmpi, BitVec.sle, e, show (0#32 : BitVec 32).toInt = 0 from rfl, show (128#32 : BitVec 32).toInt = 128 from rfl]
  by_cases h1 : j ≤ a + 128 <;> by_cases h2 : a ≤ j
  · rw [decide_eq_true (by omega), decide_eq_true (by omega), if_pos (by omega)]; rfl
  · rw [decide_eq_true (by omega), decide_eq_false (by omega), if_neg (by omega)]; rfl
  · rw [decide_eq_false (by omega), decide_eq_true (by omega), if_neg (by omega)]; rfl
  · rw [decide_eq_false (by omega), decide_eq_false (by omega), if_neg (by omega)]; rfl

theorem key_bit {w : BitVec 32} {b j : ℕ} (e : w.toInt = 128 * (b : ℤ) + j - 128) :
    IntOp.cmpi .sge w 0#32 = if 128 ≤ 128 * b + j then 1#1 else 0#1 := by
  simp only [IntOp.cmpi, BitVec.sle, e, show (0#32 : BitVec 32).toInt = 0 from rfl]
  by_cases h1 : 128 ≤ 128 * b + j
  · rw [decide_eq_true (by omega), if_pos h1]; rfl
  · rw [decide_eq_false (by omega), if_neg h1]; rfl

theorem v44_bit (i : S128x256.Idx) : val_main_v44 (F := Ideal) i = if (i 0).val ≤ (i 1).val ∧ (i 1).val ≤ (i 0).val + 128 then 1#1 else 0#1 := by
  have h0 : (i 0).val < 128 := (i 0).isLt
  have h1 : (i 1).val < 256 := (i 1).isLt
  rw [val_main_v44_apply, val_main_v41_apply, val_main_v43_apply, val_main_v39_apply, val_main_v37_apply, val_main_v38_apply,
    val_main_v34_apply, val_main_v36_apply, val_main_v32_apply, val_main_v33_apply, val_main_v31_apply, val_main_v35_apply,
    val_main_v40_apply, val_main_v42_apply, val_main_c_apply, val_main_c_3_apply, val_main_c_4_apply]
  exact band_bit (rel_toInt (a := (i 0).val) (j := (i 1).val) (by omega) (by omega))

theorem v58_bit (i : S2x256.Idx) : val_main_v58 (F := Ideal) i = if 128 ≤ 128 * (i 0).val + (i 1).val then 1#1 else 0#1 := by
  have h0 : (i 0).val < 2 := (i 0).isLt
  have h1 : (i 1).val < 256 := (i 1).isLt
  rw [val_main_v58_apply, val_main_v55_apply, val_main_v53_apply, val_main_v51_apply, val_main_v52_apply,
    val_main_v48_apply, val_main_v46_apply, val_main_v45_apply, val_main_v47_apply, val_main_v50_apply, val_main_v49_apply,
    val_main_v54_apply, val_main_v57_apply, val_main_c_5_apply, val_main_c_6_apply, val_main_c_7_apply]
  exact key_bit (key_toInt (b := (i 0).val) (j := (i 1).val) (by omega) (by omega))

theorem mask_bit (i : S16x2x8x128x256.Idx) : val_main_v67_1 (F := Ideal) i = if Mb (i 1).val (i 3).val (i 4).val then 1#1 else 0#1 := by
  have h1 : (i 1).val < 2 := (i 1).isLt
  rw [val_main_v67_1_apply, val_main_v63_apply, val_main_v62_apply, val_main_v60_apply, val_main_v56_apply, v44_bit,
    val_main_v61_apply, val_main_v59_apply, v58_bit]
  show IntOp.andi (if (i 3).val ≤ (i 4).val ∧ (i 4).val ≤ (i 3).val + 128 then 1#1 else 0#1)
    (if 128 ≤ 128 * (i 1).val + (i 4).val then 1#1 else 0#1) = _
  by_cases ha : (i 3).val ≤ (i 4).val ∧ (i 4).val ≤ (i 3).val + 128 <;> by_cases hb : 128 ≤ 128 * (i 1).val + (i 4).val
  · rw [if_pos ha, if_pos hb, if_pos ⟨ha.1, ha.2, fun _ => by omega⟩]; rfl
  · rw [if_pos ha, if_neg hb, if_neg fun h => hb (by have := h.2.2; omega)]; rfl
  · rw [if_neg ha, if_neg fun h : Mb _ _ _ => ha ⟨h.1, h.2.1⟩]; split <;> rfl
  · rw [if_neg ha, if_neg fun h : Mb _ _ _ => ha ⟨h.1, h.2.1⟩]; split <;> rfl

/-! ## Probabilities, sums and outputs of each block -/

section

variable {Z : ℕ → ℕ → ℝ} {B : ℕ → ℕ → ℕ → ℝ} {x0 : FVec Ideal S4096x1536 .f32} {x2 : FVec Ideal S8x128x256 .f32}
variable (hz : ∀ i, x0 i = ((Z (i 0).val (i 1).val : ℝ) : EReal)) (hb : ∀ i, x2 i = ((B (i 0).val (i 1).val (i 2).val : ℝ) : EReal))
include hz hb

theorem logit_real (i : S16x2x8x128x256.Idx) : val_main_v67_0 (F := Ideal) x0 x2 i
    = if Mb (i 1).val (i 3).val (i 4).val then ((lg Z B (i 0).val (i 1).val (i 2).val (i 3).val (i 4).val : ℝ) : EReal) else ⊥ := by
  have h1 : (i 1).val < 2 := (i 1).isLt
  have h4 : (i 4).val < 256 := (i 4).isLt
  rw [val_main_v67_0_apply, mask_bit]
  refine (select_ite _ _ _).trans ?_
  by_cases h : Mb (i 1).val (i 3).val (i 4).val
  · rw [if_pos h, if_pos h, val_main_v66_apply, val_main_v65_apply, val_main_v64_apply, v30_real hz, hb]
    refine (EReal.coe_add _ _).symm.trans (congrArg _ (congrArg₂ (· + ·) ?_ rfl))
    rw [Finset.sum_mul]
    refine Finset.sum_congr rfl fun d _ => ?_
    rw [pad_eq _ h1 h4 h]
    show _ * _ * (1 / 8) = _ * (1 / 8) * _
    simp only [row]
    ring
  · rw [if_neg h, if_neg h, val_main_call0_v2_apply, val_main_call0_v0_apply, val_main_cst_8_apply]
    exact negInf_f32

theorem max_real (i : S16x2x8x128.Idx) : val_main_v68 (F := Ideal) x0 x2 i
    = ((mx Z B (i 0).val (i 1).val (i 2).val (i 3).val : ℝ) : EReal) := by
  obtain ⟨⟨j, hj, ej⟩, hle⟩ := mx_spec Z B (i 0).val (i 1).val (i 2).val (i 3).val (i 1).isLt (i 3).isLt
  pointwise [val_main_v68]
  refine (congrArg (fun v => Finset.fold max v _ _) ((val_main_cst_9_apply _).trans negInf_f32)).trans (fold_max_eq _ _ (fun k => ?_) j ?_)
  · refine (logit_real hz hb _).le.trans ?_
    split
    · rename_i h
      exact EReal.coe_le_coe_iff.mpr (hle k h)
    · exact bot_le
  · refine (logit_real hz hb _).trans ((if_pos hj).trans ?_)
    exact congrArg _ ej

theorem ex_real (i : S16x2x8x128x256.Idx) : val_main_v77 (F := Ideal) x0 x2 i
    = ((ex Z B (i 0).val (i 1).val (i 2).val (i 3).val (i 4).val : ℝ) : EReal) := by
  rw [val_main_v77_apply, val_main_v76_apply, logit_real hz hb, val_main_v75_apply, val_main_v74_apply, max_real hz hb]
  unfold ex
  by_cases h : Mb (i 1).val (i 3).val (i 4).val
  · rw [if_pos h, if_pos h]
    refine (congrArg Ideal.exp (EReal.coe_sub _ _).symm).trans (Ideal.exp_coe _)
  · rw [if_neg h, if_neg h]
    refine (congrArg Ideal.exp (EReal.bot_sub ((mx Z B (i 0).val (i 1).val (i 2).val (i 3).val : ℝ) : EReal))).trans Ideal.exp_bot

theorem sum_real (i : S16x2x8x128.Idx) : val_main_v78 (F := Ideal) x0 x2 i
    = ((sx Z B (i 0).val (i 1).val (i 2).val (i 3).val : ℝ) : EReal) := by
  rw [val_main_v78_apply, val_main_cst_11_apply]
  refine (congrArg₂ (· + ·) Ideal.ofBits_zero_f32 ((Finset.sum_congr rfl fun k _ => ex_real hz hb _).trans (coe_sum _ _))).trans (zero_add _)

theorem out_real (i : S16x2x8x64x128.Idx) : val_main_v79 (F := Ideal) x0 x2 i
    = ((ox Z B (i 0).val (i 1).val (i 2).val (i 4).val (i 3).val : ℝ) : EReal) := by
  rw [val_main_v79_apply]
  refine (Finset.sum_congr rfl fun k _ => (congrArg₂ (· * ·) (v26_real hz _) (ex_real hz hb _)).trans (EReal.coe_mul _ _).symm).trans (coe_sum _ _)

end

end Cert.Proof.Band

end
-- ==== Proof.Band.Stat.lean ====
/- The forward pass of the band continued, one token at a time: the band merged with the rest of the attention, and the row
   statistics that the kernel's host computes. `R` collects what is given for the rest: its output, its maximum, its sum. -/
module

public import proofs.«01_k».proof.Proof.Band.Fwd

@[expose] public section

set_option maxRecDepth 16384

noncomputable section

namespace Cert.Proof.Band

open Cert.ReferenceIdeal Cert.ReferenceIdeal.Gen Cert.ReferenceIdeal.Read Idealize.ShloMosaic Idealize.ShloMosaic.TcCoe Idealize.SL.Sem

theorem congr4 {α : Type} (f : ℕ → ℕ → ℕ → ℕ → α) {a a' b b' c c' d d' : ℕ} (ha : a = a') (hb : b = b') (hc : c = c') (hd : d = d') :
    f a b c d = f a' b' c' d' := by subst ha hb hc hd; rfl
theorem congr5 {α : Type} (f : ℕ → ℕ → ℕ → ℕ → ℕ → α) {a a' b b' c c' d d' e e' : ℕ} (ha : a = a') (hb : b = b') (hc : c = c') (hd : d = d')
    (he : e = e') : f a b c d e = f a' b' c' d' e' := by subst ha hb hc hd he; rfl

/-- The arguments as real numbers: projections, output gradient, bias, and the rest's output, maximum and sum. -/
structure Args where
  (Z DO : ℕ → ℕ → ℝ) (B : ℕ → ℕ → ℕ → ℝ) (OR MR SR : ℕ → ℕ → ℝ)
  sr : ∀ t h, 0 ≤ SR t h

namespace Args

variable (A : Args)

/-- Token `t`'s band: its maximum, its sum and its weighted values. Token `t` is row `t / 16` of class `t % 16`. -/
def mT (t h : ℕ) : ℝ := mx A.Z A.B (t % 16) (t / 16 / 128) h (t / 16 % 128)
def sT (t h : ℕ) : ℝ := sx A.Z A.B (t % 16) (t / 16 / 128) h (t / 16 % 128)
def oT (t h d : ℕ) : ℝ := ox A.Z A.B (t % 16) (t / 16 / 128) h (t / 16 % 128) d
/-- The two parts merged. -/
def mA (t h : ℕ) : ℝ := max (A.mT t h) (A.MR t h)
def w1 (t h : ℕ) : ℝ := Real.exp (A.mT t h - A.mA t h)
def w2 (t h : ℕ) : ℝ := Real.exp (A.MR t h - A.mA t h)
def num (t h d : ℕ) : ℝ := A.w1 t h * A.oT t h d + A.w2 t h * A.OR t (64 * h + d)
def den (t h : ℕ) : ℝ := A.w1 t h * A.sT t h + A.w2 t h * A.SR t h
/-- The row statistics: the logarithm of the whole sum of exponentials, and the output times its gradient. -/
def L (t h : ℕ) : ℝ := A.mA t h + Real.log (A.den t h)
def D (t h : ℕ) : ℝ := ∑ d : Fin 64, A.DO t (64 * h + d.val) * (A.num t h d.val / A.den t h)

theorem den_pos (t h : ℕ) (ht : t < 4096) : 0 < A.den t h :=
  add_pos_of_pos_of_nonneg (mul_pos (Real.exp_pos _) (sx_pos _ _ _ _ _ _ (by omega) (by omega)))
    (mul_nonneg (Real.exp_pos _).le (A.sr t h))

/-- The program's arrays hold those numbers. -/
structure Of (x0 : FVec Ideal S4096x1536 .f32) (x1 : FVec Ideal S4096x512 .f32) (x2 : FVec Ideal S8x128x256 .f32)
    (x3 : FVec Ideal S4096x512 .f32) (x4 x5 : FVec Ideal S4096x8 .f32) : Prop where
  z : ∀ i, x0 i = ((A.Z (i 0).val (i 1).val : ℝ) : EReal)
  g : ∀ i, x1 i = ((A.DO (i 0).val (i 1).val : ℝ) : EReal)
  b : ∀ i, x2 i = ((A.B (i 0).val (i 1).val (i 2).val : ℝ) : EReal)
  o : ∀ i, x3 i = ((A.OR (i 0).val (i 1).val : ℝ) : EReal)
  m : ∀ i, x4 i = ((A.MR (i 0).val (i 1).val : ℝ) : EReal)
  s : ∀ i, x5 i = ((A.SR (i 0).val (i 1).val : ℝ) : EReal)

variable {A}
variable {x0 : FVec Ideal S4096x1536 .f32} {x1 : FVec Ideal S4096x512 .f32} {x2 : FVec Ideal S8x128x256 .f32}
    {x3 : FVec Ideal S4096x512 .f32} {x4 x5 : FVec Ideal S4096x8 .f32}

namespace Of

variable (H : A.Of x0 x1 x2 x3 x4 x5)
include H

theorem v81 (i : S16x256x8x64.Idx) : val_main_v81 (F := Ideal) x0 x2 i
    = ((ox A.Z A.B (i 0).val ((i 1).val / 128) (i 2).val ((i 1).val % 128) (i 3).val : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v81_apply, val_main_v80_apply, out_real H.z H.b]
  refine congrArg _ (congr5 _ ?_ ?_ ?_ ?_ ?_) <;> dsimp only [idx_main_v81, idx_main_v80] <;> omega

theorem v83 (i : S16x256x8.Idx) : val_main_v83 (F := Ideal) x0 x2 i
    = ((mx A.Z A.B (i 0).val ((i 1).val / 128) (i 2).val ((i 1).val % 128) : ℝ) : EReal) := by
  have h0 : (i 0).val < 16 := (i 0).isLt
  have h1 : (i 1).val < 256 := (i 1).isLt
  have h2 : (i 2).val < 8 := (i 2).isLt
  rw [val_main_v83_apply, val_main_v82_apply, max_real H.z H.b]
  refine congrArg _ (congr4 _ ?_ ?_ ?_ ?_) <;> dsimp only [idx_main_v83, idx_main_v82] <;> omega

theorem v85 (i : S16x256x8.Idx) : val_main_v85 (F := Ideal) x0 x2 i
    = ((sx A.Z A.B (i 0).val ((i 1).val / 128) (i 2).val ((i 1).val % 128) : ℝ) : EReal) := by
  have h0 : (i 0).val < 16 := (i 0).isLt
  have h1 : (i 1).val < 256 := (i 1).isLt
  have h2 : (i 2).val < 8 := (i 2).isLt
  rw [val_main_v85_apply, val_main_v84_apply, sum_real H.z H.b]
  refine congrArg _ (congr4 _ ?_ ?_ ?_ ?_) <;> dsimp only [idx_main_v85, idx_main_v84] <;> omega

theorem v87 (i : S4096x8x64.Idx) : val_main_v87 (F := Ideal) x0 x2 i = ((A.oT (i 0).val (i 1).val (i 2).val : ℝ) : EReal) := by
  have h0 : (i 0).val < 4096 := (i 0).isLt
  have h1 : (i 1).val < 8 := (i 1).isLt
  have h2 : (i 2).val < 64 := (i 2).isLt
  rw [val_main_v87_apply, val_main_v86_apply, H.v81]
  refine congrArg _ (congr5 _ ?_ ?_ ?_ ?_ ?_) <;> dsimp only [idx_main_v87, idx_main_v86] <;> omega

theorem v89 (i : S4096x8.Idx) : val_main_v89 (F := Ideal) x0 x2 i = ((A.mT (i 0).val (i 1).val : ℝ) : EReal) := by
  have h0 : (i 0).val < 4096 := (i 0).isLt
  have h1 : (i 1).val < 8 := (i 1).isLt
  rw [val_main_v89_apply, val_main_v88_apply, H.v83]
  refine congrArg _ (congr4 _ ?_ ?_ ?_ ?_) <;> dsimp only [idx_main_v89, idx_main_v88] <;> omega

theorem v91 (i : S4096x8.Idx) : val_main_v91 (F := Ideal) x0 x2 i = ((A.sT (i 0).val (i 1).val : ℝ) : EReal) := by
  have h0 : (i 0).val < 4096 := (i 0).isLt
  have h1 : (i 1).val < 8 := (i 1).isLt
  rw [val_main_v91_apply, val_main_v90_apply, H.v85]
  refine congrArg _ (congr4 _ ?_ ?_ ?_ ?_) <;> dsimp only [idx_main_v91, idx_main_v90] <;> omega

theorem v92 (i : S4096x8.Idx) : val_main_v92 (F := Ideal) x0 x2 x4 i = ((A.mA (i 0).val (i 1).val : ℝ) : EReal) := by
  rw [val_main_v92_apply, H.v89, H.m]
  exact (EReal.coe_strictMono.monotone.map_max).symm

theorem v101 (i : S4096x8.Idx) : val_main_v101 (F := Ideal) x0 x2 x4 i = ((A.w1 (i 0).val (i 1).val : ℝ) : EReal) := by
  rw [val_main_v101_apply, val_main_v100_apply, H.v89, H.v92]
  exact (congrArg Ideal.exp (EReal.coe_sub _ _).symm).trans (Ideal.exp_coe _)

theorem v103 (i : S4096x8.Idx) : val_main_v103 (F := Ideal) x0 x2 x4 i = ((A.w2 (i 0).val (i 1).val : ℝ) : EReal) := by
  rw [val_main_v103_apply, val_main_v102_apply, H.m, H.v92]
  exact (congrArg Ideal.exp (EReal.coe_sub _ _).symm).trans (Ideal.exp_coe _)

theorem v108 (i : S4096x8x64.Idx) : val_main_v108 (F := Ideal) x3 i = ((A.OR (i 0).val (64 * (i 1).val + (i 2).val) : ℝ) : EReal) := by
  have h0 : (i 0).val < 4096 := (i 0).isLt
  have h1 : (i 1).val < 8 := (i 1).isLt
  have h2 : (i 2).val < 64 := (i 2).isLt
  rw [val_main_v108_apply, H.o]
  refine congrArg _ (congrArg₂ A.OR ?_ ?_) <;> dsimp only [idx_main_v108] <;> omega

theorem v122 (i : S4096x8x64.Idx) : val_main_v122 (F := Ideal) x1 i = ((A.DO (i 0).val (64 * (i 1).val + (i 2).val) : ℝ) : EReal) := by
  have h0 : (i 0).val < 4096 := (i 0).isLt
  have h1 : (i 1).val < 8 := (i 1).isLt
  have h2 : (i 2).val < 64 := (i 2).isLt
  rw [val_main_v122_apply, H.g]
  refine congrArg _ (congrArg₂ A.DO ?_ ?_) <;> dsimp only [idx_main_v122] <;> omega

theorem v111 (i : S4096x8x64.Idx) : val_main_v111 (F := Ideal) x0 x2 x3 x4 i = ((A.num (i 0).val (i 1).val (i 2).val : ℝ) : EReal) := by
  rw [val_main_v111_apply, val_main_v106_apply, val_main_v110_apply, val_main_v105_apply, val_main_v104_apply, val_main_v109_apply,
    val_main_v107_apply, H.v101, H.v103, H.v87, H.v108]
  unfold num
  rw [EReal.coe_add, EReal.coe_mul, EReal.coe_mul]
  rfl

theorem v114 (i : S4096x8.Idx) : val_main_v114 (F := Ideal) x0 x2 x4 x5 i = ((A.den (i 0).val (i 1).val : ℝ) : EReal) := by
  rw [val_main_v114_apply, val_main_v112_apply, val_main_v113_apply, H.v101, H.v103, H.v91, H.s]
  unfold den
  rw [EReal.coe_add, EReal.coe_mul, EReal.coe_mul]
  rfl

theorem den_ne (t h : ℕ) (ht : t < 4096) : A.den t h ≠ 0 := (A.den_pos t h ht).ne'

theorem v117 (i : S4096x8x64.Idx) : val_main_v117 (F := Ideal) x0 x2 x3 x4 x5 i
    = ((A.num (i 0).val (i 1).val (i 2).val / A.den (i 0).val (i 1).val : ℝ) : EReal) := by
  rw [val_main_v117_apply, H.v111, val_main_v116_apply, val_main_v115_apply, H.v114]
  refine (Ideal.div_coe (H.den_ne _ _ (i 0).isLt) _).trans ((EReal.coe_mul _ _).symm.trans (congrArg _ ?_))
  exact mul_one_div _ _

end Of

end Args

end Cert.Proof.Band

end
-- ==== Proof.Band.Grad.lean ====
/- The reference's backward pass of the band in real numbers, up to the gradient at the logits: the path through the row
   maximum cancels, and what is left is the probability times (the gradient at it less the row's `D`). -/
module

public import proofs.«01_k».proof.Proof.Band.Stat

@[expose] public section

set_option maxRecDepth 16384

noncomputable section

namespace Cert.Proof.Band

open Cert.ReferenceIdeal Cert.ReferenceIdeal.Gen Cert.ReferenceIdeal.Read Idealize.ShloMosaic Idealize.ShloMosaic.TcCoe Idealize.SL.Sem

theorem congr3 {α : Type} (f : ℕ → ℕ → ℕ → α) {a a' b b' c c' : ℕ} (ha : a = a') (hb : b = b') (hc : c = c') :
    f a b c = f a' b' c' := by subst ha hb hc; rfl

namespace Args

variable (A : Args)

/-- Row `ρ` of class `n`'s block `b` as a token. -/
def tk (n b ρ : ℕ) : ℕ := 16 * (128 * b + ρ) + n

/-- The gradients at a token's merged values, at its sum, and at its band's maximum through the exponentials. -/
def cn (t h d : ℕ) : ℝ := A.DO t (64 * h + d) / A.den t h
def cs (t h : ℕ) : ℝ := -∑ d : Fin 64, A.DO t (64 * h + d.val) * (1 / (A.den t h * A.den t h)) * A.num t h d.val
def ms (t h : ℕ) : ℝ := (A.cs t h * A.sT t h + ∑ d : Fin 64, A.cn t h d.val * A.oT t h d.val) * A.w1 t h
def mr (t h : ℕ) : ℝ := (A.cs t h * A.SR t h + ∑ d : Fin 64, A.cn t h d.val * A.OR t (64 * h + d.val)) * A.w2 t h

/-- The gradient at the merged maximum is zero. -/
theorem max_cancel (t h : ℕ) (ht : t < 4096) : -(A.mr t h) + -(A.ms t h) = 0 := by
  have hd := (A.den_pos t h ht).ne'
  have e1 : ∑ d : Fin 64, A.cn t h d.val * A.num t h d.val
      = (∑ d : Fin 64, A.cn t h d.val * A.oT t h d.val) * A.w1 t h + (∑ d : Fin 64, A.cn t h d.val * A.OR t (64 * h + d.val)) * A.w2 t h := by
    rw [Finset.sum_mul, Finset.sum_mul, ← Finset.sum_add_distrib]
    refine Finset.sum_congr rfl fun d _ => ?_
    unfold num; ring
  have e2 : A.cs t h * A.den t h = -∑ d : Fin 64, A.cn t h d.val * A.num t h d.val := by
    unfold cs cn
    rw [neg_mul, Finset.sum_mul]
    refine congrArg _ (Finset.sum_congr rfl fun d _ => ?_)
    field_simp
  have e3 : A.cs t h * A.den t h = A.cs t h * A.sT t h * A.w1 t h + A.cs t h * A.SR t h * A.w2 t h := by
    unfold den; ring
  unfold ms mr
  linarith

variable {n b ρ : ℕ} (hn : n < 16) (hb : b < 2) (hρ : ρ < 128)
include hn hb hρ

theorem tk_lt : tk n b ρ < 4096 := by unfold tk; omega
theorem mT_tk (h : ℕ) : A.mT (tk n b ρ) h = mx A.Z A.B n b h ρ := by
  unfold mT tk; exact congr4 _ (by omega) (by omega) rfl (by omega)
theorem sT_tk (h : ℕ) : A.sT (tk n b ρ) h = sx A.Z A.B n b h ρ := by
  unfold sT tk; exact congr4 _ (by omega) (by omega) rfl (by omega)
theorem oT_tk (h d : ℕ) : A.oT (tk n b ρ) h d = ox A.Z A.B n b h ρ d := by
  unfold oT tk; exact congr5 _ (by omega) (by omega) rfl (by omega) rfl
omit hn hb hρ

/-- The probability and the gradient at the logit, as the kernel's body has them. -/
def pr (n b h ρ j : ℕ) : ℝ := rp (row b (cls A.Z 0 n)) (win b (cls A.Z 512 n)) (row b (cls A.L 0 n)) (Mb b) A.B h ρ j
def ds (n b h ρ j : ℕ) : ℝ :=
  bds (cls A.Z 0 n) (cls A.Z 512 n) (cls A.Z 1024 n) (cls A.DO 0 n) (cls A.L 0 n) (cls A.D 0 n) A.B b h ρ j

include hn hb hρ
theorem pr_eq (h j : ℕ) : A.pr n b h ρ j = ex A.Z A.B n b h ρ j * (A.w1 (tk n b ρ) h / A.den (tk n b ρ) h) := by
  have hd := A.den_pos (tk n b ρ) h (tk_lt hn hb hρ)
  unfold pr rp ex
  by_cases hm : Mb b ρ j
  · rw [if_pos hm, if_pos hm]
    show Real.exp (lg A.Z A.B n b h ρ j - A.L (tk n b ρ) (0 + h)) = _
    rw [zero_add]
    unfold L
    rw [show lg A.Z A.B n b h ρ j - (A.mA (tk n b ρ) h + Real.log (A.den (tk n b ρ) h))
      = (lg A.Z A.B n b h ρ j - mx A.Z A.B n b h ρ) + (A.mT (tk n b ρ) h - A.mA (tk n b ρ) h) - Real.log (A.den (tk n b ρ) h) from by
        rw [A.mT_tk hn hb hρ]; ring, Real.exp_sub, Real.exp_add, Real.exp_log hd]
    unfold w1
    rw [mul_div_assoc]
  · rw [if_neg hm, if_neg hm, zero_mul]

/-- The reference's form of the gradient at the logit is the kernel's. -/
theorem ds_eq (h : ℕ) {j : ℕ} (hj : j < 256) :
    (∑ d : Fin 64, A.w1 (tk n b ρ) h * A.cn (tk n b ρ) h d.val * pad (cls A.Z 1024 n) b j (64 * h + d.val)
      + A.w1 (tk n b ρ) h * A.cs (tk n b ρ) h) * ex A.Z A.B n b h ρ j = A.ds n b h ρ j := by
  have hd := (A.den_pos (tk n b ρ) h (tk_lt hn hb hρ)).ne'
  show _ = A.pr n b h ρ j * (∑ d : Fin 64, A.DO (tk n b ρ) (0 + (64 * h + d.val)) * win b (cls A.Z 1024 n) j (64 * h + d.val)
    - A.D (tk n b ρ) (0 + h))
  rw [A.pr_eq hn hb hρ]
  by_cases hm : Mb b ρ j
  · have e1 : ∑ d : Fin 64, A.w1 (tk n b ρ) h * A.cn (tk n b ρ) h d.val * pad (cls A.Z 1024 n) b j (64 * h + d.val)
        = A.w1 (tk n b ρ) h / A.den (tk n b ρ) h * ∑ d : Fin 64, A.DO (tk n b ρ) (0 + (64 * h + d.val)) * win b (cls A.Z 1024 n) j (64 * h + d.val) := by
      rw [Finset.mul_sum]
      refine Finset.sum_congr rfl fun d _ => ?_
      rw [pad_eq _ hb hj hm, zero_add]
      unfold cn
      ring
    have e2 : A.w1 (tk n b ρ) h * A.cs (tk n b ρ) h = -(A.w1 (tk n b ρ) h / A.den (tk n b ρ) h * A.D (tk n b ρ) (0 + h)) := by
      rw [zero_add]
      unfold cs D
      rw [mul_neg, Finset.mul_sum, Finset.mul_sum]
      refine congrArg _ (Finset.sum_congr rfl fun d _ => ?_)
      field_simp
    rw [e1, e2]
    ring
  · rw [show ex A.Z A.B n b h ρ j = 0 from if_neg hm]
    ring

/-- Along a row these gradients add up to the one at the maximum. -/
theorem sum_ds (h : ℕ) : ∑ j : Fin 256, A.ds n b h ρ j.val = A.ms (tk n b ρ) h := by
  rw [Finset.sum_congr rfl fun (j : Fin 256) _ => (A.ds_eq hn hb hρ h j.isLt).symm]
  unfold ms
  rw [A.sT_tk hn hb hρ]
  simp only [A.oT_tk hn hb hρ, add_mul, Finset.sum_add_distrib]
  rw [add_comm]
  refine congrArg₂ (· + ·) ?_ ?_
  · rw [← Finset.mul_sum]
    show _ * sx A.Z A.B n b h ρ = _
    ring
  · simp only [Finset.sum_mul]
    rw [Finset.sum_comm]
    refine Finset.sum_congr rfl fun d _ => ?_
    unfold ox
    rw [Finset.mul_sum, Finset.sum_mul]
    refine Finset.sum_congr rfl fun j _ => ?_
    ring

theorem ds_zero (h j : ℕ) (hm : ¬ Mb b ρ j) : A.ds n b h ρ j = 0 := by
  show A.pr n b h ρ j * _ = 0
  rw [A.pr_eq hn hb hρ, show ex A.Z A.B n b h ρ j = 0 from if_neg hm]
  ring
omit hn hb hρ

variable {A}
variable {x0 : FVec Ideal S4096x1536 .f32} {x1 : FVec Ideal S4096x512 .f32} {x2 : FVec Ideal S8x128x256 .f32}
    {x3 : FVec Ideal S4096x512 .f32} {x4 x5 : FVec Ideal S4096x8 .f32}

namespace Of

variable (H : A.Of x0 x1 x2 x3 x4 x5)
include H

theorem v130 (i : S4096x8x64.Idx) : val_main_v130 (F := Ideal) x0 x1 x2 x4 x5 i = ((A.cn (i 0).val (i 1).val (i 2).val : ℝ) : EReal) := by
  rw [val_main_v130_apply, H.v122, val_main_v129_apply, val_main_v115_apply, H.v114]
  refine (Ideal.div_coe (H.den_ne _ _ (i 0).isLt) _).trans ((EReal.coe_mul _ _).symm.trans (congrArg _ ?_))
  exact mul_one_div _ _

theorem v120 (i : S4096x8x1.Idx) : val_main_v120 (F := Ideal) x0 x2 x4 x5 i
    = ((1 / (A.den (i 0).val (i 1).val * A.den (i 0).val (i 1).val) : ℝ) : EReal) := by
  rw [val_main_v120_apply, val_main_v119_apply, val_main_cst_15_apply, val_main_v118_apply, val_main_v115_apply, H.v114]
  have hd := H.den_ne (i 0).val (i 1).val (i 0).isLt
  refine (congrArg₂ Ideal.div Ideal.ofBits_one_f32 (EReal.coe_mul _ _).symm).trans ((Ideal.div_coe (mul_ne_zero hd hd) _).trans (one_mul _))

theorem v126 (i : S4096x8.Idx) : val_main_v126 (F := Ideal) x0 x1 x2 x3 x4 x5 i = ((-A.cs (i 0).val (i 1).val : ℝ) : EReal) := by
  unfold cs
  rw [val_main_v126_apply, val_main_cst_16_apply, neg_neg]
  refine (congrArg₂ (· + ·) Ideal.ofBits_zero_f32 ((Finset.sum_congr rfl fun k _ => ?_).trans (coe_sum _ _))).trans (zero_add _)
  rw [val_main_v125_apply, val_main_v124_apply, val_main_v123_apply, H.v122, H.v120, H.v111, EReal.coe_mul, EReal.coe_mul]
  rfl

theorem v131 (i : S4096x8.Idx) : val_main_v131 (F := Ideal) x0 x1 x2 x3 x4 x5 i = ((A.cs (i 0).val (i 1).val : ℝ) : EReal) := by
  have h0 : (i 0).val < 4096 := (i 0).isLt
  have h1 : (i 1).val < 8 := (i 1).isLt
  rw [val_main_v131_apply, val_main_cst_17_apply]
  refine (congrArg₂ (· + ·) Ideal.ofBits_zero_f32 (Fin.sum_univ_one _)).trans ((zero_add _).trans ?_)
  rw [val_main_v128_apply, val_main_v127_apply, H.v126]
  refine (EReal.coe_neg _).symm.trans (congrArg _ ((neg_neg _).trans (congrArg₂ A.cs ?_ ?_))) <;>
    dsimp only [idx_main_v127, idx_main_v131] <;> omega

theorem v136 (i : S4096x8.Idx) : val_main_v136 (F := Ideal) x0 x1 x2 x3 x4 x5 i
    = ((∑ d : Fin 64, A.cn (i 0).val (i 1).val d.val * A.OR (i 0).val (64 * (i 1).val + d.val) : ℝ) : EReal) := by
  rw [val_main_v136_apply, val_main_cst_18_apply]
  refine (congrArg₂ (· + ·) Ideal.ofBits_zero_f32 ((Finset.sum_congr rfl fun k _ => ?_).trans (coe_sum _ _))).trans (zero_add _)
  rw [val_main_v135_apply, H.v130, H.v108, EReal.coe_mul]
  rfl

theorem v143 (i : S4096x8.Idx) : val_main_v143 (F := Ideal) x0 x1 x2 x4 x5 i
    = ((∑ d : Fin 64, A.cn (i 0).val (i 1).val d.val * A.oT (i 0).val (i 1).val d.val : ℝ) : EReal) := by
  rw [val_main_v143_apply, val_main_cst_20_apply]
  refine (congrArg₂ (· + ·) Ideal.ofBits_zero_f32 ((Finset.sum_congr rfl fun k _ => ?_).trans (coe_sum _ _))).trans (zero_add _)
  rw [val_main_v142_apply, H.v130, H.v87, EReal.coe_mul]
  rfl

theorem v138 (i : S4096x8.Idx) : val_main_v138 (F := Ideal) x0 x1 x2 x3 x4 x5 i
    = ((∑ d : Fin 64, A.cn (i 0).val (i 1).val d.val * A.OR (i 0).val (64 * (i 1).val + d.val) : ℝ) : EReal) := by
  have h0 : (i 0).val < 4096 := (i 0).isLt
  have h1 : (i 1).val < 8 := (i 1).isLt
  rw [val_main_v138_apply, val_main_cst_19_apply]
  refine (congrArg₂ (· + ·) Ideal.ofBits_zero_f32 (Fin.sum_univ_one _)).trans ((zero_add _).trans ?_)
  rw [val_main_v137_apply, H.v136]
  refine congrArg _ (congrArg₂ (fun t h => ∑ d : Fin 64, A.cn t h d.val * A.OR t (64 * h + d.val)) ?_ ?_) <;>
    dsimp only [idx_main_v137, idx_main_v138] <;> omega

theorem v145 (i : S4096x8.Idx) : val_main_v145 (F := Ideal) x0 x1 x2 x4 x5 i
    = ((∑ d : Fin 64, A.cn (i 0).val (i 1).val d.val * A.oT (i 0).val (i 1).val d.val : ℝ) : EReal) := by
  have h0 : (i 0).val < 4096 := (i 0).isLt
  have h1 : (i 1).val < 8 := (i 1).isLt
  rw [val_main_v145_apply, val_main_cst_21_apply]
  refine (congrArg₂ (· + ·) Ideal.ofBits_zero_f32 (Fin.sum_univ_one _)).trans ((zero_add _).trans ?_)
  rw [val_main_v144_apply, H.v143]
  refine congrArg _ (congrArg₂ (fun t h => ∑ d : Fin 64, A.cn t h d.val * A.oT t h d.val) ?_ ?_) <;>
    dsimp only [idx_main_v144, idx_main_v145] <;> omega

theorem v147 (i : S4096x8.Idx) : val_main_v147 (F := Ideal) x0 x1 x2 x3 x4 x5 i = ((A.mr (i 0).val (i 1).val : ℝ) : EReal) := by
  rw [val_main_v147_apply, val_main_v139_apply, val_main_v132_apply, H.v131, H.s, H.v138, H.v103]
  unfold mr
  rw [EReal.coe_mul, EReal.coe_add, EReal.coe_mul]
  rfl

theorem v149 (i : S4096x8.Idx) : val_main_v149 (F := Ideal) x0 x1 x2 x3 x4 x5 i = ((A.ms (i 0).val (i 1).val : ℝ) : EReal) := by
  rw [val_main_v149_apply, val_main_v146_apply, val_main_v134_apply, H.v131, H.v91, H.v145, H.v101]
  unfold ms
  rw [EReal.coe_mul, EReal.coe_add, EReal.coe_mul]
  rfl

theorem v153 (i : S4096x8.Idx) : val_main_v153 (F := Ideal) x0 x1 x2 x3 x4 x5 i = ((A.ms (i 0).val (i 1).val : ℝ) : EReal) := by
  rw [val_main_v153_apply, val_main_v152_apply, val_main_v151_apply, val_main_v148_apply, val_main_v150_apply, H.v147, H.v149]
  have e : (-((A.mr (i 0).val (i 1).val : ℝ) : EReal)) + (-((A.ms (i 0).val (i 1).val : ℝ) : EReal)) = 0 := by
    rw [← EReal.coe_neg, ← EReal.coe_neg, ← EReal.coe_add, A.max_cancel _ _ (i 0).isLt]
    rfl
  refine (congrArg₂ (· + ·) rfl ((congrArg₂ (· * ·) e rfl).trans (zero_mul _))).trans (add_zero _)

theorem v133 (i : S4096x8.Idx) : val_main_v133 (F := Ideal) x0 x1 x2 x3 x4 x5 i
    = ((A.w1 (i 0).val (i 1).val * A.cs (i 0).val (i 1).val : ℝ) : EReal) := by
  rw [val_main_v133_apply, H.v101, H.v131, EReal.coe_mul]
  rfl

theorem v141 (i : S4096x8x64.Idx) : val_main_v141 (F := Ideal) x0 x1 x2 x4 x5 i
    = ((A.w1 (i 0).val (i 1).val * A.cn (i 0).val (i 1).val (i 2).val : ℝ) : EReal) := by
  rw [val_main_v141_apply, val_main_v140_apply, val_main_v104_apply, H.v101, H.v130, EReal.coe_mul]
  rfl

theorem v155 (i : S16x256x8.Idx) : val_main_v155 (F := Ideal) x0 x1 x2 x3 x4 x5 i
    = ((A.w1 (16 * (i 1).val + (i 0).val) (i 2).val * A.cs (16 * (i 1).val + (i 0).val) (i 2).val : ℝ) : EReal) := by
  have h0 : (i 0).val < 16 := (i 0).isLt
  have h1 : (i 1).val < 256 := (i 1).isLt
  have h2 : (i 2).val < 8 := (i 2).isLt
  rw [val_main_v155_apply, val_main_v154_apply, H.v133]
  refine congrArg _ (congrArg₂ (fun t h => A.w1 t h * A.cs t h) ?_ ?_) <;> dsimp only [idx_main_v155, idx_main_v154] <;> omega

theorem v157 (i : S16x256x8.Idx) : val_main_v157 (F := Ideal) x0 x1 x2 x3 x4 x5 i
    = ((A.ms (16 * (i 1).val + (i 0).val) (i 2).val : ℝ) : EReal) := by
  have h0 : (i 0).val < 16 := (i 0).isLt
  have h1 : (i 1).val < 256 := (i 1).isLt
  have h2 : (i 2).val < 8 := (i 2).isLt
  rw [val_main_v157_apply, val_main_v156_apply, H.v153]
  refine congrArg _ (congrArg₂ A.ms ?_ ?_) <;> dsimp only [idx_main_v157, idx_main_v156] <;> omega

theorem v159 (i : S16x256x8x64.Idx) : val_main_v159 (F := Ideal) x0 x1 x2 x4 x5 i
    = ((A.w1 (16 * (i 1).val + (i 0).val) (i 2).val * A.cn (16 * (i 1).val + (i 0).val) (i 2).val (i 3).val : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v159_apply, val_main_v158_apply, H.v141]
  refine congrArg _ (congr3 (fun t h d => A.w1 t h * A.cn t h d) ?_ ?_ ?_) <;> dsimp only [idx_main_v159, idx_main_v158] <;> omega

theorem v161 (i : S16x2x8x128.Idx) : val_main_v161 (F := Ideal) x0 x1 x2 x3 x4 x5 i
    = ((A.w1 (tk (i 0).val (i 1).val (i 3).val) (i 2).val * A.cs (tk (i 0).val (i 1).val (i 3).val) (i 2).val : ℝ) : EReal) := by
  have h0 : (i 0).val < 16 := (i 0).isLt
  have h1 : (i 1).val < 2 := (i 1).isLt
  have h2 : (i 2).val < 8 := (i 2).isLt
  have h3 : (i 3).val < 128 := (i 3).isLt
  rw [val_main_v161_apply, val_main_v160_apply, H.v155]
  refine congrArg _ (congrArg₂ (fun t h => A.w1 t h * A.cs t h) ?_ ?_) <;> dsimp only [idx_main_v161, idx_main_v160, tk] <;> omega

theorem v163 (i : S16x2x8x128.Idx) : val_main_v163 (F := Ideal) x0 x1 x2 x3 x4 x5 i
    = ((A.ms (tk (i 0).val (i 1).val (i 3).val) (i 2).val : ℝ) : EReal) := by
  have h0 : (i 0).val < 16 := (i 0).isLt
  have h1 : (i 1).val < 2 := (i 1).isLt
  have h2 : (i 2).val < 8 := (i 2).isLt
  have h3 : (i 3).val < 128 := (i 3).isLt
  rw [val_main_v163_apply, val_main_v162_apply, H.v157]
  refine congrArg _ (congrArg₂ A.ms ?_ ?_) <;> dsimp only [idx_main_v163, idx_main_v162, tk] <;> omega

theorem v165 (i : S16x2x8x64x128.Idx) : val_main_v165 (F := Ideal) x0 x1 x2 x4 x5 i
    = ((A.w1 (tk (i 0).val (i 1).val (i 4).val) (i 2).val * A.cn (tk (i 0).val (i 1).val (i 4).val) (i 2).val (i 3).val : ℝ) : EReal) := by
  have h0 : (i 0).val < 16 := (i 0).isLt
  have h1 : (i 1).val < 2 := (i 1).isLt
  have h2 : (i 2).val < 8 := (i 2).isLt
  have h3 : (i 3).val < 64 := (i 3).isLt
  have h4 : (i 4).val < 128 := (i 4).isLt
  rw [val_main_v165_apply, val_main_v164_apply, H.v159]
  refine congrArg _ (congr3 (fun t h d => A.w1 t h * A.cn t h d) ?_ ?_ ?_) <;> dsimp only [idx_main_v165, idx_main_v164, tk] <;> omega

theorem v166 (i : S16x2x8x128x256.Idx) : val_main_v166 (F := Ideal) x0 x1 x2 x4 x5 i
    = ((∑ d : Fin 64, A.w1 (tk (i 0).val (i 1).val (i 3).val) (i 2).val * A.cn (tk (i 0).val (i 1).val (i 3).val) (i 2).val d.val
        * pad (cls A.Z 1024 (i 0).val) (i 1).val (i 4).val (64 * (i 2).val + d.val) : ℝ) : EReal) := by
  rw [val_main_v166_apply]
  refine (Finset.sum_congr rfl fun k _ => (congrArg₂ (· * ·) (H.v165 _) (v26_real H.z _)).trans (EReal.coe_mul _ _).symm).trans (coe_sum _ _)

theorem v171 (i : S16x2x8x128x256.Idx) : val_main_v171 (F := Ideal) x0 x1 x2 x3 x4 x5 i
    = ((A.ds (i 0).val (i 1).val (i 2).val (i 3).val (i 4).val : ℝ) : EReal) := by
  rw [val_main_v171_apply, val_main_v170_apply, val_main_v169_apply, H.v166, H.v161, ex_real H.z H.b,
    ← A.ds_eq (i 0).isLt (i 1).isLt (i 3).isLt (i 2).val (i 4).isLt, EReal.coe_mul _ (ex _ _ _ _ _ _ _), EReal.coe_add]
  rfl

theorem v173 (i : S16x2x8x128.Idx) : val_main_v173 (F := Ideal) x0 x1 x2 x3 x4 x5 i
    = ((-A.ms (tk (i 0).val (i 1).val (i 3).val) (i 2).val : ℝ) : EReal) := by
  rw [val_main_v173_apply, val_main_cst_22_apply, ← A.sum_ds (i 0).isLt (i 1).isLt (i 3).isLt (i 2).val, ← Finset.sum_neg_distrib]
  refine (congrArg₂ (· + ·) Ideal.ofBits_zero_f32 ((Finset.sum_congr rfl fun k _ => ?_).trans (coe_sum _ _))).trans (zero_add _)
  rw [val_main_v172_apply, H.v171]
  exact (EReal.coe_neg _).symm

theorem v175 (i : S16x2x8x128.Idx) : val_main_v175 (F := Ideal) x0 x1 x2 x3 x4 x5 i
    = ((-A.ms (tk (i 0).val (i 1).val (i 3).val) (i 2).val : ℝ) : EReal) := by
  have h0 : (i 0).val < 16 := (i 0).isLt
  have h1 : (i 1).val < 2 := (i 1).isLt
  have h2 : (i 2).val < 8 := (i 2).isLt
  have h3 : (i 3).val < 128 := (i 3).isLt
  rw [val_main_v175_apply, val_main_cst_23_apply]
  refine (congrArg₂ (· + ·) Ideal.ofBits_zero_f32 (Fin.sum_univ_one _)).trans ((zero_add _).trans ?_)
  rw [val_main_v174_apply, H.v173]
  refine congrArg _ (congrArg Neg.neg (congrArg₂ A.ms (congr3 tk ?_ ?_ ?_) ?_)) <;> dsimp only [idx_main_v174, idx_main_v175] <;> omega

theorem v176 (i : S16x2x8x128.Idx) : val_main_v176 (F := Ideal) x0 x1 x2 x3 x4 x5 i = 0 := by
  rw [val_main_v176_apply, H.v163, H.v175]
  exact (EReal.coe_add _ _).symm.trans ((congrArg _ (add_neg_cancel _)).trans EReal.coe_zero)

/-- The row's maximum is attained, so the number of places where it is is not zero. -/
theorem v73 (i : S16x2x8x128.Idx) : val_main_v73 (F := Ideal) x0 x2 i ≠ 0 := by
  have h0 : (i 0).val < 16 := (i 0).isLt
  have h1 : (i 1).val < 2 := (i 1).isLt
  have h2 : (i 2).val < 8 := (i 2).isLt
  have h3 : (i 3).val < 128 := (i 3).isLt
  obtain ⟨⟨j, hj, e⟩, -⟩ := mx_spec (Z := A.Z) (B := A.B) (i 0).val (i 1).val (i 2).val (i 3).val h1 h3
  rw [val_main_v73_apply, val_main_cst_10_apply]
  have hs : FloatOps.ofBits (F := Ideal) .f32 0#32 + ∑ k, val_main_v72 (F := Ideal) x0 x2 (idx_main_v73 i k)
      = ((∑ k, ((val_main_v71 (F := Ideal) x0 x2 (idx_main_v73 i k)).toNat : ℝ) : ℝ) : EReal) :=
    (congrArg₂ (· + ·) Ideal.ofBits_zero_f32 ((Finset.sum_congr rfl fun k _ => rfl).trans (coe_sum _ _))).trans (zero_add _)
  refine fun h => ?_
  have hz := EReal.coe_eq_zero.mp (hs.symm.trans h)
  have hk := (Finset.sum_eq_zero_iff_of_nonneg fun k _ => Nat.cast_nonneg _).mp hz j (Finset.mem_univ _)
  have hm : val_main_v70 (F := Ideal) x0 x2 (idx_main_v73 i j) = ((mx A.Z A.B (i 0).val (i 1).val (i 2).val (i 3).val : ℝ) : EReal) := by
    rw [val_main_v70_apply, val_main_v69_apply, max_real H.z H.b]
    refine congrArg _ (congr4 _ ?_ ?_ ?_ ?_) <;> dsimp only [idx_main_v69, idx_main_v70, idx_main_v73] <;> omega
  have hl : val_main_v67_0 (F := Ideal) x0 x2 (idx_main_v73 i j) = ((lg A.Z A.B (i 0).val (i 1).val (i 2).val (i 3).val j.val : ℝ) : EReal) :=
    (logit_real H.z H.b _).trans (if_pos hj)
  rw [val_main_v71_apply, hm, hl, e] at hk
  have ho : FloatOps.cmpf (F := Ideal) (φ := .f32) .oeq ((mx A.Z A.B (i 0).val (i 1).val (i 2).val (i 3).val : ℝ) : EReal)
      ((mx A.Z A.B (i 0).val (i 1).val (i 2).val (i 3).val : ℝ) : EReal) = 1#1 := congrArg BitVec.ofBool (decide_eq_true rfl)
  rw [ho] at hk
  norm_num at hk

theorem v177 (i : S16x2x8x128.Idx) : val_main_v177 (F := Ideal) x0 x1 x2 x3 x4 x5 i = 0 := by
  rw [val_main_v177_apply, H.v176]
  exact Ideal.zero_div (H.v73 i)

theorem v181 (i : S16x2x8x128x256.Idx) : val_main_v181 (F := Ideal) x0 x1 x2 x3 x4 x5 i
    = ((A.ds (i 0).val (i 1).val (i 2).val (i 3).val (i 4).val : ℝ) : EReal) := by
  have hv : val_main_v180 (F := Ideal) x0 x1 x2 x3 x4 x5 i = ((A.ds (i 0).val (i 1).val (i 2).val (i 3).val (i 4).val : ℝ) : EReal) := by
    rw [val_main_v180_apply, val_main_v179_apply, val_main_v178_apply, H.v171, H.v177]
    exact (congrArg₂ (· + ·) rfl (zero_mul _)).trans (add_zero _)
  have hc : val_main_call1_v0 (F := Ideal) i = 0 := by
    rw [val_main_call1_v0_apply]
    exact Ideal.ofBits_zero_f32
  rw [val_main_v181_apply, mask_bit, hv, hc, select_ite]
  by_cases hm : Mb (i 1).val (i 3).val (i 4).val
  · rw [if_pos hm]
  · rw [if_neg hm, A.ds_zero (i 0).isLt (i 1).isLt (i 3).isLt (i 2).val (i 4).val hm]
    exact EReal.coe_zero.symm

theorem v186 (i : S16x2x8x128x256.Idx) : val_main_v186 (F := Ideal) x0 x1 x2 x3 x4 x5 i
    = ((A.ds (i 0).val (i 1).val (i 2).val (i 3).val (i 4).val * (1 / 8) : ℝ) : EReal) := by
  rw [val_main_v186_apply, H.v181, val_main_v185_apply, val_main_cst_26_apply, EReal.coe_mul]
  exact congrArg₂ (· * ·) rfl eighth_f32

end Of

end Args

end Cert.Proof.Band

end
-- ==== Proof.Band.Out.lean ====
/- The reference's results in real numbers: each class's gradients are the ones the kernel's body forms. -/
module

public import proofs.«01_k».proof.Proof.Band.Grad

@[expose] public section

set_option maxRecDepth 16384

noncomputable section

namespace Cert.Proof.Band

open Cert.ReferenceIdeal Cert.ReferenceIdeal.Gen Cert.ReferenceIdeal.Read Idealize.ShloMosaic Idealize.ShloMosaic.TcCoe Idealize.SL.Sem

/-- A sum over the first two of five axes. -/
theorem sum_first_two {n0 n1 n2 n3 n4 : ℕ} (h : (⟨5, ![n0, n1, n2, n3, n4]⟩ : Shape).ReducesTo [0, 1] ⟨3, ![n2, n3, n4]⟩)
    (j : (⟨3, ![n2, n3, n4]⟩ : Shape).Idx) (v : (⟨5, ![n0, n1, n2, n3, n4]⟩ : Shape).Idx → EReal) :
    ∑ i ∈ Finset.univ.filter (fun i => h.drop i = j), v i = ∑ k0 : Fin n0, ∑ k1 : Fin n1, v (ix5 k0 k1 (j 0) (j 1) (j 2)) := by
  have fiber : ∀ i, h.drop i = j ↔ ∃ k : Fin n0 × Fin n1, ix5 k.1 k.2 (j 0) (j 1) (j 2) = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e (⟨0, by show 0 < 3; decide⟩ : Fin 3))).symm
      | ⟨3, _⟩ => exact (congrArg Fin.val (congrFun e (⟨1, by show 1 < 3; decide⟩ : Fin 3))).symm
      | ⟨4, _⟩ => exact (congrArg Fin.val (congrFun e (⟨2, by show 2 < 3; decide⟩ : Fin 3))).symm
    · rintro ⟨k, rfl⟩
      funext b
      apply Fin.ext
      match b with
      | ⟨0, _⟩ => rfl
      | ⟨1, _⟩ => rfl
      | ⟨2, _⟩ => rfl
  refine (Finset.sum_filter_eq_sum_of_fiber (fun i => h.drop i = j) (fun k : Fin n0 × Fin n1 => ix5 k.1 k.2 (j 0) (j 1) (j 2))
    (fun _ _ e => Prod.ext (congrFun e 0) (congrFun e 1)) fiber v).trans ?_
  simp only [Fintype.sum_prod_type]

namespace Args

variable (A : Args)

/-- Class `n`'s gradients at the projections: row `r` of the class, column `c` of its 512. -/
def DQ (n r c : ℕ) : ℝ := cdq (cls A.Z 0 n) (cls A.Z 512 n) (cls A.Z 1024 n) (cls A.DO 0 n) (cls A.L 0 n) (cls A.D 0 n) A.B r c
def BK (n b j c : ℕ) : ℝ := bdk (cls A.Z 0 n) (cls A.Z 512 n) (cls A.Z 1024 n) (cls A.DO 0 n) (cls A.L 0 n) (cls A.D 0 n) A.B b j c
def DK (n r c : ℕ) : ℝ := cdk (cls A.Z 0 n) (cls A.Z 512 n) (cls A.Z 1024 n) (cls A.DO 0 n) (cls A.L 0 n) (cls A.D 0 n) A.B r c
def BV (n b j c : ℕ) : ℝ := bdv (cls A.Z 0 n) (cls A.Z 512 n) (cls A.DO 0 n) (cls A.L 0 n) A.B b j c
def DV (n r c : ℕ) : ℝ := cdv (cls A.Z 0 n) (cls A.Z 512 n) (cls A.DO 0 n) (cls A.L 0 n) A.B r c

variable {n b : ℕ} (hn : n < 16) (hb : b < 2)
include hn hb

theorem bv_eq (h j d : ℕ) (hd : d < 64) :
    ∑ ρ : Fin 128, A.w1 (tk n b ρ.val) h * A.cn (tk n b ρ.val) h d * ex A.Z A.B n b h ρ.val j = A.BV n b j (64 * h + d) := by
  have e : (64 * h + d) / 64 = h := by omega
  show _ = ∑ ρ : Fin 128, A.pr n b ((64 * h + d) / 64) ρ.val j * A.DO (tk n b ρ.val) (0 + (64 * h + d))
  rw [e]
  refine Finset.sum_congr rfl fun ρ _ => ?_
  rw [A.pr_eq hn hb ρ.isLt, zero_add]
  unfold cn
  ring

omit hn hb in
theorem bk_eq (h j d : ℕ) (hd : d < 64) :
    ∑ ρ : Fin 128, A.ds n b h ρ.val j * (1 / 8) * cls A.Z 0 n (128 * b + ρ.val) (64 * h + d) = A.BK n b j (64 * h + d) := by
  have e : (64 * h + d) / 64 = h := by omega
  show _ = ∑ ρ : Fin 128, A.ds n b ((64 * h + d) / 64) ρ.val j * (cls A.Z 0 n (128 * b + ρ.val) (64 * h + d) * (1 / 8))
  rw [e]
  refine Finset.sum_congr rfl fun ρ _ => ?_
  ring

theorem dq_eq (h d : ℕ) (hd : d < 64) {ρ : ℕ} (hρ : ρ < 128) :
    ∑ j : Fin 256, A.ds n b h ρ j.val * (1 / 8) * pad (cls A.Z 512 n) b j.val (64 * h + d) = A.DQ n (128 * b + ρ) (64 * h + d) := by
  have e : (64 * h + d) / 64 = h := by omega
  have e1 : (128 * b + ρ) / 128 = b := by omega
  have e2 : (128 * b + ρ) % 128 = ρ := by omega
  unfold DQ cdq
  rw [e1, e2]
  show _ = (∑ j : Fin 256, A.ds n b ((64 * h + d) / 64) ρ j.val * win b (cls A.Z 512 n) j.val (64 * h + d)) * (1 / 8)
  rw [e, Finset.sum_mul]
  refine Finset.sum_congr rfl fun j _ => ?_
  by_cases hm : Mb b ρ j.val
  · rw [pad_eq _ hb j.isLt hm]
    ring
  · rw [A.ds_zero hn hb hρ h j.val hm]
    ring
omit hn hb

variable {A}
variable {x0 : FVec Ideal S4096x1536 .f32} {x1 : FVec Ideal S4096x512 .f32} {x2 : FVec Ideal S8x128x256 .f32}
    {x3 : FVec Ideal S4096x512 .f32} {x4 x5 : FVec Ideal S4096x8 .f32}

namespace Of

variable (H : A.Of x0 x1 x2 x3 x4 x5)
include H

theorem v168 (i : S16x2x256x8x64.Idx) : val_main_v168 (F := Ideal) x0 x1 x2 x4 x5 i
    = ((A.BV (i 0).val (i 1).val (i 2).val (64 * (i 3).val + (i 4).val) : ℝ) : EReal) := by
  rw [val_main_v168_apply, val_main_v167_apply, ← A.bv_eq (i 0).isLt (i 1).isLt (i 3).val (i 2).val (i 4).val (i 4).isLt]
  refine (Finset.sum_congr rfl fun k _ => (congrArg₂ (· * ·) (H.v165 _) (ex_real H.z H.b _)).trans (EReal.coe_mul _ _).symm).trans (coe_sum _ _)

theorem v188 (i : S16x2x256x8x64.Idx) : val_main_v188 (F := Ideal) x0 x1 x2 x3 x4 x5 i
    = ((A.BK (i 0).val (i 1).val (i 2).val (64 * (i 3).val + (i 4).val) : ℝ) : EReal) := by
  rw [val_main_v188_apply, val_main_v187_apply, ← A.bk_eq (i 3).val (i 2).val (i 4).val (i 4).isLt]
  refine (Finset.sum_congr rfl fun k _ => (congrArg₂ (· * ·) (H.v186 _) (v27_real H.z _)).trans (EReal.coe_mul _ _).symm).trans (coe_sum _ _)

theorem v190 (i : S16x2x128x8x64.Idx) : val_main_v190 (F := Ideal) x0 x1 x2 x3 x4 x5 i
    = ((A.DQ (i 0).val (128 * (i 1).val + (i 2).val) (64 * (i 3).val + (i 4).val) : ℝ) : EReal) := by
  rw [val_main_v190_apply, val_main_v189_apply, ← A.dq_eq (i 0).isLt (i 1).isLt (i 3).val (i 4).val (i 4).isLt (i 2).isLt]
  refine (Finset.sum_congr rfl fun k _ => (congrArg₂ (· * ·) (H.v186 _) (v21_real H.z _)).trans (EReal.coe_mul _ _).symm).trans (coe_sum _ _)

theorem v191 (i : S16x256x8x64.Idx) : val_main_v191 (F := Ideal) x0 x1 x2 x3 x4 x5 i
    = ((A.DQ (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v191_apply, H.v190]
  refine congrArg _ (congr3 A.DQ ?_ ?_ ?_) <;> dsimp only [idx_main_v191] <;> omega

theorem v193 (i : S16x256x8x64.Idx) : val_main_v193 (F := Ideal) x0 x1 x2 x4 x5 i
    = ((A.BV (i 0).val 0 (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v193_apply, val_main_v192_apply, H.v168]
  refine congrArg _ (congr4 A.BV ?_ ?_ ?_ ?_) <;> dsimp only [idx_main_v193, idx_main_v192] <;> omega

theorem v195 (i : S16x256x8x64.Idx) : val_main_v195 (F := Ideal) x0 x1 x2 x4 x5 i
    = ((A.BV (i 0).val 1 (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v195_apply, val_main_v194_apply, H.v168]
  refine congrArg _ (congr4 A.BV ?_ ?_ ?_ ?_) <;> dsimp only [idx_main_v195, idx_main_v194] <;> omega

theorem v200 (i : S16x256x8x64.Idx) : val_main_v200 (F := Ideal) x0 x1 x2 x3 x4 x5 i
    = ((A.BK (i 0).val 0 (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v200_apply, val_main_v199_apply, H.v188]
  refine congrArg _ (congr4 A.BK ?_ ?_ ?_ ?_) <;> dsimp only [idx_main_v200, idx_main_v199] <;> omega

theorem v202 (i : S16x256x8x64.Idx) : val_main_v202 (F := Ideal) x0 x1 x2 x3 x4 x5 i
    = ((A.BK (i 0).val 1 (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v202_apply, val_main_v201_apply, H.v188]
  refine congrArg _ (congr4 A.BK ?_ ?_ ?_ ?_) <;> dsimp only [idx_main_v202, idx_main_v201] <;> omega

theorem v196 (i : S16x384x8x64.Idx) : val_main_v196 (F := Ideal) x0 x1 x2 x4 x5 i
    = ((if 128 ≤ (i 1).val then A.BV (i 0).val 1 ((i 1).val - 128) (64 * (i 2).val + (i 3).val) else 0 : ℝ) : EReal) := by
  have h0 : (i 0).val < 16 := (i 0).isLt
  have h1 : (i 1).val < 384 := (i 1).isLt
  have h2 : (i 2).val < 8 := (i 2).isLt
  have h3 : (i 3).val < 64 := (i 3).isLt
  pointwise [val_main_v196]
  by_cases h : 128 ≤ (i 1).val
  · rw [if_pos h]
    exact (dif_pos ⟨h, by omega⟩).trans (H.v195 _)
  · rw [if_neg h]
    exact (dif_neg fun e => h e.1).trans ((val_main_cst_27_apply _).trans (Ideal.ofBits_zero_f32.trans EReal.coe_zero.symm))

theorem v197 (i : S16x384x8x64.Idx) : val_main_v197 (F := Ideal) x0 x1 x2 x4 x5 i
    = ((if (i 1).val < 256 then A.BV (i 0).val 0 (i 1).val (64 * (i 2).val + (i 3).val) else 0 : ℝ) : EReal) := by
  have h0 : (i 0).val < 16 := (i 0).isLt
  have h1 : (i 1).val < 384 := (i 1).isLt
  have h2 : (i 2).val < 8 := (i 2).isLt
  have h3 : (i 3).val < 64 := (i 3).isLt
  pointwise [val_main_v197]
  by_cases h : (i 1).val < 256
  · rw [if_pos h]
    exact (dif_pos h).trans (H.v193 _)
  · rw [if_neg h]
    exact (dif_neg h).trans ((val_main_cst_28_apply _).trans (Ideal.ofBits_zero_f32.trans EReal.coe_zero.symm))

theorem v203 (i : S16x384x8x64.Idx) : val_main_v203 (F := Ideal) x0 x1 x2 x3 x4 x5 i
    = ((if 128 ≤ (i 1).val then A.BK (i 0).val 1 ((i 1).val - 128) (64 * (i 2).val + (i 3).val) else 0 : ℝ) : EReal) := by
  have h0 : (i 0).val < 16 := (i 0).isLt
  have h1 : (i 1).val < 384 := (i 1).isLt
  have h2 : (i 2).val < 8 := (i 2).isLt
  have h3 : (i 3).val < 64 := (i 3).isLt
  pointwise [val_main_v203]
  by_cases h : 128 ≤ (i 1).val
  · rw [if_pos h]
    exact (dif_pos ⟨h, by omega⟩).trans (H.v202 _)
  · rw [if_neg h]
    exact (dif_neg fun e => h e.1).trans ((val_main_cst_29_apply _).trans (Ideal.ofBits_zero_f32.trans EReal.coe_zero.symm))

theorem v204 (i : S16x384x8x64.Idx) : val_main_v204 (F := Ideal) x0 x1 x2 x3 x4 x5 i
    = ((if (i 1).val < 256 then A.BK (i 0).val 0 (i 1).val (64 * (i 2).val + (i 3).val) else 0 : ℝ) : EReal) := by
  have h0 : (i 0).val < 16 := (i 0).isLt
  have h1 : (i 1).val < 384 := (i 1).isLt
  have h2 : (i 2).val < 8 := (i 2).isLt
  have h3 : (i 3).val < 64 := (i 3).isLt
  pointwise [val_main_v204]
  by_cases h : (i 1).val < 256
  · rw [if_pos h]
    exact (dif_pos h).trans (H.v200 _)
  · rw [if_neg h]
    exact (dif_neg h).trans ((val_main_cst_30_apply _).trans (Ideal.ofBits_zero_f32.trans EReal.coe_zero.symm))

theorem v207 (i : S16x256x8x64.Idx) : val_main_v207 (F := Ideal) x0 x1 x2 x4 x5 i
    = ((A.DV (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v207_apply, val_main_v198_apply, H.v196, H.v197]
  refine (EReal.coe_add _ _).symm.trans (congrArg _ ?_)
  dsimp only [idx_main_v207]
  rw [if_pos (by omega), show 128 + (i 1).val - 128 = (i 1).val by omega]
  show _ = if (i 1).val < 128 then A.BV (i 0).val 0 (128 + (i 1).val) (64 * (i 2).val + (i 3).val) + A.BV (i 0).val 1 (i 1).val (64 * (i 2).val + (i 3).val)
    else A.BV (i 0).val 1 (i 1).val (64 * (i 2).val + (i 3).val)
  by_cases h : (i 1).val < 128
  · rw [if_pos h, if_pos (by omega), add_comm]
  · rw [if_neg h, if_neg (by omega), add_zero]

theorem v209 (i : S16x256x8x64.Idx) : val_main_v209 (F := Ideal) x0 x1 x2 x3 x4 x5 i
    = ((A.DK (i 0).val (i 1).val (64 * (i 2).val + (i 3).val) : ℝ) : EReal) := by
  have h0 : (i 0).val < 16 := (i 0).isLt
  have h1 : (i 1).val < 256 := (i 1).isLt
  have h2 : (i 2).val < 8 := (i 2).isLt
  have h3 : (i 3).val < 64 := (i 3).isLt
  rw [val_main_v209_apply, val_main_v205_apply, H.v203, H.v204]
  refine (EReal.coe_add _ _).symm.trans (congrArg _ ?_)
  dsimp only [idx_main_v209]
  rw [if_pos (by omega), show 128 + (i 1).val - 128 = (i 1).val by omega]
  show _ = if (i 1).val < 128 then A.BK (i 0).val 0 (128 + (i 1).val) (64 * (i 2).val + (i 3).val) + A.BK (i 0).val 1 (i 1).val (64 * (i 2).val + (i 3).val)
    else A.BK (i 0).val 1 (i 1).val (64 * (i 2).val + (i 3).val)
  by_cases h : (i 1).val < 128
  · rw [if_pos h, if_pos (by omega), add_comm]
  · rw [if_neg h, if_neg (by omega), add_zero]

theorem v211 (i : S4096x8x64.Idx) : val_main_v211 (F := Ideal) x0 x1 x2 x4 x5 i
    = ((A.DV ((i 0).val % 16) ((i 0).val / 16) (64 * (i 1).val + (i 2).val) : ℝ) : EReal) := by
  have h0 : (i 0).val < 4096 := (i 0).isLt
  have h1 : (i 1).val < 8 := (i 1).isLt
  have h2 : (i 2).val < 64 := (i 2).isLt
  rw [val_main_v211_apply, val_main_v210_apply, H.v207]
  refine congrArg _ (congr3 A.DV ?_ ?_ ?_) <;> dsimp only [idx_main_v211, idx_main_v210] <;> omega

theorem v212 (i : S4096x512.Idx) : val_main_v212 (F := Ideal) x0 x1 x2 x4 x5 i
    = ((A.DV ((i 0).val % 16) ((i 0).val / 16) (i 1).val : ℝ) : EReal) := by
  have h0 : (i 0).val < 4096 := (i 0).isLt
  have h1 : (i 1).val < 512 := (i 1).isLt
  rw [val_main_v212_apply, H.v211]
  refine congrArg _ (congr3 A.DV ?_ ?_ ?_) <;> dsimp only [idx_main_v212] <;> omega

theorem v224 (i : S256x8192.Idx) : val_main_v224 (F := Ideal) x0 x1 x2 x4 x5 i
    = ((A.DV ((i 1).val / 512) (i 0).val ((i 1).val % 512) : ℝ) : EReal) := by
  have h0 : (i 0).val < 256 := (i 0).isLt
  have h1 : (i 1).val < 8192 := (i 1).isLt
  rw [val_main_v224_apply, val_main_v223_apply, H.v212]
  refine congrArg (fun r : ℝ => (r : EReal)) (congr3 A.DV ?_ ?_ ?_) <;> dsimp only [idx_main_v223] <;> omega

theorem v214 (i : S4096x8x64.Idx) : val_main_v214 (F := Ideal) x0 x1 x2 x3 x4 x5 i
    = ((A.DK ((i 0).val % 16) ((i 0).val / 16) (64 * (i 1).val + (i 2).val) : ℝ) : EReal) := by
  have h0 : (i 0).val < 4096 := (i 0).isLt
  have h1 : (i 1).val < 8 := (i 1).isLt
  have h2 : (i 2).val < 64 := (i 2).isLt
  rw [val_main_v214_apply, val_main_v213_apply, H.v209]
  refine congrArg _ (congr3 A.DK ?_ ?_ ?_) <;> dsimp only [idx_main_v214, idx_main_v213] <;> omega

theorem v215 (i : S4096x512.Idx) : val_main_v215 (F := Ideal) x0 x1 x2 x3 x4 x5 i
    = ((A.DK ((i 0).val % 16) ((i 0).val / 16) (i 1).val : ℝ) : EReal) := by
  have h0 : (i 0).val < 4096 := (i 0).isLt
  have h1 : (i 1).val < 512 := (i 1).isLt
  rw [val_main_v215_apply, H.v214]
  refine congrArg _ (congr3 A.DK ?_ ?_ ?_) <;> dsimp only [idx_main_v215] <;> omega

theorem v222 (i : S256x8192.Idx) : val_main_v222 (F := Ideal) x0 x1 x2 x3 x4 x5 i
    = ((A.DK ((i 1).val / 512) (i 0).val ((i 1).val % 512) : ℝ) : EReal) := by
  have h0 : (i 0).val < 256 := (i 0).isLt
  have h1 : (i 1).val < 8192 := (i 1).isLt
  rw [val_main_v222_apply, val_main_v221_apply, H.v215]
  refine congrArg (fun r : ℝ => (r : EReal)) (congr3 A.DK ?_ ?_ ?_) <;> dsimp only [idx_main_v221] <;> omega

theorem v217 (i : S4096x8x64.Idx) : val_main_v217 (F := Ideal) x0 x1 x2 x3 x4 x5 i
    = ((A.DQ ((i 0).val % 16) ((i 0).val / 16) (64 * (i 1).val + (i 2).val) : ℝ) : EReal) := by
  have h0 : (i 0).val < 4096 := (i 0).isLt
  have h1 : (i 1).val < 8 := (i 1).isLt
  have h2 : (i 2).val < 64 := (i 2).isLt
  rw [val_main_v217_apply, val_main_v216_apply, H.v191]
  refine congrArg _ (congr3 A.DQ ?_ ?_ ?_) <;> dsimp only [idx_main_v217, idx_main_v216] <;> omega

theorem v218 (i : S4096x512.Idx) : val_main_v218 (F := Ideal) x0 x1 x2 x3 x4 x5 i
    = ((A.DQ ((i 0).val % 16) ((i 0).val / 16) (i 1).val : ℝ) : EReal) := by
  have h0 : (i 0).val < 4096 := (i 0).isLt
  have h1 : (i 1).val < 512 := (i 1).isLt
  rw [val_main_v218_apply, H.v217]
  refine congrArg _ (congr3 A.DQ ?_ ?_ ?_) <;> dsimp only [idx_main_v218] <;> omega

theorem v220 (i : S256x8192.Idx) : val_main_v220 (F := Ideal) x0 x1 x2 x3 x4 x5 i
    = ((A.DQ ((i 1).val / 512) (i 0).val ((i 1).val % 512) : ℝ) : EReal) := by
  have h0 : (i 0).val < 256 := (i 0).isLt
  have h1 : (i 1).val < 8192 := (i 1).isLt
  rw [val_main_v220_apply, val_main_v219_apply, H.v218]
  refine congrArg (fun r : ℝ => (r : EReal)) (congr3 A.DQ ?_ ?_ ?_) <;> dsimp only [idx_main_v219] <;> omega

theorem v182 (i : S8x128x256.Idx) : val_main_v182 (F := Ideal) x0 x1 x2 x3 x4 x5 i
    = ((∑ n : Fin 16, ∑ b : Fin 2, A.ds n.val b.val (i 0).val (i 1).val (i 2).val : ℝ) : EReal) := by
  unfold val_main_v182
  refine (ValueIdx.hostReduceAdd_apply _ _ _ _ _).trans ?_
  refine (congrArg₂ (· + ·) Ideal.ofBits_zero_f32 ((sum_first_two _ _ _).trans ?_)).trans (zero_add _)
  refine (Finset.sum_congr rfl fun n _ => (Finset.sum_congr rfl fun b _ => H.v181 _).trans (coe_sum _ _)).trans (coe_sum _ _)

theorem v184 (i : S8x128x256.Idx) : val_main_v184 (F := Ideal) x0 x1 x2 x3 x4 x5 i
    = ((∑ n : Fin 16, ∑ b : Fin 2, A.ds n.val b.val (i 0).val (i 1).val (i 2).val : ℝ) : EReal) := by
  have h0 : (i 0).val < 8 := (i 0).isLt
  have h1 : (i 1).val < 128 := (i 1).isLt
  have h2 : (i 2).val < 256 := (i 2).isLt
  unfold val_main_v184
  refine (ValueIdx.hostReduceAdd_apply _ _ _ _ _).trans ?_
  refine (congrArg₂ (· + ·) Ideal.ofBits_zero_f32 ((sum_first_two _ _ _).trans ((Fin.sum_univ_one _).trans (Fin.sum_univ_one _)))).trans ((zero_add _).trans ?_)
  rw [val_main_v183_apply, H.v182]
  refine congrArg _ (congr3 (fun a b c => ∑ n : Fin 16, ∑ q : Fin 2, A.ds n.val q.val a b c) ?_ ?_ ?_)
  · show ((((0 * 1 + 0) * 8 + (i 0).val) * 128 + (i 1).val) * 256 + (i 2).val) / 32768 = (i 0).val
    omega
  · show ((((0 * 1 + 0) * 8 + (i 0).val) * 128 + (i 1).val) * 256 + (i 2).val) / 256 % 128 = (i 1).val
    omega
  · show ((((0 * 1 + 0) * 8 + (i 0).val) * 128 + (i 1).val) * 256 + (i 2).val) % 256 = (i 2).val
    omega

end Of

end Args

end Cert.Proof.Band

end
-- ==== Proof.Band.Host.lean ====
/- What the launch finds in the kernel's operands: the projections and the output gradient laid out class by class, the bias
   with minus infinity outside the band, and the rows' statistics. -/
module

public import proofs.«01_k».proof.Proof.Band.Out
public import proofs.«01_k».proof.Proof.Gen.KernelIdeal.Value
public import Idealize.ShloMosaic.Lib.StableHlo.RunRead

@[expose] public section

set_option maxRecDepth 16384

noncomputable section

namespace Cert.Proof.Band

open Cert.KernelIdeal Cert.KernelIdeal.Gen Cert.KernelIdeal.Value Cert.ReferenceIdeal.Read Idealize.ShloMosaic Idealize.ShloMosaic.TcCoe
  Idealize.SL.Sem

def hQ (x0 : FVec Ideal S4096x1536 .f32) : FVec Ideal S256x24576 .bf16 :=
  shapeCast S256x24576 (truncf .bf16 x0 bitsLt_bf16_f32 : FVec Ideal S4096x1536 .bf16) shapeCasts_S4096x1536_S256x24576
def hG (x1 : FVec Ideal S4096x512 .f32) : FVec Ideal S256x8192 .bf16 :=
  shapeCast S256x8192 (truncf .bf16 x1 bitsLt_bf16_f32 : FVec Ideal S4096x512 .bf16) shapeCasts_S4096x512_S256x8192

/-- The bias of the later block, that of the first block, and the operand that holds both. -/
def hB0 (x2 : FVec Ideal S8x128x256 .f32) : FVec Ideal S8x128x256 .f32 :=
  select (broadcastInDim S8x128x256 ![1, 2] bcast_S128x256_S8x128x256_1_2 (val_main_v44 (F := Ideal))) x2
    (broadcastInDim S8x128x256 ![] bcast_S_S8x128x256 (constant (F := Ideal) S_ .f32 0xFF800000#32))
def hB1 (x2 : FVec Ideal S8x128x256 .f32) : FVec Ideal S8x128x256 .f32 :=
  select (broadcastInDim S8x128x256 ![1, 2] bcast_S1x256_S8x128x256_1_2
      (cmpi .slt (broadcastInDim S1x256 ![1] bcast_S256_S1x256_1 (iotaInDim S256 32 0)) (broadcastInDim S1x256 ![] bcast_S_S1x256 (constantI S_ 32 128#32))))
    (broadcastInDim S8x128x256 ![] bcast_S_S8x128x256 (constant (F := Ideal) S_ .f32 0xFF800000#32)) (hB0 x2)
def hB (x2 : FVec Ideal S8x128x256 .f32) : FVec Ideal S4x2x8x128x256 .f32 :=
  broadcastInDim S4x2x8x128x256 ![0, 1, 2, 3, 4] bcast_S1x2x8x128x256_S4x2x8x128x256_0_1_2_3_4
    (broadcastInDim S1x2x8x128x256 ![1, 2, 3, 4] bcast_S2x8x128x256_S1x2x8x128x256_1_2_3_4
      (concatenate S2x8x128x256 0 [⟨S1x8x128x256, broadcastInDim S1x8x128x256 ![1, 2, 3] bcast_S8x128x256_S1x8x128x256_1_2_3 (hB0 x2)⟩,
        ⟨S1x8x128x256, broadcastInDim S1x8x128x256 ![1, 2, 3] bcast_S8x128x256_S1x8x128x256_1_2_3 (hB1 x2)⟩]
        concatenates_S1x8x128x256_S1x8x128x256_S2x8x128x256_d0))

/-- The rows' two statistics, and the operand that holds each thirty-two times. -/
def hL (x0 : FVec Ideal S4096x1536 .f32) (x2 : FVec Ideal S8x128x256 .f32) (x4 x5 : FVec Ideal S4096x8 .f32) : FVec Ideal S4096x8 .f32 :=
  addf (val_main_v92 (F := Ideal) x0 x2 x4) (Host.log (val_main_v114 (F := Ideal) x0 x2 x4 x5))
def hD (x0 : FVec Ideal S4096x1536 .f32) (x1 : FVec Ideal S4096x512 .f32) (x2 : FVec Ideal S8x128x256 .f32) (x3 : FVec Ideal S4096x512 .f32)
    (x4 x5 : FVec Ideal S4096x8 .f32) : FVec Ideal S4096x8 .f32 :=
  Host.reduceAdd (mulf (val_main_v122 (F := Ideal) x1) (val_main_v117 (F := Ideal) x0 x2 x3 x4 x5) : FVec Ideal S4096x8x64 .f32)
    (constant (F := Ideal) S_ .f32 0x00000000#32) reducesTo_S4096x8x64_S4096x8_d2 h_S_
def hS (l d : FVec Ideal S4096x8 .f32) : FVec Ideal S256x8192 .f32 :=
  shapeCast S256x8192 (concatenate S4096x8x64 2
    [⟨S4096x8x32, broadcastInDim S4096x8x32 ![0, 1, 2] bcast_S4096x8x1_S4096x8x32_0_1_2 (broadcastInDim S4096x8x1 ![0, 1] bcast_S4096x8_S4096x8x1_0_1 l)⟩,
     ⟨S4096x8x32, broadcastInDim S4096x8x32 ![0, 1, 2] bcast_S4096x8x1_S4096x8x32_0_1_2 (broadcastInDim S4096x8x1 ![0, 1] bcast_S4096x8_S4096x8x1_0_1 d)⟩]
    concatenates_S4096x8x32_S4096x8x32_S4096x8x64_d2) shapeCasts_S4096x8x64_S256x8192

variable (m : (ℓ : Loc nD τ sig) → Buf (Elt Ideal) ℓ)

theorem V_q (c : Dev nD) : V m c main_v1 = hQ (m ((c : Thread nD τ).loc main_arg0)) := by
  unfold Gen.V
  after_reads_simp
  rfl

theorem V_g (c : Dev nD) : V m c main_v3 = hG (m ((c : Thread nD τ).loc main_arg1)) := by
  unfold Gen.V
  after_reads_simp
  rfl

theorem V_b (c : Dev nD) : V m c main_v26 = hB (m ((c : Thread nD τ).loc main_arg2)) := by
  unfold Gen.V
  after_reads_simp
  rfl

end Cert.Proof.Band

end
-- ==== Proof.Band.HostS.lean ====
/- The statistics the launch finds. -/
module

public import proofs.«01_k».proof.Proof.Band.Host

@[expose] public section

set_option maxRecDepth 32768

noncomputable section

namespace Cert.Proof.Band

open Cert.KernelIdeal Cert.KernelIdeal.Gen Cert.KernelIdeal.Value Cert.ReferenceIdeal.Read Idealize.ShloMosaic Idealize.ShloMosaic.TcCoe
  Idealize.SL.Sem
variable (m : (ℓ : Loc nD τ sig) → Buf (Elt Ideal) ℓ)

theorem concat_congr {α : Type} {t s1 s2 : Shape} {d : Fin t.rank} {a a' : s1.Idx → α} {b b' : s2.Idx → α}
    (h : Shape.Concatenates [s1, s2] t d) (ha : a = a') (hb : b = b') :
    concatenate t d [⟨s1, a⟩, ⟨s2, b⟩] h = concatenate t d [⟨s1, a'⟩, ⟨s2, b'⟩] h := by subst ha hb; rfl

set_option maxHeartbeats 4000000 in
theorem V_s (c : Dev nD) : V m c main_v141
    = hS (hL (m ((c : Thread nD τ).loc main_arg0)) (m ((c : Thread nD τ).loc main_arg2)) (m ((c : Thread nD τ).loc main_arg4)) (m ((c : Thread nD τ).loc main_arg5)))
        (hD (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))) := by
  unfold Gen.V
  after_reads_simp
  unfold hS
  refine congrArg (fun x => shapeCast S256x8192 x shapeCasts_S4096x8x64_S256x8192) (concat_congr _ ?_ ?_)
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

end Cert.Proof.Band

end
-- ==== Proof.Band.Operand.lean ====
/- The kernel's operands read at an index, and the blocks that a grid point of the kernel sees. -/
module

public import proofs.«01_k».proof.Proof.Band.HostS

@[expose] public section

set_option maxRecDepth 16384

noncomputable section

namespace Cert.Proof.Band

open Cert.KernelIdeal Cert.KernelIdeal.Gen Cert.KernelIdeal.Value Cert.ReferenceIdeal.Read Idealize.ShloMosaic Idealize.ShloMosaic.TcCoe
  Idealize.SL.Sem

theorem add_log_at {s : Shape} (a b : FVec Ideal s .f32) (i : s.Idx) : addf a (Host.log b) i = a i + Ideal.log (b i) := rfl

theorem dot_at (a b : FVec Ideal S4096x8x64 .f32) (i : S4096x8.Idx) :
    Host.reduceAdd (mulf a b) (constant (F := Ideal) S_ .f32 0x00000000#32) reducesTo_S4096x8x64_S4096x8_d2 h_S_ i
      = ∑ d : Fin 64, a (ix3 (i 0) (i 1) d) * b (ix3 (i 0) (i 1) d) := by
  pointwise

theorem first_bit {j : ℕ} (h : j < 256) : IntOp.cmpi .slt (BitVec.ofNat 32 j) 128#32 = if j < 128 then 1#1 else 0#1 := by
  simp only [IntOp.cmpi, BitVec.slt, ofNat_toInt (show j < 1024 by omega), show (128#32 : BitVec 32).toInt = 128 from rfl]
  by_cases h1 : j < 128
  · rw [decide_eq_true (by omega), if_pos h1]; rfl
  · rw [decide_eq_false (by omega), if_neg h1]; rfl

namespace Args.Of

variable {A : Args}
variable {x0 : FVec Ideal S4096x1536 .f32} {x1 : FVec Ideal S4096x512 .f32} {x2 : FVec Ideal S8x128x256 .f32}
    {x3 : FVec Ideal S4096x512 .f32} {x4 x5 : FVec Ideal S4096x8 .f32} (H : A.Of x0 x1 x2 x3 x4 x5)
include H

theorem hQ_at (i : S256x24576.Idx) : hQ x0 i = ((A.Z (16 * (i 0).val + (i 1).val / 1536) ((i 1).val % 1536) : ℝ) : EReal) := by
  have h0 : (i 0).val < 256 := (i 0).isLt
  have h1 : (i 1).val < 24576 := (i 1).isLt
  pointwise [hQ]
  refine (H.z _).trans (congrArg (fun r : ℝ => (r : EReal)) ?_)
  show A.Z ((i 0).val * 16 + (i 1).val / 1536) ((i 1).val % 1536) = _
  rw [mul_comm]

theorem hG_at (i : S256x8192.Idx) : hG x1 i = ((A.DO (16 * (i 0).val + (i 1).val / 512) ((i 1).val % 512) : ℝ) : EReal) := by
  have h0 : (i 0).val < 256 := (i 0).isLt
  have h1 : (i 1).val < 8192 := (i 1).isLt
  pointwise [hG]
  refine (H.g _).trans (congrArg (fun r : ℝ => (r : EReal)) ?_)
  show A.DO ((i 0).val * 16 + (i 1).val / 512) ((i 1).val % 512) = _
  rw [mul_comm]

theorem hB0_at (i : S8x128x256.Idx) : hB0 x2 i
    = if Mb 1 (i 1).val (i 2).val then ((A.B (i 0).val (i 1).val (i 2).val : ℝ) : EReal) else ⊥ := by
  pointwise [hB0]
  rw [H.b, negInf_f32, v44_bit]
  refine (select_ite _ _ _).trans ?_
  show (if (i 1).val ≤ (i 2).val ∧ (i 2).val ≤ (i 1).val + 128 then _ else _) = _
  refine if_congr ?_ rfl rfl
  unfold Mb
  omega

theorem hB1_at (i : S8x128x256.Idx) : hB1 x2 i
    = if Mb 0 (i 1).val (i 2).val then ((A.B (i 0).val (i 1).val (i 2).val : ℝ) : EReal) else ⊥ := by
  have h2 : (i 2).val < 256 := (i 2).isLt
  pointwise [hB1]
  rw [H.hB0_at, negInf_f32, first_bit h2]
  refine (select_ite _ _ _).trans ?_
  by_cases hj : (i 2).val < 128
  · rw [if_pos hj, if_neg]
    unfold Mb
    omega
  · rw [if_neg hj]
    refine if_congr ?_ rfl rfl
    unfold Mb
    omega

theorem hB_at (i : S4x2x8x128x256.Idx) : hB x2 i
    = if Mb (1 - (i 1).val) (i 3).val (i 4).val then ((A.B (i 2).val (i 3).val (i 4).val : ℝ) : EReal) else ⊥ := by
  have h1 : (i 1).val < 2 := (i 1).isLt
  pointwise [hB]
  by_cases hf : (i 1).val < 1
  · have e : 1 - (i 1).val = 1 := by omega
    exact (dif_pos hf).trans ((H.hB0_at _).trans (by rw [e]; rfl))
  · have e : 1 - (i 1).val = 0 := by omega
    exact (dif_neg hf).trans ((H.hB1_at _).trans (by rw [e]; rfl))

theorem hL_at (i : S4096x8.Idx) : hL x0 x2 x4 x5 i = ((A.L (i 0).val (i 1).val : ℝ) : EReal) := by
  have hd := A.den_pos (i 0).val (i 1).val (i 0).isLt
  unfold hL
  rw [add_log_at, H.v92, H.v114, Ideal.log_coe, if_neg hd.not_ge, ← EReal.coe_add]
  unfold Args.L
  rfl

theorem hD_at (i : S4096x8.Idx) : hD x0 x1 x2 x3 x4 x5 i = ((A.D (i 0).val (i 1).val : ℝ) : EReal) := by
  unfold hD
  rw [dot_at]
  refine (Finset.sum_congr rfl fun d _ => ?_).trans (coe_sum _ _)
  rw [H.v122, H.v117, ← EReal.coe_mul]
  rfl

end Args.Of

theorem hS_dite (l d : FVec Ideal S4096x8 .f32) (i : S256x8192.Idx) (h0 : (i 0).val < 256) (h1 : (i 1).val < 8192) :
    hS l d i = if _h : (i 1).val % 64 < 32 then l (ix2 ⟨(i 0).val * 16 + (i 1).val / 512, by omega⟩ ⟨(i 1).val / 64 % 8, by omega⟩)
      else d (ix2 ⟨(i 0).val * 16 + (i 1).val / 512, by omega⟩ ⟨(i 1).val / 64 % 8, by omega⟩) := by
  pointwise [hS]

theorem hS_at (l d : FVec Ideal S4096x8 .f32) (i : S256x8192.Idx) (f : ℕ → ℕ → ℝ) (g : ℕ → ℕ → ℝ)
    (hl : ∀ i, l i = ((f (i 0).val (i 1).val : ℝ) : EReal)) (hd : ∀ i, d i = ((g (i 0).val (i 1).val : ℝ) : EReal)) :
    hS l d i = ((if (i 1).val % 64 < 32 then f ((i 0).val * 16 + (i 1).val / 512) ((i 1).val / 64 % 8)
      else g ((i 0).val * 16 + (i 1).val / 512) ((i 1).val / 64 % 8) : ℝ) : EReal) := by
  rw [hS_dite l d i (i 0).isLt (i 1).isLt]
  by_cases hk : (i 1).val % 64 < 32
  · rw [dif_pos hk, if_pos hk, hl]
    rfl
  · rw [dif_neg hk, if_neg hk, hd]
    rfl

end Cert.Proof.Band

end
-- ==== Proof.Band.Class.lean ====
/- The blocks of the operands that one grid point of the kernel reads: one class of tokens, in real numbers. -/
module

public import proofs.«01_k».proof.Proof.Band.Operand
public import proofs.«01_k».proof.Proof.Band.Out

@[expose] public section

set_option maxRecDepth 16384

noncomputable section

namespace Cert.Proof.Band

open Cert.KernelIdeal Cert.KernelIdeal.Gen Cert.KernelIdeal.Value Idealize.ShloMosaic Idealize.ShloMosaic.TcCoe
  Idealize.SL.Sem

variable (m : (ℓ : Loc nD τ sig) → Buf (Elt Ideal) ℓ)

theorem index_facts : ∀ t : Fin cfg0.N,
    win0_0.index t (0 : Fin 2) = 0 ∧ win0_0.index t (1 : Fin 2) = t.val * 3
    ∧ win0_1.index t (0 : Fin 2) = 0 ∧ win0_1.index t (1 : Fin 2) = t.val * 3 + 1
    ∧ win0_2.index t (0 : Fin 2) = 0 ∧ win0_2.index t (1 : Fin 2) = t.val * 3 + 2
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 5) = 3 ∧ win0_5.index t (1 : Fin 5) = 0 ∧ win0_5.index t (2 : Fin 5) = 0
    ∧ win0_5.index t (3 : Fin 5) = 0 ∧ win0_5.index t (4 : Fin 5) = 0 :=
  (by decide +kernel : ∀ t : Fin grid0.N, _)

variable (A : Args) (c : Dev nD) (H : A.Of (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)))
  (t : Fin cfg0.N)
include H

theorem blk_q (r : Fin 256) (k : Fin 512) : iblk m c 0 t (ix2 r k) = ((cls A.Z 0 t.val r.val k.val : ℝ) : EReal) := by
  obtain ⟨e0, e1, e2, e3, e4, e5, e6, e7, -⟩ := index_facts t
  have hN : cfg0.N = 16 := N_0
  have ht : t.val < 16 := hN ▸ t.isLt
  refine (congrFun (V_q m c) (((cfg0.win 0).blk t).view.emb (ix2 r k))).trans ((H.hQ_at _).trans (congrArg (fun r : ℝ => (r : EReal)) ?_))
  show A.Z (16 * (win0_0.index t (0 : Fin 2) * 256 + 1 * r.val) + (win0_0.index t (1 : Fin 2) * 512 + 1 * k.val) / 1536)
    ((win0_0.index t (1 : Fin 2) * 512 + 1 * k.val) % 1536) = A.Z (16 * r.val + t.val) (0 + k.val)
  rw [e0, e1]
  clear e0 e1 e2 e3 e4 e5 e6 e7
  exact congrArg₂ A.Z (by omega) (by omega)

theorem blk_k (r : Fin 256) (k : Fin 512) : iblk m c 1 t (ix2 r k) = ((cls A.Z 512 t.val r.val k.val : ℝ) : EReal) := by
  obtain ⟨e0, e1, e2, e3, e4, e5, e6, e7, -⟩ := index_facts t
  have hN : cfg0.N = 16 := N_0
  have ht : t.val < 16 := hN ▸ t.isLt
  refine (congrFun (V_q m c) (((cfg0.win 1).blk t).view.emb (ix2 r k))).trans ((H.hQ_at _).trans (congrArg (fun r : ℝ => (r : EReal)) ?_))
  show A.Z (16 * (win0_1.index t (0 : Fin 2) * 256 + 1 * r.val) + (win0_1.index t (1 : Fin 2) * 512 + 1 * k.val) / 1536)
    ((win0_1.index t (1 : Fin 2) * 512 + 1 * k.val) % 1536) = A.Z (16 * r.val + t.val) (512 + k.val)
  rw [e2, e3]
  clear e0 e1 e2 e3 e4 e5 e6 e7
  exact congrArg₂ A.Z (by omega) (by omega)

theorem blk_v (r : Fin 256) (k : Fin 512) : iblk m c 2 t (ix2 r k) = ((cls A.Z 1024 t.val r.val k.val : ℝ) : EReal) := by
  obtain ⟨e0, e1, e2, e3, e4, e5, e6, e7, -⟩ := index_facts t
  have hN : cfg0.N = 16 := N_0
  have ht : t.val < 16 := hN ▸ t.isLt
  refine (congrFun (V_q m c) (((cfg0.win 2).blk t).view.emb (ix2 r k))).trans ((H.hQ_at _).trans (congrArg (fun r : ℝ => (r : EReal)) ?_))
  show A.Z (16 * (win0_2.index t (0 : Fin 2) * 256 + 1 * r.val) + (win0_2.index t (1 : Fin 2) * 512 + 1 * k.val) / 1536)
    ((win0_2.index t (1 : Fin 2) * 512 + 1 * k.val) % 1536) = A.Z (16 * r.val + t.val) (1024 + k.val)
  rw [e4, e5]
  clear e0 e1 e2 e3 e4 e5 e6 e7
  exact congrArg₂ A.Z (by omega) (by omega)

theorem blk_g (r : Fin 256) (k : Fin 512) : iblk m c 3 t (ix2 r k) = ((cls A.DO 0 t.val r.val k.val : ℝ) : EReal) := by
  obtain ⟨e0, e1, e2, e3, e4, e5, e6, e7, -⟩ := index_facts t
  have hN : cfg0.N = 16 := N_0
  have ht : t.val < 16 := hN ▸ t.isLt
  refine (congrFun (V_g m c) (((cfg0.win 3).blk t).view.emb (ix2 r k))).trans ((H.hG_at _).trans (congrArg (fun r : ℝ => (r : EReal)) ?_))
  show A.DO (16 * (win0_3.index t (0 : Fin 2) * 256 + 1 * r.val) + (win0_3.index t (1 : Fin 2) * 512 + 1 * k.val) / 512)
    ((win0_3.index t (1 : Fin 2) * 512 + 1 * k.val) % 512) = A.DO (16 * r.val + t.val) (0 + k.val)
  rw [e6, e7]
  clear e0 e1 e2 e3 e4 e5 e6 e7
  exact congrArg₂ A.DO (by omega) (by omega)

theorem blk_st (r : Fin 256) (k : Fin 512) : iblk m c 4 t (ix2 r k)
    = ((if k.val % 64 < 32 then cls A.L 0 t.val r.val (k.val / 64) else cls A.D 0 t.val r.val (k.val / 64) : ℝ) : EReal) := by
  obtain ⟨-, -, -, -, -, -, -, -, e8, e9, -⟩ := index_facts t
  have hN : cfg0.N = 16 := N_0
  have ht : t.val < 16 := hN ▸ t.isLt
  have i0 : ((((cfg0.win 4).blk t).view.emb (ix2 r k)) (0 : Fin 2)).val = win0_4.index t (0 : Fin 2) * 256 + 1 * r.val := rfl
  have i1 : ((((cfg0.win 4).blk t).view.emb (ix2 r k)) (1 : Fin 2)).val = win0_4.index t (1 : Fin 2) * 512 + 1 * k.val := rfl
  rw [e8] at i0
  rw [e9] at i1
  clear e8 e9
  refine (congrFun (V_s m c) (((cfg0.win 4).blk t).view.emb (ix2 r k))).trans ((hS_at _ _ _ A.L A.D H.hL_at H.hD_at).trans
    (congrArg (fun r : ℝ => (r : EReal)) ?_))
  rw [i0, i1, show (t.val * 512 + 1 * k.val) % 64 = k.val % 64 by omega]
  by_cases hk : k.val % 64 < 32
  · rw [if_pos hk, if_pos hk]
    exact congrArg₂ A.L (by omega) (by omega)
  · rw [if_neg hk, if_neg hk]
    exact congrArg₂ A.D (by omega) (by omega)

theorem blk_b (f : Fin 2) (h : Fin 8) (ρ : Fin 128) (j : Fin 256) : iblk m c 5 t (ix5 0 f h ρ j)
    = if Mb (1 - f.val) ρ.val j.val then ((A.B h.val ρ.val j.val : ℝ) : EReal) else ⊥ := by
  obtain ⟨-, -, -, -, -, -, -, -, -, -, -, e11, e12, e13, e14⟩ := index_facts t
  refine (congrFun (V_b m c) (((cfg0.win 5).blk t).view.emb (ix5 0 f h ρ j))).trans ((H.hB_at _).trans ?_)
  show (if Mb (1 - (win0_5.index t (1 : Fin 5) * 2 + 1 * f.val)) (win0_5.index t (3 : Fin 5) * 128 + 1 * ρ.val) (win0_5.index t (4 : Fin 5) * 256 + 1 * j.val)
    then ((A.B (win0_5.index t (2 : Fin 5) * 8 + 1 * h.val) (win0_5.index t (3 : Fin 5) * 128 + 1 * ρ.val) (win0_5.index t (4 : Fin 5) * 256 + 1 * j.val) : ℝ) : EReal) else ⊥) = _
  rw [e11, e12, e13, e14]
  simp only [zero_mul, zero_add, one_mul]

/-- What grid point `t` reads: class `t`. -/
theorem block :
    Block (cls A.Z 0 t.val) (cls A.Z 512 t.val) (cls A.Z 1024 t.val) (cls A.DO 0 t.val) (cls A.L 0 t.val) (cls A.D 0 t.val) A.B
      (iblk m c 0 t) (iblk m c 1 t) (iblk m c 2 t) (iblk m c 3 t) (iblk m c 4 t) (iblk m c 5 t) :=
  ⟨blk_q m A c H t, blk_k m A c H t, blk_v m A c H t, blk_g m A c H t, blk_st m A c H t, blk_b m A c H t⟩

end Cert.Proof.Band

end
-- ==== Proof.Band.DqA.lean ====
/- What the body leaves in its block of the queries' gradient, at the first class: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dq_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    View.PiecesOf (Gdq Q K V G L D B) (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1 := by
  unfold kernelRun0_A
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dq 1 (H.reals1 3 (by norm_num) _ _ k0_off10_inb k0_off11_inb _ inb_S1x2x8x128x256_S1x1x2x128x256_0_0_6_0_0 rfl rfl rfl rfl rfl rfl rfl rfl rfl) rfl k0_off10_inb rfl rfl x,
    fun x => piece_dq 1 (H.reals1 2 (by norm_num) _ _ k0_off7_inb k0_off8_inb _ inb_S1x2x8x128x256_S1x1x2x128x256_0_0_4_0_0 rfl rfl rfl rfl rfl rfl rfl rfl rfl) rfl k0_off7_inb rfl rfl x,
    fun x => piece_dq 1 (H.reals1 1 (by norm_num) _ _ k0_off4_inb k0_off5_inb _ inb_S1x2x8x128x256_S1x1x2x128x256_0_0_2_0_0 rfl rfl rfl rfl rfl rfl rfl rfl rfl) rfl k0_off4_inb rfl rfl x,
    fun x => piece_dq 1 (H.reals1 0 (by norm_num) _ _ k0_off1_inb k0_off2_inb _ inb_S1x2x8x128x256_S1x1x2x128x256_0_0_0_0_0 rfl rfl rfl rfl rfl rfl rfl rfl rfl) rfl k0_off1_inb rfl rfl x,
    fun x => piece_dq 0 (H.reals0 3 (by norm_num) _ inb_S256x512_S128x128_0_384 _ inb_S1x2x8x128x256_S1x1x2x128x256_0_1_6_0_0 rfl rfl rfl rfl rfl rfl rfl) rfl inb_S256x512_S128x128_0_384 rfl rfl x,
    fun x => piece_dq 0 (H.reals0 2 (by norm_num) _ inb_S256x512_S128x128_0_256 _ inb_S1x2x8x128x256_S1x1x2x128x256_0_1_4_0_0 rfl rfl rfl rfl rfl rfl rfl) rfl inb_S256x512_S128x128_0_256 rfl rfl x,
    fun x => piece_dq 0 (H.reals0 1 (by norm_num) _ inb_S256x512_S128x128_0_128 _ inb_S1x2x8x128x256_S1x1x2x128x256_0_1_2_0_0 rfl rfl rfl rfl rfl rfl rfl) rfl inb_S256x512_S128x128_0_128 rfl rfl x,
    fun x => piece_dq 0 (H.reals0 0 (by norm_num) _ inb_S256x512_S128x128_0_0 _ inb_S1x2x8x128x256_S1x1x2x128x256_0_1_0_0_0 rfl rfl rfl rfl rfl rfl rfl) rfl inb_S256x512_S128x128_0_0 rfl rfl x, trivial⟩

theorem out_dq_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 = Gdq Q K V G L D B := by
  unfold out0_A_6
  rw [View.read_writes_junk_eq_canon]
  exact funext fun y => View.canon_apply_of_pieces (Gdq Q K V G L D B) _
    (pieces_dq_A c i arg2 harg2 arg3 harg3 arg4 harg4 arg5 harg5 arg6 harg6 arg7 harg7 arg8 harg8 arg9 harg9 arg10 harg10 arg11 harg11 arg12 harg12 arg13 harg13 hc0 x0 x1 x2 x3 x4 x5 H).mem y
    (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 y)

end Cert.Proof.Band

end
-- ==== Proof.Band.DqB.lean ====
/- What the body leaves in its block of the queries' gradient, at every class but the first: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dq_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    View.PiecesOf (Gdq Q K V G L D B) (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9).1 := by
  unfold kernelRun0_B
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dq 1 (H.reals1 3 (by norm_num) _ _ k0_off10_inb k0_off11_inb _ inb_S1x2x8x128x256_S1x1x2x128x256_0_0_6_0_0 rfl rfl rfl rfl rfl rfl rfl rfl rfl) rfl k0_off10_inb rfl rfl x,
    fun x => piece_dq 1 (H.reals1 2 (by norm_num) _ _ k0_off7_inb k0_off8_inb _ inb_S1x2x8x128x256_S1x1x2x128x256_0_0_4_0_0 rfl rfl rfl rfl rfl rfl rfl rfl rfl) rfl k0_off7_inb rfl rfl x,
    fun x => piece_dq 1 (H.reals1 1 (by norm_num) _ _ k0_off4_inb k0_off5_inb _ inb_S1x2x8x128x256_S1x1x2x128x256_0_0_2_0_0 rfl rfl rfl rfl rfl rfl rfl rfl rfl) rfl k0_off4_inb rfl rfl x,
    fun x => piece_dq 1 (H.reals1 0 (by norm_num) _ _ k0_off1_inb k0_off2_inb _ inb_S1x2x8x128x256_S1x1x2x128x256_0_0_0_0_0 rfl rfl rfl rfl rfl rfl rfl rfl rfl) rfl k0_off1_inb rfl rfl x,
    fun x => piece_dq 0 (H.reals0 3 (by norm_num) _ inb_S256x512_S128x128_0_384 _ inb_S1x2x8x128x256_S1x1x2x128x256_0_1_6_0_0 rfl rfl rfl rfl rfl rfl rfl) rfl inb_S256x512_S128x128_0_384 rfl rfl x,
    fun x => piece_dq 0 (H.reals0 2 (by norm_num) _ inb_S256x512_S128x128_0_256 _ inb_S1x2x8x128x256_S1x1x2x128x256_0_1_4_0_0 rfl rfl rfl rfl rfl rfl rfl) rfl inb_S256x512_S128x128_0_256 rfl rfl x,
    fun x => piece_dq 0 (H.reals0 1 (by norm_num) _ inb_S256x512_S128x128_0_128 _ inb_S1x2x8x128x256_S1x1x2x128x256_0_1_2_0_0 rfl rfl rfl rfl rfl rfl rfl) rfl inb_S256x512_S128x128_0_128 rfl rfl x,
    fun x => piece_dq 0 (H.reals0 0 (by norm_num) _ inb_S256x512_S128x128_0_0 _ inb_S1x2x8x128x256_S1x1x2x128x256_0_1_0_0_0 rfl rfl rfl rfl rfl rfl rfl) rfl inb_S256x512_S128x128_0_0 rfl rfl x, trivial⟩

theorem out_dq_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 = Gdq Q K V G L D B := by
  unfold out0_B_6
  rw [View.read_writes_junk_eq_canon]
  exact funext fun y => View.canon_apply_of_pieces (Gdq Q K V G L D B) _
    (pieces_dq_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9 H).mem y
    (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 y)

end Cert.Proof.Band

end
-- ==== Proof.Band.DkA.lean ====
/- What the body leaves in its block of the keys' gradient, at the first class: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dk_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    View.PiecesOf (Gdk Q K V G L D B) (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1 := by
  unfold kernelRun0_A
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dk_last rfl (scratch_whole _ (fun r c => bdk Q K V G L D B 1 (128 + r) c) _ _ _ _ _ ⟨rfl, rfl⟩ ⟨rfl, rfl⟩ ⟨rfl, rfl⟩ ⟨rfl, rfl⟩
      (fun x => hi_dk 1 (H.reals1 3 (by norm_num) _ _ k0_off10_inb k0_off11_inb _ inb_S1x2x8x128x256_S1x1x2x128x256_0_0_6_0_0 rfl rfl rfl rfl rfl rfl rfl rfl rfl) rfl x)
      (fun x => hi_dk 1 (H.reals1 2 (by norm_num) _ _ k0_off7_inb k0_off8_inb _ inb_S1x2x8x128x256_S1x1x2x128x256_0_0_4_0_0 rfl rfl rfl rfl rfl rfl rfl rfl rfl) rfl x)
      (fun x => hi_dk 1 (H.reals1 1 (by norm_num) _ _ k0_off4_inb k0_off5_inb _ inb_S1x2x8x128x256_S1x1x2x128x256_0_0_2_0_0 rfl rfl rfl rfl rfl rfl rfl rfl rfl) rfl x)
      (fun x => hi_dk 1 (H.reals1 0 (by norm_num) _ _ k0_off1_inb k0_off2_inb _ inb_S1x2x8x128x256_S1x1x2x128x256_0_0_0_0_0 rfl rfl rfl rfl rfl rfl rfl rfl rfl) rfl x)
      inb_S128x512_S128x512_0_0) inb_S256x512_S128x512_128_0 rfl x,
    fun x => piece_dk (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) rfl k0_off12_inb rfl rfl x,
    fun x => piece_dk (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) rfl k0_off9_inb rfl rfl x,
    fun x => piece_dk (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) rfl k0_off6_inb rfl rfl x,
    fun x => piece_dk (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) rfl k0_off3_inb rfl rfl x, trivial⟩

theorem out_dk_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 = Gdk Q K V G L D B := by
  unfold out0_A_7
  rw [View.read_writes_junk_eq_canon]
  exact funext fun y => View.canon_apply_of_pieces (Gdk Q K V G L D B) _
    (pieces_dk_A c i arg2 harg2 arg3 harg3 arg4 harg4 arg5 harg5 arg6 harg6 arg7 harg7 arg8 harg8 arg9 harg9 arg10 harg10 arg11 harg11 arg12 harg12 arg13 harg13 hc0 x0 x1 x2 x3 x4 x5 H).mem y
    (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 y)

end Cert.Proof.Band

end
-- ==== Proof.Band.DkB.lean ====
/- What the body leaves in its block of the keys' gradient, at every class but the first: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dk_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    View.PiecesOf (Gdk Q K V G L D B) (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9).2.1 := by
  unfold kernelRun0_B
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dk_last rfl (scratch_whole _ (fun r c => bdk Q K V G L D B 1 (128 + r) c) _ _ _ _ _ ⟨rfl, rfl⟩ ⟨rfl, rfl⟩ ⟨rfl, rfl⟩ ⟨rfl, rfl⟩
      (fun x => hi_dk 1 (H.reals1 3 (by norm_num) _ _ k0_off10_inb k0_off11_inb _ inb_S1x2x8x128x256_S1x1x2x128x256_0_0_6_0_0 rfl rfl rfl rfl rfl rfl rfl rfl rfl) rfl x)
      (fun x => hi_dk 1 (H.reals1 2 (by norm_num) _ _ k0_off7_inb k0_off8_inb _ inb_S1x2x8x128x256_S1x1x2x128x256_0_0_4_0_0 rfl rfl rfl rfl rfl rfl rfl rfl rfl) rfl x)
      (fun x => hi_dk 1 (H.reals1 1 (by norm_num) _ _ k0_off4_inb k0_off5_inb _ inb_S1x2x8x128x256_S1x1x2x128x256_0_0_2_0_0 rfl rfl rfl rfl rfl rfl rfl rfl rfl) rfl x)
      (fun x => hi_dk 1 (H.reals1 0 (by norm_num) _ _ k0_off1_inb k0_off2_inb _ inb_S1x2x8x128x256_S1x1x2x128x256_0_0_0_0_0 rfl rfl rfl rfl rfl rfl rfl rfl rfl) rfl x)
      inb_S128x512_S128x512_0_0) inb_S256x512_S128x512_128_0 rfl x,
    fun x => piece_dk (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) rfl k0_off12_inb rfl rfl x,
    fun x => piece_dk (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) rfl k0_off9_inb rfl rfl x,
    fun x => piece_dk (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) rfl k0_off6_inb rfl rfl x,
    fun x => piece_dk (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) rfl k0_off3_inb rfl rfl x, trivial⟩

theorem out_dk_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 = Gdk Q K V G L D B := by
  unfold out0_B_7
  rw [View.read_writes_junk_eq_canon]
  exact funext fun y => View.canon_apply_of_pieces (Gdk Q K V G L D B) _
    (pieces_dk_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9 H).mem y
    (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 y)

end Cert.Proof.Band

end
-- ==== Proof.Band.DvA.lean ====
/- What the body leaves in its block of the values' gradient, at the first class: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dv_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    View.PiecesOf (Gdv Q K G L B) (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1 := by
  unfold kernelRun0_A
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dv_last rfl (scratch_whole _ (fun r c => bdv Q K G L B 1 (128 + r) c) _ _ _ _ _ ⟨rfl, rfl⟩ ⟨rfl, rfl⟩ ⟨rfl, rfl⟩ ⟨rfl, rfl⟩
      (fun x => hi_dv 1 (H.reals1 3 (by norm_num) _ _ k0_off10_inb k0_off11_inb _ inb_S1x2x8x128x256_S1x1x2x128x256_0_0_6_0_0 rfl rfl rfl rfl rfl rfl rfl rfl rfl) rfl x)
      (fun x => hi_dv 1 (H.reals1 2 (by norm_num) _ _ k0_off7_inb k0_off8_inb _ inb_S1x2x8x128x256_S1x1x2x128x256_0_0_4_0_0 rfl rfl rfl rfl rfl rfl rfl rfl rfl) rfl x)
      (fun x => hi_dv 1 (H.reals1 1 (by norm_num) _ _ k0_off4_inb k0_off5_inb _ inb_S1x2x8x128x256_S1x1x2x128x256_0_0_2_0_0 rfl rfl rfl rfl rfl rfl rfl rfl rfl) rfl x)
      (fun x => hi_dv 1 (H.reals1 0 (by norm_num) _ _ k0_off1_inb k0_off2_inb _ inb_S1x2x8x128x256_S1x1x2x128x256_0_0_0_0_0 rfl rfl rfl rfl rfl rfl rfl rfl rfl) rfl x)
      inb_S128x512_S128x512_0_0) inb_S256x512_S128x512_128_0 rfl x,
    fun x => piece_dv (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) rfl k0_off12_inb rfl rfl x,
    fun x => piece_dv (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) rfl k0_off9_inb rfl rfl x,
    fun x => piece_dv (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) rfl k0_off6_inb rfl rfl x,
    fun x => piece_dv (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) rfl k0_off3_inb rfl rfl x, trivial⟩

theorem out_dv_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 = Gdv Q K G L B := by
  unfold out0_A_8
  rw [View.read_writes_junk_eq_canon]
  exact funext fun y => View.canon_apply_of_pieces (Gdv Q K G L B) _
    (pieces_dv_A c i arg2 harg2 arg3 harg3 arg4 harg4 arg5 harg5 arg6 harg6 arg7 harg7 arg8 harg8 arg9 harg9 arg10 harg10 arg11 harg11 arg12 harg12 arg13 harg13 hc0 x0 x1 x2 x3 x4 x5 H).mem y
    (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 y)

end Cert.Proof.Band

end
-- ==== Proof.Band.DvB.lean ====
/- What the body leaves in its block of the values' gradient, at every class but the first: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem pieces_dv_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    View.PiecesOf (Gdv Q K G L B) (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9).2.2.1 := by
  unfold kernelRun0_B
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact ⟨fun x => piece_dv_last rfl (scratch_whole _ (fun r c => bdv Q K G L B 1 (128 + r) c) _ _ _ _ _ ⟨rfl, rfl⟩ ⟨rfl, rfl⟩ ⟨rfl, rfl⟩ ⟨rfl, rfl⟩
      (fun x => hi_dv 1 (H.reals1 3 (by norm_num) _ _ k0_off10_inb k0_off11_inb _ inb_S1x2x8x128x256_S1x1x2x128x256_0_0_6_0_0 rfl rfl rfl rfl rfl rfl rfl rfl rfl) rfl x)
      (fun x => hi_dv 1 (H.reals1 2 (by norm_num) _ _ k0_off7_inb k0_off8_inb _ inb_S1x2x8x128x256_S1x1x2x128x256_0_0_4_0_0 rfl rfl rfl rfl rfl rfl rfl rfl rfl) rfl x)
      (fun x => hi_dv 1 (H.reals1 1 (by norm_num) _ _ k0_off4_inb k0_off5_inb _ inb_S1x2x8x128x256_S1x1x2x128x256_0_0_2_0_0 rfl rfl rfl rfl rfl rfl rfl rfl rfl) rfl x)
      (fun x => hi_dv 1 (H.reals1 0 (by norm_num) _ _ k0_off1_inb k0_off2_inb _ inb_S1x2x8x128x256_S1x1x2x128x256_0_0_0_0_0 rfl rfl rfl rfl rfl rfl rfl rfl rfl) rfl x)
      inb_S128x512_S128x512_0_0) inb_S256x512_S128x512_128_0 rfl x,
    fun x => piece_dv (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) rfl k0_off12_inb rfl rfl x,
    fun x => piece_dv (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) rfl k0_off9_inb rfl rfl x,
    fun x => piece_dv (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) rfl k0_off6_inb rfl rfl x,
    fun x => piece_dv (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) rfl k0_off3_inb rfl rfl x, trivial⟩

theorem out_dv_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 = Gdv Q K G L B := by
  unfold out0_B_8
  rw [View.read_writes_junk_eq_canon]
  exact funext fun y => View.canon_apply_of_pieces (Gdv Q K G L B) _
    (pieces_dv_B c i arg2 harg2 arg3 harg3 arg4 harg4 arg5 harg5 arg6 harg6 arg7 harg7 arg8 harg8 arg9 harg9 arg10 harg10 arg11 harg11 arg12 harg12 arg13 harg13 hc0 x0 x1 x2 x3 x4 x5 xo9 H).mem y
    (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 y)

end Cert.Proof.Band

end
-- ==== Proof.Band.DbA.lean ====
/- What the body leaves in its block of the bias gradient, at the first class: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem out_db_A (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : cond0_0 i) (x0 x1 x2 x3 : Vec Ideal S256x512 .bf16) (x4 : Vec Ideal S256x512 .f32) (x5 : Vec Ideal S1x2x8x128x256 .f32)
    (H : Block Q K V G L D B x0 x1 x2 x3 x4 x5) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 = Gdb Q K V G L D B (k0_pay2 (F := Ideal)) := by
  unfold out0_A_9
  rw [View.read_writes_junk_eq_canon]
  unfold kernelRun0_A
  dsimp only
  sl_unfold_words
  simp (disch := decide) only [↓View.readCov_skip, ↓View.readCov_cons_toLoadRect, ↓View.readCov_fill, View.readAt_eq_ld, harg2.read_unread, harg3.read_unread, harg4.read_unread,
    harg5.read_unread, harg6.read_unread, harg7.read_unread, harg11.read_unread]
  exact funext fun y => View.canon_append_of_piecesOf (Gdb Q K V G L D B (k0_pay2 (F := Ideal))) _ [_, _, _, _]
    ⟨fun x => piece_db (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) _ inb_S8x128x256_S2x128x256_6_0_0 rfl rfl rfl rfl rfl x,
    fun x => piece_db (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) _ inb_S8x128x256_S2x128x256_4_0_0 rfl rfl rfl rfl rfl x,
    fun x => piece_db (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) _ inb_S8x128x256_S2x128x256_2_0_0 rfl rfl rfl rfl rfl x,
    fun x => piece_db (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) _ inb_S8x128x256_S2x128x256_0_0_0 rfl rfl rfl rfl rfl x, trivial⟩ y
    (cover_db inb_S8x128x256_S2x128x256_6_0_0 inb_S8x128x256_S2x128x256_4_0_0 inb_S8x128x256_S2x128x256_2_0_0
      inb_S8x128x256_S2x128x256_0_0_0 rfl rfl rfl rfl y)

end Cert.Proof.Band

end
-- ==== Proof.Band.DbB.lean ====
/- What the body leaves in its block of the bias gradient, at every class but the first: the stores of the body, in the order
   the body made them (the last first), each held against the tile's formulas. -/
module

public import proofs.«01_k».proof.Proof.Gen.KernelIdeal.Value
public import proofs.«01_k».proof.Proof.Band.Block

@[expose] public section

set_option maxRecDepth 16384

noncomputable section

namespace Cert.Proof.Band

open Cert.KernelIdeal Cert.KernelIdeal.Gen Idealize.ShloMosaic Idealize.ShloMosaic.TcCoe Idealize.SL.Sem

variable {Q K V G : ℕ → ℕ → ℝ} {L D : ℕ → ℕ → ℝ} {B : ℕ → ℕ → ℕ → ℝ}

theorem out_db_B (c : Dev nD) (i : grid0.Coords)
     (arg2 : Memref sig .tc .vmem S256x512 .bf16) (harg2 : arg2.IsWhole) (arg3 : Memref sig .tc .vmem S256x512 .bf16) (harg3 : arg3.IsWhole)
      (arg4 : Memref sig .tc .vmem S256x512 .bf16) (harg4 : arg4.IsWhole) (arg5 : Memref sig .tc .vmem S256x512 .bf16) (harg5 : arg5.IsWhole)
      (arg6 : Memref sig .tc .vmem S256x512 .f32) (harg6 : arg6.IsWhole) (arg7 : Memref sig .tc .vmem S1x2x8x128x256 .f32) (harg7 : arg7.IsWhole)
      (arg8 : Memref sig .tc .vmem S256x512 .bf16) (harg8 : arg8.IsWhole) (arg9 : Memref sig .tc .vmem S256x512 .bf16) (harg9 : arg9.IsWhole)
      (arg10 : Memref sig .tc .vmem S256x512 .bf16) (harg10 : arg10.IsWhole) (arg11 : Memref sig .tc .vmem S8x128x256 .f32) (harg11 : arg11.IsWhole)
      (arg12 : Memref sig .tc .vmem S128x512 .f32) (harg12 : arg12.IsWhole) (arg13 : Memref sig .tc .vmem S128x512 .f32) (harg13 : arg13.IsWhole)
    (hc0 : ¬cond0_0 i) (x0 x1 x2 x3 : Vec Ideal S256x512 .bf16) (x4 : Vec Ideal S256x512 .f32) (x5 : Vec Ideal S1x2x8x128x256 .f32) (xo9 : Vec Ideal S8x128x256 .f32)
    (H : Block Q K V G L D B x0 x1 x2 x3 x4 x5) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 xo9 = Gdb Q K V G L D B xo9 := by
  unfold out0_B_9
  rw [View.read_writes_junk_eq_canon]
  unfold kernelRun0_B
  dsimp only
  sl_unfold_words
  simp (disch := decide) only [↓View.readCov_skip, ↓View.readCov_cons_toLoadRect, View.readAt_eq_ld, harg2.read_unread, harg3.read_unread, harg4.read_unread,
    harg5.read_unread, harg6.read_unread, harg7.read_unread, harg11.read_unread]
  exact funext fun y => View.canon_append_of_piecesOf (Gdb Q K V G L D B xo9) _ [_, _, _, _]
    ⟨fun x => piece_db (H.reals0 3 (by norm_num) _ inb_S256x512_S128x128_0_384 _ inb_S1x2x8x128x256_S1x1x2x128x256_0_1_6_0_0 rfl rfl rfl rfl rfl rfl rfl) (H.reals1 3 (by norm_num) _ _ k0_off10_inb k0_off11_inb _ inb_S1x2x8x128x256_S1x1x2x128x256_0_0_6_0_0 rfl rfl rfl rfl rfl rfl rfl rfl rfl) _ inb_S8x128x256_S2x128x256_6_0_0 rfl rfl rfl rfl rfl x,
    fun x => piece_db (H.reals0 2 (by norm_num) _ inb_S256x512_S128x128_0_256 _ inb_S1x2x8x128x256_S1x1x2x128x256_0_1_4_0_0 rfl rfl rfl rfl rfl rfl rfl) (H.reals1 2 (by norm_num) _ _ k0_off7_inb k0_off8_inb _ inb_S1x2x8x128x256_S1x1x2x128x256_0_0_4_0_0 rfl rfl rfl rfl rfl rfl rfl rfl rfl) _ inb_S8x128x256_S2x128x256_4_0_0 rfl rfl rfl rfl rfl x,
    fun x => piece_db (H.reals0 1 (by norm_num) _ inb_S256x512_S128x128_0_128 _ inb_S1x2x8x128x256_S1x1x2x128x256_0_1_2_0_0 rfl rfl rfl rfl rfl rfl rfl) (H.reals1 1 (by norm_num) _ _ k0_off4_inb k0_off5_inb _ inb_S1x2x8x128x256_S1x1x2x128x256_0_0_2_0_0 rfl rfl rfl rfl rfl rfl rfl rfl rfl) _ inb_S8x128x256_S2x128x256_2_0_0 rfl rfl rfl rfl rfl x,
    fun x => piece_db (H.reals0 0 (by norm_num) _ inb_S256x512_S128x128_0_0 _ inb_S1x2x8x128x256_S1x1x2x128x256_0_1_0_0_0 rfl rfl rfl rfl rfl rfl rfl) (H.reals1 0 (by norm_num) _ _ k0_off1_inb k0_off2_inb _ inb_S1x2x8x128x256_S1x1x2x128x256_0_0_0_0_0 rfl rfl rfl rfl rfl rfl rfl rfl rfl) _ inb_S8x128x256_S2x128x256_0_0_0 rfl rfl rfl rfl rfl x, trivial⟩ y
    (cover_db inb_S8x128x256_S2x128x256_6_0_0 inb_S8x128x256_S2x128x256_4_0_0 inb_S8x128x256_S2x128x256_2_0_0
      inb_S8x128x256_S2x128x256_0_0_0 rfl rfl rfl rfl y)

end Cert.Proof.Band

end
-- ==== Proof.Band.Run.lean ====
/- The four result arrays after the run: each class's grid point writes that class's gradients, and the bias gradient is
   added up over the classes. -/
module

public import proofs.«01_k».proof.Proof.Band.Class
public import proofs.«01_k».proof.Proof.Band.DqA
public import proofs.«01_k».proof.Proof.Band.DqB
public import proofs.«01_k».proof.Proof.Band.DkA
public import proofs.«01_k».proof.Proof.Band.DkB
public import proofs.«01_k».proof.Proof.Band.DvA
public import proofs.«01_k».proof.Proof.Band.DvB
public import proofs.«01_k».proof.Proof.Band.DbA
public import proofs.«01_k».proof.Proof.Band.DbB
public import Idealize.ShloMosaic.Lib.Pipeline.ValueKit.Acc

@[expose] public section

set_option maxRecDepth 16384

noncomputable section

namespace Cert.Proof.Band

open Cert.KernelIdeal Cert.KernelIdeal.Gen Cert.KernelIdeal.Value Idealize.ShloMosaic Idealize.ShloMosaic.TcCoe
  Idealize.SL.Sem

variable (m : (ℓ : Loc nD τ sig) → Buf (Elt Ideal) ℓ)

theorem out_facts : ∀ t : Fin cfg0.N,
    win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 3) = 0 ∧ win0_9.index t (1 : Fin 3) = 0 ∧ win0_9.index t (2 : Fin 3) = 0 :=
  (by decide +kernel : ∀ t : Fin grid0.N, _)

/-- A result laid out class by class, 512 columns each. -/
def lay (f : ℕ → ℕ → ℕ → ℝ) : S256x8192.Idx → EReal := fun i => ((f ((i 1).val / 512) (i 0).val ((i 1).val % 512) : ℝ) : EReal)

theorem lay_at (f : ℕ → ℕ → ℕ → ℝ) (i : S256x8192.Idx) {n r k : ℕ} (hk : k < 512) (h0 : (i 0).val = r) (h1 : (i 1).val = n * 512 + k) :
    lay f i = ((f n r k : ℝ) : EReal) := by
  unfold lay
  rw [h0, h1, show (n * 512 + k) / 512 = n by omega, show (n * 512 + k) % 512 = k by omega]

/-- The bias gradient: the sum over the classes and their two blocks. -/
def tot (A : Args) : S8x128x256.Idx → EReal := fun i =>
  ((∑ n : Fin 16, ∑ b : Fin 2, A.ds n.val b.val (i 0).val (i 1).val (i 2).val : ℝ) : EReal)

variable (A : Args) (c : Dev nD) (H : A.Of (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)))
include H

theorem flushed_dq (t : Fin cfg0.N) :
    (dats m 0 c).flushed 6 t = ((cfg0.win 6).blk t).view.read (Elt Ideal) (lay A.DQ) := by
  obtain ⟨e0, e1, -⟩ := out_facts t
  have e : (dats m 0 c).flushed 6 t = (cfg0.win 6).cut (grid0.coords t) (fun y : S256x512.Idx => ((A.DQ t.val (y 0).val (y 1).val : ℝ) : EReal)) := by
    by_cases h0 : t.val % 16 = 0
    · exact (flushed6_A m c t h0).trans (congrArg ((cfg0.win 6).cut (grid0.coords t)) (out_dq_A c _ _ _ _ _ _ _ _ _ _ _ _ _ _ _ _ _ _ _ _ _ _ _ _ _ _ _ _ _ _ _ _ (block m A c H t)))
    · exact (flushed6_B m c t h0).trans (congrArg ((cfg0.win 6).cut (grid0.coords t)) (out_dq_B c _ _ _ _ _ _ _ _ _ _ _ _ _ _ _ _ _ _ _ _ _ _ _ _ _ _ _ _ _ _ _ _ _ (block m A c H t)))
  rw [e]
  funext y
  rw [View.read_apply]
  have h1 : (y 1).val < 512 := (y 1).isLt
  refine (lay_at A.DQ _ h1 ?_ ?_).symm
  · show win0_6.index t (0 : Fin 2) * 256 + 1 * (y 0).val = (y 0).val; rw [e0]; omega
  · show win0_6.index t (1 : Fin 2) * 512 + 1 * (y 1).val = t.val * 512 + (y 1).val; rw [e1]; omega

omit H in
theorem covered6 (i : S256x8192.Idx) :
    ∃ t : Fin cfg0.N, (cfg0.win 6).flush t = true ∧ i ∈ ((cfg0.win 6).blk t).view.set := by
  have h0 : (i 0).val < 256 := (i 0).isLt
  have h1 : (i 1).val < 8192 := (i 1).isLt
  have hN : cfg0.N = 16 := N_0
  refine ⟨⟨(i 1).val / 512, by omega⟩, flush0_6 _, ?_⟩
  obtain ⟨e0, e1, -⟩ := out_facts ⟨(i 1).val / 512, by omega⟩
  refine (Finset.ext_iff.mp (View.set_slice_whole main_v142_0 (win0_6.rect _)) i).mpr ?_
  rw [Rect.mem_set_unit]
  intro a
  match a with
  | ⟨0, _⟩ => show win0_6.index _ (0 : Fin 2) * 256 ≤ (i 0).val ∧ (i 0).val < win0_6.index _ (0 : Fin 2) * 256 + 256
              rw [e0]; omega
  | ⟨1, _⟩ => show win0_6.index _ (1 : Fin 2) * 512 ≤ (i 1).val ∧ (i 1).val < win0_6.index _ (1 : Fin 2) * 512 + 512
              rw [e1]; dsimp only; omega

theorem final_dq : (dats m 0 c).arrAt 6 cfg0.N = lay A.DQ :=
  (dats m 0 c).arrAt_eq_of_cover 6 (lay A.DQ) (fun t _ => flushed_dq m A c H t) covered6

theorem flushed_dk (t : Fin cfg0.N) :
    (dats m 0 c).flushed 7 t = ((cfg0.win 7).blk t).view.read (Elt Ideal) (lay A.DK) := by
  obtain ⟨-, -, e0, e1, -⟩ := out_facts t
  have e : (dats m 0 c).flushed 7 t = (cfg0.win 7).cut (grid0.coords t) (fun y : S256x512.Idx => ((A.DK t.val (y 0).val (y 1).val : ℝ) : EReal)) := by
    by_cases h0 : t.val % 16 = 0
    · exact (flushed7_A m c t h0).trans (congrArg ((cfg0.win 7).cut (grid0.coords t)) (out_dk_A c _ _ _ _ _ _ _ _ _ _ _ _ _ _ _ _ _ _ _ _ _ _ _ _ _ _ _ _ _ _ _ _ (block m A c H t)))
    · exact (flushed7_B m c t h0).trans (congrArg ((cfg0.win 7).cut (grid0.coords t)) (out_dk_B c _ _ _ _ _ _ _ _ _ _ _ _ _ _ _ _ _ _ _ _ _ _ _ _ _ _ _ _ _ _ _ _ _ (block m A c H t)))
  rw [e]
  funext y
  rw [View.read_apply]
  have h1 : (y 1).val < 512 := (y 1).isLt
  refine (lay_at A.DK _ h1 ?_ ?_).symm
  · show win0_7.index t (0 : Fin 2) * 256 + 1 * (y 0).val = (y 0).val; rw [e0]; omega
  · show win0_7.index t (1 : Fin 2) * 512 + 1 * (y 1).val = t.val * 512 + (y 1).val; rw [e1]; omega

omit H in
theorem covered7 (i : S256x8192.Idx) :
    ∃ t : Fin cfg0.N, (cfg0.win 7).flush t = true ∧ i ∈ ((cfg0.win 7).blk t).view.set := by
  have h0 : (i 0).val < 256 := (i 0).isLt
  have h1 : (i 1).val < 8192 := (i 1).isLt
  have hN : cfg0.N = 16 := N_0
  refine ⟨⟨(i 1).val / 512, by omega⟩, flush0_7 _, ?_⟩
  obtain ⟨-, -, e0, e1, -⟩ := out_facts ⟨(i 1).val / 512, by omega⟩
  refine (Finset.ext_iff.mp (View.set_slice_whole main_v142_1 (win0_7.rect _)) i).mpr ?_
  rw [Rect.mem_set_unit]
  intro a
  match a with
  | ⟨0, _⟩ => show win0_7.index _ (0 : Fin 2) * 256 ≤ (i 0).val ∧ (i 0).val < win0_7.index _ (0 : Fin 2) * 256 + 256
              rw [e0]; omega
  | ⟨1, _⟩ => show win0_7.index _ (1 : Fin 2) * 512 ≤ (i 1).val ∧ (i 1).val < win0_7.index _ (1 : Fin 2) * 512 + 512
              rw [e1]; dsimp only; omega

theorem final_dk : (dats m 0 c).arrAt 7 cfg0.N = lay A.DK :=
  (dats m 0 c).arrAt_eq_of_cover 7 (lay A.DK) (fun t _ => flushed_dk m A c H t) covered7

theorem flushed_dv (t : Fin cfg0.N) :
    (dats m 0 c).flushed 8 t = ((cfg0.win 8).blk t).view.read (Elt Ideal) (lay A.DV) := by
  obtain ⟨-, -, -, -, e0, e1, -⟩ := out_facts t
  have e : (dats m 0 c).flushed 8 t = (cfg0.win 8).cut (grid0.coords t) (fun y : S256x512.Idx => ((A.DV t.val (y 0).val (y 1).val : ℝ) : EReal)) := by
    by_cases h0 : t.val % 16 = 0
    · exact (flushed8_A m c t h0).trans (congrArg ((cfg0.win 8).cut (grid0.coords t)) (out_dv_A c _ _ _ _ _ _ _ _ _ _ _ _ _ _ _ _ _ _ _ _ _ _ _ _ _ _ _ _ _ _ _ _ (block m A c H t)))
    · exact (flushed8_B m c t h0).trans (congrArg ((cfg0.win 8).cut (grid0.coords t)) (out_dv_B c _ _ _ _ _ _ _ _ _ _ _ _ _ _ _ _ _ _ _ _ _ _ _ _ _ _ _ _ _ _ _ _ _ (block m A c H t)))
  rw [e]
  funext y
  rw [View.read_apply]
  have h1 : (y 1).val < 512 := (y 1).isLt
  refine (lay_at A.DV _ h1 ?_ ?_).symm
  · show win0_8.index t (0 : Fin 2) * 256 + 1 * (y 0).val = (y 0).val; rw [e0]; omega
  · show win0_8.index t (1 : Fin 2) * 512 + 1 * (y 1).val = t.val * 512 + (y 1).val; rw [e1]; omega

omit H in
theorem covered8 (i : S256x8192.Idx) :
    ∃ t : Fin cfg0.N, (cfg0.win 8).flush t = true ∧ i ∈ ((cfg0.win 8).blk t).view.set := by
  have h0 : (i 0).val < 256 := (i 0).isLt
  have h1 : (i 1).val < 8192 := (i 1).isLt
  have hN : cfg0.N = 16 := N_0
  refine ⟨⟨(i 1).val / 512, by omega⟩, flush0_8 _, ?_⟩
  obtain ⟨-, -, -, -, e0, e1, -⟩ := out_facts ⟨(i 1).val / 512, by omega⟩
  refine (Finset.ext_iff.mp (View.set_slice_whole main_v142_2 (win0_8.rect _)) i).mpr ?_
  rw [Rect.mem_set_unit]
  intro a
  match a with
  | ⟨0, _⟩ => show win0_8.index _ (0 : Fin 2) * 256 ≤ (i 0).val ∧ (i 0).val < win0_8.index _ (0 : Fin 2) * 256 + 256
              rw [e0]; omega
  | ⟨1, _⟩ => show win0_8.index _ (1 : Fin 2) * 512 ≤ (i 1).val ∧ (i 1).val < win0_8.index _ (1 : Fin 2) * 512 + 512
              rw [e1]; dsimp only; omega

theorem final_dv : (dats m 0 c).arrAt 8 cfg0.N = lay A.DV :=
  (dats m 0 c).arrAt_eq_of_cover 8 (lay A.DV) (fun t _ => flushed_dv m A c H t) covered8

theorem step_A (t : Fin cfg0.N) (h0 : t.val % 16 = 0) (y : S8x128x256.Idx) :
    (outsAt0 m c t.val t.isLt).2.2.2 y = 0
      + (((A.ds t.val 0 (y 0).val (y 1).val (y 2).val : ℝ) : EReal) + ((A.ds t.val 1 (y 0).val (y 1).val (y 2).val : ℝ) : EReal)) := by
  rw [outsAt0_A m c t h0]
  dsimp only
  refine (congrFun (out_db_A c _ _ _ _ _ _ _ _ _ _ _ _ _ _ _ _ _ _ _ _ _ _ _ _ _ _ _ _ _ _ _ _ (block m A c H t)) y).trans ?_
  unfold Gdb
  rw [add_assoc]
  refine congrArg₂ (· + ·) Ideal.ofBits_zero_f32 rfl

theorem step_B (t : Fin cfg0.N) (h0 : ¬t.val % 16 = 0) (y : S8x128x256.Idx) :
    (outsAt0 m c t.val t.isLt).2.2.2 y = (outsAt0 m c (t.val - 1) (Nat.lt_of_le_of_lt (Nat.sub_le _ _) t.isLt)).2.2.2 y
      + (((A.ds t.val 0 (y 0).val (y 1).val (y 2).val : ℝ) : EReal) + ((A.ds t.val 1 (y 0).val (y 1).val (y 2).val : ℝ) : EReal)) := by
  rw [outsAt0_B m c t h0]
  dsimp only
  refine (congrFun (out_db_B c _ _ _ _ _ _ _ _ _ _ _ _ _ _ _ _ _ _ _ _ _ _ _ _ _ _ _ _ _ _ _ _ _ (block m A c H t)) y).trans ?_
  unfold Gdb
  rw [add_assoc]
  rfl

theorem last (t : Fin cfg0.N) (ht : t.val + 1 = cfg0.N) (y : S8x128x256.Idx) : (outsAt0 m c t.val t.isLt).2.2.2 y = tot A y := by
  have hN : cfg0.N = 16 := N_0
  refine (Pipeline.eq_sum_fin_of_reset_step_apply_last (fun n h => (outsAt0 m c n h).2.2.2) 16 (fun _ => (0 : EReal))
    (fun (t : Fin cfg0.N) (y : S8x128x256.Idx) => ((A.ds t.val 0 (y 0).val (y 1).val (y 2).val : ℝ) : EReal)
      + ((A.ds t.val 1 (y 0).val (y 1).val (y 2).val : ℝ) : EReal)) (fun t h y => step_A m A c H t h y) (fun t h y => step_B m A c H t h y)
    hN.le t ht y).trans ?_
  rw [zero_add, Fin.sum_univ_eq_sum_range (fun n => ((A.ds n 0 (y 0).val (y 1).val (y 2).val : ℝ) : EReal)
      + ((A.ds n 1 (y 0).val (y 1).val (y 2).val : ℝ) : EReal)) cfg0.N, hN, ← Fin.sum_univ_eq_sum_range]
  unfold tot
  refine Eq.trans (Finset.sum_congr rfl fun n _ => ?_) (coe_sum _ _)
  rw [Fin.sum_univ_two, EReal.coe_add]
  rfl

omit H in
theorem covered9 (i : S8x128x256.Idx) :
    ∃ t : Fin cfg0.N, (cfg0.win 9).flush t = true ∧ i ∈ ((cfg0.win 9).blk t).view.set := by
  have h0 : (i 0).val < 8 := (i 0).isLt
  have h1 : (i 1).val < 128 := (i 1).isLt
  have h2 : (i 2).val < 256 := (i 2).isLt
  have hN : cfg0.N = 16 := N_0
  refine ⟨⟨15, by omega⟩, (flush0_9 _).mpr rfl, ?_⟩
  obtain ⟨-, -, -, -, -, -, e0, e1, e2⟩ := out_facts ⟨15, by omega⟩
  refine (Finset.ext_iff.mp (View.set_slice_whole main_v142_3 (win0_9.rect _)) i).mpr ?_
  rw [Rect.mem_set_unit]
  intro a
  match a with
  | ⟨0, _⟩ => show win0_9.index _ (0 : Fin 3) * 8 ≤ (i 0).val ∧ (i 0).val < win0_9.index _ (0 : Fin 3) * 8 + 8
              rw [e0]; omega
  | ⟨1, _⟩ => show win0_9.index _ (1 : Fin 3) * 128 ≤ (i 1).val ∧ (i 1).val < win0_9.index _ (1 : Fin 3) * 128 + 128
              rw [e1]; omega
  | ⟨2, _⟩ => show win0_9.index _ (2 : Fin 3) * 256 ≤ (i 2).val ∧ (i 2).val < win0_9.index _ (2 : Fin 3) * 256 + 256
              rw [e2]; omega

theorem flushed_db (t : Fin cfg0.N) (hf : (cfg0.win 9).flush t = true) :
    (dats m 0 c).flushed 9 t = ((cfg0.win 9).blk t).view.read (Elt Ideal) (tot A) := by
  have hN : cfg0.N = 16 := N_0
  have ht : t.val % 16 = 15 := (flush0_9 t).mp hf
  have htl : t.val < cfg0.N := t.isLt
  obtain ⟨-, -, -, -, -, -, e0, e1, e2⟩ := out_facts t
  rw [flushed9]
  funext y
  rw [View.read_apply]
  refine (last m A c H t (by omega) y).trans (congrArg (tot A) (funext fun a => Fin.ext ?_))
  match a with
  | ⟨0, _⟩ => show (y 0).val = win0_9.index t (0 : Fin 3) * 8 + 1 * (y 0).val; rw [e0]; omega
  | ⟨1, _⟩ => show (y 1).val = win0_9.index t (1 : Fin 3) * 128 + 1 * (y 1).val; rw [e1]; omega
  | ⟨2, _⟩ => show (y 2).val = win0_9.index t (2 : Fin 3) * 256 + 1 * (y 2).val; rw [e2]; omega

theorem final_db : (dats m 0 c).arrAt 9 cfg0.N = tot A :=
  (dats m 0 c).arrAt_eq_of_cover 9 (tot A) (fun t hf => flushed_db m A c H t hf) covered9

end Cert.Proof.Band

end
-- ==== Proof.Band.Finite.lean ====
/- What the precondition says: the six arguments are real numbers, and the rest's sum is not negative. -/
module

public import proofs.«01_k».proof.Defs
public import proofs.«01_k».proof.Proof.Band.Stat
public import Idealize.ShloMosaic.Lib.ReduceAll

@[expose] public section

set_option maxRecDepth 16384

noncomputable section

namespace Cert.Proof.Band

open Idealize.ShloMosaic

theorem posInf_f32 : Ideal.ofBits .f32 0x7F800000#32 = ⊤ := by
  simp [Ideal.ofBits, Ideal.ieee]

instance : Subsingleton Cert.Pre_finite.S_.Idx := ⟨fun _ _ => funext fun a => a.elim0⟩

theorem and_one {s : Shape} {a b : IVec s 1} {j : s.Idx} (h : andi a b j = 1#1) : a j = 1#1 ∧ b j = 1#1 := IntOp.andi_eq_one.1 h

theorem real_of_lt {x : EReal} (h : max x (-x) < ⊤) : x = ((x.toReal : ℝ) : EReal) := by
  refine (EReal.coe_toReal (fun e => ?_) (fun e => ?_)).symm
  · rw [e] at h; exact absurd h (by simp)
  · rw [e] at h; exact absurd h (by simp)

theorem all_real {s : Shape} {axes : List (Fin s.rank)} (x : FVec Ideal s .f32)
    (b : Cert.Pre_finite.S_.BroadcastsInDim s (![] : Fin 0 → Fin s.rank)) (hr : s.ReducesTo axes Cert.Pre_finite.S_) (hu : 0 < Cert.Pre_finite.S_.numel)
    (init : IVec Cert.Pre_finite.S_ 1) (j : Cert.Pre_finite.S_.Idx)
    (e : Host.reduce IntOp.andi (cmpf .olt (Host.absf x) (broadcastInDim s ![] b (constant (F := Ideal) Cert.Pre_finite.S_ .f32 0x7F800000#32))) init hr hu j = 1#1)
    (i : s.Idx) : x i = (((x i).toReal : ℝ) : EReal) := by
  have h : BitVec.ofBool (decide (max (x i) (-(x i)) < Ideal.ofBits .f32 0x7F800000#32)) = 1#1 := Host.reduce_andi_all _ _ _ _ _ e i
  rw [posInf_f32] at h
  refine real_of_lt ?_
  by_contra hn
  rw [decide_eq_false hn] at h
  exact absurd h (by decide)

theorem all_nonneg {s : Shape} {axes : List (Fin s.rank)} (x : FVec Ideal s .f32)
    (b : Cert.Pre_finite.S_.BroadcastsInDim s (![] : Fin 0 → Fin s.rank)) (hr : s.ReducesTo axes Cert.Pre_finite.S_) (hu : 0 < Cert.Pre_finite.S_.numel)
    (init : IVec Cert.Pre_finite.S_ 1) (j : Cert.Pre_finite.S_.Idx)
    (e : Host.reduce IntOp.andi (cmpf .oge x (broadcastInDim s ![] b (constant (F := Ideal) Cert.Pre_finite.S_ .f32 0x00000000#32))) init hr hu j = 1#1)
    (i : s.Idx) : 0 ≤ (x i).toReal := by
  have h : BitVec.ofBool (decide (Ideal.ofBits .f32 0x00000000#32 ≤ x i)) = 1#1 := Host.reduce_andi_all _ _ _ _ _ e i
  rw [Ideal.ofBits_zero_f32] at h
  refine EReal.toReal_nonneg ?_
  by_contra hn
  rw [decide_eq_false hn] at h
  exact absurd h (by decide)

/-- An array of real numbers as a function of natural numbers, zero outside the array. -/
def nat2 {a b : ℕ} (x : (⟨2, ![a, b]⟩ : Shape).Idx → EReal) (r k : ℕ) : ℝ := if h : r < a ∧ k < b then (x (ix2 ⟨r, h.1⟩ ⟨k, h.2⟩)).toReal else 0
def nat3 {a b d : ℕ} (x : (⟨3, ![a, b, d]⟩ : Shape).Idx → EReal) (r k l : ℕ) : ℝ :=
  if h : r < a ∧ k < b ∧ l < d then (x (ix3 ⟨r, h.1⟩ ⟨k, h.2.1⟩ ⟨l, h.2.2⟩)).toReal else 0

theorem nat2_at {a b : ℕ} (x : (⟨2, ![a, b]⟩ : Shape).Idx → EReal) (hx : ∀ i, x i = (((x i).toReal : ℝ) : EReal)) (i : (⟨2, ![a, b]⟩ : Shape).Idx) :
    x i = ((nat2 x (i 0).val (i 1).val : ℝ) : EReal) := by
  have h0 : (i 0).val < a := (i 0).isLt
  have h1 : (i 1).val < b := (i 1).isLt
  unfold nat2
  rw [dif_pos ⟨h0, h1⟩]
  exact (hx i).trans (congrArg (fun j => (((x j).toReal : ℝ) : EReal)) (eq_ix2 (n0 := a) (n1 := b) i))

theorem nat3_at {a b d : ℕ} (x : (⟨3, ![a, b, d]⟩ : Shape).Idx → EReal) (hx : ∀ i, x i = (((x i).toReal : ℝ) : EReal)) (i : (⟨3, ![a, b, d]⟩ : Shape).Idx) :
    x i = ((nat3 x (i 0).val (i 1).val (i 2).val : ℝ) : EReal) := by
  have h0 : (i 0).val < a := (i 0).isLt
  have h1 : (i 1).val < b := (i 1).isLt
  have h2 : (i 2).val < d := (i 2).isLt
  unfold nat3
  rw [dif_pos ⟨h0, h1, h2⟩]
  exact (hx i).trans (congrArg (fun j => (((x j).toReal : ℝ) : EReal)) (eq_ix3 (n0 := a) (n1 := b) (n2 := d) i))

variable [Cert.Pre_finite.Facts]

/-- The arguments as real numbers. -/
def args (x0 : FVec Ideal Cert.Pre_finite.S4096x1536 .f32) (x1 : FVec Ideal Cert.Pre_finite.S4096x512 .f32) (x2 : FVec Ideal Cert.Pre_finite.S8x128x256 .f32)
    (x3 : FVec Ideal Cert.Pre_finite.S4096x512 .f32) (x4 x5 : FVec Ideal Cert.Pre_finite.S4096x8 .f32) (h : ∀ i, 0 ≤ (x5 i).toReal) : Args where
  Z := nat2 x0
  DO := nat2 x1
  B := nat3 x2
  OR := nat2 x3
  MR := nat2 x4
  SR := nat2 x5
  sr t k := by
    unfold nat2
    split
    · exact h _
    · exact le_rfl

theorem args_of (x0 : FVec Ideal Cert.Pre_finite.S4096x1536 .f32) (x1 : FVec Ideal Cert.Pre_finite.S4096x512 .f32) (x2 : FVec Ideal Cert.Pre_finite.S8x128x256 .f32)
    (x3 : FVec Ideal Cert.Pre_finite.S4096x512 .f32) (x4 x5 : FVec Ideal Cert.Pre_finite.S4096x8 .f32)
    (h : Cert.Pre_finite.fn (F := Ideal) x0 x1 x2 x3 x4 x5 = fun _ => 1#1) : ∃ A : Args, A.Of x0 x1 x2 x3 x4 x5 := by
  have e := congrFun h (fun a => a.elim0)
  unfold Cert.Pre_finite.fn Cert.Pre_finite.fn_part1 Cert.Pre_finite.fn_part2 at e
  dsimp only at e
  obtain ⟨e, e6⟩ := and_one e
  obtain ⟨e, e5⟩ := and_one e
  obtain ⟨e, e4⟩ := and_one e
  obtain ⟨e, e3⟩ := and_one e
  obtain ⟨e, e2⟩ := and_one e
  obtain ⟨e, e1⟩ := and_one e
  obtain ⟨-, e0⟩ := and_one e
  exact ⟨args x0 x1 x2 x3 x4 x5 (all_nonneg x5 _ _ _ _ _ e6),
    nat2_at x0 (all_real x0 _ _ _ _ _ e0), nat2_at x1 (all_real x1 _ _ _ _ _ e1), nat3_at x2 (all_real x2 _ _ _ _ _ e2),
    nat2_at x3 (all_real x3 _ _ _ _ _ e3), nat2_at x4 (all_real x4 _ _ _ _ _ e4), nat2_at x5 (all_real x5 _ _ _ _ _ e5)⟩

end Cert.Proof.Band

end
-- ==== Proof.Band.Agree.lean ====
/- The band's backward computes what the reference's differentiation gives. -/
module

public import proofs.«01_k».proof.Defs
public import proofs.«01_k».proof.Proof.Band.Run
public import proofs.«01_k».proof.Proof.Band.Finite
public import proofs.«01_k».proof.Proof.Gen.ReferenceIdeal.Run

@[expose] public section

set_option maxRecDepth 16384

noncomputable section

namespace Cert.Proof.Band

open Idealize.ShloMosaic Idealize.ShloMosaic.TcCoe Idealize.SL.Sem

variable [Cert.Pre_finite.Facts]
variable (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)

/-- From memories agreeing on the arguments, all of them real numbers and the rest's sum not negative, both programs run,
    end with equal results and leave the arguments as they were. -/
theorem agree (hp : Cert.Pre_KernelIdeal_finite m)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    ∃ (v0 : (c : Dev Cert.KernelIdeal.nD) → Buf (Elt Ideal) ((c.tc : Thread Cert.KernelIdeal.nD Cert.KernelIdeal.τ).loc Cert.KernelIdeal.main_v142_0)) (v1 : (c : Dev Cert.KernelIdeal.nD) → Buf (Elt Ideal) ((c.tc : Thread Cert.KernelIdeal.nD Cert.KernelIdeal.τ).loc Cert.KernelIdeal.main_v142_1)) (v2 : (c : Dev Cert.KernelIdeal.nD) → Buf (Elt Ideal) ((c.tc : Thread Cert.KernelIdeal.nD Cert.KernelIdeal.τ).loc Cert.KernelIdeal.main_v142_2)) (v3 : (c : Dev Cert.KernelIdeal.nD) → Buf (Elt Ideal) ((c.tc : Thread Cert.KernelIdeal.nD Cert.KernelIdeal.τ).loc Cert.KernelIdeal.main_v142_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142_0) = v0 c
          ∧ r.2.mem ((c.tc : Thread Cert.KernelIdeal.nD Cert.KernelIdeal.τ).loc Cert.KernelIdeal.main_v142_1) = v1 c
          ∧ r.2.mem ((c.tc : Thread Cert.KernelIdeal.nD Cert.KernelIdeal.τ).loc Cert.KernelIdeal.main_v142_2) = v2 c
          ∧ r.2.mem ((c.tc : Thread Cert.KernelIdeal.nD Cert.KernelIdeal.τ).loc Cert.KernelIdeal.main_v142_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_v184) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  choose A H using fun c : Dev Cert.KernelIdeal.nD => args_of _ _ _ _ _ _ (hp c)
  refine ⟨fun c => lay (A c).DQ, fun c => lay (A c).DK, fun c => lay (A c).DV, fun c => tot (A c), ?_, ?_⟩
  · exact (θ_run (Cert.KernelIdeal.defs (F := Ideal)) _ _).mono (fun _ k c => ⟨(k c).1.trans (final_dq m (A c) c (H c)),
      (k c).2.1.trans (final_dk m (A c) c (H c)), (k c).2.2.1.trans (final_dv m (A c) c (H c)), (k c).2.2.2.1.trans (final_db m (A c) c (H c)),
      (k c).2.2.2.2⟩) (Cert.KernelIdeal.Value.run_blocks m g)
  · refine (θ_run (Cert.ReferenceIdeal.defs (F := Ideal)) _ _).mono (fun _ k c => ?_) (Cert.ReferenceIdeal.Value.run m' g')
    obtain ⟨a0, a1, a2, a3, a4, a5⟩ := h c
    have H' := H c
    rw [← a0, ← a1, ← a2, ← a3, ← a4, ← a5] at H'
    exact ⟨(k c).1.trans ((Cert.ReferenceIdeal.Read.val_main_v220_eq (F := Ideal) _).trans (funext fun i => H'.v220 i)),
      (k c).2.1.trans ((Cert.ReferenceIdeal.Read.val_main_v222_eq (F := Ideal) _).trans (funext fun i => H'.v222 i)),
      (k c).2.2.1.trans ((Cert.ReferenceIdeal.Read.val_main_v224_eq (F := Ideal) _).trans (funext fun i => H'.v224 i)),
      (k c).2.2.2.1.trans ((Cert.ReferenceIdeal.Read.val_main_v184_eq (F := Ideal) _).trans (funext fun i => H'.v184 i)),
      (k c).2.2.2.2⟩

end Cert.Proof.Band

end
-- ==== Proof.Ffn.Gate.lean ====
/- The up projection of a feed-forward half with its gate. The kernel takes 512 rows and one shard of each half of the
   weight at a time, in column blocks; the reference multiplies by the whole weight at once and halves the product. Every
   entry of the three results is the same function of the operands. -/
module

public import proofs.«01_k».proof.Proof.Gen.KernelGateIdeal.Value
public import proofs.«01_k».proof.Proof.Gen.ReferenceGateIdeal.Run
public import proofs.«01_k».proof.Proof.Gen.ReferenceGateIdeal.Read
public import Idealize.ShloMosaic.Lib.Pointwise
public import Idealize.ShloMosaic.Lib.Pipeline.ReadBack

@[expose] public section

set_option maxRecDepth 16384

noncomputable section

namespace Cert.Proof.Gate

open Cert.KernelGateIdeal Cert.KernelGateIdeal.Gen Cert.KernelGateIdeal.Value Idealize.ShloMosaic Idealize.ShloMosaic.TcCoe
  Idealize.SL.Sem

/-! ## The results as functions of the operands -/

/-- The gated value. -/
def act (g u : EReal) : EReal := g * Ideal.logistic g * u

/-- Shard `s + j / 1408` of the weight, column `j % 1408` of it, against a token. -/
def outG (s : ℕ) (hs : s ≤ 2) (n : FVec Ideal S4096x1024 .bf16) (w : FVec Ideal S4x1024x1408 .bf16) : FVec Ideal S4096x2816 .bf16 :=
  fun i => ∑ k : Fin 1024, n (ix2 (i 0) k) * w (ix3 ⟨s + (i 1).val / 1408, by
    have h1 : (i 1).val < 2816 := (i 1).isLt
    omega⟩ k ⟨(i 1).val % 1408, by omega⟩)

def outA (n : FVec Ideal S4096x1024 .bf16) (w : FVec Ideal S4x1024x1408 .bf16) : FVec Ideal S4096x2816 .bf16 :=
  fun i => act (outG 0 (by norm_num) n w i) (outG 2 (by norm_num) n w i)

/-! ## The kernel's stores -/

theorem payG256_apply (n : Vec Ideal S512x1024 .bf16) (w : Vec Ideal S1x1024x256 .bf16) (r : Fin 512) (x : Fin 256) :
    k0_pay5 (F := Ideal) n w (ix2 r x) = ∑ k : Fin 1024, n (ix2 r k) * w (ix3 0 k x) := by
  pointwise [k0_pay5, k0_pay3]

theorem payG128_apply (n : Vec Ideal S512x1024 .bf16) (w : Vec Ideal S1x1024x128 .bf16) (r : Fin 512) (x : Fin 128) :
    k0_pay30 (F := Ideal) n w (ix2 r x) = ∑ k : Fin 1024, n (ix2 r k) * w (ix3 0 k x) := by
  pointwise [k0_pay30, k0_pay28]

theorem payA256_eq (n : Vec Ideal S512x1024 .bf16) (w w' : Vec Ideal S1x1024x256 .bf16) (x : S512x256.Idx) :
    k0_pay7 (F := Ideal) n w w' x = act (k0_pay5 n w x) (k0_pay5 n w' x) := rfl

theorem payA128_eq (n : Vec Ideal S512x1024 .bf16) (w w' : Vec Ideal S1x1024x128 .bf16) (x : S512x128.Idx) :
    k0_pay2 (F := Ideal) (k0_pay28 n w) (k0_pay29 n w') x = act (k0_pay30 n w x) (k0_pay30 n w' x) := rfl

theorem hz2 : (![0, 0] : Fin 2 → Nat) = fun _ => 0 := funext fun a => by fin_cases a <;> rfl

/-- The results of one block: 512 tokens against one shard of each half. -/
def blkG (x0 : Vec Ideal S512x1024 .bf16) (x1 : Vec Ideal S1x1024x1408 .bf16) : Vec Ideal S512x1408 .bf16 :=
  fun y => ∑ k : Fin 1024, x0 (ix2 (y 0) k) * x1 (ix3 0 k (y 1))

def blkA (x0 : Vec Ideal S512x1024 .bf16) (x1 x2 : Vec Ideal S1x1024x1408 .bf16) : Vec Ideal S512x1408 .bf16 :=
  fun y => act (blkG x0 x1 y) (blkG x0 x2 y)

theorem pieceG256 (x0 : Vec Ideal S512x1024 .bf16) (x1 : Vec Ideal S1x1024x1408 .bf16) (o1 : Fin 3 → ℕ) (o : Fin 2 → ℕ)
    (i1 : ∀ a, o1 a + S1x1024x256.size a ≤ S1x1024x1408.size a) (i2 : ∀ a, o a + S512x256.size a ≤ S512x1408.size a)
    (h0 : o1 0 = 0) (h1 : o1 1 = 0) (h2 : o1 2 = o 1) (h : o 0 = 0) (x : S512x256.Idx) :
    k0_pay5 (F := Ideal) (View.ld x0 (Rect.unit (s := S512x1024) ![0, 0] S512x1024.size inb_S512x1024_S512x1024_0_0))
        (View.ld x1 (Rect.unit (s := S1x1024x1408) o1 S1x1024x256.size i1)) x
      = blkG x0 x1 ((Rect.unit (s := S512x1408) o S512x256.size i2).emb x) := by
  rw [View.ld_unit_zero hz2]
  refine (congrArg (k0_pay5 (F := Ideal) x0 _) (eq_ix2 (n0 := 512) (n1 := 256) x)).trans ((payG256_apply _ _ _ _).trans ?_)
  unfold blkG
  refine Finset.sum_congr rfl fun k _ => congrArg₂ (· * ·) (congrArg x0 (funext fun a => Fin.ext ?_)) (congrArg x1 (funext fun a => Fin.ext ?_))
  · match a with
    | ⟨0, _⟩ => show (x 0).val = o 0 + 1 * (x 0).val; omega
    | ⟨1, _⟩ => rfl
  · match a with
    | ⟨0, _⟩ => show o1 0 + 1 * 0 = 0; omega
    | ⟨1, _⟩ => show o1 1 + 1 * k.val = k.val; omega
    | ⟨2, _⟩ => show o1 2 + 1 * (x 1).val = o 1 + 1 * (x 1).val; omega

theorem pieceA256 (x0 : Vec Ideal S512x1024 .bf16) (x1 x2 : Vec Ideal S1x1024x1408 .bf16) (o1 : Fin 3 → ℕ) (o : Fin 2 → ℕ)
    (i1 : ∀ a, o1 a + S1x1024x256.size a ≤ S1x1024x1408.size a) (i2 : ∀ a, o a + S512x256.size a ≤ S512x1408.size a)
    (h0 : o1 0 = 0) (h1 : o1 1 = 0) (h2 : o1 2 = o 1) (h : o 0 = 0) (x : S512x256.Idx) :
    k0_pay7 (F := Ideal) (View.ld x0 (Rect.unit (s := S512x1024) ![0, 0] S512x1024.size inb_S512x1024_S512x1024_0_0))
        (View.ld x1 (Rect.unit (s := S1x1024x1408) o1 S1x1024x256.size i1))
        (View.ld x2 (Rect.unit (s := S1x1024x1408) o1 S1x1024x256.size i1)) x
      = blkA x0 x1 x2 ((Rect.unit (s := S512x1408) o S512x256.size i2).emb x) := by
  refine (payA256_eq _ _ _ x).trans ?_
  unfold blkA
  rw [← pieceG256 x0 x1 o1 o i1 i2 h0 h1 h2 h x, ← pieceG256 x0 x2 o1 o i1 i2 h0 h1 h2 h x]

theorem pieceG128 (x0 : Vec Ideal S512x1024 .bf16) (x1 : Vec Ideal S1x1024x1408 .bf16) (o1 : Fin 3 → ℕ) (o : Fin 2 → ℕ)
    (i1 : ∀ a, o1 a + S1x1024x128.size a ≤ S1x1024x1408.size a) (i2 : ∀ a, o a + S512x128.size a ≤ S512x1408.size a)
    (h0 : o1 0 = 0) (h1 : o1 1 = 0) (h2 : o1 2 = o 1) (h : o 0 = 0) (x : S512x128.Idx) :
    k0_pay30 (F := Ideal) (View.ld x0 (Rect.unit (s := S512x1024) ![0, 0] S512x1024.size inb_S512x1024_S512x1024_0_0))
        (View.ld x1 (Rect.unit (s := S1x1024x1408) o1 S1x1024x128.size i1)) x
      = blkG x0 x1 ((Rect.unit (s := S512x1408) o S512x128.size i2).emb x) := by
  rw [View.ld_unit_zero hz2]
  refine (congrArg (k0_pay30 (F := Ideal) x0 _) (eq_ix2 (n0 := 512) (n1 := 128) x)).trans ((payG128_apply _ _ _ _).trans ?_)
  unfold blkG
  refine Finset.sum_congr rfl fun k _ => congrArg₂ (· * ·) (congrArg x0 (funext fun a => Fin.ext ?_)) (congrArg x1 (funext fun a => Fin.ext ?_))
  · match a with
    | ⟨0, _⟩ => show (x 0).val = o 0 + 1 * (x 0).val; omega
    | ⟨1, _⟩ => rfl
  · match a with
    | ⟨0, _⟩ => show o1 0 + 1 * 0 = 0; omega
    | ⟨1, _⟩ => show o1 1 + 1 * k.val = k.val; omega
    | ⟨2, _⟩ => show o1 2 + 1 * (x 1).val = o 1 + 1 * (x 1).val; omega

theorem pieceA128 (x0 : Vec Ideal S512x1024 .bf16) (x1 x2 : Vec Ideal S1x1024x1408 .bf16) (o1 : Fin 3 → ℕ) (o : Fin 2 → ℕ)
    (i1 : ∀ a, o1 a + S1x1024x128.size a ≤ S1x1024x1408.size a) (i2 : ∀ a, o a + S512x128.size a ≤ S512x1408.size a)
    (h0 : o1 0 = 0) (h1 : o1 1 = 0) (h2 : o1 2 = o 1) (h : o 0 = 0) (x : S512x128.Idx) :
    k0_pay2 (F := Ideal) (k0_pay28 (View.ld x0 (Rect.unit (s := S512x1024) ![0, 0] S512x1024.size inb_S512x1024_S512x1024_0_0))
        (View.ld x1 (Rect.unit (s := S1x1024x1408) o1 S1x1024x128.size i1))) (k0_pay29 (View.ld x0 (Rect.unit (s := S512x1024) ![0, 0] S512x1024.size inb_S512x1024_S512x1024_0_0))
        (View.ld x2 (Rect.unit (s := S1x1024x1408) o1 S1x1024x128.size i1))) x
      = blkA x0 x1 x2 ((Rect.unit (s := S512x1408) o S512x128.size i2).emb x) := by
  refine (payA128_eq _ _ _ x).trans ?_
  unfold blkA
  rw [← pieceG128 x0 x1 o1 o i1 i2 h0 h1 h2 h x, ← pieceG128 x0 x2 o1 o i1 i2 h0 h1 h2 h x]

theorem pieces_g (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    View.PiecesOf (blkG x0 x1) (kernelRun0_A c i arg2 harg2 arg3 harg3 arg4 harg4 arg5 harg5 arg6 harg6 arg7 harg7 x0 x1 x2).1 := by
  unfold kernelRun0_A
  dsimp only
  sl_unfold_words
  simp (disch := decide) only [↓View.readCov_skip, ↓View.readCov_cons_toLoadRect, View.readAt_eq_ld, harg2.read_unread, harg3.read_unread, harg4.read_unread]
  exact ⟨fun x => pieceG128 x0 x1 _ _ _ inb_S512x1408_S512x128_0_1280 rfl rfl rfl rfl x,
    fun x => pieceG256 x0 x1 _ _ _ inb_S512x1408_S512x256_0_1024 rfl rfl rfl rfl x,
    fun x => pieceG256 x0 x1 _ _ _ inb_S512x1408_S512x256_0_768 rfl rfl rfl rfl x,
    fun x => pieceG256 x0 x1 _ _ _ inb_S512x1408_S512x256_0_512 rfl rfl rfl rfl x,
    fun x => pieceG256 x0 x1 _ _ _ inb_S512x1408_S512x256_0_256 rfl rfl rfl rfl x,
    fun x => pieceG256 x0 x1 _ _ _ inb_S512x1408_S512x256_0_0 rfl rfl rfl rfl x, trivial⟩

theorem out_g (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    out0_A_3 c i arg2 harg2 arg3 harg3 arg4 harg4 arg5 harg5 arg6 harg6 arg7 harg7 x0 x1 x2 = blkG x0 x1 := by
  unfold out0_A_3
  rw [View.read_writes_junk_eq_canon]
  exact funext fun y => View.canon_apply_of_pieces (blkG x0 x1) _
    (pieces_g c i arg2 harg2 arg3 harg3 arg4 harg4 arg5 harg5 arg6 harg6 arg7 harg7 x0 x1 x2).mem y
    (cover0_A_3 c i arg2 harg2 arg3 harg3 arg4 harg4 arg5 harg5 arg6 harg6 arg7 harg7 x0 x1 x2 y)

theorem pieces_u (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    View.PiecesOf (blkG x0 x2) (kernelRun0_A c i arg2 harg2 arg3 harg3 arg4 harg4 arg5 harg5 arg6 harg6 arg7 harg7 x0 x1 x2).2.1 := by
  unfold kernelRun0_A
  dsimp only
  sl_unfold_words
  simp (disch := decide) only [↓View.readCov_skip, ↓View.readCov_cons_toLoadRect, View.readAt_eq_ld, harg2.read_unread, harg3.read_unread, harg4.read_unread]
  exact ⟨fun x => pieceG128 x0 x2 _ _ _ inb_S512x1408_S512x128_0_1280 rfl rfl rfl rfl x,
    fun x => pieceG256 x0 x2 _ _ _ inb_S512x1408_S512x256_0_1024 rfl rfl rfl rfl x,
    fun x => pieceG256 x0 x2 _ _ _ inb_S512x1408_S512x256_0_768 rfl rfl rfl rfl x,
    fun x => pieceG256 x0 x2 _ _ _ inb_S512x1408_S512x256_0_512 rfl rfl rfl rfl x,
    fun x => pieceG256 x0 x2 _ _ _ inb_S512x1408_S512x256_0_256 rfl rfl rfl rfl x,
    fun x => pieceG256 x0 x2 _ _ _ inb_S512x1408_S512x256_0_0 rfl rfl rfl rfl x, trivial⟩

theorem out_u (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    out0_A_4 c i arg2 harg2 arg3 harg3 arg4 harg4 arg5 harg5 arg6 harg6 arg7 harg7 x0 x1 x2 = blkG x0 x2 := by
  unfold out0_A_4
  rw [View.read_writes_junk_eq_canon]
  exact funext fun y => View.canon_apply_of_pieces (blkG x0 x2) _
    (pieces_u c i arg2 harg2 arg3 harg3 arg4 harg4 arg5 harg5 arg6 harg6 arg7 harg7 x0 x1 x2).mem y
    (cover0_A_4 c i arg2 harg2 arg3 harg3 arg4 harg4 arg5 harg5 arg6 harg6 arg7 harg7 x0 x1 x2 y)

theorem pieces_a (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    View.PiecesOf (blkA x0 x1 x2) (kernelRun0_A c i arg2 harg2 arg3 harg3 arg4 harg4 arg5 harg5 arg6 harg6 arg7 harg7 x0 x1 x2).2.2.1 := by
  unfold kernelRun0_A
  dsimp only
  sl_unfold_words
  simp (disch := decide) only [↓View.readCov_skip, ↓View.readCov_cons_toLoadRect, View.readAt_eq_ld, harg2.read_unread, harg3.read_unread, harg4.read_unread]
  exact ⟨fun x => pieceA128 x0 x1 x2 _ _ _ inb_S512x1408_S512x128_0_1280 rfl rfl rfl rfl x,
    fun x => pieceA256 x0 x1 x2 _ _ _ inb_S512x1408_S512x256_0_1024 rfl rfl rfl rfl x,
    fun x => pieceA256 x0 x1 x2 _ _ _ inb_S512x1408_S512x256_0_768 rfl rfl rfl rfl x,
    fun x => pieceA256 x0 x1 x2 _ _ _ inb_S512x1408_S512x256_0_512 rfl rfl rfl rfl x,
    fun x => pieceA256 x0 x1 x2 _ _ _ inb_S512x1408_S512x256_0_256 rfl rfl rfl rfl x,
    fun x => pieceA256 x0 x1 x2 _ _ _ inb_S512x1408_S512x256_0_0 rfl rfl rfl rfl x, trivial⟩

theorem out_a (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S512x1408 .bf16) (harg5 : arg5.IsWhole) (arg6 : Memref sig .tc .vmem S512x1408 .bf16) (harg6 : arg6.IsWhole)
    (arg7 : Memref sig .tc .vmem S512x1408 .bf16) (harg7 : arg7.IsWhole)
    (x0 : Vec Ideal S512x1024 .bf16) (x1 x2 : Vec Ideal S1x1024x1408 .bf16) :
    out0_A_5 c i arg2 harg2 arg3 harg3 arg4 harg4 arg5 harg5 arg6 harg6 arg7 harg7 x0 x1 x2 = blkA x0 x1 x2 := by
  unfold out0_A_5
  rw [View.read_writes_junk_eq_canon]
  exact funext fun y => View.canon_apply_of_pieces (blkA x0 x1 x2) _
    (pieces_a c i arg2 harg2 arg3 harg3 arg4 harg4 arg5 harg5 arg6 harg6 arg7 harg7 x0 x1 x2).mem y
    (cover0_A_5 c i arg2 harg2 arg3 harg3 arg4 harg4 arg5 harg5 arg6 harg6 arg7 harg7 x0 x1 x2 y)

/-! ## The result arrays -/

variable (m : (ℓ : Loc nD τ sig) → Buf (Elt Ideal) ℓ) (ρ : Dev nD → PrngReg)

theorem index_facts : ∀ t : Fin cfg0.N,
    win0_0.index t (0 : Fin 2) = t.val / 2 ∧ win0_0.index t (1 : Fin 2) = 0
    ∧ win0_1.index t (0 : Fin 3) = t.val % 2 ∧ win0_1.index t (1 : Fin 3) = 0 ∧ win0_1.index t (2 : Fin 3) = 0
    ∧ win0_2.index t (0 : Fin 3) = t.val % 2 + 2 ∧ win0_2.index t (1 : Fin 3) = 0 ∧ win0_2.index t (2 : Fin 3) = 0 :=
  (by decide +kernel : ∀ t : Fin grid0.N, _)

theorem index_out : ∀ t : Fin cfg0.N,
    win0_3.index t (0 : Fin 2) = t.val / 2 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2 :=
  (by decide +kernel : ∀ t : Fin grid0.N, _)

/-- A point's block of the product with a shard is the array's entries at that point's rows and columns. -/
theorem blk_g (c : Dev nD) (t : Fin cfg0.N) (y : S512x1408.Idx) (i : S4096x2816.Idx)
    (h0 : (i 0).val = t.val / 2 * 512 + (y 0).val) (h1 : (i 1).val = t.val % 2 * 1408 + (y 1).val) :
    blkG (iblk m c 0 t) (iblk m c 1 t) y = outG 0 (by norm_num) (V m c main_arg0) (V m c main_arg1) i := by
  obtain ⟨e0, e1, e2, e3, e4, -⟩ := index_facts t
  have hy : (y 1).val < 1408 := (y 1).isLt
  unfold blkG outG
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 512 + 1 * (y 0).val = (i 0).val; omega
    | ⟨1, _⟩ => show win0_0.index t (1 : Fin 2) * 1024 + 1 * k.val = k.val; omega
  · show V m c main_arg1 (((cfg0.win 1).blk t).view.emb _) = _
    refine congrArg (V m c main_arg1) (funext fun a => Fin.ext ?_)
    match a with
    | ⟨0, _⟩ => show win0_1.index t (0 : Fin 3) * 1 + 1 * 0 = 0 + (i 1).val / 1408; omega
    | ⟨1, _⟩ => show win0_1.index t (1 : Fin 3) * 1024 + 1 * k.val = k.val; omega
    | ⟨2, _⟩ => show win0_1.index t (2 : Fin 3) * 1408 + 1 * (y 1).val = (i 1).val % 1408; omega

theorem blk_u (c : Dev nD) (t : Fin cfg0.N) (y : S512x1408.Idx) (i : S4096x2816.Idx)
    (h0 : (i 0).val = t.val / 2 * 512 + (y 0).val) (h1 : (i 1).val = t.val % 2 * 1408 + (y 1).val) :
    blkG (iblk m c 0 t) (iblk m c 2 t) y = outG 2 (by norm_num) (V m c main_arg0) (V m c main_arg1) i := by
  obtain ⟨e0, e1, -, -, -, e2, e3, e4⟩ := index_facts t
  have hy : (y 1).val < 1408 := (y 1).isLt
  unfold blkG outG
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 512 + 1 * (y 0).val = (i 0).val; omega
    | ⟨1, _⟩ => show win0_0.index t (1 : Fin 2) * 1024 + 1 * k.val = k.val; omega
  · show V m c main_arg1 (((cfg0.win 2).blk t).view.emb _) = _
    refine congrArg (V m c main_arg1) (funext fun a => Fin.ext ?_)
    match a with
    | ⟨0, _⟩ => show win0_2.index t (0 : Fin 3) * 1 + 1 * 0 = 2 + (i 1).val / 1408; omega
    | ⟨1, _⟩ => show win0_2.index t (1 : Fin 3) * 1024 + 1 * k.val = k.val; omega
    | ⟨2, _⟩ => show win0_2.index t (2 : Fin 3) * 1408 + 1 * (y 1).val = (i 1).val % 1408; omega

theorem flushed3_eq (c : Dev nD) (t : Fin cfg0.N) :
    (dats m 0 c).flushed 3 t = ((cfg0.win 3).blk t).view.read (Elt Ideal) (outG 0 (by norm_num) (V m c main_arg0) (V m c main_arg1)) := by
  rw [flushed3_A, out_g]
  obtain ⟨e0, e1, -⟩ := index_out t
  funext y
  rw [View.read_apply]
  have h0 : ((((cfg0.win 3).blk t).view.emb y) 0).val = t.val / 2 * 512 + (y 0).val := by
    show win0_3.index t (0 : Fin 2) * 512 + 1 * (y 0).val = _; omega
  have h1 : ((((cfg0.win 3).blk t).view.emb y) 1).val = t.val % 2 * 1408 + (y 1).val := by
    show win0_3.index t (1 : Fin 2) * 1408 + 1 * (y 1).val = _; omega
  exact blk_g m c t y _ h0 h1

theorem covered3 (i : S4096x2816.Idx) :
    ∃ t : Fin cfg0.N, (cfg0.win 3).flush t = true ∧ i ∈ ((cfg0.win 3).blk t).view.set := by
  have h0 : (i 0).val < 4096 := (i 0).isLt
  have h1 : (i 1).val < 2816 := (i 1).isLt
  have hN : cfg0.N = 16 := N_0
  refine ⟨⟨(i 0).val / 512 * 2 + (i 1).val / 1408, by omega⟩, flush0_3 _, ?_⟩
  obtain ⟨e0, e1, -⟩ := index_out ⟨(i 0).val / 512 * 2 + (i 1).val / 1408, by omega⟩
  refine (Finset.ext_iff.mp (View.set_slice_whole main_v0_0 (win0_3.rect _)) i).mpr ?_
  rw [Rect.mem_set_unit]
  intro a
  match a with
  | ⟨0, _⟩ => show win0_3.index _ (0 : Fin 2) * 512 ≤ (i 0).val ∧ (i 0).val < win0_3.index _ (0 : Fin 2) * 512 + 512
              rw [e0]; dsimp only; omega
  | ⟨1, _⟩ => show win0_3.index _ (1 : Fin 2) * 1408 ≤ (i 1).val ∧ (i 1).val < win0_3.index _ (1 : Fin 2) * 1408 + 1408
              rw [e1]; dsimp only; omega

theorem final3 (c : Dev nD) : (dats m 0 c).arrAt 3 cfg0.N
    = outG 0 (by norm_num) (m ((c : Thread nD τ).loc main_arg0)) (m ((c : Thread nD τ).loc main_arg1)) :=
  ((dats m 0 c).arrAt_eq_of_cover 3 (outG 0 (by norm_num) (V m c main_arg0) (V m c main_arg1)) (fun t _ => flushed3_eq m c t) covered3).trans
    (by rw [V_main_arg0, V_main_arg1])

theorem flushed4_eq (c : Dev nD) (t : Fin cfg0.N) :
    (dats m 0 c).flushed 4 t = ((cfg0.win 4).blk t).view.read (Elt Ideal) (outG 2 (by norm_num) (V m c main_arg0) (V m c main_arg1)) := by
  rw [flushed4_A, out_u]
  obtain ⟨-, -, e0, e1, -⟩ := index_out t
  funext y
  rw [View.read_apply]
  have h0 : ((((cfg0.win 4).blk t).view.emb y) 0).val = t.val / 2 * 512 + (y 0).val := by
    show win0_4.index t (0 : Fin 2) * 512 + 1 * (y 0).val = _; omega
  have h1 : ((((cfg0.win 4).blk t).view.emb y) 1).val = t.val % 2 * 1408 + (y 1).val := by
    show win0_4.index t (1 : Fin 2) * 1408 + 1 * (y 1).val = _; omega
  exact blk_u m c t y _ h0 h1

theorem covered4 (i : S4096x2816.Idx) :
    ∃ t : Fin cfg0.N, (cfg0.win 4).flush t = true ∧ i ∈ ((cfg0.win 4).blk t).view.set := by
  have h0 : (i 0).val < 4096 := (i 0).isLt
  have h1 : (i 1).val < 2816 := (i 1).isLt
  have hN : cfg0.N = 16 := N_0
  refine ⟨⟨(i 0).val / 512 * 2 + (i 1).val / 1408, by omega⟩, flush0_4 _, ?_⟩
  obtain ⟨-, -, e0, e1, -⟩ := index_out ⟨(i 0).val / 512 * 2 + (i 1).val / 1408, by omega⟩
  refine (Finset.ext_iff.mp (View.set_slice_whole main_v0_1 (win0_4.rect _)) i).mpr ?_
  rw [Rect.mem_set_unit]
  intro a
  match a with
  | ⟨0, _⟩ => show win0_4.index _ (0 : Fin 2) * 512 ≤ (i 0).val ∧ (i 0).val < win0_4.index _ (0 : Fin 2) * 512 + 512
              rw [e0]; dsimp only; omega
  | ⟨1, _⟩ => show win0_4.index _ (1 : Fin 2) * 1408 ≤ (i 1).val ∧ (i 1).val < win0_4.index _ (1 : Fin 2) * 1408 + 1408
              rw [e1]; dsimp only; omega

theorem final4 (c : Dev nD) : (dats m 0 c).arrAt 4 cfg0.N
    = outG 2 (by norm_num) (m ((c : Thread nD τ).loc main_arg0)) (m ((c : Thread nD τ).loc main_arg1)) :=
  ((dats m 0 c).arrAt_eq_of_cover 4 (outG 2 (by norm_num) (V m c main_arg0) (V m c main_arg1)) (fun t _ => flushed4_eq m c t) covered4).trans
    (by rw [V_main_arg0, V_main_arg1])

theorem flushed5_eq (c : Dev nD) (t : Fin cfg0.N) :
    (dats m 0 c).flushed 5 t = ((cfg0.win 5).blk t).view.read (Elt Ideal) (outA (V m c main_arg0) (V m c main_arg1)) := by
  rw [flushed5_A, out_a]
  obtain ⟨-, -, -, -, e0, e1⟩ := index_out t
  funext y
  rw [View.read_apply]
  have h0 : ((((cfg0.win 5).blk t).view.emb y) 0).val = t.val / 2 * 512 + (y 0).val := by
    show win0_5.index t (0 : Fin 2) * 512 + 1 * (y 0).val = _; omega
  have h1 : ((((cfg0.win 5).blk t).view.emb y) 1).val = t.val % 2 * 1408 + (y 1).val := by
    show win0_5.index t (1 : Fin 2) * 1408 + 1 * (y 1).val = _; omega
  exact congrArg₂ act (blk_g m c t y _ h0 h1) (blk_u m c t y _ h0 h1)

theorem covered5 (i : S4096x2816.Idx) :
    ∃ t : Fin cfg0.N, (cfg0.win 5).flush t = true ∧ i ∈ ((cfg0.win 5).blk t).view.set := by
  have h0 : (i 0).val < 4096 := (i 0).isLt
  have h1 : (i 1).val < 2816 := (i 1).isLt
  have hN : cfg0.N = 16 := N_0
  refine ⟨⟨(i 0).val / 512 * 2 + (i 1).val / 1408, by omega⟩, flush0_5 _, ?_⟩
  obtain ⟨-, -, -, -, e0, e1⟩ := index_out ⟨(i 0).val / 512 * 2 + (i 1).val / 1408, by omega⟩
  refine (Finset.ext_iff.mp (View.set_slice_whole main_v0_2 (win0_5.rect _)) i).mpr ?_
  rw [Rect.mem_set_unit]
  intro a
  match a with
  | ⟨0, _⟩ => show win0_5.index _ (0 : Fin 2) * 512 ≤ (i 0).val ∧ (i 0).val < win0_5.index _ (0 : Fin 2) * 512 + 512
              rw [e0]; dsimp only; omega
  | ⟨1, _⟩ => show win0_5.index _ (1 : Fin 2) * 1408 ≤ (i 1).val ∧ (i 1).val < win0_5.index _ (1 : Fin 2) * 1408 + 1408
              rw [e1]; dsimp only; omega

theorem final5 (c : Dev nD) : (dats m 0 c).arrAt 5 cfg0.N
    = outA (m ((c : Thread nD τ).loc main_arg0)) (m ((c : Thread nD τ).loc main_arg1)) :=
  ((dats m 0 c).arrAt_eq_of_cover 5 (outA (V m c main_arg0) (V m c main_arg1)) (fun t _ => flushed5_eq m c t) covered5).trans
    (by rw [V_main_arg0, V_main_arg1])

/-! ## The reference -/

section

open Cert.ReferenceGateIdeal.Read

variable (n : FVec Ideal S4096x1024 .bf16) (w : FVec Ideal S4x1024x1408 .bf16)

theorem ref_g : val_main_v5 (F := Ideal) n w = outG 0 (by norm_num) n w := by
  funext i
  rw [val_main_v5_apply, val_main_v4_apply]
  unfold outG
  have h1 : (i 1).val < 2816 := (i 1).isLt
  refine Finset.sum_congr rfl fun k _ => congrArg₂ (· * ·) (congrArg n (funext fun b => Fin.ext ?_)) ?_
  · match b with
    | ⟨0, _⟩ => rfl
    | ⟨1, _⟩ => rfl
  · rw [val_main_v3_apply, val_main_v2_apply]
    refine congrArg w (funext fun b => Fin.ext ?_)
    have hk : k.val < 1024 := k.isLt
    match b with
    | ⟨0, _⟩ => show (k.val * 5632 + (i 1).val) / 1408 % 4 = 0 + (i 1).val / 1408; omega
    | ⟨1, _⟩ => show (k.val * 5632 + (i 1).val) / 5632 = k.val; omega
    | ⟨2, _⟩ => show (k.val * 5632 + (i 1).val) % 1408 = (i 1).val % 1408; omega

theorem ref_u : val_main_v6 (F := Ideal) n w = outG 2 (by norm_num) n w := by
  funext i
  rw [val_main_v6_apply, val_main_v4_apply]
  unfold outG
  have h1 : (i 1).val < 2816 := (i 1).isLt
  refine Finset.sum_congr rfl fun k _ => congrArg₂ (· * ·) (congrArg n (funext fun b => Fin.ext ?_)) ?_
  · match b with
    | ⟨0, _⟩ => rfl
    | ⟨1, _⟩ => rfl
  · rw [val_main_v3_apply, val_main_v2_apply]
    refine congrArg w (funext fun b => Fin.ext ?_)
    have hk : k.val < 1024 := k.isLt
    match b with
    | ⟨0, _⟩ => show (k.val * 5632 + (2816 + (i 1).val)) / 1408 % 4 = 2 + (i 1).val / 1408; omega
    | ⟨1, _⟩ => show (k.val * 5632 + (2816 + (i 1).val)) / 5632 = k.val; omega
    | ⟨2, _⟩ => show (k.val * 5632 + (2816 + (i 1).val)) % 1408 = (i 1).val % 1408; omega

theorem ref_g' : val_main_v7 (F := Ideal) n w = outG 0 (by norm_num) n w := by
  funext i
  rw [val_main_v7_apply, ref_g]
  rfl

theorem ref_u' : val_main_v8 (F := Ideal) n w = outG 2 (by norm_num) n w := by
  funext i
  rw [val_main_v8_apply, ref_u]
  rfl

/-- The reference writes the logistic function out; the literal it uses is one. -/
theorem one_bits : FloatOps.ofBits (F := Ideal) .f32 0x3F800000#32 = (1 : EReal) := Ideal.ofBits_one_f32

theorem ref_a : val_main_v11 (F := Ideal) n w = outA n w := by
  funext i
  rw [val_main_v11_apply, val_main_v10_apply, val_main_v9_apply, val_main_call0_v5_apply, val_main_call0_v4_apply,
    val_main_call0_v3_apply, val_main_call0_v2_apply, val_main_call0_v1_apply, val_main_call0_v0_apply,
    val_main_call0_cst_apply, val_main_call0_cst_0_apply, ref_g, ref_u, one_bits]
  rfl

end

/-- The call computes what the reference computes: from memories agreeing on the arguments both run, end with equal
    results and leave the arguments as they were. -/
theorem agree (m' : (ℓ : Loc Cert.ReferenceGateIdeal.nD Cert.ReferenceGateIdeal.τ Cert.ReferenceGateIdeal.sig) → Buf (Elt Ideal) ℓ)
    (ρ' : Dev Cert.ReferenceGateIdeal.nD → PrngReg)
    (h : ∀ c : Dev nD,
      m' ((c.tc : Thread Cert.ReferenceGateIdeal.nD Cert.ReferenceGateIdeal.τ).loc Cert.ReferenceGateIdeal.main_arg0) = m ((c.tc : Thread nD τ).loc main_arg0)
      ∧ m' ((c.tc : Thread Cert.ReferenceGateIdeal.nD Cert.ReferenceGateIdeal.τ).loc Cert.ReferenceGateIdeal.main_arg1) = m ((c.tc : Thread nD τ).loc main_arg1)) :
    ∃ (v0 : (c : Dev nD) → Buf (Elt Ideal) ((c.tc : Thread nD τ).loc main_v0_0))
      (v1 : (c : Dev nD) → Buf (Elt Ideal) ((c.tc : Thread nD τ).loc main_v0_1))
      (v2 : (c : Dev nD) → Buf (Elt Ideal) ((c.tc : Thread nD τ).loc main_v0_2)),
      θ_run (defs (F := Ideal)) (onTc (τ := τ) (main (F := Ideal))) ⟨m, fun _ => 0, ρ⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceGateIdeal.defs (F := Ideal)) (onTc (τ := Cert.ReferenceGateIdeal.τ) (Cert.ReferenceGateIdeal.main (F := Ideal)))
          ⟨m', fun _ => 0, ρ'⟩ (fun r => ∀ c : Dev Cert.ReferenceGateIdeal.nD,
          r.2.mem ((c.tc : Thread Cert.ReferenceGateIdeal.nD Cert.ReferenceGateIdeal.τ).loc Cert.ReferenceGateIdeal.main_v7) = v0 c
          ∧ r.2.mem ((c.tc : Thread Cert.ReferenceGateIdeal.nD Cert.ReferenceGateIdeal.τ).loc Cert.ReferenceGateIdeal.main_v8) = v1 c
          ∧ r.2.mem ((c.tc : Thread Cert.ReferenceGateIdeal.nD Cert.ReferenceGateIdeal.τ).loc Cert.ReferenceGateIdeal.main_v11) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)) := by
  refine ⟨fun c => outG 0 (by norm_num) (m ((c.tc : Thread nD τ).loc main_arg0)) (m ((c.tc : Thread nD τ).loc main_arg1)),
    fun c => outG 2 (by norm_num) (m ((c.tc : Thread nD τ).loc main_arg0)) (m ((c.tc : Thread nD τ).loc main_arg1)),
    fun c => outA (m ((c.tc : Thread nD τ).loc main_arg0)) (m ((c.tc : Thread nD τ).loc main_arg1)),
    (θ_run (defs (F := Ideal)) _ _).mono (fun _ k c => ⟨(k c).1.trans (final3 m c), (k c).2.1.trans (final4 m c),
      (k c).2.2.1.trans (final5 m c), (k c).2.2.2⟩) (run_blocks m ρ),
    (θ_run (Cert.ReferenceGateIdeal.defs (F := Ideal)) _ _).mono (fun _ k c => ⟨(k c).1.trans ?_, (k c).2.1.trans ?_, (k c).2.2.1.trans ?_, (k c).2.2.2⟩)
      (Cert.ReferenceGateIdeal.Value.run m' ρ')⟩
  · rw [Cert.ReferenceGateIdeal.Read.val_main_v7_eq (F := Ideal), ref_g', (h c).1, (h c).2]
  · rw [Cert.ReferenceGateIdeal.Read.val_main_v8_eq (F := Ideal), ref_u', (h c).1, (h c).2]
  · rw [Cert.ReferenceGateIdeal.Read.val_main_v11_eq (F := Ideal), ref_a, (h c).1, (h c).2]

end Cert.Proof.Gate

end
-- ==== Proof.Ffn.Resid.lean ====
/- The down projection of a feed-forward half with its residual sum and the next norm. The kernel takes 512 rows at a
   time, in two blocks of 256; every row of its three results is the same function of that row of the operands as the
   row of the reference. -/
module

public import proofs.«01_k».proof.Proof.Gen.KernelResidIdeal.Value
public import proofs.«01_k».proof.Proof.Gen.ReferenceResidIdeal.Run
public import proofs.«01_k».proof.Proof.Gen.ReferenceResidIdeal.Read
public import Idealize.ShloMosaic.Lib.Pointwise
public import Idealize.ShloMosaic.Lib.Pipeline.ReadBack

@[expose] public section

set_option maxRecDepth 16384

noncomputable section

namespace Cert.Proof.Resid

open Cert.KernelResidIdeal Cert.KernelResidIdeal.Gen Cert.KernelResidIdeal.Value Idealize.ShloMosaic Idealize.ShloMosaic.TcCoe
  Idealize.SL.Sem

/-! ## A row -/

/-- A row times the weight. -/
def dot (a : Fin 2816 → EReal) (w : Fin 2816 → Fin 1024 → EReal) (x : Fin 1024) : EReal := ∑ k, a k * w k x

/-- A row over its root mean square. -/
def nrm (f : Fin 1024 → EReal) (x : Fin 1024) : EReal :=
  f x * Ideal.rsqrt (Ideal.div (∑ k, f k * f k) (Ideal.ofBits .f32 0x44800000#32) + Ideal.ofBits .f32 0x358637BD#32)

/-- The residual sum: the row plus half the normalised product. -/
def hid (f h g : Fin 1024 → EReal) (x : Fin 1024) : EReal := h x + Ideal.ofBits .f32 0x3F000000#32 * (nrm f x * g x)

/-! ## The results as functions of the operands -/

def outF (a : FVec Ideal S4096x2816 .bf16) (w : FVec Ideal S2816x1024 .bf16) : FVec Ideal S4096x1024 .f32 :=
  fun i => dot (fun k => a (ix2 (i 0) k)) (fun k x => w (ix2 k x)) (i 1)

def outH (a : FVec Ideal S4096x2816 .bf16) (w : FVec Ideal S2816x1024 .bf16) (h : FVec Ideal S4096x1024 .f32)
    (g : FVec Ideal S1x1024 .f32) : FVec Ideal S4096x1024 .f32 :=
  fun i => hid (dot (fun k => a (ix2 (i 0) k)) (fun k x => w (ix2 k x))) (fun x => h (ix2 (i 0) x)) (fun x => g (ix2 0 x)) (i 1)

def outN (a : FVec Ideal S4096x2816 .bf16) (w : FVec Ideal S2816x1024 .bf16) (h : FVec Ideal S4096x1024 .f32)
    (g g' : FVec Ideal S1x1024 .f32) : FVec Ideal S4096x1024 .bf16 :=
  fun i => nrm (hid (dot (fun k => a (ix2 (i 0) k)) (fun k x => w (ix2 k x))) (fun x => h (ix2 (i 0) x)) (fun x => g (ix2 0 x))) (i 1)
    * g' (ix2 0 (i 1))

/-! ## The kernel's stores, row by row -/

theorem pay2_apply (a : Vec Ideal S256x2816 .bf16) (w : Vec Ideal S2816x1024 .bf16) (r : Fin 256) (x : Fin 1024) :
    k0_pay2 (F := Ideal) a w (ix2 r x) = dot (fun k => a (ix2 r k)) (fun k x => w (ix2 k x)) x := by
  unfold dot
  pointwise [k0_pay2]

theorem pay3_apply (a : Vec Ideal S256x2816 .bf16) (w : Vec Ideal S2816x1024 .bf16) (h : Vec Ideal S256x1024 .f32)
    (g : Vec Ideal S1x1024 .f32) (r : Fin 256) (x : Fin 1024) :
    k0_pay3 (F := Ideal) a w h g (ix2 r x)
      = hid (dot (fun k => a (ix2 r k)) (fun k x => w (ix2 k x))) (fun x => h (ix2 r x)) (fun x => g (ix2 0 x)) x := by
  rw [← funext fun x => pay2_apply a w r x]
  unfold k0_pay3 hid nrm
  generalize k0_pay2 (F := Ideal) a w = y
  pointwise

theorem pay4_apply (a : Vec Ideal S256x2816 .bf16) (w : Vec Ideal S2816x1024 .bf16) (h : Vec Ideal S256x1024 .f32)
    (g g' : Vec Ideal S1x1024 .f32) (r : Fin 256) (x : Fin 1024) :
    k0_pay5 (k0_pay4 (F := Ideal) a w h g g') (ix2 r x)
      = nrm (hid (dot (fun k => a (ix2 r k)) (fun k x => w (ix2 k x))) (fun x => h (ix2 r x)) (fun x => g (ix2 0 x))) x
        * g' (ix2 0 x) := by
  rw [← funext fun x => pay3_apply a w h g r x]
  unfold k0_pay5 k0_pay4 nrm
  generalize k0_pay3 (F := Ideal) a w h g = y
  pointwise

theorem pay6_eq : k0_pay6 (F := Ideal) = k0_pay2 := rfl
theorem pay7_eq : k0_pay7 (F := Ideal) = k0_pay3 := rfl
theorem pay8_eq (a : Vec Ideal S256x2816 .bf16) (w : Vec Ideal S2816x1024 .bf16) (h : Vec Ideal S256x1024 .f32)
    (g g' : Vec Ideal S1x1024 .f32) : k0_pay1 (k0_pay8 (F := Ideal) a w h g) g' = k0_pay5 (k0_pay4 a w h g g') := rfl

/-! ## What the loads read -/

theorem ld_a (x : Vec Ideal S512x2816 .bf16) (o : Fin 2 → ℕ) (inb : ∀ a, o a + S256x2816.size a ≤ S512x2816.size a)
    (y : S512x1024.Idx) (r : Fin 256) (hr : (y 0).val = o 0 + r.val) (h1 : o 1 = 0) (k : Fin 2816) :
    View.ld x (Rect.unit (s := S512x2816) o S256x2816.size inb) (ix2 r k) = x (ix2 (y 0) k) := by
  refine congrArg x (funext fun a => Fin.ext ?_)
  match a with
  | ⟨0, _⟩ => show o 0 + 1 * r.val = (y 0).val; omega
  | ⟨1, _⟩ => show o 1 + 1 * k.val = k.val; omega

theorem ld_h (x : Vec Ideal S512x1024 .f32) (o : Fin 2 → ℕ) (inb : ∀ a, o a + S256x1024.size a ≤ S512x1024.size a)
    (y : S512x1024.Idx) (r : Fin 256) (hr : (y 0).val = o 0 + r.val) (h1 : o 1 = 0) (k : Fin 1024) :
    View.ld x (Rect.unit (s := S512x1024) o S256x1024.size inb) (ix2 r k) = x (ix2 (y 0) k) := by
  refine congrArg x (funext fun a => Fin.ext ?_)
  match a with
  | ⟨0, _⟩ => show o 0 + 1 * r.val = (y 0).val; omega
  | ⟨1, _⟩ => show o 1 + 1 * k.val = k.val; omega

theorem hz2 : (![0, 0] : Fin 2 → Nat) = fun _ => 0 := funext fun a => by fin_cases a <;> rfl

section

variable (x0 : Vec Ideal S512x2816 .bf16) (x1 : Vec Ideal S2816x1024 .bf16) (x2 : Vec Ideal S512x1024 .f32)
  (x3 x4 : Vec Ideal S1x1024 .f32)

/-- The three results of one block of 512 rows. -/
def blkF : Vec Ideal S512x1024 .f32 := fun y => dot (fun k => x0 (ix2 (y 0) k)) (fun k x => x1 (ix2 k x)) (y 1)
def blkH : Vec Ideal S512x1024 .f32 := fun y =>
  hid (dot (fun k => x0 (ix2 (y 0) k)) (fun k x => x1 (ix2 k x))) (fun x => x2 (ix2 (y 0) x)) (fun x => x3 (ix2 0 x)) (y 1)
def blkN : Vec Ideal S512x1024 .bf16 := fun y =>
  nrm (hid (dot (fun k => x0 (ix2 (y 0) k)) (fun k x => x1 (ix2 k x))) (fun x => x2 (ix2 (y 0) x)) (fun x => x3 (ix2 0 x))) (y 1)
    * x4 (ix2 0 (y 1))

theorem pieceF (o : Fin 2 → ℕ) (i0 : ∀ a, o a + S256x2816.size a ≤ S512x2816.size a)
    (i2 : ∀ a, o a + S256x1024.size a ≤ S512x1024.size a) (h1 : o 1 = 0) (x : S256x1024.Idx) :
    k0_pay2 (F := Ideal) (View.ld x0 (Rect.unit (s := S512x2816) o S256x2816.size i0)) (View.ld x1 r0_1) x
      = blkF x0 x1 ((Rect.unit (s := S512x1024) o S256x1024.size i2).emb x) := by
  rw [View.ld_unit_zero hz2]
  refine (congrArg (k0_pay2 (F := Ideal) _ x1) (eq_ix2 (n0 := 256) (n1 := 1024) x)).trans ((pay2_apply _ _ _ _).trans ?_)
  rw [funext fun k => ld_a x0 o i0 ((Rect.unit (s := S512x1024) o S256x1024.size i2).emb x) (x 0)
    (by show o 0 + 1 * (x 0).val = _; omega) h1 k]
  unfold blkF
  exact congrArg _ (Fin.ext (by show (x 1).val = o 1 + 1 * (x 1).val; omega))

theorem pieceH (o : Fin 2 → ℕ) (i0 : ∀ a, o a + S256x2816.size a ≤ S512x2816.size a)
    (i2 : ∀ a, o a + S256x1024.size a ≤ S512x1024.size a) (h1 : o 1 = 0) (x : S256x1024.Idx) :
    k0_pay3 (F := Ideal) (View.ld x0 (Rect.unit (s := S512x2816) o S256x2816.size i0)) (View.ld x1 r0_1)
        (View.ld x2 (Rect.unit (s := S512x1024) o S256x1024.size i2)) (View.ld x3 r0_3) x
      = blkH x0 x1 x2 x3 ((Rect.unit (s := S512x1024) o S256x1024.size i2).emb x) := by
  rw [View.ld_unit_zero hz2, View.ld_unit_zero hz2]
  refine (congrArg (k0_pay3 (F := Ideal) _ x1 _ x3) (eq_ix2 (n0 := 256) (n1 := 1024) x)).trans ((pay3_apply _ _ _ _ _ _).trans ?_)
  rw [funext fun k => ld_a x0 o i0 ((Rect.unit (s := S512x1024) o S256x1024.size i2).emb x) (x 0)
      (by show o 0 + 1 * (x 0).val = _; omega) h1 k,
    funext fun k => ld_h x2 o i2 ((Rect.unit (s := S512x1024) o S256x1024.size i2).emb x) (x 0)
      (by show o 0 + 1 * (x 0).val = _; omega) h1 k]
  unfold blkH
  exact congrArg _ (Fin.ext (by show (x 1).val = o 1 + 1 * (x 1).val; omega))

theorem pieceN (o : Fin 2 → ℕ) (i0 : ∀ a, o a + S256x2816.size a ≤ S512x2816.size a)
    (i2 : ∀ a, o a + S256x1024.size a ≤ S512x1024.size a) (h1 : o 1 = 0) (x : S256x1024.Idx) :
    k0_pay5 (k0_pay4 (F := Ideal) (View.ld x0 (Rect.unit (s := S512x2816) o S256x2816.size i0)) (View.ld x1 r0_1)
        (View.ld x2 (Rect.unit (s := S512x1024) o S256x1024.size i2)) (View.ld x3 r0_3) (View.ld x4 r0_3)) x
      = blkN x0 x1 x2 x3 x4 ((Rect.unit (s := S512x1024) o S256x1024.size i2).emb x) := by
  rw [View.ld_unit_zero hz2, View.ld_unit_zero hz2, View.ld_unit_zero hz2]
  refine (congrArg (k0_pay5 (k0_pay4 (F := Ideal) _ x1 _ x3 x4)) (eq_ix2 (n0 := 256) (n1 := 1024) x)).trans ((pay4_apply _ _ _ _ _ _ _).trans ?_)
  rw [funext fun k => ld_a x0 o i0 ((Rect.unit (s := S512x1024) o S256x1024.size i2).emb x) (x 0)
      (by show o 0 + 1 * (x 0).val = _; omega) h1 k,
    funext fun k => ld_h x2 o i2 ((Rect.unit (s := S512x1024) o S256x1024.size i2).emb x) (x 0)
      (by show o 0 + 1 * (x 0).val = _; omega) h1 k]
  unfold blkN
  have e : (x 1 : Fin 1024) = (Rect.unit (s := S512x1024) o S256x1024.size i2).emb x 1 :=
    Fin.ext (by show (x 1).val = o 1 + 1 * (x 1).val; omega)
  exact congrArg₂ (· * ·) (congrArg _ e) (congrArg (fun z => x4 (ix2 0 z)) e)

theorem out5_eq : out0_5 (F := Ideal) x0 x1 x2 x3 x4 = blkF x0 x1 := by
  unfold out0_5
  rw [pay6_eq]
  exact funext fun y => View.canon_apply_of_pieces (blkF x0 x1) _
    (View.PiecesOf.mem (L := [⟨r0_5, _⟩, ⟨r0_2, _⟩]) ⟨fun x => pieceF x0 x1 _ _ inb_S512x1024_S256x1024_256_0 rfl x, fun x => pieceF x0 x1 _ _ inb_S512x1024_S256x1024_0_0 rfl x, trivial⟩)
    y (cover0_5 _ _ y)

theorem out6_eq : out0_6 (F := Ideal) x0 x1 x2 x3 x4 = blkH x0 x1 x2 x3 := by
  unfold out0_6
  rw [pay7_eq]
  exact funext fun y => View.canon_apply_of_pieces (blkH x0 x1 x2 x3) _
    (View.PiecesOf.mem (L := [⟨r0_5, _⟩, ⟨r0_2, _⟩]) ⟨fun x => pieceH x0 x1 x2 x3 _ _ _ rfl x, fun x => pieceH x0 x1 x2 x3 _ _ _ rfl x, trivial⟩)
    y (cover0_6 _ _ y)

theorem out7_eq : out0_7 (F := Ideal) x0 x1 x2 x3 x4 = blkN x0 x1 x2 x3 x4 := by
  unfold out0_7
  rw [pay8_eq]
  exact funext fun y => View.canon_apply_of_pieces (blkN x0 x1 x2 x3 x4) _
    (View.PiecesOf.mem (L := [⟨r0_5, _⟩, ⟨r0_2, _⟩]) ⟨fun x => pieceN x0 x1 x2 x3 x4 _ _ _ rfl x, fun x => pieceN x0 x1 x2 x3 x4 _ _ _ rfl x, trivial⟩)
    y (cover0_7 _ _ y)

end

/-! ## The result arrays -/

variable (m : (ℓ : Loc nD τ sig) → Buf (Elt Ideal) ℓ) (ρ : Dev nD → PrngReg)

theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem index_out : ∀ t : Fin cfg0.N,
    win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem blk_a (c : Dev nD) (t : Fin cfg0.N) (r : Fin 512) (r' : Fin 4096) (hr : r'.val = t.val * 512 + r.val) (k : Fin 2816) :
    iblk m c 0 t (ix2 r k) = V m c main_arg0 (ix2 r' k) := by
  obtain ⟨e0, e1, -⟩ := index_facts t
  show V m c main_arg0 (((cfg0.win 0).blk t).view.emb _) = _
  refine congrArg (V m c main_arg0) (funext fun a => Fin.ext ?_)
  match a with
  | ⟨0, _⟩ => show win0_0.index t (0 : Fin 2) * 512 + 1 * r.val = r'.val; omega
  | ⟨1, _⟩ => show win0_0.index t (1 : Fin 2) * 2816 + 1 * k.val = k.val; omega

theorem blk_w (c : Dev nD) (t : Fin cfg0.N) (k : Fin 2816) (x : Fin 1024) :
    iblk m c 1 t (ix2 k x) = V m c main_arg1 (ix2 k x) := by
  obtain ⟨-, -, e0, e1, -⟩ := index_facts t
  show V m c main_arg1 (((cfg0.win 1).blk t).view.emb _) = _
  refine congrArg (V m c main_arg1) (funext fun a => Fin.ext ?_)
  match a with
  | ⟨0, _⟩ => show win0_1.index t (0 : Fin 2) * 2816 + 1 * k.val = k.val; omega
  | ⟨1, _⟩ => show win0_1.index t (1 : Fin 2) * 1024 + 1 * x.val = x.val; omega

theorem blk_h (c : Dev nD) (t : Fin cfg0.N) (r : Fin 512) (r' : Fin 4096) (hr : r'.val = t.val * 512 + r.val) (x : Fin 1024) :
    iblk m c 2 t (ix2 r x) = V m c main_arg2 (ix2 r' x) := by
  obtain ⟨-, -, -, -, e0, e1, -⟩ := index_facts t
  show V m c main_arg2 (((cfg0.win 2).blk t).view.emb _) = _
  refine congrArg (V m c main_arg2) (funext fun a => Fin.ext ?_)
  match a with
  | ⟨0, _⟩ => show win0_2.index t (0 : Fin 2) * 512 + 1 * r.val = r'.val; omega
  | ⟨1, _⟩ => show win0_2.index t (1 : Fin 2) * 1024 + 1 * x.val = x.val; omega

theorem blk_g (c : Dev nD) (t : Fin cfg0.N) (x : Fin 1024) :
    iblk m c 3 t (ix2 0 x) = V m c main_arg3 (ix2 0 x) := by
  obtain ⟨-, -, -, -, -, -, e0, e1, -⟩ := index_facts t
  show V m c main_arg3 (((cfg0.win 3).blk t).view.emb _) = _
  refine congrArg (V m c main_arg3) (funext fun a => Fin.ext ?_)
  match a with
  | ⟨0, _⟩ => show win0_3.index t (0 : Fin 2) * 1 + 1 * 0 = 0; omega
  | ⟨1, _⟩ => show win0_3.index t (1 : Fin 2) * 1024 + 1 * x.val = x.val; omega

theorem blk_g' (c : Dev nD) (t : Fin cfg0.N) (x : Fin 1024) :
    iblk m c 4 t (ix2 0 x) = V m c main_arg4 (ix2 0 x) := by
  obtain ⟨-, -, -, -, -, -, -, -, e0, e1⟩ := index_facts t
  show V m c main_arg4 (((cfg0.win 4).blk t).view.emb _) = _
  refine congrArg (V m c main_arg4) (funext fun a => Fin.ext ?_)
  match a with
  | ⟨0, _⟩ => show win0_4.index t (0 : Fin 2) * 1 + 1 * 0 = 0; omega
  | ⟨1, _⟩ => show win0_4.index t (1 : Fin 2) * 1024 + 1 * x.val = x.val; omega

theorem flushed5_eq (c : Dev nD) (t : Fin cfg0.N) :
    (dats m 0 c).flushed 5 t = ((cfg0.win 5).blk t).view.read (Elt Ideal) (outF (V m c main_arg0) (V m c main_arg1)) := by
  rw [flushed5]
  erw [out5_eq]
  obtain ⟨e0, e1, -⟩ := index_out t
  funext y
  rw [View.read_apply]
  show blkF (iblk m c 0 t) (iblk m c 1 t) y = _
  unfold blkF outF
  rw [funext fun k => blk_a m c t (y 0) ((((cfg0.win 5).blk t).view.emb y) 0)
      (by show win0_5.index t (0 : Fin 2) * 512 + 1 * (y 0).val = _; omega) k,
    funext fun k => funext fun x => blk_w m c t k x]
  exact congrArg _ (Fin.ext (by show (y 1).val = win0_5.index t (1 : Fin 2) * 1024 + 1 * (y 1).val; omega))

theorem flushed6_eq (c : Dev nD) (t : Fin cfg0.N) :
    (dats m 0 c).flushed 6 t = ((cfg0.win 6).blk t).view.read (Elt Ideal)
      (outH (V m c main_arg0) (V m c main_arg1) (V m c main_arg2) (V m c main_arg3)) := by
  rw [flushed6]
  erw [out6_eq]
  obtain ⟨-, -, e0, e1, -⟩ := index_out t
  funext y
  rw [View.read_apply]
  show blkH (iblk m c 0 t) (iblk m c 1 t) (iblk m c 2 t) (iblk m c 3 t) y = _
  unfold blkH outH
  rw [funext fun k => blk_a m c t (y 0) ((((cfg0.win 6).blk t).view.emb y) 0)
      (by show win0_6.index t (0 : Fin 2) * 512 + 1 * (y 0).val = _; omega) k,
    funext fun k => funext fun x => blk_w m c t k x,
    funext fun x => blk_h m c t (y 0) ((((cfg0.win 6).blk t).view.emb y) 0)
      (by show win0_6.index t (0 : Fin 2) * 512 + 1 * (y 0).val = _; omega) x,
    funext fun x => blk_g m c t x]
  exact congrArg _ (Fin.ext (by show (y 1).val = win0_6.index t (1 : Fin 2) * 1024 + 1 * (y 1).val; omega))

theorem flushed7_eq (c : Dev nD) (t : Fin cfg0.N) :
    (dats m 0 c).flushed 7 t = ((cfg0.win 7).blk t).view.read (Elt Ideal)
      (outN (V m c main_arg0) (V m c main_arg1) (V m c main_arg2) (V m c main_arg3) (V m c main_arg4)) := by
  rw [flushed7]
  erw [out7_eq]
  obtain ⟨-, -, -, -, e0, e1⟩ := index_out t
  funext y
  rw [View.read_apply]
  show blkN (iblk m c 0 t) (iblk m c 1 t) (iblk m c 2 t) (iblk m c 3 t) (iblk m c 4 t) y = _
  unfold blkN outN
  rw [funext fun k => blk_a m c t (y 0) ((((cfg0.win 7).blk t).view.emb y) 0)
      (by show win0_7.index t (0 : Fin 2) * 512 + 1 * (y 0).val = _; omega) k,
    funext fun k => funext fun x => blk_w m c t k x,
    funext fun x => blk_h m c t (y 0) ((((cfg0.win 7).blk t).view.emb y) 0)
      (by show win0_7.index t (0 : Fin 2) * 512 + 1 * (y 0).val = _; omega) x,
    funext fun x => blk_g m c t x]
  have e : (y 1 : Fin 1024) = ((cfg0.win 7).blk t).view.emb y 1 :=
    Fin.ext (by show (y 1).val = win0_7.index t (1 : Fin 2) * 1024 + 1 * (y 1).val; omega)
  exact congrArg₂ (· * ·) (congrArg _ e) ((blk_g' m c t (y 1)).trans (congrArg (fun z => V m c main_arg4 (ix2 0 z)) e))

theorem covered5 (i : S4096x1024.Idx) :
    ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 8 := N_0
  refine ⟨⟨(i 0).val / 512, by omega⟩, flush0_5 _, ?_⟩
  obtain ⟨e0, e1, -⟩ := index_out ⟨(i 0).val / 512, by omega⟩
  refine (Finset.ext_iff.mp (View.set_slice_whole main_v0_0 (win0_5.rect _)) i).mpr ?_
  rw [Rect.mem_set_unit]
  intro a
  match a with
  | ⟨0, _⟩ => show win0_5.index _ (0 : Fin 2) * 512 ≤ (i 0).val ∧ (i 0).val < win0_5.index _ (0 : Fin 2) * 512 + 512
              rw [e0]; dsimp only; omega
  | ⟨1, _⟩ => show win0_5.index _ (1 : Fin 2) * 1024 ≤ (i 1).val ∧ (i 1).val < win0_5.index _ (1 : Fin 2) * 1024 + 1024
              rw [e1]; omega

theorem covered6 (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 8 := N_0
  refine ⟨⟨(i 0).val / 512, by omega⟩, flush0_6 _, ?_⟩
  obtain ⟨-, -, e0, e1, -⟩ := index_out ⟨(i 0).val / 512, by omega⟩
  refine (Finset.ext_iff.mp (View.set_slice_whole main_v0_1 (win0_6.rect _)) i).mpr ?_
  rw [Rect.mem_set_unit]
  intro a
  match a with
  | ⟨0, _⟩ => show win0_6.index _ (0 : Fin 2) * 512 ≤ (i 0).val ∧ (i 0).val < win0_6.index _ (0 : Fin 2) * 512 + 512
              rw [e0]; dsimp only; omega
  | ⟨1, _⟩ => show win0_6.index _ (1 : Fin 2) * 1024 ≤ (i 1).val ∧ (i 1).val < win0_6.index _ (1 : Fin 2) * 1024 + 1024
              rw [e1]; omega

theorem covered7 (i : S4096x1024.Idx) :
    ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 8 := N_0
  refine ⟨⟨(i 0).val / 512, by omega⟩, flush0_7 _, ?_⟩
  obtain ⟨-, -, -, -, e0, e1⟩ := index_out ⟨(i 0).val / 512, by omega⟩
  refine (Finset.ext_iff.mp (View.set_slice_whole main_v0_2 (win0_7.rect _)) i).mpr ?_
  rw [Rect.mem_set_unit]
  intro a
  match a with
  | ⟨0, _⟩ => show win0_7.index _ (0 : Fin 2) * 512 ≤ (i 0).val ∧ (i 0).val < win0_7.index _ (0 : Fin 2) * 512 + 512
              rw [e0]; dsimp only; omega
  | ⟨1, _⟩ => show win0_7.index _ (1 : Fin 2) * 1024 ≤ (i 1).val ∧ (i 1).val < win0_7.index _ (1 : Fin 2) * 1024 + 1024
              rw [e1]; omega

theorem final5 (c : Dev nD) : (dats m 0 c).arrAt 5 cfg0.N
    = outF (m ((c : Thread nD τ).loc main_arg0)) (m ((c : Thread nD τ).loc main_arg1)) :=
  ((dats m 0 c).arrAt_eq_of_cover 5 (outF (V m c main_arg0) (V m c main_arg1)) (fun t _ => flushed5_eq m c t) covered5).trans
    (by rw [V_main_arg0, V_main_arg1])

theorem final6 (c : Dev nD) : (dats m 0 c).arrAt 6 cfg0.N
    = outH (m ((c : Thread nD τ).loc main_arg0)) (m ((c : Thread nD τ).loc main_arg1)) (m ((c : Thread nD τ).loc main_arg2))
        (m ((c : Thread nD τ).loc main_arg3)) :=
  ((dats m 0 c).arrAt_eq_of_cover 6 (outH (V m c main_arg0) (V m c main_arg1) (V m c main_arg2) (V m c main_arg3))
    (fun t _ => flushed6_eq m c t) covered6).trans (by rw [V_main_arg0, V_main_arg1, V_main_arg2, V_main_arg3])

theorem final7 (c : Dev nD) : (dats m 0 c).arrAt 7 cfg0.N
    = outN (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 7 (outN (V m c main_arg0) (V m c main_arg1) (V m c main_arg2) (V m c main_arg3) (V m c main_arg4))
    (fun t _ => flushed7_eq m c t) covered7).trans (by rw [V_main_arg0, V_main_arg1, V_main_arg2, V_main_arg3, V_main_arg4])

/-! ## The reference -/

section

open Cert.ReferenceResidIdeal.Read

variable (a : FVec Ideal S4096x2816 .bf16) (w : FVec Ideal S2816x1024 .bf16) (h : FVec Ideal S4096x1024 .f32)
  (g g' : FVec Ideal S1x1024 .f32)

theorem ref_f : val_main_v2 (F := Ideal) a w = outF a w := by
  funext i
  rw [val_main_v2_apply]
  unfold outF dot
  refine Finset.sum_congr rfl fun k _ => congrArg₂ (· * ·) (congrArg a (funext fun b => Fin.ext ?_)) (congrArg w (funext fun b => Fin.ext ?_))
  · match b with
    | ⟨0, _⟩ => rfl
    | ⟨1, _⟩ => rfl
  · match b with
    | ⟨0, _⟩ => rfl
    | ⟨1, _⟩ => rfl

/-- The sum the reference takes of a row's squares starts at zero. -/
theorem sum0 (f : Fin 1024 → EReal) : FloatOps.ofBits (F := Ideal) .f32 0x00000000#32 + ∑ k, f k = ∑ k, f k := by
  rw [show FloatOps.ofBits (F := Ideal) .f32 0x00000000#32 = (0 : EReal) from Ideal.ofBits_zero_f32, zero_add]

theorem ref_r (i : S4096x1024.Idx) : val_main_v10 (F := Ideal) a w (idx_main_v11 i)
    = Ideal.rsqrt (Ideal.div (∑ k, outF a w (ix2 (i 0) k) * outF a w (ix2 (i 0) k)) (Ideal.ofBits .f32 0x44800000#32)
      + Ideal.ofBits .f32 0x358637BD#32) := by
  rw [val_main_v10_apply, val_main_v9_apply, val_main_v8_apply, val_main_v7_apply, val_main_v6_apply, val_main_v5_apply,
    val_main_v4_apply, val_main_cst_apply, val_main_cst_0_apply, val_main_cst_1_apply, sum0]
  refine congrArg (fun s => Ideal.rsqrt (Ideal.div s _ + _)) (Finset.sum_congr rfl fun k _ => ?_)
  rw [val_main_v3_apply, ref_f]
  have e : idx_main_v4 (idx_main_v5 (idx_main_v11 i)) k = ix2 (i 0) k := funext fun b => Fin.ext (by
    match b with
    | ⟨0, _⟩ => rfl
    | ⟨1, _⟩ => rfl)
  rw [e]
  rfl

theorem ref_h : val_main_v17 (F := Ideal) a w h g = outH a w h g := by
  funext i
  rw [val_main_v17_apply, val_main_v16_apply, val_main_v15_apply, val_main_cst_2_apply, val_main_v14_apply, val_main_v13_apply,
    val_main_v12_apply, val_main_v11_apply, ref_r, ref_f]
  unfold outH hid nrm
  have e : idx_main_v13 i = ix2 0 (i 1) := funext fun b => Fin.ext (by
    match b with
    | ⟨0, _⟩ => rfl
    | ⟨1, _⟩ => rfl)
  rw [e, congrArg h (eq_ix2 (n0 := 4096) (n1 := 1024) i)]
  rfl

theorem ref_r' (i : S4096x1024.Idx) : val_main_v25 (F := Ideal) a w h g (idx_main_v26 i)
    = Ideal.rsqrt (Ideal.div (∑ k, outH a w h g (ix2 (i 0) k) * outH a w h g (ix2 (i 0) k)) (Ideal.ofBits .f32 0x44800000#32)
      + Ideal.ofBits .f32 0x358637BD#32) := by
  rw [val_main_v25_apply, val_main_v24_apply, val_main_v23_apply, val_main_v22_apply, val_main_v21_apply, val_main_v20_apply,
    val_main_v19_apply, val_main_cst_3_apply, val_main_cst_4_apply, val_main_cst_5_apply, sum0]
  refine congrArg (fun s => Ideal.rsqrt (Ideal.div s _ + _)) (Finset.sum_congr rfl fun k _ => ?_)
  rw [val_main_v18_apply, ref_h]
  have e : idx_main_v19 (idx_main_v20 (idx_main_v26 i)) k = ix2 (i 0) k := funext fun b => Fin.ext (by
    match b with
    | ⟨0, _⟩ => rfl
    | ⟨1, _⟩ => rfl)
  rw [e]
  rfl

theorem ref_n : val_main_v30 (F := Ideal) a w h g g' = outN a w h g g' := by
  funext i
  rw [val_main_v30_apply, val_main_v29_apply, val_main_v28_apply, val_main_v27_apply, val_main_v26_apply, ref_r', ref_h]
  unfold outN nrm
  have e : idx_main_v28 i = ix2 0 (i 1) := funext fun b => Fin.ext (by
    match b with
    | ⟨0, _⟩ => rfl
    | ⟨1, _⟩ => rfl)
  rw [e]
  rfl

end

/-- The call computes what the reference computes: from memories agreeing on the arguments both run, end with equal
    results and leave the arguments as they were. -/
theorem agree (m' : (ℓ : Loc Cert.ReferenceResidIdeal.nD Cert.ReferenceResidIdeal.τ Cert.ReferenceResidIdeal.sig) → Buf (Elt Ideal) ℓ)
    (ρ' : Dev Cert.ReferenceResidIdeal.nD → PrngReg)
    (h : ∀ c : Dev nD,
      m' ((c.tc : Thread Cert.ReferenceResidIdeal.nD Cert.ReferenceResidIdeal.τ).loc Cert.ReferenceResidIdeal.main_arg0) = m ((c.tc : Thread nD τ).loc main_arg0)
      ∧ m' ((c.tc : Thread Cert.ReferenceResidIdeal.nD Cert.ReferenceResidIdeal.τ).loc Cert.ReferenceResidIdeal.main_arg1) = m ((c.tc : Thread nD τ).loc main_arg1)
      ∧ m' ((c.tc : Thread Cert.ReferenceResidIdeal.nD Cert.ReferenceResidIdeal.τ).loc Cert.ReferenceResidIdeal.main_arg2) = m ((c.tc : Thread nD τ).loc main_arg2)
      ∧ m' ((c.tc : Thread Cert.ReferenceResidIdeal.nD Cert.ReferenceResidIdeal.τ).loc Cert.ReferenceResidIdeal.main_arg3) = m ((c.tc : Thread nD τ).loc main_arg3)
      ∧ m' ((c.tc : Thread Cert.ReferenceResidIdeal.nD Cert.ReferenceResidIdeal.τ).loc Cert.ReferenceResidIdeal.main_arg4) = m ((c.tc : Thread nD τ).loc main_arg4)) :
    ∃ (v0 : (c : Dev nD) → Buf (Elt Ideal) ((c.tc : Thread nD τ).loc main_v0_0))
      (v1 : (c : Dev nD) → Buf (Elt Ideal) ((c.tc : Thread nD τ).loc main_v0_1))
      (v2 : (c : Dev nD) → Buf (Elt Ideal) ((c.tc : Thread nD τ).loc main_v0_2)),
      θ_run (defs (F := Ideal)) (onTc (τ := τ) (main (F := Ideal))) ⟨m, fun _ => 0, ρ⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.ReferenceResidIdeal.defs (F := Ideal)) (onTc (τ := Cert.ReferenceResidIdeal.τ) (Cert.ReferenceResidIdeal.main (F := Ideal)))
          ⟨m', fun _ => 0, ρ'⟩ (fun r => ∀ c : Dev Cert.ReferenceResidIdeal.nD,
          r.2.mem ((c.tc : Thread Cert.ReferenceResidIdeal.nD Cert.ReferenceResidIdeal.τ).loc Cert.ReferenceResidIdeal.main_v2) = v0 c
          ∧ r.2.mem ((c.tc : Thread Cert.ReferenceResidIdeal.nD Cert.ReferenceResidIdeal.τ).loc Cert.ReferenceResidIdeal.main_v17) = v1 c
          ∧ r.2.mem ((c.tc : Thread Cert.ReferenceResidIdeal.nD Cert.ReferenceResidIdeal.τ).loc Cert.ReferenceResidIdeal.main_v30) = v2 c
          ∧ r.2.mem ((c.tc : Thread Cert.ReferenceResidIdeal.nD Cert.ReferenceResidIdeal.τ).loc Cert.ReferenceResidIdeal.main_arg0) = m' ((c.tc : Thread Cert.ReferenceResidIdeal.nD Cert.ReferenceResidIdeal.τ).loc Cert.ReferenceResidIdeal.main_arg0)
          ∧ r.2.mem ((c.tc : Thread Cert.ReferenceResidIdeal.nD Cert.ReferenceResidIdeal.τ).loc Cert.ReferenceResidIdeal.main_arg1) = m' ((c.tc : Thread Cert.ReferenceResidIdeal.nD Cert.ReferenceResidIdeal.τ).loc Cert.ReferenceResidIdeal.main_arg1)
          ∧ r.2.mem ((c.tc : Thread Cert.ReferenceResidIdeal.nD Cert.ReferenceResidIdeal.τ).loc Cert.ReferenceResidIdeal.main_arg2) = m' ((c.tc : Thread Cert.ReferenceResidIdeal.nD Cert.ReferenceResidIdeal.τ).loc Cert.ReferenceResidIdeal.main_arg2)
          ∧ r.2.mem ((c.tc : Thread Cert.ReferenceResidIdeal.nD Cert.ReferenceResidIdeal.τ).loc Cert.ReferenceResidIdeal.main_arg3) = m' ((c.tc : Thread Cert.ReferenceResidIdeal.nD Cert.ReferenceResidIdeal.τ).loc Cert.ReferenceResidIdeal.main_arg3)
          ∧ r.2.mem ((c.tc : Thread Cert.ReferenceResidIdeal.nD Cert.ReferenceResidIdeal.τ).loc Cert.ReferenceResidIdeal.main_arg4) = m' ((c.tc : Thread Cert.ReferenceResidIdeal.nD Cert.ReferenceResidIdeal.τ).loc Cert.ReferenceResidIdeal.main_arg4)) := by
  refine ⟨fun c => outF (m ((c.tc : Thread nD τ).loc main_arg0)) (m ((c.tc : Thread nD τ).loc main_arg1)),
    fun c => outH (m ((c.tc : Thread nD τ).loc main_arg0)) (m ((c.tc : Thread nD τ).loc main_arg1))
      (m ((c.tc : Thread nD τ).loc main_arg2)) (m ((c.tc : Thread nD τ).loc main_arg3)),
    fun c => outN (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    (θ_run (defs (F := Ideal)) _ _).mono (fun _ k c => ⟨(k c).1.trans (final5 m c), (k c).2.1.trans (final6 m c),
      (k c).2.2.1.trans (final7 m c), (k c).2.2.2⟩) (run_blocks m ρ),
    (θ_run (Cert.ReferenceResidIdeal.defs (F := Ideal)) _ _).mono (fun _ k c => ⟨(k c).1.trans ?_, (k c).2.1.trans ?_, (k c).2.2.1.trans ?_, (k c).2.2.2⟩)
      (Cert.ReferenceResidIdeal.Value.run m' ρ')⟩
  · rw [Cert.ReferenceResidIdeal.Read.val_main_v2_eq (F := Ideal), ref_f, (h c).1, (h c).2.1]
  · rw [Cert.ReferenceResidIdeal.Read.val_main_v17_eq (F := Ideal), ref_h, (h c).1, (h c).2.1, (h c).2.2.1, (h c).2.2.2.1]
  · rw [Cert.ReferenceResidIdeal.Read.val_main_v30_eq (F := Ideal), ref_n, (h c).1, (h c).2.1, (h c).2.2.1, (h c).2.2.2.1, (h c).2.2.2.2]

end Cert.Proof.Resid

end
-- ==== Proof.Ffn.NormsRow.lean ====
/- One row of the backward pass of the norms around a feed-forward half's input: the formulas, and that the values the
   kernel stores are these formulas of the rows it has read. -/
module

public import proofs.«01_k».proof.Proof.Gen.KernelNormsIdeal.Skeleton
public import Idealize.ShloMosaic.Lib.Pointwise

@[expose] public section

set_option maxRecDepth 16384

noncomputable section

namespace Cert.Proof.Norms

open Cert.KernelNormsIdeal Cert.KernelNormsIdeal.Gen Idealize.ShloMosaic

/-- One over the root mean square of a row. -/
def rms (h : Fin 1024 → EReal) : EReal :=
  Ideal.rsqrt (Ideal.div (∑ k, h k * h k) (Ideal.ofBits .f32 0x44800000#32) + Ideal.ofBits .f32 0x358637BD#32)

/-- The gradient `d` of a row's normalised values, taken back to the row `h`. -/
def back (d h : Fin 1024 → EReal) (x : Fin 1024) : EReal :=
  rms h * (d x - h x * rms h * Ideal.div (∑ k, d k * (h k * rms h)) (Ideal.ofBits .f32 0x44800000#32))

/-- What the formulas need of one row: the gradient of the wide product, in the four parts of the weight; the gradient that
    comes past it; the row that was normed; and the row of the projection before. -/
structure Row where
  a : Fin 4 → Fin 1408 → EReal
  di : Fin 1024 → EReal
  h : Fin 1024 → EReal
  f : Fin 1024 → EReal

section

variable (w : Fin 4 → Fin 1024 → Fin 1408 → EReal) (g g' : Fin 1024 → EReal) (R : Row) (x : Fin 1024)

/-- The gradient of the normed row. -/
def Row.dn : EReal := (∑ k, R.a 0 k * w 0 x k) + (∑ k, R.a 1 k * w 1 x k) + (∑ k, R.a 2 k * w 2 x k) + (∑ k, R.a 3 k * w 3 x k)

/-- The gradient of the row. -/
def Row.dh : EReal := R.di x + back (fun x => R.dn w x * g x) R.h x

/-- The gradient of the projection's row. -/
def Row.df : EReal := back (fun x => R.dh w g x * g' x) R.f x

/-- What the row adds to the gradients of the two gains. -/
def Row.gpre : EReal := R.dn w x * (R.h x * rms R.h)
def Row.gpost : EReal := R.dh w g x * (R.f x * rms R.f)

end

/-! ## The values of the first half of a block -/

variable (a0 a1 a2 a3 : Vec Ideal S256x1408 .bf16) (w0 w1 w2 w3 : Vec Ideal S1x1024x1408 .bf16)
  (h di f : Vec Ideal S256x1024 .f32) (g g' acc : Vec Ideal S1x1024 .f32) (y : FVec Ideal S256x1024 .f32) (r : Fin 256) (x : Fin 1024)

theorem pay7_apply : k0_pay7 (F := Ideal) a0 w0 a1 w1 a2 w2 a3 w3 (ix2 r x)
    = (∑ k, a0 (ix2 r k) * w0 (ix3 0 x k)) + (∑ k, a1 (ix2 r k) * w1 (ix3 0 x k)) + (∑ k, a2 (ix2 r k) * w2 (ix3 0 x k))
      + (∑ k, a3 (ix2 r k) * w3 (ix3 0 x k)) := by
  pointwise [k0_pay7]

theorem pay9_apply : k0_pay9 (F := Ideal) (k0_pay8 h) (ix2 r 0) = rms (fun x => h (ix2 r x)) := by
  unfold rms
  pointwise [k0_pay9, k0_pay8]

theorem pay11_apply : k0_pay11 (F := Ideal) y h (k0_pay8 h) di g (ix2 r x)
    = di (ix2 r x) + back (fun x => y (ix2 r x) * g (ix2 0 x)) (fun x => h (ix2 r x)) x := by
  unfold back
  rw [← pay9_apply]
  unfold k0_pay11 k0_pay10
  generalize k0_pay9 (F := Ideal) (k0_pay8 h) = v
  pointwise

theorem pay12_apply : k0_pay12 (F := Ideal) y h (k0_pay8 h) acc (ix2 0 x)
    = acc (ix2 0 x) + ∑ r : Fin 256, y (ix2 r x) * (h (ix2 r x) * rms (fun x => h (ix2 r x))) := by
  simp only [← pay9_apply h]
  unfold k0_pay12 k0_pay10
  generalize k0_pay9 (F := Ideal) (k0_pay8 h) = v
  pointwise

theorem pay13_apply : k0_pay13 (F := Ideal) f (ix2 r 0) = rms (fun x => f (ix2 r x)) := by
  unfold rms
  pointwise [k0_pay13]

theorem pay16_apply : k0_pay16 (F := Ideal) y (k0_pay14 f) acc (ix2 0 x)
    = acc (ix2 0 x) + ∑ r : Fin 256, y (ix2 r x) * (f (ix2 r x) * rms (fun x => f (ix2 r x))) := by
  simp only [← pay13_apply f]
  unfold k0_pay16 k0_pay15 k0_pay14
  generalize k0_pay13 (F := Ideal) f = v
  pointwise

theorem pay17_apply : k0_pay17 (F := Ideal) y (k0_pay13 f) (k0_pay14 f) g' (ix2 r x)
    = back (fun x => y (ix2 r x) * g' (ix2 0 x)) (fun x => f (ix2 r x)) x := by
  unfold back
  rw [← pay13_apply]
  unfold k0_pay17 k0_pay15 k0_pay14
  generalize k0_pay13 (F := Ideal) f = v
  pointwise

theorem pay18_apply : k0_pay18 (F := Ideal) y (k0_pay13 f) (k0_pay14 f) g' acc (ix2 0 x)
    = acc (ix2 0 x) + ∑ r : Fin 256, back (fun x => y (ix2 r x) * g' (ix2 0 x)) (fun x => f (ix2 r x)) x := by
  rw [← funext fun r => pay17_apply f g' y r x]
  unfold k0_pay18
  generalize k0_pay17 (F := Ideal) y (k0_pay13 f) (k0_pay14 f) g' = z
  pointwise

theorem pay19_apply : k0_pay19 (F := Ideal) y (k0_pay13 f) (k0_pay14 f) g' (ix2 r x)
    = back (fun x => y (ix2 r x) * g' (ix2 0 x)) (fun x => f (ix2 r x)) x := by
  rw [← pay17_apply]
  unfold k0_pay19
  generalize k0_pay17 (F := Ideal) y (k0_pay13 f) (k0_pay14 f) g' = z
  pointwise

/-! ## The second half's values are the first half's, of its own rows -/

theorem pay21_eq : k0_pay21 (F := Ideal) (k0_pay20 a0 w0) a1 w1 a2 w2 a3 w3 = k0_pay7 a0 w0 a1 w1 a2 w2 a3 w3 := rfl

theorem pay26_eq : k0_pay26 (F := Ideal) (k0_pay22 h) (k0_pay23 h) di (k0_pay24 (k0_pay20 a0 w0) a1 w1 a2 w2 a3 w3 g)
    (k0_pay25 (k0_pay20 a0 w0) a1 w1 a2 w2 a3 w3 h g) = k0_pay11 (k0_pay7 a0 w0 a1 w1 a2 w2 a3 w3) h (k0_pay8 h) di g := rfl

theorem pay27_eq : k0_pay27 (F := Ideal) (k0_pay21 (k0_pay20 a0 w0) a1 w1 a2 w2 a3 w3) (k0_pay23 h) acc
    = k0_pay12 (k0_pay7 a0 w0 a1 w1 a2 w2 a3 w3) h (k0_pay8 h) acc := rfl

theorem pay31_eq : k0_pay31 (F := Ideal) (k0_pay22 h) (k0_pay23 h) di (k0_pay24 (k0_pay20 a0 w0) a1 w1 a2 w2 a3 w3 g)
    (k0_pay25 (k0_pay20 a0 w0) a1 w1 a2 w2 a3 w3 h g) f acc
    = k0_pay16 (k0_pay11 (k0_pay7 a0 w0 a1 w1 a2 w2 a3 w3) h (k0_pay8 h) di g) (k0_pay14 f) acc := rfl

theorem pay2_eq : k0_pay2 (F := Ideal) (k0_pay28 f) (k0_pay29 f) (k0_pay30 (k0_pay22 h) (k0_pay23 h) di (k0_pay24 (k0_pay20 a0 w0) a1 w1 a2 w2 a3 w3 g)
    (k0_pay25 (k0_pay20 a0 w0) a1 w1 a2 w2 a3 w3 h g)) g' acc
    = k0_pay18 (k0_pay11 (k0_pay7 a0 w0 a1 w1 a2 w2 a3 w3) h (k0_pay8 h) di g) (k0_pay13 f) (k0_pay14 f) g' acc := rfl

theorem pay3_eq : k0_pay3 (F := Ideal) (k0_pay28 f) (k0_pay29 f) (k0_pay30 (k0_pay22 h) (k0_pay23 h) di (k0_pay24 (k0_pay20 a0 w0) a1 w1 a2 w2 a3 w3 g)
    (k0_pay25 (k0_pay20 a0 w0) a1 w1 a2 w2 a3 w3 h g)) g'
    = k0_pay19 (k0_pay11 (k0_pay7 a0 w0 a1 w1 a2 w2 a3 w3) h (k0_pay8 h) di g) (k0_pay13 f) (k0_pay14 f) g' := rfl

end Cert.Proof.Norms

end
-- ==== Proof.Ffn.NormsMath.lean ====
/- The gradient of a row's norm over the real numbers. The kernel takes it back through the normalised values; the reference
   differentiates the mean of the squares. On real rows both are the same real number. -/
module

public import proofs.«01_k».proof.Proof.Ffn.NormsRow
public import proofs.«01_k».proof.Proof.Band.Reals

@[expose] public section

noncomputable section

namespace Cert.Proof.Norms

open Idealize.ShloMosaic

/-- The mean of a row's squares, with the small constant added. -/
def ms (h : Fin 1024 → EReal) : EReal :=
  Ideal.div (∑ k, h k * h k) (Ideal.ofBits .f32 0x44800000#32) + Ideal.ofBits .f32 0x358637BD#32

/-- The derivative the reference takes with respect to the mean of the squares. -/
def dms (d h : Fin 1024 → EReal) : EReal :=
  Ideal.div ((∑ k, h k * d k) * (Ideal.ofBits .f32 0xBF000000#32 * Ideal.div (rms h) (ms h))) (Ideal.ofBits .f32 0x44800000#32)

/-- The reference's gradient of a row. -/
def rback (d h : Fin 1024 → EReal) (x : Fin 1024) : EReal := d x * rms h + h x * dms d h + dms d h * h x

theorem n_f32 : Ideal.ofBits .f32 0x44800000#32 = ((1024 : ℝ) : EReal) := by
  simp [Ideal.ofBits, Ideal.ieee, -EReal.coe_mul]; norm_num

theorem neg_half_f32 : Ideal.ofBits .f32 0xBF000000#32 = ((-(1 / 2) : ℝ) : EReal) := by
  simp [Ideal.ofBits, Ideal.ieee, -EReal.coe_mul]; norm_num

theorem eps_f32 : ∃ e : ℝ, 0 < e ∧ Ideal.ofBits .f32 0x358637BD#32 = ((e : ℝ) : EReal) := by
  refine ⟨(2 : ℝ) ^ (-20 : ℤ) * (1 + 407485 / 8388608), by positivity, ?_⟩
  simp [Ideal.ofBits, Ideal.ieee, -EReal.coe_mul]; norm_num

section

variable (d h : Fin 1024 → ℝ)

theorem back_real : ∃ b : Fin 1024 → ℝ, (∀ x, back (fun x => ((d x : ℝ) : EReal)) (fun x => ((h x : ℝ) : EReal)) x = ((b x : ℝ) : EReal))
    ∧ ∀ x, rback (fun x => ((d x : ℝ) : EReal)) (fun x => ((h x : ℝ) : EReal)) x = ((b x : ℝ) : EReal) := by
  obtain ⟨e, he, hb⟩ := eps_f32
  have hS : (0 : ℝ) ≤ ∑ k, h k * h k := Finset.sum_nonneg fun k _ => mul_self_nonneg _
  obtain ⟨V, hVd⟩ : ∃ V : ℝ, V = (∑ k, h k * h k) * (1 / 1024) + e := ⟨_, rfl⟩
  have hV : 0 < V := by rw [hVd]; positivity
  have hms : ms (fun x => ((h x : ℝ) : EReal)) = ((V : ℝ) : EReal) := by
    unfold ms
    simp only [← EReal.coe_mul, Band.coe_sum]
    rw [n_f32, hb, Ideal.div_coe (by norm_num), ← EReal.coe_mul, ← EReal.coe_add, hVd]
  obtain ⟨ρ, hρd⟩ : ∃ ρ : ℝ, ρ = (√V)⁻¹ := ⟨_, rfl⟩
  have hρ : ρ * ρ * V = 1 := by
    rw [hρd, ← mul_inv, Real.mul_self_sqrt hV.le, inv_mul_cancel₀ hV.ne']
  have hrms : rms (fun x => ((h x : ℝ) : EReal)) = ((ρ : ℝ) : EReal) := by
    show Ideal.rsqrt (ms _) = _
    rw [hms, Ideal.rsqrt_coe, if_neg (not_lt.mpr hV.le), if_neg hV.ne', hρd]
  have hVi : 1 / V = ρ * ρ := by
    rw [div_eq_iff hV.ne']; exact hρ.symm
  refine ⟨fun x => ρ * (d x - h x * ρ * ((∑ k, d k * (h k * ρ)) * (1 / 1024))), fun x => ?_, fun x => ?_⟩
  · unfold back
    rw [hrms, n_f32]
    simp only [← EReal.coe_mul, Band.coe_sum]
    rw [Ideal.div_coe (by norm_num), ← EReal.coe_mul, ← EReal.coe_mul, ← EReal.coe_sub, ← EReal.coe_mul]
  · unfold rback dms
    rw [hrms, hms, n_f32, neg_half_f32]
    simp only [← EReal.coe_mul, Band.coe_sum]
    rw [Ideal.div_coe hV.ne', Ideal.div_coe (by norm_num), ← EReal.coe_mul, ← EReal.coe_mul, ← EReal.coe_mul, ← EReal.coe_mul, ← EReal.coe_mul,
      ← EReal.coe_mul, ← EReal.coe_add, ← EReal.coe_add, hVi]
    refine congrArg _ ?_
    have e1 : ∑ k, d k * (h k * ρ) = (∑ k, h k * d k) * ρ := by
      rw [Finset.sum_mul]; exact Finset.sum_congr rfl fun k _ => by ring
    rw [e1]
    ring

end

/-- A sum over the whole width is the sum over the four shards. -/
theorem sum_shards (f : ℕ → EReal) : (∑ k : Fin 5632, f k.val)
    = (∑ k : Fin 1408, f (0 * 1408 + k.val)) + (∑ k : Fin 1408, f (1 * 1408 + k.val)) + (∑ k : Fin 1408, f (2 * 1408 + k.val))
      + ∑ k : Fin 1408, f (3 * 1408 + k.val) := by
  rw [Fin.sum_univ_eq_sum_range f 5632, show 5632 = 1408 + 1408 + 1408 + 1408 from rfl, Finset.sum_range_add, Finset.sum_range_add,
    Finset.sum_range_add, Fin.sum_univ_eq_sum_range (fun k => f (0 * 1408 + k)), Fin.sum_univ_eq_sum_range (fun k => f (1 * 1408 + k)),
    Fin.sum_univ_eq_sum_range (fun k => f (2 * 1408 + k)), Fin.sum_univ_eq_sum_range (fun k => f (3 * 1408 + k))]
  simp only [zero_mul, zero_add, one_mul]

section

variable {W : Fin 4 → Fin 1024 → Fin 1408 → EReal} {G G' : Fin 1024 → EReal} {R : Row}
  (ha : ∀ s k, ∃ a : ℝ, R.a s k = ((a : ℝ) : EReal)) (hw : ∀ s x k, ∃ a : ℝ, W s x k = ((a : ℝ) : EReal))
  (hdi : ∀ x, ∃ a : ℝ, R.di x = ((a : ℝ) : EReal)) (hh : ∀ x, ∃ a : ℝ, R.h x = ((a : ℝ) : EReal))
  (hf : ∀ x, ∃ a : ℝ, R.f x = ((a : ℝ) : EReal)) (hg : ∀ x, ∃ a : ℝ, G x = ((a : ℝ) : EReal))
  (hg' : ∀ x, ∃ a : ℝ, G' x = ((a : ℝ) : EReal))

include ha hw in
theorem dn_real (x : Fin 1024) : ∃ a : ℝ, R.dn W x = ((a : ℝ) : EReal) := by
  choose a ha using ha
  choose w hw using hw
  unfold Row.dn
  simp only [ha, hw, ← EReal.coe_mul, Band.coe_sum, ← EReal.coe_add]
  exact ⟨_, rfl⟩

include ha hw hh hg in
theorem back_dn (x : Fin 1024) : ∃ b : ℝ, back (fun x => R.dn W x * G x) R.h x = ((b : ℝ) : EReal)
    ∧ rback (fun x => R.dn W x * G x) R.h x = ((b : ℝ) : EReal) := by
  choose dn hdn using dn_real ha hw
  choose h hh using hh
  choose g hg using hg
  obtain ⟨b, h1, h2⟩ := back_real (fun x => dn x * g x) h
  have e1 : (fun x => R.dn W x * G x) = fun x => ((dn x * g x : ℝ) : EReal) := funext fun x => by rw [hdn, hg, EReal.coe_mul]
  have e2 : R.h = fun x => ((h x : ℝ) : EReal) := funext hh
  rw [e1, e2]
  exact ⟨b x, h1 x, h2 x⟩

include ha hw hdi hh hg in
theorem dh_real (x : Fin 1024) : ∃ a : ℝ, R.dh W G x = ((a : ℝ) : EReal) := by
  obtain ⟨b, h1, -⟩ := back_dn ha hw hh hg x
  obtain ⟨i, hi⟩ := hdi x
  refine ⟨i + b, ?_⟩
  unfold Row.dh
  rw [h1, hi, EReal.coe_add]

include ha hw hh hg in
theorem dh_eq (x : Fin 1024) : R.di x + rback (fun x => R.dn W x * G x) R.h x = R.dh W G x := by
  obtain ⟨b, h1, h2⟩ := back_dn ha hw hh hg x
  unfold Row.dh
  rw [h1, h2]

include ha hw hdi hh hf hg hg' in
theorem df_eq (x : Fin 1024) : rback (fun x => R.dh W G x * G' x) R.f x = R.df W G G' x := by
  choose dh hdh using dh_real ha hw hdi hh hg
  choose f hf using hf
  choose g hg using hg'
  obtain ⟨b, h1, h2⟩ := back_real (fun x => dh x * g x) f
  have e1 : (fun x => R.dh W G x * G' x) = fun x => ((dh x * g x : ℝ) : EReal) := funext fun x => by rw [hdh, hg, EReal.coe_mul]
  have e2 : R.f = fun x => ((f x : ℝ) : EReal) := funext hf
  unfold Row.df
  rw [e1, e2, h1, h2]

end

end Cert.Proof.Norms

end
-- ==== Proof.Ffn.NormsBlock.lean ====
/- The norms' gradients of one block of 512 rows, in its two halves: what each store of the body holds, and what the block
   leaves in each result, as functions of the block's rows. -/
module

public import proofs.«01_k».proof.Proof.Gen.KernelNormsIdeal.Value
public import proofs.«01_k».proof.Proof.Ffn.NormsRow
public import Idealize.ShloMosaic.Lib.Pipeline.ReadBack

@[expose] public section

set_option maxRecDepth 16384

noncomputable section

namespace Cert.Proof.Norms

open Cert.KernelNormsIdeal Cert.KernelNormsIdeal.Gen Cert.KernelNormsIdeal.Value Idealize.ShloMosaic Idealize.ShloMosaic.TcCoe
  Idealize.SL.Sem

theorem hz2 : (![0, 0] : Fin 2 → Nat) = fun _ => 0 := funext fun a => by fin_cases a <;> rfl

/-- The operands of one half hold the rows `R`, the weight `W` and the gains `G` and `G'`. -/
structure Half (R : Fin 256 → Row) (W : Fin 4 → Fin 1024 → Fin 1408 → EReal) (G G' : Fin 1024 → EReal)
    (a0 a1 a2 a3 : Vec Ideal S256x1408 .bf16) (w0 w1 w2 w3 : Vec Ideal S1x1024x1408 .bf16)
    (h di f : Vec Ideal S256x1024 .f32) (g g' : Vec Ideal S1x1024 .f32) : Prop where
  dn : ∀ r x, k0_pay7 (F := Ideal) a0 w0 a1 w1 a2 w2 a3 w3 (ix2 r x) = (R r).dn W x
  h : ∀ r x, h (ix2 r x) = (R r).h x
  di : ∀ r x, di (ix2 r x) = (R r).di x
  f : ∀ r x, f (ix2 r x) = (R r).f x
  g : ∀ x, g (ix2 0 x) = G x
  g' : ∀ x, g' (ix2 0 x) = G' x

section

variable {R R₁ : Fin 256 → Row} {W : Fin 4 → Fin 1024 → Fin 1408 → EReal} {G G' : Fin 1024 → EReal}
  {a0 a1 a2 a3 a0₁ a1₁ a2₁ a3₁ : Vec Ideal S256x1408 .bf16} {w0 w1 w2 w3 w0₁ w1₁ w2₁ w3₁ : Vec Ideal S1x1024x1408 .bf16}
  {h di f h₁ di₁ f₁ : Vec Ideal S256x1024 .f32} {g g' g₁ g₁' : Vec Ideal S1x1024 .f32}

/-- A half's gradient of the rows. -/
abbrev dhOf (a0 a1 a2 a3 : Vec Ideal S256x1408 .bf16) (w0 w1 w2 w3 : Vec Ideal S1x1024x1408 .bf16)
    (h di : Vec Ideal S256x1024 .f32) (g : Vec Ideal S1x1024 .f32) : FVec Ideal S256x1024 .f32 :=
  k0_pay11 (F := Ideal) (k0_pay7 a0 w0 a1 w1 a2 w2 a3 w3) h (k0_pay8 h) di g

section

variable (H : Half R W G G' a0 a1 a2 a3 w0 w1 w2 w3 h di f g g') (acc : Vec Ideal S1x1024 .f32) (r : Fin 256) (x : Fin 1024)

include H

theorem Half.dh_apply : dhOf a0 a1 a2 a3 w0 w1 w2 w3 h di g (ix2 r x) = (R r).dh W G x := by
  unfold dhOf
  rw [pay11_apply, H.di]
  simp only [H.dn, H.h, H.g]
  rfl

theorem Half.gpre_apply : k0_pay12 (F := Ideal) (k0_pay7 a0 w0 a1 w1 a2 w2 a3 w3) h (k0_pay8 h) acc (ix2 0 x)
    = acc (ix2 0 x) + ∑ r, (R r).gpre W x := by
  rw [pay12_apply]
  simp only [H.dn, H.h]
  rfl

theorem Half.gpost_apply : k0_pay16 (F := Ideal) (dhOf a0 a1 a2 a3 w0 w1 w2 w3 h di g) (k0_pay14 f) acc (ix2 0 x)
    = acc (ix2 0 x) + ∑ r, (R r).gpost W G x := by
  rw [pay16_apply]
  simp only [H.dh_apply, H.f]
  rfl

theorem Half.dsum_apply : k0_pay18 (F := Ideal) (dhOf a0 a1 a2 a3 w0 w1 w2 w3 h di g) (k0_pay13 f) (k0_pay14 f) g' acc (ix2 0 x)
    = acc (ix2 0 x) + ∑ r, (R r).df W G G' x := by
  rw [pay18_apply]
  simp only [H.dh_apply, H.f, H.g']
  rfl

theorem Half.df_apply : k0_pay19 (F := Ideal) (dhOf a0 a1 a2 a3 w0 w1 w2 w3 h di g) (k0_pay13 f) (k0_pay14 f) g' (ix2 r x)
    = (R r).df W G G' x := by
  rw [pay19_apply]
  simp only [H.dh_apply, H.f, H.g']
  rfl

end

/-- What the two halves add to a sum over the rows. -/
def sums (F : Row → Fin 1024 → EReal) (R R₁ : Fin 256 → Row) (acc : Vec Ideal S1x1024 .f32) : Vec Ideal S1x1024 .f32 :=
  fun y => acc y + (∑ r, F (R r) (y 1)) + ∑ r, F (R₁ r) (y 1)

theorem sums_of (F : Row → Fin 1024 → EReal) (R R₁ : Fin 256 → Row) (acc u v : Vec Ideal S1x1024 .f32)
    (hu : ∀ x, u (ix2 0 x) = acc (ix2 0 x) + ∑ r, F (R r) x) (hv : ∀ x, v (ix2 0 x) = u (ix2 0 x) + ∑ r, F (R₁ r) x) :
    v = sums F R R₁ acc := by
  funext y
  obtain ⟨x, rfl⟩ : ∃ x : Fin 1024, y = ix2 0 x := ⟨y 1, (eq_ix2 (n0 := 1) (n1 := 1024) y).trans (by
    congr 1; exact Subsingleton.elim (α := Fin 1) _ _)⟩
  rw [hv, hu]
  rfl

variable (H : Half R W G G' a0 a1 a2 a3 w0 w1 w2 w3 h di f g g') (H₁ : Half R₁ W G G' a0₁ a1₁ a2₁ a3₁ w0₁ w1₁ w2₁ w3₁ h₁ di₁ f₁ g₁ g₁') (acc : Vec Ideal S1x1024 .f32)

include H H₁

theorem step_gpre : k0_pay27 (F := Ideal) (k0_pay21 (k0_pay20 a0₁ w0₁) a1₁ w1₁ a2₁ w2₁ a3₁ w3₁) (k0_pay23 h₁)
      (k0_pay12 (k0_pay7 a0 w0 a1 w1 a2 w2 a3 w3) h (k0_pay8 h) acc)
    = sums (fun R => R.gpre W) R R₁ acc :=
  sums_of (fun R => R.gpre W) R R₁ acc _ _ (H.gpre_apply acc)
    (fun x => (congrFun (pay27_eq ..) (ix2 0 x)).trans (H₁.gpre_apply _ x))

theorem step_gpost : k0_pay31 (F := Ideal) (k0_pay22 h₁) (k0_pay23 h₁) di₁ (k0_pay24 (k0_pay20 a0₁ w0₁) a1₁ w1₁ a2₁ w2₁ a3₁ w3₁ g₁)
      (k0_pay25 (k0_pay20 a0₁ w0₁) a1₁ w1₁ a2₁ w2₁ a3₁ w3₁ h₁ g₁) f₁
      (k0_pay16 (dhOf a0 a1 a2 a3 w0 w1 w2 w3 h di g) (k0_pay14 f) acc)
    = sums (fun R => R.gpost W G) R R₁ acc :=
  sums_of (fun R => R.gpost W G) R R₁ acc _ _ (H.gpost_apply acc)
    (fun x => (congrFun (pay31_eq ..) (ix2 0 x)).trans (H₁.gpost_apply _ x))

theorem step_dsum : k0_pay2 (F := Ideal) (k0_pay28 f₁) (k0_pay29 f₁) (k0_pay30 (k0_pay22 h₁) (k0_pay23 h₁) di₁
      (k0_pay24 (k0_pay20 a0₁ w0₁) a1₁ w1₁ a2₁ w2₁ a3₁ w3₁ g₁) (k0_pay25 (k0_pay20 a0₁ w0₁) a1₁ w1₁ a2₁ w2₁ a3₁ w3₁ h₁ g₁)) g₁'
      (k0_pay18 (dhOf a0 a1 a2 a3 w0 w1 w2 w3 h di g) (k0_pay13 f) (k0_pay14 f) g' acc)
    = sums (fun R => R.df W G G') R R₁ acc :=
  sums_of (fun R => R.df W G G') R R₁ acc _ _ (H.dsum_apply acc)
    (fun x => (congrFun (pay2_eq ..) (ix2 0 x)).trans (H₁.dsum_apply _ x))

end

/-! ## The operands a block's half loads -/

section

variable (x0 : Vec Ideal S512x5632 .bf16) (x1 : Vec Ideal S4x1024x1408 .bf16) (x2 x3 : Vec Ideal S512x1024 .f32)
  (x4 : Vec Ideal S1x1024 .f32) (x5 : Vec Ideal S512x1024 .f32) (x6 : Vec Ideal S1x1024 .f32)

/-- A row of the block. -/
def blkRow (r : Fin 512) : Row where
  a s k := x0 (ix2 r ⟨s.val * 1408 + k.val, by omega⟩)
  di x := x2 (ix2 r x)
  h x := x3 (ix2 r x)
  f x := x5 (ix2 r x)

def blkW : Fin 4 → Fin 1024 → Fin 1408 → EReal := fun s x k => x1 (ix3 s x k)

def blkG : Fin 1024 → EReal := fun x => x4 (ix2 0 x)

/-- The rows of the half that begins at row `o`. -/
def rows (o : ℕ) (ho : o ≤ 256) (r : Fin 256) : Row := blkRow x0 x2 x3 x5 ⟨o + r.val, by omega⟩

theorem ld_rows (X : Vec Ideal S512x1024 .f32) (o : ℕ) (ho : o ≤ 256) (i : ∀ a, ![o, 0] a + S256x1024.size a ≤ S512x1024.size a)
    (r : Fin 256) (x : Fin 1024) :
    View.ld X (Rect.unit (s := S512x1024) ![o, 0] S256x1024.size i) (ix2 r x) = X (ix2 ⟨o + r.val, by omega⟩ x) := by
  refine congrArg X (funext fun a => Fin.ext ?_)
  match a with
  | ⟨0, _⟩ => show o + 1 * r.val = o + r.val; omega
  | ⟨1, _⟩ => show 0 + 1 * x.val = x.val; omega

theorem ld_wide (o : ℕ) (ho : o ≤ 256) (s : Fin 4) (q : ℕ) (hq : q = s.val * 1408)
    (i : ∀ a, ![o, q] a + S256x1408.size a ≤ S512x5632.size a) (r : Fin 256) (k : Fin 1408) :
    View.ld x0 (Rect.unit (s := S512x5632) ![o, q] S256x1408.size i) (ix2 r k) = (rows x0 x2 x3 x5 o ho r).a s k := by
  refine congrArg x0 (funext fun a => Fin.ext ?_)
  match a with
  | ⟨0, _⟩ => show o + 1 * r.val = o + r.val; omega
  | ⟨1, _⟩ => show q + 1 * k.val = s.val * 1408 + k.val; omega

theorem ld_weight (s : Fin 4) (q : ℕ) (hq : q = s.val) (i : ∀ a, ![q, 0, 0] a + S1x1024x1408.size a ≤ S4x1024x1408.size a)
    (x : Fin 1024) (k : Fin 1408) :
    View.ld x1 (Rect.unit (s := S4x1024x1408) ![q, 0, 0] S1x1024x1408.size i) (ix3 0 x k) = blkW x1 s x k := by
  refine congrArg x1 (funext fun a => Fin.ext ?_)
  match a with
  | ⟨0, _⟩ => show q + 1 * 0 = s.val; omega
  | ⟨1, _⟩ => show 0 + 1 * x.val = x.val; omega
  | ⟨2, _⟩ => show 0 + 1 * k.val = k.val; omega

theorem ld_gain (i : ∀ a, ![0, 0] a + S1x1024.size a ≤ S1x1024.size a) (x : Fin 1024) :
    View.ld x4 (Rect.unit (s := S1x1024) ![0, 0] S1x1024.size i) (ix2 0 x) = blkG x4 x := by
  rw [View.ld_unit_zero hz2]
  rfl

theorem half (o : ℕ) (ho : o ≤ 256)
    (i0 : ∀ a, ![o, 0] a + S256x1408.size a ≤ S512x5632.size a) (i1 : ∀ a, ![o, 1408] a + S256x1408.size a ≤ S512x5632.size a)
    (i2 : ∀ a, ![o, 2816] a + S256x1408.size a ≤ S512x5632.size a) (i3 : ∀ a, ![o, 4224] a + S256x1408.size a ≤ S512x5632.size a)
    (i : ∀ a, ![o, 0] a + S256x1024.size a ≤ S512x1024.size a) :
    Half (rows x0 x2 x3 x5 o ho) (blkW x1) (blkG x4) (blkG x6)
      (View.ld x0 (Rect.unit (s := S512x5632) ![o, 0] S256x1408.size i0)) (View.ld x0 (Rect.unit (s := S512x5632) ![o, 1408] S256x1408.size i1))
      (View.ld x0 (Rect.unit (s := S512x5632) ![o, 2816] S256x1408.size i2)) (View.ld x0 (Rect.unit (s := S512x5632) ![o, 4224] S256x1408.size i3))
      (View.ld x1 (Rect.unit (s := S4x1024x1408) ![0, 0, 0] S1x1024x1408.size inb_S4x1024x1408_S1x1024x1408_0_0_0))
      (View.ld x1 (Rect.unit (s := S4x1024x1408) ![1, 0, 0] S1x1024x1408.size inb_S4x1024x1408_S1x1024x1408_1_0_0))
      (View.ld x1 (Rect.unit (s := S4x1024x1408) ![2, 0, 0] S1x1024x1408.size inb_S4x1024x1408_S1x1024x1408_2_0_0))
      (View.ld x1 (Rect.unit (s := S4x1024x1408) ![3, 0, 0] S1x1024x1408.size inb_S4x1024x1408_S1x1024x1408_3_0_0))
      (View.ld x3 (Rect.unit (s := S512x1024) ![o, 0] S256x1024.size i)) (View.ld x2 (Rect.unit (s := S512x1024) ![o, 0] S256x1024.size i))
      (View.ld x5 (Rect.unit (s := S512x1024) ![o, 0] S256x1024.size i))
      (View.ld x4 (Rect.unit (s := S1x1024) ![0, 0] S1x1024.size inb_S1x1024_S1x1024_0_0))
      (View.ld x6 (Rect.unit (s := S1x1024) ![0, 0] S1x1024.size inb_S1x1024_S1x1024_0_0)) where
  dn r x := by
    rw [pay7_apply]
    simp only [ld_wide x0 x2 x3 x5 o ho 0 0 rfl, ld_wide x0 x2 x3 x5 o ho 1 1408 rfl, ld_wide x0 x2 x3 x5 o ho 2 2816 rfl,
      ld_wide x0 x2 x3 x5 o ho 3 4224 rfl, ld_weight x1 0 0 rfl, ld_weight x1 1 1 rfl, ld_weight x1 2 2 rfl, ld_weight x1 3 3 rfl]
    rfl
  h r x := ld_rows x3 o ho i r x
  di r x := ld_rows x2 o ho i r x
  f r x := ld_rows x5 o ho i r x
  g x := ld_gain x4 _ x
  g' x := ld_gain x6 _ x

/-- The lower and the upper half of the block. -/
abbrev lo := half x0 x1 x2 x3 x4 x5 x6 0 (by norm_num) inb_S512x5632_S256x1408_0_0 inb_S512x5632_S256x1408_0_1408
  inb_S512x5632_S256x1408_0_2816 inb_S512x5632_S256x1408_0_4224 inb_S512x1024_S256x1024_0_0
abbrev hi := half x0 x1 x2 x3 x4 x5 x6 256 (by norm_num) inb_S512x5632_S256x1408_256_0 inb_S512x5632_S256x1408_256_1408
  inb_S512x5632_S256x1408_256_2816 inb_S512x5632_S256x1408_256_4224 inb_S512x1024_S256x1024_256_0

/-! ## What the block leaves -/

def blkDh : Vec Ideal S512x1024 .f32 := fun y => (blkRow x0 x2 x3 x5 (y 0)).dh (blkW x1) (blkG x4) (y 1)

def blkDf : Vec Ideal S512x1024 .bf16 := fun y => (blkRow x0 x2 x3 x5 (y 0)).df (blkW x1) (blkG x4) (blkG x6) (y 1)

def blkSums (F : Row → Fin 1024 → EReal) (acc : Vec Ideal S1x1024 .f32) : Vec Ideal S1x1024 .f32 :=
  sums F (rows x0 x2 x3 x5 0 (by norm_num)) (rows x0 x2 x3 x5 256 (by norm_num)) acc

theorem piece (F : Row → Fin 1024 → EReal) (o : ℕ) (ho : o ≤ 256) (i : ∀ a, ![o, 0] a + S256x1024.size a ≤ S512x1024.size a)
    (u : S256x1024.Idx → EReal) (hu : ∀ r x, u (ix2 r x) = F (rows x0 x2 x3 x5 o ho r) x) (y : S256x1024.Idx) :
    u y = (fun y : S512x1024.Idx => F (blkRow x0 x2 x3 x5 (y 0)) (y 1)) ((Rect.unit (s := S512x1024) ![o, 0] S256x1024.size i).emb y) := by
  refine (congrArg u (eq_ix2 (n0 := 256) (n1 := 1024) y)).trans ((hu _ _).trans (congrArg₂ (fun r x => F (blkRow x0 x2 x3 x5 r) x) (Fin.ext ?_) (Fin.ext ?_)))
  · show o + (y 0).val = o + 1 * (y 0).val; omega
  · show (y 1).val = 0 + 1 * (y 1).val; omega

end

/-! ## The body's results, at the first block and at the others -/

theorem zero_acc : (k0_pay4 (F := Ideal) : Vec Ideal S1x1024 .f32) = fun _ => 0 := funext fun _ => Ideal.ofBits_zero_f32

theorem piecesA_7 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    View.PiecesOf (blkDh x0 x1 x2 x3 x4 x5) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 := by
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread]
  exact ⟨fun y => (congrFun (pay26_eq ..) y).trans (piece x0 x2 x3 x5 (fun R => R.dh (blkW x1) (blkG x4)) 256 (by norm_num) inb_S512x1024_S256x1024_256_0 _
      (hi x0 x1 x2 x3 x4 x5 x6).dh_apply y),
    fun y => piece x0 x2 x3 x5 (fun R => R.dh (blkW x1) (blkG x4)) 0 (by norm_num) inb_S512x1024_S256x1024_0_0 _ (lo x0 x1 x2 x3 x4 x5 x6).dh_apply y, trivial⟩

theorem outA_7 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blkDh x0 x1 x2 x3 x4 x5 := by
  unfold out0_A_7
  rw [View.read_writes_junk_eq_canon]
  exact funext fun y => View.canon_apply_of_pieces (blkDh x0 x1 x2 x3 x4 x5) _
    (piecesA_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6).mem y
    (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)

theorem piecesA_8 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    View.PiecesOf (blkDf x0 x1 x2 x3 x4 x5 x6) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 := by
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread]
  exact ⟨fun y => (congrFun (pay3_eq ..) y).trans (piece x0 x2 x3 x5 (fun R => R.df (blkW x1) (blkG x4) (blkG x6)) 256 (by norm_num) inb_S512x1024_S256x1024_256_0 _
      (hi x0 x1 x2 x3 x4 x5 x6).df_apply y),
    fun y => piece x0 x2 x3 x5 (fun R => R.df (blkW x1) (blkG x4) (blkG x6)) 0 (by norm_num) inb_S512x1024_S256x1024_0_0 _ (lo x0 x1 x2 x3 x4 x5 x6).df_apply y, trivial⟩

theorem outA_8 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blkDf x0 x1 x2 x3 x4 x5 x6 := by
  unfold out0_A_8
  rw [View.read_writes_junk_eq_canon]
  exact funext fun y => View.canon_apply_of_pieces (blkDf x0 x1 x2 x3 x4 x5 x6) _
    (piecesA_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6).mem y
    (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)

theorem outA_9 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blkSums x0 x2 x3 x5 (fun R => R.gpre (blkW x1)) (fun _ => 0) := by
  unfold out0_A_9
  rw [View.read_writes_junk_eq_canon]
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread]
  exact (View.canon_cons_unit_zero hz2 _ _ _).trans
    ((step_gpre (lo x0 x1 x2 x3 x4 x5 x6) (hi x0 x1 x2 x3 x4 x5 x6) _).trans (congrArg (blkSums x0 x2 x3 x5 (fun R => R.gpre (blkW x1))) zero_acc))

theorem outA_10 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blkSums x0 x2 x3 x5 (fun R => R.gpost (blkW x1) (blkG x4)) (fun _ => 0) := by
  unfold out0_A_10
  rw [View.read_writes_junk_eq_canon]
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread]
  exact (View.canon_cons_unit_zero hz2 _ _ _).trans
    ((step_gpost (lo x0 x1 x2 x3 x4 x5 x6) (hi x0 x1 x2 x3 x4 x5 x6) _).trans (congrArg (blkSums x0 x2 x3 x5 (fun R => R.gpost (blkW x1) (blkG x4))) zero_acc))

theorem outA_11 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blkSums x0 x2 x3 x5 (fun R => R.df (blkW x1) (blkG x4) (blkG x6)) (fun _ => 0) := by
  unfold out0_A_11
  rw [View.read_writes_junk_eq_canon]
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread]
  exact (View.canon_cons_unit_zero hz2 _ _ _).trans
    ((step_dsum (lo x0 x1 x2 x3 x4 x5 x6) (hi x0 x1 x2 x3 x4 x5 x6) _).trans (congrArg (blkSums x0 x2 x3 x5 (fun R => R.df (blkW x1) (blkG x4) (blkG x6))) zero_acc))

theorem piecesB_7 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    View.PiecesOf (blkDh x0 x1 x2 x3 x4 x5) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11).1 := by
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread, harg10.read_unread, harg11.read_unread, harg12.read_unread]
  exact ⟨fun y => (congrFun (pay26_eq ..) y).trans (piece x0 x2 x3 x5 (fun R => R.dh (blkW x1) (blkG x4)) 256 (by norm_num) inb_S512x1024_S256x1024_256_0 _
      (hi x0 x1 x2 x3 x4 x5 x6).dh_apply y),
    fun y => piece x0 x2 x3 x5 (fun R => R.dh (blkW x1) (blkG x4)) 0 (by norm_num) inb_S512x1024_S256x1024_0_0 _ (lo x0 x1 x2 x3 x4 x5 x6).dh_apply y, trivial⟩

theorem outB_7 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 = blkDh x0 x1 x2 x3 x4 x5 := by
  unfold out0_B_7
  rw [View.read_writes_junk_eq_canon]
  exact funext fun y => View.canon_apply_of_pieces (blkDh x0 x1 x2 x3 x4 x5) _
    (piecesB_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11).mem y
    (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 y)

theorem piecesB_8 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    View.PiecesOf (blkDf x0 x1 x2 x3 x4 x5 x6) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11).2.1 := by
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread, harg10.read_unread, harg11.read_unread, harg12.read_unread]
  exact ⟨fun y => (congrFun (pay3_eq ..) y).trans (piece x0 x2 x3 x5 (fun R => R.df (blkW x1) (blkG x4) (blkG x6)) 256 (by norm_num) inb_S512x1024_S256x1024_256_0 _
      (hi x0 x1 x2 x3 x4 x5 x6).df_apply y),
    fun y => piece x0 x2 x3 x5 (fun R => R.df (blkW x1) (blkG x4) (blkG x6)) 0 (by norm_num) inb_S512x1024_S256x1024_0_0 _ (lo x0 x1 x2 x3 x4 x5 x6).df_apply y, trivial⟩

theorem outB_8 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 = blkDf x0 x1 x2 x3 x4 x5 x6 := by
  unfold out0_B_8
  rw [View.read_writes_junk_eq_canon]
  exact funext fun y => View.canon_apply_of_pieces (blkDf x0 x1 x2 x3 x4 x5 x6) _
    (piecesB_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11).mem y
    (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 y)

theorem outB_9 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 = blkSums x0 x2 x3 x5 (fun R => R.gpre (blkW x1)) xo9 := by
  unfold out0_B_9
  rw [View.read_writes_junk_eq_canon]
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread, harg10.read_unread, harg11.read_unread, harg12.read_unread]
  exact (View.canon_cons_unit_zero hz2 _ _ _).trans
    ((step_gpre (lo x0 x1 x2 x3 x4 x5 x6) (hi x0 x1 x2 x3 x4 x5 x6) _).trans (by rw [View.ld_unit_zero hz2]; rfl))

theorem outB_10 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 = blkSums x0 x2 x3 x5 (fun R => R.gpost (blkW x1) (blkG x4)) xo10 := by
  unfold out0_B_10
  rw [View.read_writes_junk_eq_canon]
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread, harg10.read_unread, harg11.read_unread, harg12.read_unread]
  exact (View.canon_cons_unit_zero hz2 _ _ _).trans
    ((step_gpost (lo x0 x1 x2 x3 x4 x5 x6) (hi x0 x1 x2 x3 x4 x5 x6) _).trans (by rw [View.ld_unit_zero hz2]; rfl))

theorem outB_11 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1x1024 .f32) (harg12 : arg12.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (x5 : Vec Ideal S512x1024 .f32) (x6 : Vec Ideal S1x1024 .f32)
    (xo9 xo10 xo11 : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 xo10 xo11 = blkSums x0 x2 x3 x5 (fun R => R.df (blkW x1) (blkG x4) (blkG x6)) xo11 := by
  unfold out0_B_11
  rw [View.read_writes_junk_eq_canon]
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg6.read_unread, harg7.read_unread, harg10.read_unread, harg11.read_unread, harg12.read_unread]
  exact (View.canon_cons_unit_zero hz2 _ _ _).trans
    ((step_dsum (lo x0 x1 x2 x3 x4 x5 x6) (hi x0 x1 x2 x3 x4 x5 x6) _).trans (by rw [View.ld_unit_zero hz2]; rfl))

end Cert.Proof.Norms

end
-- ==== Proof.Ffn.NormsRun.lean ====
/- The five result arrays of the norms' gradients after the run: each grid point writes 512 rows of the two gradients of
   tokens, and the three sums over the tokens are added up over the grid points. -/
module

public import proofs.«01_k».proof.Proof.Ffn.NormsBlock
public import Idealize.ShloMosaic.Lib.Pipeline.ValueKit.Acc

@[expose] public section

set_option maxRecDepth 16384

noncomputable section

namespace Cert.Proof.Norms

open Cert.KernelNormsIdeal Cert.KernelNormsIdeal.Gen Cert.KernelNormsIdeal.Value Idealize.ShloMosaic Idealize.ShloMosaic.TcCoe
  Idealize.SL.Sem

/-! ## The results as functions of the operands -/

section

variable (a0 : FVec Ideal S4096x5632 .bf16) (a1 : FVec Ideal S4x1024x1408 .bf16) (a2 a3 : FVec Ideal S4096x1024 .f32)
  (a4 : FVec Ideal S1x1024 .f32) (a5 : FVec Ideal S4096x1024 .f32) (a6 : FVec Ideal S1x1024 .f32)

/-- Row `n` of the operands. -/
def tok (n : ℕ) : Row where
  a s k := a0 (ix2 (⟨n % 4096, by omega⟩ : Fin 4096) (⟨s.val * 1408 + k.val, by omega⟩ : Fin 5632))
  di x := a2 (ix2 (⟨n % 4096, by omega⟩ : Fin 4096) x)
  h x := a3 (ix2 (⟨n % 4096, by omega⟩ : Fin 4096) x)
  f x := a5 (ix2 (⟨n % 4096, by omega⟩ : Fin 4096) x)

def outDh : FVec Ideal S4096x1024 .f32 := fun i => (tok a0 a2 a3 a5 (i 0).val).dh (blkW a1) (blkG a4) (i 1)

def outDf : FVec Ideal S4096x1024 .bf16 := fun i => (tok a0 a2 a3 a5 (i 0).val).df (blkW a1) (blkG a4) (blkG a6) (i 1)

/-- A sum over all rows. -/
def outSum (F : Row → Fin 1024 → EReal) : FVec Ideal S1x1024 .f32 := fun i => ∑ n : Fin 4096, F (tok a0 a2 a3 a5 n.val) (i 1)

end

/-- Rows taken 512 at a time, each 512 in two halves. -/
theorem sum_blocks (f : ℕ → EReal) (n : ℕ) :
    (∑ t ∈ Finset.range n, ((∑ r : Fin 256, f (t * 512 + (0 + r.val))) + ∑ r : Fin 256, f (t * 512 + (256 + r.val))))
      = ∑ r ∈ Finset.range (n * 512), f r := by
  induction n with
  | zero => simp
  | succ n ih =>
    rw [Finset.sum_range_succ, ih, show (n + 1) * 512 = n * 512 + 256 + 256 by ring, Finset.sum_range_add, Finset.sum_range_add,
      Fin.sum_univ_eq_sum_range (fun r => f (n * 512 + (0 + r))), Fin.sum_univ_eq_sum_range (fun r => f (n * 512 + (256 + r))), add_assoc]
    refine congrArg₂ (· + ·) rfl (congrArg₂ (· + ·) ?_ ?_) <;> exact Finset.sum_congr rfl fun r _ => congrArg f (by omega)

/-! ## What a block reads -/

variable (m : (ℓ : Loc nD τ sig) → Buf (Elt Ideal) ℓ)

theorem index_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

theorem index_out : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem tlt (t : Fin cfg0.N) : t.val < 8 := lt_of_lt_of_eq t.isLt N_0

theorem blk_a (c : Dev nD) (t : Fin cfg0.N) (r : Fin 512) (k : Fin 5632) (r' : Fin 4096) (hr : r'.val = t.val * 512 + r.val) :
    iblk m c 0 t (ix2 r k) = V m c main_arg0 (ix2 r' k) := by
  obtain ⟨e0, e1, -⟩ := index_facts t
  show V m c main_arg0 (((cfg0.win 0).blk t).view.emb _) = _
  refine congrArg (V m c main_arg0) (funext fun a => Fin.ext ?_)
  match a with
  | ⟨0, _⟩ => show win0_0.index t (0 : Fin 2) * 512 + 1 * r.val = r'.val; omega
  | ⟨1, _⟩ => show win0_0.index t (1 : Fin 2) * 5632 + 1 * k.val = k.val; omega

theorem blk_w (c : Dev nD) (t : Fin cfg0.N) : blkW (iblk m c 1 t) = blkW (V m c main_arg1) := by
  obtain ⟨-, -, e0, e1, e2, -⟩ := index_facts t
  funext s x k
  show V m c main_arg1 (((cfg0.win 1).blk t).view.emb _) = _
  refine congrArg (V m c main_arg1) (funext fun a => Fin.ext ?_)
  match a with
  | ⟨0, _⟩ => show win0_1.index t (0 : Fin 3) * 4 + 1 * s.val = s.val; omega
  | ⟨1, _⟩ => show win0_1.index t (1 : Fin 3) * 1024 + 1 * x.val = x.val; omega
  | ⟨2, _⟩ => show win0_1.index t (2 : Fin 3) * 1408 + 1 * k.val = k.val; omega

theorem blk_2 (c : Dev nD) (t : Fin cfg0.N) (r : Fin 512) (x : Fin 1024) (r' : Fin 4096) (hr : r'.val = t.val * 512 + r.val) :
    iblk m c 2 t (ix2 r x) = V m c main_arg2 (ix2 r' x) := by
  obtain ⟨-, -, -, -, -, e0, e1, -⟩ := index_facts t
  show V m c main_arg2 (((cfg0.win 2).blk t).view.emb _) = _
  refine congrArg (V m c main_arg2) (funext fun a => Fin.ext ?_)
  match a with
  | ⟨0, _⟩ => show win0_2.index t (0 : Fin 2) * 512 + 1 * r.val = r'.val; omega
  | ⟨1, _⟩ => show win0_2.index t (1 : Fin 2) * 1024 + 1 * x.val = x.val; omega

theorem blk_3 (c : Dev nD) (t : Fin cfg0.N) (r : Fin 512) (x : Fin 1024) (r' : Fin 4096) (hr : r'.val = t.val * 512 + r.val) :
    iblk m c 3 t (ix2 r x) = V m c main_arg3 (ix2 r' x) := by
  obtain ⟨-, -, -, -, -, -, -, e0, e1, -⟩ := index_facts t
  show V m c main_arg3 (((cfg0.win 3).blk t).view.emb _) = _
  refine congrArg (V m c main_arg3) (funext fun a => Fin.ext ?_)
  match a with
  | ⟨0, _⟩ => show win0_3.index t (0 : Fin 2) * 512 + 1 * r.val = r'.val; omega
  | ⟨1, _⟩ => show win0_3.index t (1 : Fin 2) * 1024 + 1 * x.val = x.val; omega

theorem blk_5 (c : Dev nD) (t : Fin cfg0.N) (r : Fin 512) (x : Fin 1024) (r' : Fin 4096) (hr : r'.val = t.val * 512 + r.val) :
    iblk m c 5 t (ix2 r x) = V m c main_arg5 (ix2 r' x) := by
  obtain ⟨-, -, -, -, -, -, -, -, -, -, -, e0, e1, -⟩ := index_facts t
  show V m c main_arg5 (((cfg0.win 5).blk t).view.emb _) = _
  refine congrArg (V m c main_arg5) (funext fun a => Fin.ext ?_)
  match a with
  | ⟨0, _⟩ => show win0_5.index t (0 : Fin 2) * 512 + 1 * r.val = r'.val; omega
  | ⟨1, _⟩ => show win0_5.index t (1 : Fin 2) * 1024 + 1 * x.val = x.val; omega

theorem blk_g4 (c : Dev nD) (t : Fin cfg0.N) : blkG (iblk m c 4 t) = blkG (V m c main_arg4) := by
  obtain ⟨-, -, -, -, -, -, -, -, -, e0, e1, -⟩ := index_facts t
  funext x
  show V m c main_arg4 (((cfg0.win 4).blk t).view.emb _) = _
  refine congrArg (V m c main_arg4) (funext fun a => Fin.ext ?_)
  match a with
  | ⟨0, _⟩ => show win0_4.index t (0 : Fin 2) * 1 + 1 * 0 = 0; omega
  | ⟨1, _⟩ => show win0_4.index t (1 : Fin 2) * 1024 + 1 * x.val = x.val; omega

theorem blk_g6 (c : Dev nD) (t : Fin cfg0.N) : blkG (iblk m c 6 t) = blkG (V m c main_arg6) := by
  obtain ⟨-, -, -, -, -, -, -, -, -, -, -, -, -, e0, e1⟩ := index_facts t
  funext x
  show V m c main_arg6 (((cfg0.win 6).blk t).view.emb _) = _
  refine congrArg (V m c main_arg6) (funext fun a => Fin.ext ?_)
  match a with
  | ⟨0, _⟩ => show win0_6.index t (0 : Fin 2) * 1 + 1 * 0 = 0; omega
  | ⟨1, _⟩ => show win0_6.index t (1 : Fin 2) * 1024 + 1 * x.val = x.val; omega

theorem blk_row (c : Dev nD) (t : Fin cfg0.N) (r : Fin 512) :
    blkRow (iblk m c 0 t) (iblk m c 2 t) (iblk m c 3 t) (iblk m c 5 t) r
      = tok (V m c main_arg0) (V m c main_arg2) (V m c main_arg3) (V m c main_arg5) (t.val * 512 + r.val) := by
  have ht := tlt t
  have hr : (t.val * 512 + r.val) % 4096 = t.val * 512 + r.val := Nat.mod_eq_of_lt (by omega)
  unfold blkRow tok
  congr 1
  · funext s k; exact blk_a m c t r _ _ hr
  · funext x; exact blk_2 m c t r x _ hr
  · funext x; exact blk_3 m c t r x _ hr
  · funext x; exact blk_5 m c t r x _ hr

theorem dh_congr {W W₁ : Fin 4 → Fin 1024 → Fin 1408 → EReal} {G G₁ : Fin 1024 → EReal} {R R₁ : Row} (hW : W = W₁) (hG : G = G₁)
    (hR : R = R₁) (x : Fin 1024) : R.dh W G x = R₁.dh W₁ G₁ x := by
  subst hW; subst hG; subst hR; rfl

theorem df_congr {W W₁ : Fin 4 → Fin 1024 → Fin 1408 → EReal} {G G₁ G' G₁' : Fin 1024 → EReal} {R R₁ : Row} (hW : W = W₁) (hG : G = G₁)
    (hG' : G' = G₁') (hR : R = R₁) (x : Fin 1024) : R.df W G G' x = R₁.df W₁ G₁ G₁' x := by
  subst hW; subst hG; subst hG'; subst hR; rfl

/-! ## The gradients of the tokens -/

theorem blkDh_eq (c : Dev nD) (t : Fin cfg0.N) (y : S512x1024.Idx) :
    blkDh (iblk m c 0 t) (iblk m c 1 t) (iblk m c 2 t) (iblk m c 3 t) (iblk m c 4 t) (iblk m c 5 t) y
      = (tok (V m c main_arg0) (V m c main_arg2) (V m c main_arg3) (V m c main_arg5) (t.val * 512 + (y 0).val)).dh (blkW (V m c main_arg1)) (blkG (V m c main_arg4)) (y 1) := by
  exact dh_congr (blk_w m c t) (blk_g4 m c t) (blk_row m c t (y 0)) (y 1)

theorem flushed7_eq (c : Dev nD) (t : Fin cfg0.N) :
    (dats m 0 c).flushed 7 t = ((cfg0.win 7).blk t).view.read (Elt Ideal)
      (outDh (V m c main_arg0) (V m c main_arg1) (V m c main_arg2) (V m c main_arg3) (V m c main_arg4) (V m c main_arg5)) := by
  obtain ⟨⟨e0, e1⟩, -⟩ := index_out t
  have e : (dats m 0 c).flushed 7 t = (cfg0.win 7).cut (grid0.coords t) (blkDh (iblk m c 0 t) (iblk m c 1 t) (iblk m c 2 t) (iblk m c 3 t) (iblk m c 4 t) (iblk m c 5 t)) := by
    by_cases h0 : t.val % 8 = 0
    · exact (flushed7_A m c t h0).trans (congrArg ((cfg0.win 7).cut (grid0.coords t)) (outA_7 c ..))
    · exact (flushed7_B m c t h0).trans (congrArg ((cfg0.win 7).cut (grid0.coords t)) (outB_7 c ..))
  rw [e]
  funext y
  rw [View.read_apply]
  refine (blkDh_eq m c t y).trans ?_
  refine congrArg₂ (fun n x => (tok (V m c main_arg0) (V m c main_arg2) (V m c main_arg3) (V m c main_arg5) n).dh _ _ x) ?_ (Fin.ext ?_)
  · show t.val * 512 + (y 0).val = win0_7.index t (0 : Fin 2) * 512 + 1 * (y 0).val; omega
  · show (y 1).val = win0_7.index t (1 : Fin 2) * 1024 + 1 * (y 1).val; omega

theorem covered7 (i : S4096x1024.Idx) :
    ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 8 := N_0
  refine ⟨⟨(i 0).val / 512, by omega⟩, flush0_7 _, ?_⟩
  obtain ⟨⟨e0, e1⟩, -⟩ := index_out ⟨(i 0).val / 512, by omega⟩
  refine (Finset.ext_iff.mp (View.set_slice_whole main_v0_0 (win0_7.rect _)) i).mpr ?_
  rw [Rect.mem_set_unit]
  intro a
  match a with
  | ⟨0, _⟩ => show win0_7.index _ (0 : Fin 2) * 512 ≤ (i 0).val ∧ (i 0).val < win0_7.index _ (0 : Fin 2) * 512 + 512
              rw [e0]; dsimp only; omega
  | ⟨1, _⟩ => show win0_7.index _ (1 : Fin 2) * 1024 ≤ (i 1).val ∧ (i 1).val < win0_7.index _ (1 : Fin 2) * 1024 + 1024
              rw [e1]; omega

theorem final7 (c : Dev nD) : (dats m 0 c).arrAt 7 cfg0.N
    = outDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (outDh (V m c main_arg0) (V m c main_arg1) (V m c main_arg2) (V m c main_arg3) (V m c main_arg4) (V m c main_arg5))
    (fun t _ => flushed7_eq m c t) covered7).trans (by rw [V_main_arg0, V_main_arg1, V_main_arg2, V_main_arg3, V_main_arg4, V_main_arg5])

theorem blkDf_eq (c : Dev nD) (t : Fin cfg0.N) (y : S512x1024.Idx) :
    blkDf (iblk m c 0 t) (iblk m c 1 t) (iblk m c 2 t) (iblk m c 3 t) (iblk m c 4 t) (iblk m c 5 t) (iblk m c 6 t) y
      = (tok (V m c main_arg0) (V m c main_arg2) (V m c main_arg3) (V m c main_arg5) (t.val * 512 + (y 0).val)).df (blkW (V m c main_arg1)) (blkG (V m c main_arg4)) (blkG (V m c main_arg6)) (y 1) := by
  exact df_congr (blk_w m c t) (blk_g4 m c t) (blk_g6 m c t) (blk_row m c t (y 0)) (y 1)

theorem flushed8_eq (c : Dev nD) (t : Fin cfg0.N) :
    (dats m 0 c).flushed 8 t = ((cfg0.win 8).blk t).view.read (Elt Ideal)
      (outDf (V m c main_arg0) (V m c main_arg1) (V m c main_arg2) (V m c main_arg3) (V m c main_arg4) (V m c main_arg5) (V m c main_arg6)) := by
  obtain ⟨-, ⟨e0, e1⟩, -⟩ := index_out t
  have e : (dats m 0 c).flushed 8 t = (cfg0.win 8).cut (grid0.coords t) (blkDf (iblk m c 0 t) (iblk m c 1 t) (iblk m c 2 t) (iblk m c 3 t) (iblk m c 4 t) (iblk m c 5 t) (iblk m c 6 t)) := by
    by_cases h0 : t.val % 8 = 0
    · exact (flushed8_A m c t h0).trans (congrArg ((cfg0.win 8).cut (grid0.coords t)) (outA_8 c ..))
    · exact (flushed8_B m c t h0).trans (congrArg ((cfg0.win 8).cut (grid0.coords t)) (outB_8 c ..))
  rw [e]
  funext y
  rw [View.read_apply]
  refine (blkDf_eq m c t y).trans ?_
  refine congrArg₂ (fun n x => (tok (V m c main_arg0) (V m c main_arg2) (V m c main_arg3) (V m c main_arg5) n).df _ _ _ x) ?_ (Fin.ext ?_)
  · show t.val * 512 + (y 0).val = win0_8.index t (0 : Fin 2) * 512 + 1 * (y 0).val; omega
  · show (y 1).val = win0_8.index t (1 : Fin 2) * 1024 + 1 * (y 1).val; omega

theorem covered8 (i : S4096x1024.Idx) :
    ∃ t : Fin cfg0.N, (cfg0.win 8).flush t = true ∧ i ∈ ((cfg0.win 8).blk t).view.set := by
  have h0 : (i 0).val < 4096 := (i 0).isLt
  have h1 : (i 1).val < 1024 := (i 1).isLt
  have hN : cfg0.N = 8 := N_0
  refine ⟨⟨(i 0).val / 512, by omega⟩, flush0_8 _, ?_⟩
  obtain ⟨-, ⟨e0, e1⟩, -⟩ := index_out ⟨(i 0).val / 512, by omega⟩
  refine (Finset.ext_iff.mp (View.set_slice_whole main_v0_1 (win0_8.rect _)) i).mpr ?_
  rw [Rect.mem_set_unit]
  intro a
  match a with
  | ⟨0, _⟩ => show win0_8.index _ (0 : Fin 2) * 512 ≤ (i 0).val ∧ (i 0).val < win0_8.index _ (0 : Fin 2) * 512 + 512
              rw [e0]; dsimp only; omega
  | ⟨1, _⟩ => show win0_8.index _ (1 : Fin 2) * 1024 ≤ (i 1).val ∧ (i 1).val < win0_8.index _ (1 : Fin 2) * 1024 + 1024
              rw [e1]; omega

theorem final8 (c : Dev nD) : (dats m 0 c).arrAt 8 cfg0.N
    = outDf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (outDf (V m c main_arg0) (V m c main_arg1) (V m c main_arg2) (V m c main_arg3) (V m c main_arg4) (V m c main_arg5) (V m c main_arg6))
    (fun t _ => flushed8_eq m c t) covered8).trans (by rw [V_main_arg0, V_main_arg1, V_main_arg2, V_main_arg3, V_main_arg4, V_main_arg5, V_main_arg6])

/-! ## The sums over the tokens -/

/-- What a row adds to this sum. -/
def F9 (c : Dev nD) : Row → Fin 1024 → EReal := (fun R => R.gpre (blkW (V m c main_arg1)))

theorem step9_A (c : Dev nD) (t : Fin cfg0.N) (h0 : t.val % 8 = 0) (y : S1x1024.Idx) :
    (outsAt0 m c t.val t.isLt).2.2.1 y = 0 + (((∑ r : Fin 256, F9 m c (tok (V m c main_arg0) (V m c main_arg2) (V m c main_arg3) (V m c main_arg5) (t.val * 512 + (0 + r.val))) (y 1)) + ∑ r : Fin 256, F9 m c (tok (V m c main_arg0) (V m c main_arg2) (V m c main_arg3) (V m c main_arg5) (t.val * 512 + (256 + r.val))) (y 1))) := by
  rw [outsAt0_A m c t h0]
  dsimp only
  refine (congrFun (outA_9 c ..) y).trans ?_
  unfold blkSums sums rows F9
  simp only [blk_row, blk_w]
  rw [add_assoc]

theorem step9_B (c : Dev nD) (t : Fin cfg0.N) (h0 : ¬t.val % 8 = 0) (y : S1x1024.Idx) :
    (outsAt0 m c t.val t.isLt).2.2.1 y = (outsAt0 m c (t.val - 1) (Nat.lt_of_le_of_lt (Nat.sub_le _ _) t.isLt)).2.2.1 y
      + ((∑ r : Fin 256, F9 m c (tok (V m c main_arg0) (V m c main_arg2) (V m c main_arg3) (V m c main_arg5) (t.val * 512 + (0 + r.val))) (y 1)) + ∑ r : Fin 256, F9 m c (tok (V m c main_arg0) (V m c main_arg2) (V m c main_arg3) (V m c main_arg5) (t.val * 512 + (256 + r.val))) (y 1)) := by
  rw [outsAt0_B m c t h0]
  dsimp only
  refine (congrFun (outB_9 c ..) y).trans ?_
  unfold blkSums sums rows F9
  simp only [blk_row, blk_w]
  rw [add_assoc]

theorem last9 (c : Dev nD) (t : Fin cfg0.N) (ht : t.val + 1 = cfg0.N) (y : S1x1024.Idx) :
    (outsAt0 m c t.val t.isLt).2.2.1 y = outSum (V m c main_arg0) (V m c main_arg2) (V m c main_arg3) (V m c main_arg5) (F9 m c) y := by
  have hN : cfg0.N = 8 := N_0
  refine (Pipeline.eq_sum_fin_of_reset_step_apply_last (fun n h => (outsAt0 m c n h).2.2.1) 8 (fun _ => (0 : EReal))
    (fun (t : Fin cfg0.N) (y : S1x1024.Idx) => (∑ r : Fin 256, F9 m c (tok (V m c main_arg0) (V m c main_arg2) (V m c main_arg3) (V m c main_arg5) (t.val * 512 + (0 + r.val))) (y 1)) + ∑ r : Fin 256, F9 m c (tok (V m c main_arg0) (V m c main_arg2) (V m c main_arg3) (V m c main_arg5) (t.val * 512 + (256 + r.val))) (y 1))
    (fun t h y => step9_A m c t h y) (fun t h y => step9_B m c t h y) hN.le t ht y).trans ?_
  rw [zero_add, Fin.sum_univ_eq_sum_range (fun n => (∑ r : Fin 256, F9 m c (tok (V m c main_arg0) (V m c main_arg2) (V m c main_arg3) (V m c main_arg5) (n * 512 + (0 + r.val))) (y 1)) + ∑ r : Fin 256, F9 m c (tok (V m c main_arg0) (V m c main_arg2) (V m c main_arg3) (V m c main_arg5) (n * 512 + (256 + r.val))) (y 1)) cfg0.N, hN]
  refine (sum_blocks (fun n => F9 m c (tok (V m c main_arg0) (V m c main_arg2) (V m c main_arg3) (V m c main_arg5) n) (y 1)) 8).trans ?_
  rw [← Fin.sum_univ_eq_sum_range]
  rfl

theorem flushed9_eq (c : Dev nD) (t : Fin cfg0.N) (hf : (cfg0.win 9).flush t = true) :
    (dats m 0 c).flushed 9 t = ((cfg0.win 9).blk t).view.read (Elt Ideal) (outSum (V m c main_arg0) (V m c main_arg2) (V m c main_arg3) (V m c main_arg5) (F9 m c)) := by
  have hN : cfg0.N = 8 := N_0
  have ht : t.val % 8 = 7 := (flush0_9 t).mp hf
  have htl : t.val < cfg0.N := t.isLt
  obtain ⟨-, -, ⟨e0, e1⟩, -⟩ := index_out t
  rw [flushed9]
  funext y
  rw [View.read_apply]
  refine (last9 m c t (by omega) y).trans (congrArg (outSum (V m c main_arg0) (V m c main_arg2) (V m c main_arg3) (V m c main_arg5) (F9 m c)) (funext fun a => Fin.ext ?_))
  match a with
  | ⟨0, _⟩ => show (y 0).val = win0_9.index t (0 : Fin 2) * 1 + 1 * (y 0).val; rw [e0]; omega
  | ⟨1, _⟩ => show (y 1).val = win0_9.index t (1 : Fin 2) * 1024 + 1 * (y 1).val; rw [e1]; omega

theorem covered9 (i : S1x1024.Idx) :
    ∃ t : Fin cfg0.N, (cfg0.win 9).flush t = true ∧ i ∈ ((cfg0.win 9).blk t).view.set := by
  have h0 : (i 0).val < 1 := (i 0).isLt
  have h1 : (i 1).val < 1024 := (i 1).isLt
  have hN : cfg0.N = 8 := N_0
  refine ⟨⟨7, by omega⟩, (flush0_9 _).mpr rfl, ?_⟩
  obtain ⟨-, -, ⟨e0, e1⟩, -⟩ := index_out ⟨7, by omega⟩
  refine (Finset.ext_iff.mp (View.set_slice_whole main_v0_2 (win0_9.rect _)) i).mpr ?_
  rw [Rect.mem_set_unit]
  intro a
  match a with
  | ⟨0, _⟩ => show win0_9.index _ (0 : Fin 2) * 1 ≤ (i 0).val ∧ (i 0).val < win0_9.index _ (0 : Fin 2) * 1 + 1
              rw [e0]; omega
  | ⟨1, _⟩ => show win0_9.index _ (1 : Fin 2) * 1024 ≤ (i 1).val ∧ (i 1).val < win0_9.index _ (1 : Fin 2) * 1024 + 1024
              rw [e1]; omega

theorem final9 (c : Dev nD) : (dats m 0 c).arrAt 9 cfg0.N
    = outSum (m ((c : Thread nD τ).loc main_arg0)) (m ((c : Thread nD τ).loc main_arg2)) (m ((c : Thread nD τ).loc main_arg3)) (m ((c : Thread nD τ).loc main_arg5)) (fun R => R.gpre (blkW (m ((c : Thread nD τ).loc main_arg1)))) :=
  ((dats m 0 c).arrAt_eq_of_cover 9 (outSum (V m c main_arg0) (V m c main_arg2) (V m c main_arg3) (V m c main_arg5) (F9 m c)) (fun t hf => flushed9_eq m c t hf) covered9).trans
    (by unfold F9; rw [V_main_arg0, V_main_arg1, V_main_arg2, V_main_arg3, V_main_arg5])

/-- What a row adds to this sum. -/
def F10 (c : Dev nD) : Row → Fin 1024 → EReal := (fun R => R.gpost (blkW (V m c main_arg1)) (blkG (V m c main_arg4)))

theorem step10_A (c : Dev nD) (t : Fin cfg0.N) (h0 : t.val % 8 = 0) (y : S1x1024.Idx) :
    (outsAt0 m c t.val t.isLt).2.2.2.1 y = 0 + (((∑ r : Fin 256, F10 m c (tok (V m c main_arg0) (V m c main_arg2) (V m c main_arg3) (V m c main_arg5) (t.val * 512 + (0 + r.val))) (y 1)) + ∑ r : Fin 256, F10 m c (tok (V m c main_arg0) (V m c main_arg2) (V m c main_arg3) (V m c main_arg5) (t.val * 512 + (256 + r.val))) (y 1))) := by
  rw [outsAt0_A m c t h0]
  dsimp only
  refine (congrFun (outA_10 c ..) y).trans ?_
  unfold blkSums sums rows F10
  simp only [blk_row, blk_w, blk_g4]
  rw [add_assoc]

theorem step10_B (c : Dev nD) (t : Fin cfg0.N) (h0 : ¬t.val % 8 = 0) (y : S1x1024.Idx) :
    (outsAt0 m c t.val t.isLt).2.2.2.1 y = (outsAt0 m c (t.val - 1) (Nat.lt_of_le_of_lt (Nat.sub_le _ _) t.isLt)).2.2.2.1 y
      + ((∑ r : Fin 256, F10 m c (tok (V m c main_arg0) (V m c main_arg2) (V m c main_arg3) (V m c main_arg5) (t.val * 512 + (0 + r.val))) (y 1)) + ∑ r : Fin 256, F10 m c (tok (V m c main_arg0) (V m c main_arg2) (V m c main_arg3) (V m c main_arg5) (t.val * 512 + (256 + r.val))) (y 1)) := by
  rw [outsAt0_B m c t h0]
  dsimp only
  refine (congrFun (outB_10 c ..) y).trans ?_
  unfold blkSums sums rows F10
  simp only [blk_row, blk_w, blk_g4]
  rw [add_assoc]

theorem last10 (c : Dev nD) (t : Fin cfg0.N) (ht : t.val + 1 = cfg0.N) (y : S1x1024.Idx) :
    (outsAt0 m c t.val t.isLt).2.2.2.1 y = outSum (V m c main_arg0) (V m c main_arg2) (V m c main_arg3) (V m c main_arg5) (F10 m c) y := by
  have hN : cfg0.N = 8 := N_0
  refine (Pipeline.eq_sum_fin_of_reset_step_apply_last (fun n h => (outsAt0 m c n h).2.2.2.1) 8 (fun _ => (0 : EReal))
    (fun (t : Fin cfg0.N) (y : S1x1024.Idx) => (∑ r : Fin 256, F10 m c (tok (V m c main_arg0) (V m c main_arg2) (V m c main_arg3) (V m c main_arg5) (t.val * 512 + (0 + r.val))) (y 1)) + ∑ r : Fin 256, F10 m c (tok (V m c main_arg0) (V m c main_arg2) (V m c main_arg3) (V m c main_arg5) (t.val * 512 + (256 + r.val))) (y 1))
    (fun t h y => step10_A m c t h y) (fun t h y => step10_B m c t h y) hN.le t ht y).trans ?_
  rw [zero_add, Fin.sum_univ_eq_sum_range (fun n => (∑ r : Fin 256, F10 m c (tok (V m c main_arg0) (V m c main_arg2) (V m c main_arg3) (V m c main_arg5) (n * 512 + (0 + r.val))) (y 1)) + ∑ r : Fin 256, F10 m c (tok (V m c main_arg0) (V m c main_arg2) (V m c main_arg3) (V m c main_arg5) (n * 512 + (256 + r.val))) (y 1)) cfg0.N, hN]
  refine (sum_blocks (fun n => F10 m c (tok (V m c main_arg0) (V m c main_arg2) (V m c main_arg3) (V m c main_arg5) n) (y 1)) 8).trans ?_
  rw [← Fin.sum_univ_eq_sum_range]
  rfl

theorem flushed10_eq (c : Dev nD) (t : Fin cfg0.N) (hf : (cfg0.win 10).flush t = true) :
    (dats m 0 c).flushed 10 t = ((cfg0.win 10).blk t).view.read (Elt Ideal) (outSum (V m c main_arg0) (V m c main_arg2) (V m c main_arg3) (V m c main_arg5) (F10 m c)) := by
  have hN : cfg0.N = 8 := N_0
  have ht : t.val % 8 = 7 := (flush0_10 t).mp hf
  have htl : t.val < cfg0.N := t.isLt
  obtain ⟨-, -, -, ⟨e0, e1⟩, -⟩ := index_out t
  rw [flushed10]
  funext y
  rw [View.read_apply]
  refine (last10 m c t (by omega) y).trans (congrArg (outSum (V m c main_arg0) (V m c main_arg2) (V m c main_arg3) (V m c main_arg5) (F10 m c)) (funext fun a => Fin.ext ?_))
  match a with
  | ⟨0, _⟩ => show (y 0).val = win0_10.index t (0 : Fin 2) * 1 + 1 * (y 0).val; rw [e0]; omega
  | ⟨1, _⟩ => show (y 1).val = win0_10.index t (1 : Fin 2) * 1024 + 1 * (y 1).val; rw [e1]; omega

theorem covered10 (i : S1x1024.Idx) :
    ∃ t : Fin cfg0.N, (cfg0.win 10).flush t = true ∧ i ∈ ((cfg0.win 10).blk t).view.set := by
  have h0 : (i 0).val < 1 := (i 0).isLt
  have h1 : (i 1).val < 1024 := (i 1).isLt
  have hN : cfg0.N = 8 := N_0
  refine ⟨⟨7, by omega⟩, (flush0_10 _).mpr rfl, ?_⟩
  obtain ⟨-, -, -, ⟨e0, e1⟩, -⟩ := index_out ⟨7, by omega⟩
  refine (Finset.ext_iff.mp (View.set_slice_whole main_v0_3 (win0_10.rect _)) i).mpr ?_
  rw [Rect.mem_set_unit]
  intro a
  match a with
  | ⟨0, _⟩ => show win0_10.index _ (0 : Fin 2) * 1 ≤ (i 0).val ∧ (i 0).val < win0_10.index _ (0 : Fin 2) * 1 + 1
              rw [e0]; omega
  | ⟨1, _⟩ => show win0_10.index _ (1 : Fin 2) * 1024 ≤ (i 1).val ∧ (i 1).val < win0_10.index _ (1 : Fin 2) * 1024 + 1024
              rw [e1]; omega

theorem final10 (c : Dev nD) : (dats m 0 c).arrAt 10 cfg0.N
    = outSum (m ((c : Thread nD τ).loc main_arg0)) (m ((c : Thread nD τ).loc main_arg2)) (m ((c : Thread nD τ).loc main_arg3)) (m ((c : Thread nD τ).loc main_arg5)) (fun R => R.gpost (blkW (m ((c : Thread nD τ).loc main_arg1))) (blkG (m ((c : Thread nD τ).loc main_arg4)))) :=
  ((dats m 0 c).arrAt_eq_of_cover 10 (outSum (V m c main_arg0) (V m c main_arg2) (V m c main_arg3) (V m c main_arg5) (F10 m c)) (fun t hf => flushed10_eq m c t hf) covered10).trans
    (by unfold F10; rw [V_main_arg0, V_main_arg1, V_main_arg2, V_main_arg3, V_main_arg4, V_main_arg5])

/-- What a row adds to this sum. -/
def F11 (c : Dev nD) : Row → Fin 1024 → EReal := (fun R => R.df (blkW (V m c main_arg1)) (blkG (V m c main_arg4)) (blkG (V m c main_arg6)))

theorem step11_A (c : Dev nD) (t : Fin cfg0.N) (h0 : t.val % 8 = 0) (y : S1x1024.Idx) :
    (outsAt0 m c t.val t.isLt).2.2.2.2 y = 0 + (((∑ r : Fin 256, F11 m c (tok (V m c main_arg0) (V m c main_arg2) (V m c main_arg3) (V m c main_arg5) (t.val * 512 + (0 + r.val))) (y 1)) + ∑ r : Fin 256, F11 m c (tok (V m c main_arg0) (V m c main_arg2) (V m c main_arg3) (V m c main_arg5) (t.val * 512 + (256 + r.val))) (y 1))) := by
  rw [outsAt0_A m c t h0]
  dsimp only
  refine (congrFun (outA_11 c ..) y).trans ?_
  unfold blkSums sums rows F11
  simp only [blk_row, blk_w, blk_g4, blk_g6]
  rw [add_assoc]

theorem step11_B (c : Dev nD) (t : Fin cfg0.N) (h0 : ¬t.val % 8 = 0) (y : S1x1024.Idx) :
    (outsAt0 m c t.val t.isLt).2.2.2.2 y = (outsAt0 m c (t.val - 1) (Nat.lt_of_le_of_lt (Nat.sub_le _ _) t.isLt)).2.2.2.2 y
      + ((∑ r : Fin 256, F11 m c (tok (V m c main_arg0) (V m c main_arg2) (V m c main_arg3) (V m c main_arg5) (t.val * 512 + (0 + r.val))) (y 1)) + ∑ r : Fin 256, F11 m c (tok (V m c main_arg0) (V m c main_arg2) (V m c main_arg3) (V m c main_arg5) (t.val * 512 + (256 + r.val))) (y 1)) := by
  rw [outsAt0_B m c t h0]
  dsimp only
  refine (congrFun (outB_11 c ..) y).trans ?_
  unfold blkSums sums rows F11
  simp only [blk_row, blk_w, blk_g4, blk_g6]
  rw [add_assoc]

theorem last11 (c : Dev nD) (t : Fin cfg0.N) (ht : t.val + 1 = cfg0.N) (y : S1x1024.Idx) :
    (outsAt0 m c t.val t.isLt).2.2.2.2 y = outSum (V m c main_arg0) (V m c main_arg2) (V m c main_arg3) (V m c main_arg5) (F11 m c) y := by
  have hN : cfg0.N = 8 := N_0
  refine (Pipeline.eq_sum_fin_of_reset_step_apply_last (fun n h => (outsAt0 m c n h).2.2.2.2) 8 (fun _ => (0 : EReal))
    (fun (t : Fin cfg0.N) (y : S1x1024.Idx) => (∑ r : Fin 256, F11 m c (tok (V m c main_arg0) (V m c main_arg2) (V m c main_arg3) (V m c main_arg5) (t.val * 512 + (0 + r.val))) (y 1)) + ∑ r : Fin 256, F11 m c (tok (V m c main_arg0) (V m c main_arg2) (V m c main_arg3) (V m c main_arg5) (t.val * 512 + (256 + r.val))) (y 1))
    (fun t h y => step11_A m c t h y) (fun t h y => step11_B m c t h y) hN.le t ht y).trans ?_
  rw [zero_add, Fin.sum_univ_eq_sum_range (fun n => (∑ r : Fin 256, F11 m c (tok (V m c main_arg0) (V m c main_arg2) (V m c main_arg3) (V m c main_arg5) (n * 512 + (0 + r.val))) (y 1)) + ∑ r : Fin 256, F11 m c (tok (V m c main_arg0) (V m c main_arg2) (V m c main_arg3) (V m c main_arg5) (n * 512 + (256 + r.val))) (y 1)) cfg0.N, hN]
  refine (sum_blocks (fun n => F11 m c (tok (V m c main_arg0) (V m c main_arg2) (V m c main_arg3) (V m c main_arg5) n) (y 1)) 8).trans ?_
  rw [← Fin.sum_univ_eq_sum_range]
  rfl

theorem flushed11_eq (c : Dev nD) (t : Fin cfg0.N) (hf : (cfg0.win 11).flush t = true) :
    (dats m 0 c).flushed 11 t = ((cfg0.win 11).blk t).view.read (Elt Ideal) (outSum (V m c main_arg0) (V m c main_arg2) (V m c main_arg3) (V m c main_arg5) (F11 m c)) := by
  have hN : cfg0.N = 8 := N_0
  have ht : t.val % 8 = 7 := (flush0_11 t).mp hf
  have htl : t.val < cfg0.N := t.isLt
  obtain ⟨-, -, -, -, e0, e1⟩ := index_out t
  rw [flushed11]
  funext y
  rw [View.read_apply]
  refine (last11 m c t (by omega) y).trans (congrArg (outSum (V m c main_arg0) (V m c main_arg2) (V m c main_arg3) (V m c main_arg5) (F11 m c)) (funext fun a => Fin.ext ?_))
  match a with
  | ⟨0, _⟩ => show (y 0).val = win0_11.index t (0 : Fin 2) * 1 + 1 * (y 0).val; rw [e0]; omega
  | ⟨1, _⟩ => show (y 1).val = win0_11.index t (1 : Fin 2) * 1024 + 1 * (y 1).val; rw [e1]; omega

theorem covered11 (i : S1x1024.Idx) :
    ∃ t : Fin cfg0.N, (cfg0.win 11).flush t = true ∧ i ∈ ((cfg0.win 11).blk t).view.set := by
  have h0 : (i 0).val < 1 := (i 0).isLt
  have h1 : (i 1).val < 1024 := (i 1).isLt
  have hN : cfg0.N = 8 := N_0
  refine ⟨⟨7, by omega⟩, (flush0_11 _).mpr rfl, ?_⟩
  obtain ⟨-, -, -, -, e0, e1⟩ := index_out ⟨7, by omega⟩
  refine (Finset.ext_iff.mp (View.set_slice_whole main_v0_4 (win0_11.rect _)) i).mpr ?_
  rw [Rect.mem_set_unit]
  intro a
  match a with
  | ⟨0, _⟩ => show win0_11.index _ (0 : Fin 2) * 1 ≤ (i 0).val ∧ (i 0).val < win0_11.index _ (0 : Fin 2) * 1 + 1
              rw [e0]; omega
  | ⟨1, _⟩ => show win0_11.index _ (1 : Fin 2) * 1024 ≤ (i 1).val ∧ (i 1).val < win0_11.index _ (1 : Fin 2) * 1024 + 1024
              rw [e1]; omega

theorem final11 (c : Dev nD) : (dats m 0 c).arrAt 11 cfg0.N
    = outSum (m ((c : Thread nD τ).loc main_arg0)) (m ((c : Thread nD τ).loc main_arg2)) (m ((c : Thread nD τ).loc main_arg3)) (m ((c : Thread nD τ).loc main_arg5)) (fun R => R.df (blkW (m ((c : Thread nD τ).loc main_arg1))) (blkG (m ((c : Thread nD τ).loc main_arg4))) (blkG (m ((c : Thread nD τ).loc main_arg6)))) :=
  ((dats m 0 c).arrAt_eq_of_cover 11 (outSum (V m c main_arg0) (V m c main_arg2) (V m c main_arg3) (V m c main_arg5) (F11 m c)) (fun t hf => flushed11_eq m c t hf) covered11).trans
    (by unfold F11; rw [V_main_arg0, V_main_arg1, V_main_arg2, V_main_arg3, V_main_arg4, V_main_arg5, V_main_arg6])

end Cert.Proof.Norms

end
-- ==== Proof.Ffn.NormsRef.lean ====
/- The reference's stages of the norms' gradients, row by row. On real operands its gradients are the kernel's. -/
module

public import proofs.«01_k».proof.Proof.Ffn.NormsMath
public import proofs.«01_k».proof.Proof.Ffn.NormsRun
public import proofs.«01_k».proof.Proof.Gen.ReferenceNormsIdeal.Run
public import proofs.«01_k».proof.Proof.Gen.ReferenceNormsIdeal.Read

@[expose] public section

set_option maxRecDepth 16384

noncomputable section

namespace Cert.Proof.Norms

open Cert.KernelNormsIdeal Idealize.ShloMosaic Cert.ReferenceNormsIdeal.Read

/-- The reference's sums start at zero. -/
theorem sum0 {n : ℕ} (f : Fin n → EReal) : FloatOps.ofBits (F := Ideal) .f32 0x00000000#32 + ∑ k, f k = ∑ k, f k := by
  rw [show FloatOps.ofBits (F := Ideal) .f32 0x00000000#32 = (0 : EReal) from Ideal.ofBits_zero_f32, zero_add]

variable (x0 : FVec Ideal S4096x5632 .bf16) (x1 : FVec Ideal S4x1024x1408 .bf16) (x2 x3 : FVec Ideal S4096x1024 .f32) (x4 : FVec Ideal S1x1024 .f32)
  (x5 : FVec Ideal S4096x1024 .f32) (x6 : FVec Ideal S1x1024 .f32) (r : Fin 4096) (x : Fin 1024)

theorem tok_h : (tok x0 x2 x3 x5 r.val).h = fun x => x3 (ix2 r x) := by
  have hr : (⟨r.val % 4096, by omega⟩ : Fin 4096) = r := Fin.ext (Nat.mod_eq_of_lt r.isLt)
  unfold tok
  simp only [hr]

theorem tok_f : (tok x0 x2 x3 x5 r.val).f = fun x => x5 (ix2 r x) := by
  have hr : (⟨r.val % 4096, by omega⟩ : Fin 4096) = r := Fin.ext (Nat.mod_eq_of_lt r.isLt)
  unfold tok
  simp only [hr]

theorem tok_di : (tok x0 x2 x3 x5 r.val).di = fun x => x2 (ix2 r x) := by
  have hr : (⟨r.val % 4096, by omega⟩ : Fin 4096) = r := Fin.ext (Nat.mod_eq_of_lt r.isLt)
  unfold tok
  simp only [hr]

theorem tok_a : (tok x0 x2 x3 x5 r.val).a = fun s k => x0 (ix2 r (⟨s.val * 1408 + k.val, by omega⟩ : Fin 5632)) := by
  have hr : (⟨r.val % 4096, by omega⟩ : Fin 4096) = r := Fin.ext (Nat.mod_eq_of_lt r.isLt)
  unfold tok
  simp only [hr]

/-! ## The norm of the half's input -/

theorem ref_ms : val_main_v6 (F := Ideal) x3 (ix2 r 0) = ms (fun x => x3 (ix2 r x)) := by
  rw [val_main_v6_apply, val_main_v5_apply, val_main_v4_apply, val_main_v3_apply, val_main_v2_apply, val_main_v1_apply, val_main_cst_apply, val_main_cst_0_apply, val_main_cst_1_apply, sum0]
  refine congrArg (fun s => Ideal.div s _ + _) (Finset.sum_congr rfl fun k _ => ?_)
  rw [val_main_v0_apply]
  have e : idx_main_v1 (idx_main_v2 (ix2 r 0)) k = ix2 r k := funext fun b => Fin.ext (by
    match b with
    | ⟨0, _⟩ => rfl
    | ⟨1, _⟩ => rfl)
  rw [e]
  rfl

theorem ref_rms : val_main_v7 (F := Ideal) x3 (ix2 r 0) = rms (fun x => x3 (ix2 r x)) := by
  rw [val_main_v7_apply, ref_ms]
  rfl

theorem ref_v10 : val_main_v10 (F := Ideal) x3 (ix2 r 0)
    = Ideal.ofBits .f32 0xBF000000#32 * Ideal.div (rms (fun x => x3 (ix2 r x))) (ms (fun x => x3 (ix2 r x))) := by
  rw [val_main_v10_apply, val_main_v9_apply, val_main_cst_2_apply, val_main_v8_apply, ref_ms, ref_rms]
  rfl

theorem ref_v12 : val_main_v12 (F := Ideal) x3 (ix2 r x) = x3 (ix2 r x) * rms (fun x => x3 (ix2 r x)) := by
  have e : idx_main_v11 (ix2 r x) = ix2 r 0 := funext fun b => Fin.ext (by
    match b with
    | ⟨0, _⟩ => rfl
    | ⟨1, _⟩ => rfl)
  rw [val_main_v12_apply, val_main_v11_apply, e, ref_rms]
  rfl

/-! ## The gradient of the normed rows -/

/-- The `n`-th term of a row's product with the weights of all devices. -/
def term (n : ℕ) : EReal :=
  x0 (ix2 r (⟨n % 5632, by omega⟩ : Fin 5632)) * x1 (ix3 (⟨n / 1408 % 4, by omega⟩ : Fin 4) x (⟨n % 1408, by omega⟩ : Fin 1408))

theorem ref_dn : val_main_v20 (F := Ideal) x0 x1 (ix2 r x) = (tok x0 x2 x3 x5 r.val).dn (blkW x1) x := by
  rw [val_main_v20_apply]
  refine (Finset.sum_congr rfl (g := fun k : Fin 5632 => term x0 x1 r x k.val) fun k _ => ?_).trans ?_
  · rw [val_main_v19_apply, val_main_v17_apply, val_main_v16_apply, val_main_v15_apply]
    refine congrArg₂ (· * ·) (congrArg x0 (funext fun b => Fin.ext ?_)) (congrArg x1 (funext fun b => Fin.ext ?_))
    · match b with
      | ⟨0, _⟩ => rfl
      | ⟨1, _⟩ => show k.val = k.val % 5632; omega
    · match b with
      | ⟨0, _⟩ => show (x.val * 5632 + k.val) / 1408 % 4 = k.val / 1408 % 4; omega
      | ⟨1, _⟩ => show (x.val * 5632 + k.val) / 5632 = x.val; omega
      | ⟨2, _⟩ => show (x.val * 5632 + k.val) % 1408 = k.val % 1408; omega
  · refine (sum_shards (term x0 x1 r x)).trans ?_
    unfold Row.dn
    rw [tok_a]
    refine congrArg₂ (· + ·) (congrArg₂ (· + ·) (congrArg₂ (· + ·) ?_ ?_) ?_) ?_
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (0 * 1408 + k.val) % 5632 = 0 * 1408 + k.val; omega
      · show (0 * 1408 + k.val) / 1408 % 4 = 0; omega
      · show (0 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (1 * 1408 + k.val) % 5632 = 1 * 1408 + k.val; omega
      · show (1 * 1408 + k.val) / 1408 % 4 = 1; omega
      · show (1 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (2 * 1408 + k.val) % 5632 = 2 * 1408 + k.val; omega
      · show (2 * 1408 + k.val) / 1408 % 4 = 2; omega
      · show (2 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (3 * 1408 + k.val) % 5632 = 3 * 1408 + k.val; omega
      · show (3 * 1408 + k.val) / 1408 % 4 = 3; omega
      · show (3 * 1408 + k.val) % 1408 = k.val; omega

theorem ref_gpre (y : S1x1024.Idx) : val_main_v23 (F := Ideal) x0 x1 x3 y = outSum x0 x2 x3 x5 (fun R => R.gpre (blkW x1)) y := by
  rw [val_main_v23_apply, val_main_v22_apply, val_main_cst_3_apply, sum0]
  refine Finset.sum_congr rfl fun r _ => ?_
  have e : idx_main_v22 (idx_main_v23 y) r = ix2 r (y 1) := funext fun b => Fin.ext (by
    match b with
    | ⟨0, _⟩ => rfl
    | ⟨1, _⟩ => show (y 0).val * 1024 + (y 1).val = (y 1).val; have h : (y 0).val < 1 := (y 0).isLt; omega)
  rw [e]
  refine (val_main_v21_apply (F := Ideal) x0 x1 x3 _).trans ?_
  refine (congrArg₂ (· * ·) (ref_v12 x3 r (y 1)) (ref_dn x0 x1 x2 x3 x5 r (y 1))).trans ?_
  refine (mul_comm _ _).trans ?_
  exact congrArg (fun z : Fin 1024 → EReal => (tok x0 x2 x3 x5 r.val).dn (blkW x1) (y 1) * (z (y 1) * rms z)) (tok_h x0 x2 x3 x5 r).symm

/-! ## The gradient of the half's input -/

theorem ref_v25 : val_main_v25 (F := Ideal) x0 x1 x4 (ix2 r x) = (tok x0 x2 x3 x5 r.val).dn (blkW x1) x * blkG x4 x := by
  have e : idx_main_v24 (ix2 r x) = ix2 0 x := funext fun b => Fin.ext (by
    match b with
    | ⟨0, _⟩ => rfl
    | ⟨1, _⟩ => rfl)
  rw [val_main_v25_apply, val_main_v24_apply, ref_dn x0 x1 x2 x3 x5, e]
  rfl

theorem ref_v36 : val_main_v36 (F := Ideal) x0 x1 x3 x4 (ix2 r x)
    = dms (fun x => (tok x0 x2 x3 x5 r.val).dn (blkW x1) x * blkG x4 x) (fun x => x3 (ix2 r x)) := by
  rw [val_main_v36_apply, val_main_v35_apply, val_main_cst_6_apply, sum0, Fin.sum_univ_one]
  have e : idx_main_v35 (idx_main_v36 (ix2 r x)) 0 = ix2 r 0 := funext fun b => Fin.ext (by
    match b with
    | ⟨0, _⟩ => rfl
    | ⟨1, _⟩ => rfl)
  rw [e, val_main_v34_apply, val_main_v33_apply, val_main_cst_5_apply, val_main_v32_apply, ref_v10, val_main_v28_apply, val_main_v27_apply, val_main_cst_4_apply, sum0]
  refine congrArg (fun s => Ideal.div (s * _) _) (Finset.sum_congr rfl fun k _ => ?_)
  have e' : idx_main_v27 (idx_main_v28 (ix2 r 0)) k = ix2 r k := funext fun b => Fin.ext (by
    match b with
    | ⟨0, _⟩ => show r.val * 1 + 0 = r.val; omega
    | ⟨1, _⟩ => rfl)
  rw [e', val_main_v26_apply, ref_v25 x0 x1 x2 x3 x4 x5]
  rfl

theorem ref_v40 : val_main_v40 (F := Ideal) x0 x1 x2 x3 x4 (ix2 r x)
    = (tok x0 x2 x3 x5 r.val).di x + rback (fun x => (tok x0 x2 x3 x5 r.val).dn (blkW x1) x * blkG x4 x) (tok x0 x2 x3 x5 r.val).h x := by
  have e : idx_main_v29 (ix2 r x) = ix2 r 0 := funext fun b => Fin.ext (by
    match b with
    | ⟨0, _⟩ => rfl
    | ⟨1, _⟩ => rfl)
  rw [val_main_v40_apply, val_main_v39_apply, val_main_v38_apply, val_main_v37_apply, val_main_v31_apply, val_main_v30_apply, val_main_v29_apply, e, ref_rms, ref_v36 x0 x1 x2 x3 x4 x5, ref_v25 x0 x1 x2 x3 x4 x5, tok_di, tok_h]
  unfold rback
  refine (add_assoc (G := EReal) _ _ _).trans ((add_assoc (G := EReal) _ _ _).trans (congrArg _ (add_assoc (G := EReal) _ _ _).symm))

/-! ## The norm of the projection before -/

theorem ref_v43 : val_main_v43 (F := Ideal) x5 = x5 := by
  funext i
  rw [val_main_v43_apply, val_main_v42_apply, val_main_v41_apply, val_main_cst_7_apply]
  show x5 i + Ideal.ofBits .f32 0x00000000#32 = x5 i
  rw [Ideal.ofBits_zero_f32, add_zero]

theorem ref_ms' : val_main_v50 (F := Ideal) x5 (ix2 r 0) = ms (fun x => x5 (ix2 r x)) := by
  rw [val_main_v50_apply, val_main_v49_apply, val_main_v48_apply, val_main_v47_apply, val_main_v46_apply, val_main_v45_apply, val_main_cst_8_apply, val_main_cst_9_apply, val_main_cst_10_apply, sum0]
  refine congrArg (fun s => Ideal.div s _ + _) (Finset.sum_congr rfl fun k _ => ?_)
  rw [val_main_v44_apply, ref_v43]
  have e : idx_main_v45 (idx_main_v46 (ix2 r 0)) k = ix2 r k := funext fun b => Fin.ext (by
    match b with
    | ⟨0, _⟩ => rfl
    | ⟨1, _⟩ => rfl)
  rw [e]
  rfl

theorem ref_rms' : val_main_v51 (F := Ideal) x5 (ix2 r 0) = rms (fun x => x5 (ix2 r x)) := by
  rw [val_main_v51_apply, ref_ms']
  rfl

theorem ref_v54 : val_main_v54 (F := Ideal) x5 (ix2 r 0)
    = Ideal.ofBits .f32 0xBF000000#32 * Ideal.div (rms (fun x => x5 (ix2 r x))) (ms (fun x => x5 (ix2 r x))) := by
  rw [val_main_v54_apply, val_main_v53_apply, val_main_cst_11_apply, val_main_v52_apply, ref_ms', ref_rms']
  rfl

theorem ref_v56 : val_main_v56 (F := Ideal) x5 (ix2 r x) = x5 (ix2 r x) * rms (fun x => x5 (ix2 r x)) := by
  have e : idx_main_v55 (ix2 r x) = ix2 r 0 := funext fun b => Fin.ext (by
    match b with
    | ⟨0, _⟩ => rfl
    | ⟨1, _⟩ => rfl)
  rw [val_main_v56_apply, val_main_v55_apply, e, ref_rms', ref_v43]
  rfl

/-! ## On real operands -/

variable (h0 : ∀ i, ∃ a : ℝ, x0 i = ((a : ℝ) : EReal)) (h1 : ∀ i, ∃ a : ℝ, x1 i = ((a : ℝ) : EReal)) (h2 : ∀ i, ∃ a : ℝ, x2 i = ((a : ℝ) : EReal))
  (h3 : ∀ i, ∃ a : ℝ, x3 i = ((a : ℝ) : EReal)) (h4 : ∀ i, ∃ a : ℝ, x4 i = ((a : ℝ) : EReal)) (h5 : ∀ i, ∃ a : ℝ, x5 i = ((a : ℝ) : EReal))
  (h6 : ∀ i, ∃ a : ℝ, x6 i = ((a : ℝ) : EReal))

include h0 h1 h3 h4

theorem ref_dh_at : val_main_v40 (F := Ideal) x0 x1 x2 x3 x4 (ix2 r x) = (tok x0 x2 x3 x5 r.val).dh (blkW x1) (blkG x4) x :=
  (ref_v40 x0 x1 x2 x3 x4 x5 r x).trans (dh_eq (fun _ _ => h0 _) (fun _ _ _ => h1 _) (fun _ => h3 _) (fun _ => h4 _) x)

theorem ref_dh : val_main_v40 (F := Ideal) x0 x1 x2 x3 x4 = outDh x0 x1 x2 x3 x4 x5 := by
  funext i
  rw [congrArg (val_main_v40 (F := Ideal) x0 x1 x2 x3 x4) (eq_ix2 (n0 := 4096) (n1 := 1024) i)]
  exact ref_dh_at x0 x1 x2 x3 x4 x5 (i 0) (i 1) h0 h1 h3 h4

theorem ref_gpost (y : S1x1024.Idx) : val_main_v61 (F := Ideal) x0 x1 x2 x3 x4 x5 y
    = outSum x0 x2 x3 x5 (fun R => R.gpost (blkW x1) (blkG x4)) y := by
  rw [val_main_v61_apply, val_main_v60_apply, val_main_cst_12_apply, sum0]
  refine Finset.sum_congr rfl fun r _ => ?_
  have e : idx_main_v60 (idx_main_v61 y) r = ix2 r (y 1) := funext fun b => Fin.ext (by
    match b with
    | ⟨0, _⟩ => rfl
    | ⟨1, _⟩ => show (y 0).val * 1024 + (y 1).val = (y 1).val; have h : (y 0).val < 1 := (y 0).isLt; omega)
  rw [e]
  refine (val_main_v59_apply (F := Ideal) x0 x1 x2 x3 x4 x5 _).trans ?_
  refine (congrArg₂ (· * ·) (ref_v56 x5 r (y 1)) (ref_dh_at x0 x1 x2 x3 x4 x5 r (y 1) h0 h1 h3 h4)).trans ?_
  refine (mul_comm _ _).trans ?_
  exact congrArg (fun z : Fin 1024 → EReal => (tok x0 x2 x3 x5 r.val).dh (blkW x1) (blkG x4) (y 1) * (z (y 1) * rms z)) (tok_f x0 x2 x3 x5 r).symm

theorem ref_v63 : val_main_v63 (F := Ideal) x0 x1 x2 x3 x4 x6 (ix2 r x) = (tok x0 x2 x3 x5 r.val).dh (blkW x1) (blkG x4) x * blkG x6 x := by
  have e : idx_main_v62 (ix2 r x) = ix2 0 x := funext fun b => Fin.ext (by
    match b with
    | ⟨0, _⟩ => rfl
    | ⟨1, _⟩ => rfl)
  rw [val_main_v63_apply, val_main_v62_apply, ref_dh_at x0 x1 x2 x3 x4 x5 r x h0 h1 h3 h4, e]
  rfl

theorem ref_v73 : val_main_v73 (F := Ideal) x0 x1 x2 x3 x4 x5 x6 (ix2 r x)
    = dms (fun x => (tok x0 x2 x3 x5 r.val).dh (blkW x1) (blkG x4) x * blkG x6 x) (fun x => x5 (ix2 r x)) := by
  rw [val_main_v73_apply, val_main_v72_apply, val_main_cst_15_apply, sum0, Fin.sum_univ_one]
  have e : idx_main_v72 (idx_main_v73 (ix2 r x)) 0 = ix2 r 0 := funext fun b => Fin.ext (by
    match b with
    | ⟨0, _⟩ => rfl
    | ⟨1, _⟩ => rfl)
  rw [e, val_main_v71_apply, val_main_v70_apply, val_main_cst_14_apply, val_main_v69_apply, ref_v54, val_main_v66_apply, val_main_v65_apply, val_main_cst_13_apply, sum0]
  refine congrArg (fun s => Ideal.div (s * _) _) (Finset.sum_congr rfl fun k _ => ?_)
  have e' : idx_main_v65 (idx_main_v66 (ix2 r 0)) k = ix2 r k := funext fun b => Fin.ext (by
    match b with
    | ⟨0, _⟩ => show r.val * 1 + 0 = r.val; omega
    | ⟨1, _⟩ => rfl)
  rw [e', val_main_v64_apply, ref_v63 x0 x1 x2 x3 x4 x5 x6 r k h0 h1 h3 h4, ref_v43]
  rfl

include h2 h5 h6

theorem ref_df_at : val_main_v77 (F := Ideal) x0 x1 x2 x3 x4 x5 x6 (ix2 r x) = (tok x0 x2 x3 x5 r.val).df (blkW x1) (blkG x4) (blkG x6) x := by
  have e : idx_main_v67 (ix2 r x) = ix2 r 0 := funext fun b => Fin.ext (by
    match b with
    | ⟨0, _⟩ => rfl
    | ⟨1, _⟩ => rfl)
  rw [val_main_v77_apply, val_main_v76_apply, val_main_v75_apply, val_main_v74_apply, val_main_v68_apply, val_main_v67_apply, e, ref_rms', ref_v73 x0 x1 x2 x3 x4 x5 x6 r x h0 h1 h3 h4,
    ref_v63 x0 x1 x2 x3 x4 x5 x6 r x h0 h1 h3 h4, ref_v43,
    ← df_eq (R := tok x0 x2 x3 x5 r.val) (W := blkW x1) (G := blkG x4) (G' := blkG x6) (fun _ _ => h0 _) (fun _ _ _ => h1 _) (fun _ => h2 _) (fun _ => h3 _)
      (fun _ => h5 _) (fun _ => h4 _) (fun _ => h6 _) x, tok_f]
  rfl

theorem ref_df : val_main_v80 (F := Ideal) x0 x1 x2 x3 x4 x5 x6 = outDf x0 x1 x2 x3 x4 x5 x6 := by
  funext i
  rw [val_main_v80_apply, congrArg (val_main_v77 (F := Ideal) x0 x1 x2 x3 x4 x5 x6) (eq_ix2 (n0 := 4096) (n1 := 1024) i)]
  exact ref_df_at x0 x1 x2 x3 x4 x5 x6 (i 0) (i 1) h0 h1 h2 h3 h4 h5 h6

theorem ref_dsum (y : S1x1024.Idx) : val_main_v79 (F := Ideal) x0 x1 x2 x3 x4 x5 x6 y
    = outSum x0 x2 x3 x5 (fun R => R.df (blkW x1) (blkG x4) (blkG x6)) y := by
  rw [val_main_v79_apply, val_main_v78_apply, val_main_cst_16_apply, sum0]
  refine Finset.sum_congr rfl fun r _ => ?_
  have e : idx_main_v78 (idx_main_v79 y) r = ix2 r (y 1) := funext fun b => Fin.ext (by
    match b with
    | ⟨0, _⟩ => rfl
    | ⟨1, _⟩ => show (y 0).val * 1024 + (y 1).val = (y 1).val; have h : (y 0).val < 1 := (y 0).isLt; omega)
  rw [e]
  exact ref_df_at x0 x1 x2 x3 x4 x5 x6 r (y 1) h0 h1 h2 h3 h4 h5 h6

end Cert.Proof.Norms

end
-- ==== Proof.Ffn.NormsAgree.lean ====
/- The gradients of a half's norms are what the reference's differentiation gives, on real operands. -/
module

public import proofs.«01_k».proof.Defs
public import proofs.«01_k».proof.Proof.Band.Finite
public import proofs.«01_k».proof.Proof.Ffn.NormsRef

@[expose] public section

set_option maxRecDepth 16384

noncomputable section

namespace Cert.Proof.Norms

open Cert.KernelNormsIdeal Idealize.ShloMosaic Idealize.ShloMosaic.TcCoe Idealize.SL.Sem Cert.ReferenceNormsIdeal.Read

section

variable [Cert.Pre_all_finite.Facts]

/-- What the precondition says: every operand is a real number. -/
theorem real_of (x0 : FVec Ideal S4096x5632 .bf16) (x1 : FVec Ideal S4x1024x1408 .bf16) (x2 x3 : FVec Ideal S4096x1024 .f32)
    (x4 : FVec Ideal S1x1024 .f32) (x5 : FVec Ideal S4096x1024 .f32) (x6 : FVec Ideal S1x1024 .f32)
    (h : Cert.Pre_all_finite.fn (F := Ideal) x0 x1 x2 x3 x4 x5 x6 = fun _ => 1#1) :
    (∀ i, ∃ a : ℝ, x0 i = ((a : ℝ) : EReal)) ∧ (∀ i, ∃ a : ℝ, x1 i = ((a : ℝ) : EReal)) ∧ (∀ i, ∃ a : ℝ, x2 i = ((a : ℝ) : EReal))
      ∧ (∀ i, ∃ a : ℝ, x3 i = ((a : ℝ) : EReal)) ∧ (∀ i, ∃ a : ℝ, x4 i = ((a : ℝ) : EReal)) ∧ (∀ i, ∃ a : ℝ, x5 i = ((a : ℝ) : EReal))
      ∧ (∀ i, ∃ a : ℝ, x6 i = ((a : ℝ) : EReal)) := by
  have e := congrFun h (fun a => a.elim0)
  unfold Cert.Pre_all_finite.fn Cert.Pre_all_finite.fn_part1 Cert.Pre_all_finite.fn_part2 at e
  dsimp only at e
  obtain ⟨e, e6⟩ := Band.and_one e
  obtain ⟨e, e5⟩ := Band.and_one e
  obtain ⟨e, e4⟩ := Band.and_one e
  obtain ⟨e, e3⟩ := Band.and_one e
  obtain ⟨e, e2⟩ := Band.and_one e
  obtain ⟨e, e1⟩ := Band.and_one e
  obtain ⟨-, e0⟩ := Band.and_one e
  exact ⟨fun i => ⟨_, Band.all_real (s := S4096x5632) x0 _ _ _ _ _ e0 i⟩, fun i => ⟨_, Band.all_real (s := S4x1024x1408) x1 _ _ _ _ _ e1 i⟩,
    fun i => ⟨_, Band.all_real x2 _ _ _ _ _ e2 i⟩, fun i => ⟨_, Band.all_real x3 _ _ _ _ _ e3 i⟩, fun i => ⟨_, Band.all_real x4 _ _ _ _ _ e4 i⟩,
    fun i => ⟨_, Band.all_real x5 _ _ _ _ _ e5 i⟩, fun i => ⟨_, Band.all_real x6 _ _ _ _ _ e6 i⟩⟩

end

variable (m : (ℓ : Loc nD τ sig) → Buf (Elt Ideal) ℓ) (ρ : Dev nD → PrngReg)

/-- The call computes what the reference computes: from memories agreeing on the arguments, all of them real numbers, both
    run, end with equal results and leave the arguments as they were. -/
theorem agree [Cert.Pre_all_finite.Facts] (m' : (ℓ : Loc Cert.ReferenceNormsIdeal.nD Cert.ReferenceNormsIdeal.τ Cert.ReferenceNormsIdeal.sig) → Buf (Elt Ideal) ℓ)
    (ρ' : Dev Cert.ReferenceNormsIdeal.nD → PrngReg) (hp : Cert.Pre_KernelNormsIdeal_all_finite m)
    (h : ∀ c : Dev nD,
      m' ((c.tc : Thread Cert.ReferenceNormsIdeal.nD Cert.ReferenceNormsIdeal.τ).loc Cert.ReferenceNormsIdeal.main_arg0) = m ((c.tc : Thread nD τ).loc main_arg0)
      ∧ m' ((c.tc : Thread Cert.ReferenceNormsIdeal.nD Cert.ReferenceNormsIdeal.τ).loc Cert.ReferenceNormsIdeal.main_arg1) = m ((c.tc : Thread nD τ).loc main_arg1)
      ∧ m' ((c.tc : Thread Cert.ReferenceNormsIdeal.nD Cert.ReferenceNormsIdeal.τ).loc Cert.ReferenceNormsIdeal.main_arg2) = m ((c.tc : Thread nD τ).loc main_arg2)
      ∧ m' ((c.tc : Thread Cert.ReferenceNormsIdeal.nD Cert.ReferenceNormsIdeal.τ).loc Cert.ReferenceNormsIdeal.main_arg3) = m ((c.tc : Thread nD τ).loc main_arg3)
      ∧ m' ((c.tc : Thread Cert.ReferenceNormsIdeal.nD Cert.ReferenceNormsIdeal.τ).loc Cert.ReferenceNormsIdeal.main_arg4) = m ((c.tc : Thread nD τ).loc main_arg4)
      ∧ m' ((c.tc : Thread Cert.ReferenceNormsIdeal.nD Cert.ReferenceNormsIdeal.τ).loc Cert.ReferenceNormsIdeal.main_arg5) = m ((c.tc : Thread nD τ).loc main_arg5)
      ∧ m' ((c.tc : Thread Cert.ReferenceNormsIdeal.nD Cert.ReferenceNormsIdeal.τ).loc Cert.ReferenceNormsIdeal.main_arg6) = m ((c.tc : Thread nD τ).loc main_arg6)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)) (v4 : (c : Dev nD) → Buf (Elt Ideal) ((c.tc : Thread nD τ).loc main_v0_4)),
      θ_run (defs (F := Ideal)) (onTc (τ := τ) (main (F := Ideal))) ⟨m, fun _ => 0, ρ⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_v0_4) = v4 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.ReferenceNormsIdeal.defs (F := Ideal)) (onTc (τ := Cert.ReferenceNormsIdeal.τ) (Cert.ReferenceNormsIdeal.main (F := Ideal)))
          ⟨m', fun _ => 0, ρ'⟩ (fun r => ∀ c : Dev Cert.ReferenceNormsIdeal.nD,
          r.2.mem ((c.tc : Thread Cert.ReferenceNormsIdeal.nD Cert.ReferenceNormsIdeal.τ).loc Cert.ReferenceNormsIdeal.main_v40) = v0 c
          ∧ r.2.mem ((c.tc : Thread Cert.ReferenceNormsIdeal.nD Cert.ReferenceNormsIdeal.τ).loc Cert.ReferenceNormsIdeal.main_v80) = v1 c
          ∧ r.2.mem ((c.tc : Thread Cert.ReferenceNormsIdeal.nD Cert.ReferenceNormsIdeal.τ).loc Cert.ReferenceNormsIdeal.main_v23) = v2 c
          ∧ r.2.mem ((c.tc : Thread Cert.ReferenceNormsIdeal.nD Cert.ReferenceNormsIdeal.τ).loc Cert.ReferenceNormsIdeal.main_v61) = v3 c
          ∧ r.2.mem ((c.tc : Thread Cert.ReferenceNormsIdeal.nD Cert.ReferenceNormsIdeal.τ).loc Cert.ReferenceNormsIdeal.main_v79) = v4 c
          ∧ r.2.mem ((c.tc : Thread Cert.ReferenceNormsIdeal.nD Cert.ReferenceNormsIdeal.τ).loc Cert.ReferenceNormsIdeal.main_arg0) = m' ((c.tc : Thread Cert.ReferenceNormsIdeal.nD Cert.ReferenceNormsIdeal.τ).loc Cert.ReferenceNormsIdeal.main_arg0)
          ∧ r.2.mem ((c.tc : Thread Cert.ReferenceNormsIdeal.nD Cert.ReferenceNormsIdeal.τ).loc Cert.ReferenceNormsIdeal.main_arg1) = m' ((c.tc : Thread Cert.ReferenceNormsIdeal.nD Cert.ReferenceNormsIdeal.τ).loc Cert.ReferenceNormsIdeal.main_arg1)
          ∧ r.2.mem ((c.tc : Thread Cert.ReferenceNormsIdeal.nD Cert.ReferenceNormsIdeal.τ).loc Cert.ReferenceNormsIdeal.main_arg2) = m' ((c.tc : Thread Cert.ReferenceNormsIdeal.nD Cert.ReferenceNormsIdeal.τ).loc Cert.ReferenceNormsIdeal.main_arg2)
          ∧ r.2.mem ((c.tc : Thread Cert.ReferenceNormsIdeal.nD Cert.ReferenceNormsIdeal.τ).loc Cert.ReferenceNormsIdeal.main_arg3) = m' ((c.tc : Thread Cert.ReferenceNormsIdeal.nD Cert.ReferenceNormsIdeal.τ).loc Cert.ReferenceNormsIdeal.main_arg3)
          ∧ r.2.mem ((c.tc : Thread Cert.ReferenceNormsIdeal.nD Cert.ReferenceNormsIdeal.τ).loc Cert.ReferenceNormsIdeal.main_arg4) = m' ((c.tc : Thread Cert.ReferenceNormsIdeal.nD Cert.ReferenceNormsIdeal.τ).loc Cert.ReferenceNormsIdeal.main_arg4)
          ∧ r.2.mem ((c.tc : Thread Cert.ReferenceNormsIdeal.nD Cert.ReferenceNormsIdeal.τ).loc Cert.ReferenceNormsIdeal.main_arg5) = m' ((c.tc : Thread Cert.ReferenceNormsIdeal.nD Cert.ReferenceNormsIdeal.τ).loc Cert.ReferenceNormsIdeal.main_arg5)
          ∧ r.2.mem ((c.tc : Thread Cert.ReferenceNormsIdeal.nD Cert.ReferenceNormsIdeal.τ).loc Cert.ReferenceNormsIdeal.main_arg6) = m' ((c.tc : Thread Cert.ReferenceNormsIdeal.nD Cert.ReferenceNormsIdeal.τ).loc Cert.ReferenceNormsIdeal.main_arg6)) := by
  refine ⟨fun c => outDh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => outDf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => outSum (m ((c.tc : Thread nD τ).loc main_arg0)) (m ((c.tc : Thread nD τ).loc main_arg2)) (m ((c.tc : Thread nD τ).loc main_arg3)) (m ((c.tc : Thread nD τ).loc main_arg5)) (fun R => R.gpre (blkW (m ((c.tc : Thread nD τ).loc main_arg1)))),
    fun c => outSum (m ((c.tc : Thread nD τ).loc main_arg0)) (m ((c.tc : Thread nD τ).loc main_arg2)) (m ((c.tc : Thread nD τ).loc main_arg3)) (m ((c.tc : Thread nD τ).loc main_arg5)) (fun R => R.gpost (blkW (m ((c.tc : Thread nD τ).loc main_arg1))) (blkG (m ((c.tc : Thread nD τ).loc main_arg4)))),
    fun c => outSum (m ((c.tc : Thread nD τ).loc main_arg0)) (m ((c.tc : Thread nD τ).loc main_arg2)) (m ((c.tc : Thread nD τ).loc main_arg3)) (m ((c.tc : Thread nD τ).loc main_arg5)) (fun R => R.df (blkW (m ((c.tc : Thread nD τ).loc main_arg1))) (blkG (m ((c.tc : Thread nD τ).loc main_arg4))) (blkG (m ((c.tc : Thread nD τ).loc main_arg6)))),
    (θ_run (defs (F := Ideal)) _ _).mono (fun _ k c => ⟨(k c).1.trans (final7 m c), (k c).2.1.trans (final8 m c),
      (k c).2.2.1.trans (final9 m c), (k c).2.2.2.1.trans (final10 m c), (k c).2.2.2.2.1.trans (final11 m c), (k c).2.2.2.2.2⟩) (Cert.KernelNormsIdeal.Value.run_blocks m ρ),
    (θ_run (Cert.ReferenceNormsIdeal.defs (F := Ideal)) _ _).mono (fun _ k c => ?_) (Cert.ReferenceNormsIdeal.Value.run m' ρ')⟩
  obtain ⟨h0, h1, h2, h3, h4, h5, h6⟩ := real_of _ _ _ _ _ _ _ (hp c)
  refine ⟨(k c).1.trans ?_, (k c).2.1.trans ?_, (k c).2.2.1.trans ?_, (k c).2.2.2.1.trans ?_, (k c).2.2.2.2.1.trans ?_, (k c).2.2.2.2.2⟩
  · rw [val_main_v40_eq (F := Ideal), (h c).1, (h c).2.1, (h c).2.2.1, (h c).2.2.2.1, (h c).2.2.2.2.1]
    exact ref_dh _ _ _ _ _ _ h0 h1 h3 h4
  · rw [val_main_v80_eq (F := Ideal), (h c).1, (h c).2.1, (h c).2.2.1, (h c).2.2.2.1, (h c).2.2.2.2.1, (h c).2.2.2.2.2.1, (h c).2.2.2.2.2.2]
    exact ref_df _ _ _ _ _ _ _ h0 h1 h2 h3 h4 h5 h6
  · rw [val_main_v23_eq (F := Ideal), (h c).1, (h c).2.1, (h c).2.2.2.1]
    exact funext fun y => ref_gpre _ _ _ _ _ y
  · rw [val_main_v61_eq (F := Ideal), (h c).1, (h c).2.1, (h c).2.2.1, (h c).2.2.2.1, (h c).2.2.2.2.1, (h c).2.2.2.2.2.1]
    exact funext fun y => ref_gpost _ _ _ _ _ _ h0 h1 h3 h4 y
  · rw [val_main_v79_eq (F := Ideal), (h c).1, (h c).2.1, (h c).2.2.1, (h c).2.2.2.1, (h c).2.2.2.2.1, (h c).2.2.2.2.2.1, (h c).2.2.2.2.2.2]
    exact funext fun y => ref_dsum _ _ _ _ _ _ _ h0 h1 h2 h3 h4 h5 h6 y

end Cert.Proof.Norms

end
-- ==== Proof.Prod.Square.lean ====
/- The gradient of a square weight, the output projection's or the per-layer gate's: the transposed rows by the cotangents,
   block by block in the kernel, by differentiation of the product in the reference. -/
module

public import proofs.«01_k».proof.Proof.Gen.KernelSquareIdeal.Value
public import proofs.«01_k».proof.Proof.Gen.ReferenceSquareIdeal.Run
public import proofs.«01_k».proof.Proof.Gen.ReferenceSquareIdeal.Read
public import Idealize.ShloMosaic.Lib.Pointwise

@[expose] public section

set_option maxRecDepth 16384

noncomputable section

namespace Cert.Proof.ProdSquare

open Cert.KernelSquareIdeal Cert.KernelSquareIdeal.Gen Cert.KernelSquareIdeal.Value Idealize.ShloMosaic Idealize.ShloMosaic.TcCoe
  Idealize.SL.Sem

/-- The product, entry by entry. -/
def prod (n : FVec Ideal S4096x1024 .bf16) (w : FVec Ideal S4096x1024 .bf16) : FVec Ideal S1024x1024 .bf16 :=
  fun i => ∑ k : Fin 4096, n (ix2 k (i 0)) * w (ix2 k (i 1))

theorem hz2 : (![0, 0] : Fin 2 → Nat) = fun _ => 0 := funext fun a => by fin_cases a <;> rfl

/-- One block of the product. -/
theorem pay_apply (x : FVec Ideal S4096x512 .bf16) (y : FVec Ideal S4096x1024 .bf16) (r : Fin 512) (l : Fin 1024) :
    k0_pay1 x y (ix2 r l) = ∑ k : Fin 4096, x (ix2 k r) * y (ix2 k l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 512) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 512 + 1 * (y 0).val = win0_2.index t (0 : Fin 2) * 512 + 1 * (y 0).val; omega
  · show V m c main_arg1 (((cfg0.win 1).blk t).view.emb _) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 1024 + 1 * (y 1).val = win0_2.index t (1 : Fin 2) * 1024 + 1 * (y 1).val; omega

theorem covered (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  have hN : cfg0.N = 2 := N_0
  refine ⟨⟨(i 0).val / 512, by omega⟩, flush0_2 _, ?_⟩
  obtain ⟨-, -, -, -, e4, e5⟩ := index_facts ⟨(i 0).val / 512, by omega⟩
  refine (Finset.ext_iff.mp (View.set_slice_whole main_v0 (win0_2.rect _)) i).mpr ?_
  rw [Rect.mem_set_unit]
  intro a
  match a with
  | ⟨0, _⟩ => show win0_2.index _ (0 : Fin 2) * 512 ≤ (i 0).val ∧ (i 0).val < win0_2.index _ (0 : Fin 2) * 512 + 512
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x1024 .bf16) (w : FVec Ideal S4096x1024 .bf16) :
    Cert.ReferenceSquareIdeal.Read.val_main_v6 (F := Ideal) n w = prod n w := by
  funext i
  rw [Cert.ReferenceSquareIdeal.Read.val_main_v6_apply, Cert.ReferenceSquareIdeal.Read.val_main_v5_apply]
  show Cert.ReferenceSquareIdeal.Read.val_main_v4 (F := Ideal) n w _ = _
  rw [Cert.ReferenceSquareIdeal.Read.val_main_v4_apply]
  refine Finset.sum_congr rfl fun k _ => ?_
  rw [mul_comm]
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceSquareIdeal.nD Cert.ReferenceSquareIdeal.τ Cert.ReferenceSquareIdeal.sig) → Buf (Elt Ideal) ℓ)
    (ρ' : Dev Cert.ReferenceSquareIdeal.nD → PrngReg)
    (h : ∀ c : Dev nD,
      m' ((c.tc : Thread Cert.ReferenceSquareIdeal.nD Cert.ReferenceSquareIdeal.τ).loc Cert.ReferenceSquareIdeal.main_arg0) = m ((c.tc : Thread nD τ).loc main_arg0)
      ∧ m' ((c.tc : Thread Cert.ReferenceSquareIdeal.nD Cert.ReferenceSquareIdeal.τ).loc Cert.ReferenceSquareIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceSquareIdeal.defs (F := Ideal)) (onTc (τ := Cert.ReferenceSquareIdeal.τ) (Cert.ReferenceSquareIdeal.main (F := Ideal)))
          ⟨m', fun _ => 0, ρ'⟩ (fun r => ∀ c : Dev Cert.ReferenceSquareIdeal.nD,
          r.2.mem ((c.tc : Thread Cert.ReferenceSquareIdeal.nD Cert.ReferenceSquareIdeal.τ).loc Cert.ReferenceSquareIdeal.main_v6) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceSquareIdeal.defs (F := Ideal)) _ _).mono (fun _ k c => ⟨(k c).1.trans ?_, (k c).2⟩) (Cert.ReferenceSquareIdeal.Value.run m' ρ')⟩
  rw [Cert.ReferenceSquareIdeal.Read.val_main_v6_eq (F := Ideal), ref_eq, (h c).1, (h c).2]

end Cert.Proof.ProdSquare

end
-- ==== Proof.Prod.Ple.lean ====
/- The gradient of the per-layer embedding's weight: the transposed rows by the cotangents, in the reference by
   differentiation of the product. -/
module

public import proofs.«01_k».proof.Proof.Gen.KernelPleIdeal.Value
public import proofs.«01_k».proof.Proof.Gen.ReferencePleIdeal.Run
public import proofs.«01_k».proof.Proof.Gen.ReferencePleIdeal.Read
public import Idealize.ShloMosaic.Lib.Pointwise

@[expose] public section

set_option maxRecDepth 16384

noncomputable section

namespace Cert.Proof.ProdPle

open Cert.KernelPleIdeal Cert.KernelPleIdeal.Gen Cert.KernelPleIdeal.Value Idealize.ShloMosaic Idealize.ShloMosaic.TcCoe
  Idealize.SL.Sem

/-- The product, entry by entry. -/
def prod (n : FVec Ideal S4096x256 .bf16) (w : FVec Ideal S4096x1024 .bf16) : FVec Ideal S256x1024 .bf16 :=
  fun i => ∑ k : Fin 4096, n (ix2 k (i 0)) * w (ix2 k (i 1))

theorem hz2 : (![0, 0] : Fin 2 → Nat) = fun _ => 0 := funext fun a => by fin_cases a <;> rfl

/-- One block of the product. -/
theorem pay_apply (x : FVec Ideal S4096x256 .bf16) (y : FVec Ideal S4096x1024 .bf16) (r : Fin 256) (l : Fin 1024) :
    k0_pay1 x y (ix2 r l) = ∑ k : Fin 4096, x (ix2 k r) * y (ix2 k l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 256) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 256 + 1 * (y 0).val = win0_2.index t (0 : Fin 2) * 256 + 1 * (y 0).val; omega
  · show V m c main_arg1 (((cfg0.win 1).blk t).view.emb _) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 1024 + 1 * (y 1).val = win0_2.index t (1 : Fin 2) * 1024 + 1 * (y 1).val; omega

theorem covered (i : S256x1024.Idx) :
    ∃ t : Fin cfg0.N, (cfg0.win 2).flush t = true ∧ i ∈ ((cfg0.win 2).blk t).view.set := by
  have h0 : (i 0).val < 256 := (i 0).isLt
  have h1 : (i 1).val < 1024 := (i 1).isLt
  have hN : cfg0.N = 1 := N_0
  refine ⟨⟨(i 0).val / 256, by omega⟩, flush0_2 _, ?_⟩
  obtain ⟨-, -, -, -, e4, e5⟩ := index_facts ⟨(i 0).val / 256, by omega⟩
  refine (Finset.ext_iff.mp (View.set_slice_whole main_v0 (win0_2.rect _)) i).mpr ?_
  rw [Rect.mem_set_unit]
  intro a
  match a with
  | ⟨0, _⟩ => show win0_2.index _ (0 : Fin 2) * 256 ≤ (i 0).val ∧ (i 0).val < win0_2.index _ (0 : Fin 2) * 256 + 256
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x256 .bf16) (w : FVec Ideal S4096x1024 .bf16) :
    Cert.ReferencePleIdeal.Read.val_main_v6 (F := Ideal) n w = prod n w := by
  funext i
  rw [Cert.ReferencePleIdeal.Read.val_main_v6_apply, Cert.ReferencePleIdeal.Read.val_main_v5_apply]
  show Cert.ReferencePleIdeal.Read.val_main_v4 (F := Ideal) n w _ = _
  rw [Cert.ReferencePleIdeal.Read.val_main_v4_apply]
  refine Finset.sum_congr rfl fun k _ => ?_
  rw [mul_comm]
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferencePleIdeal.nD Cert.ReferencePleIdeal.τ Cert.ReferencePleIdeal.sig) → Buf (Elt Ideal) ℓ)
    (ρ' : Dev Cert.ReferencePleIdeal.nD → PrngReg)
    (h : ∀ c : Dev nD,
      m' ((c.tc : Thread Cert.ReferencePleIdeal.nD Cert.ReferencePleIdeal.τ).loc Cert.ReferencePleIdeal.main_arg0) = m ((c.tc : Thread nD τ).loc main_arg0)
      ∧ m' ((c.tc : Thread Cert.ReferencePleIdeal.nD Cert.ReferencePleIdeal.τ).loc Cert.ReferencePleIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferencePleIdeal.defs (F := Ideal)) (onTc (τ := Cert.ReferencePleIdeal.τ) (Cert.ReferencePleIdeal.main (F := Ideal)))
          ⟨m', fun _ => 0, ρ'⟩ (fun r => ∀ c : Dev Cert.ReferencePleIdeal.nD,
          r.2.mem ((c.tc : Thread Cert.ReferencePleIdeal.nD Cert.ReferencePleIdeal.τ).loc Cert.ReferencePleIdeal.main_v6) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferencePleIdeal.defs (F := Ideal)) _ _).mono (fun _ k c => ⟨(k c).1.trans ?_, (k c).2⟩) (Cert.ReferencePleIdeal.Value.run m' ρ')⟩
  rw [Cert.ReferencePleIdeal.Read.val_main_v6_eq (F := Ideal), ref_eq, (h c).1, (h c).2]

end Cert.Proof.ProdPle

end
-- ==== Proof.Prod.InA.lean ====
/- The gradient of mixer A's part of the input projection's weight, which is held transposed: the transposed cotangents by
   the normed rows, in the reference by differentiation of the product. -/
module

public import proofs.«01_k».proof.Proof.Gen.KernelInAIdeal.Value
public import proofs.«01_k».proof.Proof.Gen.ReferenceInAIdeal.Run
public import proofs.«01_k».proof.Proof.Gen.ReferenceInAIdeal.Read
public import Idealize.ShloMosaic.Lib.Pointwise

@[expose] public section

set_option maxRecDepth 16384

noncomputable section

namespace Cert.Proof.ProdInA

open Cert.KernelInAIdeal Cert.KernelInAIdeal.Gen Cert.KernelInAIdeal.Value Idealize.ShloMosaic Idealize.ShloMosaic.TcCoe
  Idealize.SL.Sem

/-- The product, entry by entry. -/
def prod (n : FVec Ideal S4096x768 .bf16) (w : FVec Ideal S4096x1024 .bf16) : FVec Ideal S768x1024 .bf16 :=
  fun i => ∑ k : Fin 4096, n (ix2 k (i 0)) * w (ix2 k (i 1))

theorem hz2 : (![0, 0] : Fin 2 → Nat) = fun _ => 0 := funext fun a => by fin_cases a <;> rfl

/-- One block of the product. -/
theorem pay_apply (x : FVec Ideal S4096x768 .bf16) (y : FVec Ideal S4096x1024 .bf16) (r : Fin 768) (l : Fin 1024) :
    k0_pay1 x y (ix2 r l) = ∑ k : Fin 4096, x (ix2 k r) * y (ix2 k l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 768) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 768 + 1 * (y 0).val = win0_2.index t (0 : Fin 2) * 768 + 1 * (y 0).val; omega
  · show V m c main_arg1 (((cfg0.win 1).blk t).view.emb _) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 1024 + 1 * (y 1).val = win0_2.index t (1 : Fin 2) * 1024 + 1 * (y 1).val; omega

theorem covered (i : S768x1024.Idx) :
    ∃ t : Fin cfg0.N, (cfg0.win 2).flush t = true ∧ i ∈ ((cfg0.win 2).blk t).view.set := by
  have h0 : (i 0).val < 768 := (i 0).isLt
  have h1 : (i 1).val < 1024 := (i 1).isLt
  have hN : cfg0.N = 1 := N_0
  refine ⟨⟨(i 0).val / 768, by omega⟩, flush0_2 _, ?_⟩
  obtain ⟨-, -, -, -, e4, e5⟩ := index_facts ⟨(i 0).val / 768, by omega⟩
  refine (Finset.ext_iff.mp (View.set_slice_whole main_v0 (win0_2.rect _)) i).mpr ?_
  rw [Rect.mem_set_unit]
  intro a
  match a with
  | ⟨0, _⟩ => show win0_2.index _ (0 : Fin 2) * 768 ≤ (i 0).val ∧ (i 0).val < win0_2.index _ (0 : Fin 2) * 768 + 768
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x768 .bf16) (w : FVec Ideal S4096x1024 .bf16) :
    Cert.ReferenceInAIdeal.Read.val_main_v8 (F := Ideal) n w = prod n w := by
  funext i
  rw [Cert.ReferenceInAIdeal.Read.val_main_v8_apply, Cert.ReferenceInAIdeal.Read.val_main_v7_apply, Cert.ReferenceInAIdeal.Read.val_main_v6_apply]
  show Cert.ReferenceInAIdeal.Read.val_main_v5 (F := Ideal) n w _ = _
  rw [Cert.ReferenceInAIdeal.Read.val_main_v5_apply]
  refine Finset.sum_congr rfl fun k _ => ?_
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceInAIdeal.nD Cert.ReferenceInAIdeal.τ Cert.ReferenceInAIdeal.sig) → Buf (Elt Ideal) ℓ)
    (ρ' : Dev Cert.ReferenceInAIdeal.nD → PrngReg)
    (h : ∀ c : Dev nD,
      m' ((c.tc : Thread Cert.ReferenceInAIdeal.nD Cert.ReferenceInAIdeal.τ).loc Cert.ReferenceInAIdeal.main_arg0) = m ((c.tc : Thread nD τ).loc main_arg0)
      ∧ m' ((c.tc : Thread Cert.ReferenceInAIdeal.nD Cert.ReferenceInAIdeal.τ).loc Cert.ReferenceInAIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceInAIdeal.defs (F := Ideal)) (onTc (τ := Cert.ReferenceInAIdeal.τ) (Cert.ReferenceInAIdeal.main (F := Ideal)))
          ⟨m', fun _ => 0, ρ'⟩ (fun r => ∀ c : Dev Cert.ReferenceInAIdeal.nD,
          r.2.mem ((c.tc : Thread Cert.ReferenceInAIdeal.nD Cert.ReferenceInAIdeal.τ).loc Cert.ReferenceInAIdeal.main_v8) = v0 c
          ∧ r.2.mem ((c.tc : Thread Cert.ReferenceInAIdeal.nD Cert.ReferenceInAIdeal.τ).loc Cert.ReferenceInAIdeal.main_arg0) = m' ((c.tc : Thread Cert.ReferenceInAIdeal.nD Cert.ReferenceInAIdeal.τ).loc Cert.ReferenceInAIdeal.main_arg0)
          ∧ r.2.mem ((c.tc : Thread Cert.ReferenceInAIdeal.nD Cert.ReferenceInAIdeal.τ).loc Cert.ReferenceInAIdeal.main_arg1) = m' ((c.tc : Thread Cert.ReferenceInAIdeal.nD Cert.ReferenceInAIdeal.τ).loc Cert.ReferenceInAIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceInAIdeal.defs (F := Ideal)) _ _).mono (fun _ k c => ⟨(k c).1.trans ?_, (k c).2⟩) (Cert.ReferenceInAIdeal.Value.run m' ρ')⟩
  rw [Cert.ReferenceInAIdeal.Read.val_main_v8_eq (F := Ideal), ref_eq, (h c).1, (h c).2]

end Cert.Proof.ProdInA

end
-- ==== Proof.Prod.InB.lean ====
/- The gradient of mixer B's part of the input projection's weight, which is held transposed: the transposed cotangents by
   the normed rows, in the reference by differentiation of the product. -/
module

public import proofs.«01_k».proof.Proof.Gen.KernelInBIdeal.Value
public import proofs.«01_k».proof.Proof.Gen.ReferenceInBIdeal.Run
public import proofs.«01_k».proof.Proof.Gen.ReferenceInBIdeal.Read
public import Idealize.ShloMosaic.Lib.Pointwise

@[expose] public section

set_option maxRecDepth 16384

noncomputable section

namespace Cert.Proof.ProdInB

open Cert.KernelInBIdeal Cert.KernelInBIdeal.Gen Cert.KernelInBIdeal.Value Idealize.ShloMosaic Idealize.ShloMosaic.TcCoe
  Idealize.SL.Sem

/-- The product, entry by entry. -/
def prod (n : FVec Ideal S4096x1536 .bf16) (w : FVec Ideal S4096x1024 .bf16) : FVec Ideal S1536x1024 .bf16 :=
  fun i => ∑ k : Fin 4096, n (ix2 k (i 0)) * w (ix2 k (i 1))

theorem hz2 : (![0, 0] : Fin 2 → Nat) = fun _ => 0 := funext fun a => by fin_cases a <;> rfl

/-- One block of the product. -/
theorem pay_apply (x : FVec Ideal S4096x768 .bf16) (y : FVec Ideal S4096x1024 .bf16) (r : Fin 768) (l : Fin 1024) :
    k0_pay1 x y (ix2 r l) = ∑ k : Fin 4096, x (ix2 k r) * y (ix2 k l) := by
  pointwise [k0_pay1]

variable (m : (ℓ : Loc nD τ sig) → Buf (Elt Ideal) ℓ) (ρ : Dev nD → PrngReg)

theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 768) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 4096 + 1 * k.val = k.val; omega
    | ⟨1, _⟩ => show win0_0.index t (1 : Fin 2) * 768 + 1 * (y 0).val = win0_2.index t (0 : Fin 2) * 768 + 1 * (y 0).val; omega
  · show V m c main_arg1 (((cfg0.win 1).blk t).view.emb _) = _
    refine congrArg (V m c main_arg1) (funext fun a => Fin.ext ?_)
    match a with
    | ⟨0, _⟩ => show win0_1.index t (0 : Fin 2) * 4096 + 1 * k.val = k.val; omega
    | ⟨1, _⟩ => show win0_1.index t (1 : Fin 2) * 1024 + 1 * (y 1).val = win0_2.index t (1 : Fin 2) * 1024 + 1 * (y 1).val; omega

theorem covered (i : S1536x1024.Idx) :
    ∃ t : Fin cfg0.N, (cfg0.win 2).flush t = true ∧ i ∈ ((cfg0.win 2).blk t).view.set := by
  have h0 : (i 0).val < 1536 := (i 0).isLt
  have h1 : (i 1).val < 1024 := (i 1).isLt
  have hN : cfg0.N = 2 := N_0
  refine ⟨⟨(i 0).val / 768, by omega⟩, flush0_2 _, ?_⟩
  obtain ⟨-, -, -, -, e4, e5⟩ := index_facts ⟨(i 0).val / 768, by omega⟩
  refine (Finset.ext_iff.mp (View.set_slice_whole main_v0 (win0_2.rect _)) i).mpr ?_
  rw [Rect.mem_set_unit]
  intro a
  match a with
  | ⟨0, _⟩ => show win0_2.index _ (0 : Fin 2) * 768 ≤ (i 0).val ∧ (i 0).val < win0_2.index _ (0 : Fin 2) * 768 + 768
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x1536 .bf16) (w : FVec Ideal S4096x1024 .bf16) :
    Cert.ReferenceInBIdeal.Read.val_main_v8 (F := Ideal) n w = prod n w := by
  funext i
  rw [Cert.ReferenceInBIdeal.Read.val_main_v8_apply, Cert.ReferenceInBIdeal.Read.val_main_v7_apply, Cert.ReferenceInBIdeal.Read.val_main_v6_apply]
  show Cert.ReferenceInBIdeal.Read.val_main_v5 (F := Ideal) n w _ = _
  rw [Cert.ReferenceInBIdeal.Read.val_main_v5_apply]
  refine Finset.sum_congr rfl fun k _ => ?_
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceInBIdeal.nD Cert.ReferenceInBIdeal.τ Cert.ReferenceInBIdeal.sig) → Buf (Elt Ideal) ℓ)
    (ρ' : Dev Cert.ReferenceInBIdeal.nD → PrngReg)
    (h : ∀ c : Dev nD,
      m' ((c.tc : Thread Cert.ReferenceInBIdeal.nD Cert.ReferenceInBIdeal.τ).loc Cert.ReferenceInBIdeal.main_arg0) = m ((c.tc : Thread nD τ).loc main_arg0)
      ∧ m' ((c.tc : Thread Cert.ReferenceInBIdeal.nD Cert.ReferenceInBIdeal.τ).loc Cert.ReferenceInBIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceInBIdeal.defs (F := Ideal)) (onTc (τ := Cert.ReferenceInBIdeal.τ) (Cert.ReferenceInBIdeal.main (F := Ideal)))
          ⟨m', fun _ => 0, ρ'⟩ (fun r => ∀ c : Dev Cert.ReferenceInBIdeal.nD,
          r.2.mem ((c.tc : Thread Cert.ReferenceInBIdeal.nD Cert.ReferenceInBIdeal.τ).loc Cert.ReferenceInBIdeal.main_v8) = v0 c
          ∧ r.2.mem ((c.tc : Thread Cert.ReferenceInBIdeal.nD Cert.ReferenceInBIdeal.τ).loc Cert.ReferenceInBIdeal.main_arg0) = m' ((c.tc : Thread Cert.ReferenceInBIdeal.nD Cert.ReferenceInBIdeal.τ).loc Cert.ReferenceInBIdeal.main_arg0)
          ∧ r.2.mem ((c.tc : Thread Cert.ReferenceInBIdeal.nD Cert.ReferenceInBIdeal.τ).loc Cert.ReferenceInBIdeal.main_arg1) = m' ((c.tc : Thread Cert.ReferenceInBIdeal.nD Cert.ReferenceInBIdeal.τ).loc Cert.ReferenceInBIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceInBIdeal.defs (F := Ideal)) _ _).mono (fun _ k c => ⟨(k c).1.trans ?_, (k c).2⟩) (Cert.ReferenceInBIdeal.Value.run m' ρ')⟩
  rw [Cert.ReferenceInBIdeal.Read.val_main_v8_eq (F := Ideal), ref_eq, (h c).1, (h c).2]

end Cert.Proof.ProdInB

end
-- ==== Proof.Prod.Mix.lean ====
/- The gradient of the mixers' joined output: the cotangents by the transposed weight of the output projection, in the
   reference by differentiation of the product. -/
module

public import proofs.«01_k».proof.Proof.Gen.KernelMixIdeal.Value
public import proofs.«01_k».proof.Proof.Gen.ReferenceMixIdeal.Run
public import proofs.«01_k».proof.Proof.Gen.ReferenceMixIdeal.Read
public import Idealize.ShloMosaic.Lib.Pointwise

@[expose] public section

set_option maxRecDepth 16384

noncomputable section

namespace Cert.Proof.ProdMix

open Cert.KernelMixIdeal Cert.KernelMixIdeal.Gen Cert.KernelMixIdeal.Value Idealize.ShloMosaic Idealize.ShloMosaic.TcCoe
  Idealize.SL.Sem

/-- The product, entry by entry. -/
def prod (n : FVec Ideal S4096x1024 .bf16) (w : FVec Ideal S1024x1024 .bf16) : FVec Ideal S4096x1024 .f32 :=
  fun i => ∑ k : Fin 1024, n (ix2 (i 0) k) * w (ix2 (i 1) k)

theorem hz2 : (![0, 0] : Fin 2 → Nat) = fun _ => 0 := funext fun a => by fin_cases a <;> rfl

/-- One block of the product. -/
theorem pay_apply (x : FVec Ideal S1024x1024 .bf16) (y : FVec Ideal S1024x1024 .bf16) (r : Fin 1024) (l : Fin 1024) :
    (k0_pay1 (F := Ideal) x y (ix2 r l) : EReal) = ∑ k : Fin 1024, x (ix2 r k) * y (ix2 l k) := by
  pointwise [k0_pay1]

variable (m : (ℓ : Loc nD τ sig) → Buf (Elt Ideal) ℓ) (ρ : Dev nD → PrngReg)

theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 1024) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 1024 + 1 * k.val = k.val; omega
  · show V m c main_arg1 (((cfg0.win 1).blk t).view.emb _) = _
    refine congrArg (V m c main_arg1) (funext fun a => Fin.ext ?_)
    match a with
    | ⟨0, _⟩ => show win0_1.index t (0 : Fin 2) * 1024 + 1 * (y 1).val = win0_2.index t (1 : Fin 2) * 1024 + 1 * (y 1).val; omega
    | ⟨1, _⟩ => show win0_1.index t (1 : Fin 2) * 1024 + 1 * k.val = k.val; omega

theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  have hN : cfg0.N = 4 := N_0
  refine ⟨⟨(i 0).val / 1024, by omega⟩, flush0_2 _, ?_⟩
  obtain ⟨-, -, -, -, e4, e5⟩ := index_facts ⟨(i 0).val / 1024, by omega⟩
  refine (Finset.ext_iff.mp (View.set_slice_whole main_v0 (win0_2.rect _)) i).mpr ?_
  rw [Rect.mem_set_unit]
  intro a
  match a with
  | ⟨0, _⟩ => show win0_2.index _ (0 : Fin 2) * 1024 ≤ (i 0).val ∧ (i 0).val < win0_2.index _ (0 : Fin 2) * 1024 + 1024
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x1024 .bf16) (w : FVec Ideal S1024x1024 .bf16) :
    Cert.ReferenceMixIdeal.Read.val_main_v4 (F := Ideal) n w = prod n w := by
  funext i
  rw [Cert.ReferenceMixIdeal.Read.val_main_v4_apply]
  refine Finset.sum_congr rfl fun k _ => ?_
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceMixIdeal.nD Cert.ReferenceMixIdeal.τ Cert.ReferenceMixIdeal.sig) → Buf (Elt Ideal) ℓ)
    (ρ' : Dev Cert.ReferenceMixIdeal.nD → PrngReg)
    (h : ∀ c : Dev nD,
      m' ((c.tc : Thread Cert.ReferenceMixIdeal.nD Cert.ReferenceMixIdeal.τ).loc Cert.ReferenceMixIdeal.main_arg0) = m ((c.tc : Thread nD τ).loc main_arg0)
      ∧ m' ((c.tc : Thread Cert.ReferenceMixIdeal.nD Cert.ReferenceMixIdeal.τ).loc Cert.ReferenceMixIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceMixIdeal.defs (F := Ideal)) (onTc (τ := Cert.ReferenceMixIdeal.τ) (Cert.ReferenceMixIdeal.main (F := Ideal)))
          ⟨m', fun _ => 0, ρ'⟩ (fun r => ∀ c : Dev Cert.ReferenceMixIdeal.nD,
          r.2.mem ((c.tc : Thread Cert.ReferenceMixIdeal.nD Cert.ReferenceMixIdeal.τ).loc Cert.ReferenceMixIdeal.main_v4) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceMixIdeal.defs (F := Ideal)) _ _).mono (fun _ k c => ⟨(k c).1.trans ?_, (k c).2⟩) (Cert.ReferenceMixIdeal.Value.run m' ρ')⟩
  rw [Cert.ReferenceMixIdeal.Read.val_main_v4_eq (F := Ideal), ref_eq, (h c).1, (h c).2]

end Cert.Proof.ProdMix

end
-- ==== Proof.Prod.RowsA.lean ====
/- The gradient of the normed rows through mixer A's projection: the cotangents by the weight, which is held transposed, in
   the reference by differentiation of the product. -/
module

public import proofs.«01_k».proof.Proof.Gen.KernelRowsAIdeal.Value
public import proofs.«01_k».proof.Proof.Gen.ReferenceRowsAIdeal.Run
public import proofs.«01_k».proof.Proof.Gen.ReferenceRowsAIdeal.Read
public import Idealize.ShloMosaic.Lib.Pointwise

@[expose] public section

set_option maxRecDepth 16384

noncomputable section

namespace Cert.Proof.ProdRowsA

open Cert.KernelRowsAIdeal Cert.KernelRowsAIdeal.Gen Cert.KernelRowsAIdeal.Value Idealize.ShloMosaic Idealize.ShloMosaic.TcCoe
  Idealize.SL.Sem

/-- The product, entry by entry. -/
def prod (n : FVec Ideal S4096x768 .bf16) (w : FVec Ideal S768x1024 .bf16) : FVec Ideal S4096x1024 .f32 :=
  fun i => ∑ k : Fin 768, n (ix2 (i 0) k) * w (ix2 k (i 1))

theorem hz2 : (![0, 0] : Fin 2 → Nat) = fun _ => 0 := funext fun a => by fin_cases a <;> rfl

/-- One block of the product. -/
theorem pay_apply (x : FVec Ideal S1024x768 .bf16) (y : FVec Ideal S768x1024 .bf16) (r : Fin 1024) (l : Fin 1024) :
    (k0_pay1 (F := Ideal) x y (ix2 r l) : EReal) = ∑ k : Fin 768, x (ix2 r k) * y (ix2 k l) := by
  pointwise [k0_pay1]

variable (m : (ℓ : Loc nD τ sig) → Buf (Elt Ideal) ℓ) (ρ : Dev nD → PrngReg)

theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem block_eq (c : Dev nD) (t : Fin cfg0.N) :
    (dats m 0 c).flushed 2 t
      = ((cfg0.win 2).blk t).view.read (Elt Ideal) (prod (V m c main_arg0) (V m c main_arg1)) := by
  rw [flushed2]
  unfold out0_2
  rw [View.canon_unit_zero hz2, View.ld_unit_zero hz2, View.ld_unit_zero hz2]
  obtain ⟨e0, e1, e2, e3, e4, e5⟩ := index_facts t
  funext y
  rw [View.read_apply]
  refine (congrArg (k0_pay1 (iblk m c 0 t) (iblk m c 1 t)) (eq_ix2 (n0 := 1024) (n1 := 1024) y)).trans
    ((pay_apply _ _ _ _).trans ?_)
  unfold prod
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 768 + 1 * k.val = k.val; omega
  · show V m c main_arg1 (((cfg0.win 1).blk t).view.emb _) = _
    refine congrArg (V m c main_arg1) (funext fun a => Fin.ext ?_)
    match a with
    | ⟨0, _⟩ => show win0_1.index t (0 : Fin 2) * 768 + 1 * k.val = k.val; omega
    | ⟨1, _⟩ => show win0_1.index t (1 : Fin 2) * 1024 + 1 * (y 1).val = win0_2.index t (1 : Fin 2) * 1024 + 1 * (y 1).val; omega

theorem covered (i : S4096x1024.Idx) :
    ∃ t : Fin cfg0.N, (cfg0.win 2).flush t = true ∧ i ∈ ((cfg0.win 2).blk t).view.set := by
  have h0 : (i 0).val < 4096 := (i 0).isLt
  have h1 : (i 1).val < 1024 := (i 1).isLt
  have hN : cfg0.N = 4 := N_0
  refine ⟨⟨(i 0).val / 1024, by omega⟩, flush0_2 _, ?_⟩
  obtain ⟨-, -, -, -, e4, e5⟩ := index_facts ⟨(i 0).val / 1024, by omega⟩
  refine (Finset.ext_iff.mp (View.set_slice_whole main_v0 (win0_2.rect _)) i).mpr ?_
  rw [Rect.mem_set_unit]
  intro a
  match a with
  | ⟨0, _⟩ => show win0_2.index _ (0 : Fin 2) * 1024 ≤ (i 0).val ∧ (i 0).val < win0_2.index _ (0 : Fin 2) * 1024 + 1024
              rw [e4]; dsimp only; omega
  | ⟨1, _⟩ => show win0_2.index _ (1 : Fin 2) * 1024 ≤ (i 1).val ∧ (i 1).val < win0_2.index _ (1 : Fin 2) * 1024 + 1024
              rw [e5]; dsimp only; omega

/-- The result array after the run. -/
theorem final (c : Dev nD) : (dats m 0 c).arrAt 2 cfg0.N = prod (m ((c : Thread nD τ).loc main_arg0)) (m ((c : Thread nD τ).loc main_arg1)) :=
  ((dats m 0 c).arrAt_eq_of_cover 2 (prod (V m c main_arg0) (V m c main_arg1)) (fun t _ => block_eq m c t) covered).trans
    (by rw [V_main_arg0, V_main_arg1])

/-- The reference's term. -/
theorem ref_eq (n : FVec Ideal S4096x768 .bf16) (w : FVec Ideal S768x1024 .bf16) :
    Cert.ReferenceRowsAIdeal.Read.val_main_v5 (F := Ideal) n w = prod n w := by
  funext i
  rw [Cert.ReferenceRowsAIdeal.Read.val_main_v5_apply]
  refine Finset.sum_congr rfl fun k _ => ?_
  rw [Cert.ReferenceRowsAIdeal.Read.val_main_v2_apply]
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceRowsAIdeal.nD Cert.ReferenceRowsAIdeal.τ Cert.ReferenceRowsAIdeal.sig) → Buf (Elt Ideal) ℓ)
    (ρ' : Dev Cert.ReferenceRowsAIdeal.nD → PrngReg)
    (h : ∀ c : Dev nD,
      m' ((c.tc : Thread Cert.ReferenceRowsAIdeal.nD Cert.ReferenceRowsAIdeal.τ).loc Cert.ReferenceRowsAIdeal.main_arg0) = m ((c.tc : Thread nD τ).loc main_arg0)
      ∧ m' ((c.tc : Thread Cert.ReferenceRowsAIdeal.nD Cert.ReferenceRowsAIdeal.τ).loc Cert.ReferenceRowsAIdeal.main_arg1) = m ((c.tc : Thread nD τ).loc main_arg1)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceRowsAIdeal.defs (F := Ideal)) (onTc (τ := Cert.ReferenceRowsAIdeal.τ) (Cert.ReferenceRowsAIdeal.main (F := Ideal)))
          ⟨m', fun _ => 0, ρ'⟩ (fun r => ∀ c : Dev Cert.ReferenceRowsAIdeal.nD,
          r.2.mem ((c.tc : Thread Cert.ReferenceRowsAIdeal.nD Cert.ReferenceRowsAIdeal.τ).loc Cert.ReferenceRowsAIdeal.main_v5) = v0 c
          ∧ r.2.mem ((c.tc : Thread Cert.ReferenceRowsAIdeal.nD Cert.ReferenceRowsAIdeal.τ).loc Cert.ReferenceRowsAIdeal.main_arg0) = m' ((c.tc : Thread Cert.ReferenceRowsAIdeal.nD Cert.ReferenceRowsAIdeal.τ).loc Cert.ReferenceRowsAIdeal.main_arg0)
          ∧ r.2.mem ((c.tc : Thread Cert.ReferenceRowsAIdeal.nD Cert.ReferenceRowsAIdeal.τ).loc Cert.ReferenceRowsAIdeal.main_arg1) = m' ((c.tc : Thread Cert.ReferenceRowsAIdeal.nD Cert.ReferenceRowsAIdeal.τ).loc Cert.ReferenceRowsAIdeal.main_arg1)) := by
  refine ⟨fun c => prod (m ((c.tc : Thread nD τ).loc main_arg0)) (m ((c.tc : Thread nD τ).loc main_arg1)),
    (θ_run (defs (F := Ideal)) _ _).mono (fun _ h c => ⟨(h c).1.trans (final m c), (h c).2⟩) (run_blocks m ρ),
    (θ_run (Cert.ReferenceRowsAIdeal.defs (F := Ideal)) _ _).mono (fun _ k c => ⟨(k c).1.trans ?_, (k c).2⟩) (Cert.ReferenceRowsAIdeal.Value.run m' ρ')⟩
  rw [Cert.ReferenceRowsAIdeal.Read.val_main_v5_eq (F := Ideal), ref_eq, (h c).1, (h c).2]

end Cert.Proof.ProdRowsA

end
-- ==== Proof.Prod.ProjA.lean ====
/- Mixer A's projection in the forward pass: the normed rows by the weight, which is held transposed, with the bias added. -/
module

public import proofs.«01_k».proof.Proof.Gen.KernelProjAIdeal.Value
public import proofs.«01_k».proof.Proof.Gen.ReferenceProjAIdeal.Run
public import proofs.«01_k».proof.Proof.Gen.ReferenceProjAIdeal.Read
public import Idealize.ShloMosaic.Lib.Pointwise

@[expose] public section

set_option maxRecDepth 16384

noncomputable section

namespace Cert.Proof.ProdProjA

open Cert.KernelProjAIdeal Cert.KernelProjAIdeal.Gen Cert.KernelProjAIdeal.Value Idealize.ShloMosaic Idealize.ShloMosaic.TcCoe
  Idealize.SL.Sem

/-- The product, entry by entry. -/
def prod (n : FVec Ideal S4096x1024 .bf16) (w : FVec Ideal S768x1024 .bf16) (b : FVec Ideal S1x768 .f32) : FVec Ideal S4096x768 .bf16 :=
  fun i => (∑ k : Fin 1024, n (ix2 (i 0) k) * w (ix2 (i 1) k)) + b (ix2 0 (i 1))

theorem hz2 : (![0, 0] : Fin 2 → Nat) = fun _ => 0 := funext fun a => by fin_cases a <;> rfl

/-- One block of the product. -/
theorem pay_apply (x : FVec Ideal S1024x1024 .bf16) (y : FVec Ideal S768x1024 .bf16) (z : FVec Ideal S1x768 .f32) (r : Fin 1024) (l : Fin 768) :
    k0_pay1 x y z (ix2 r l) = (∑ k : Fin 1024, x (ix2 r k) * y (ix2 l k)) + z (ix2 0 l) := by
  pointwise [k0_pay1]

variable (m : (ℓ : Loc nD τ sig) → Buf (Elt Ideal) ℓ) (ρ : Dev nD → PrngReg)

theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem block_eq (c : Dev nD) (t : Fin cfg0.N) :
    (dats m 0 c).flushed 3 t
      = ((cfg0.win 3).blk t).view.read (Elt Ideal) (prod (V m c main_arg0) (V m c main_arg1) (V m c main_arg2)) := by
  rw [flushed3]
  unfold out0_3
  rw [View.canon_unit_zero hz2, View.ld_unit_zero hz2, View.ld_unit_zero hz2, View.ld_unit_zero hz2]
  obtain ⟨e0, e1, e2, e3, e4, e5, e6, e7⟩ := index_facts t
  funext y
  rw [View.read_apply]
  refine (congrArg (k0_pay1 (iblk m c 0 t) (iblk m c 1 t) (iblk m c 2 t)) (eq_ix2 (n0 := 1024) (n1 := 768) y)).trans
    ((pay_apply _ _ _ _ _).trans ?_)
  unfold prod
  refine congrArg₂ (· + ·) ?_ ?_
  swap
  · show V m c main_arg2 (((cfg0.win 2).blk t).view.emb _) = _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 768 + 1 * (y 1).val = win0_3.index t (1 : Fin 2) * 768 + 1 * (y 1).val; omega
  refine Finset.sum_congr rfl fun k _ => congrArg₂ (· * ·) ?_ ?_
  · show V m c main_arg0 (((cfg0.win 0).blk t).view.emb _) = _
    refine congrArg (V m c main_arg0) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * k.val = k.val; omega
  · show V m c main_arg1 (((cfg0.win 1).blk t).view.emb _) = _
    refine congrArg (V m c main_arg1) (funext fun a => Fin.ext ?_)
    match a with
    | ⟨0, _⟩ => show win0_1.index t (0 : Fin 2) * 768 + 1 * (y 1).val = win0_3.index t (1 : Fin 2) * 768 + 1 * (y 1).val; omega
    | ⟨1, _⟩ => show win0_1.index t (1 : Fin 2) * 1024 + 1 * k.val = k.val; omega

theorem covered (i : S4096x768.Idx) :
    ∃ t : Fin cfg0.N, (cfg0.win 3).flush t = true ∧ i ∈ ((cfg0.win 3).blk t).view.set := by
  have h0 : (i 0).val < 4096 := (i 0).isLt
  have h1 : (i 1).val < 768 := (i 1).isLt
  have hN : cfg0.N = 4 := N_0
  refine ⟨⟨(i 0).val / 1024, by omega⟩, flush0_3 _, ?_⟩
  obtain ⟨-, -, -, -, -, -, e6, e7⟩ := index_facts ⟨(i 0).val / 1024, by omega⟩
  refine (Finset.ext_iff.mp (View.set_slice_whole main_v0 (win0_3.rect _)) i).mpr ?_
  rw [Rect.mem_set_unit]
  intro a
  match a with
  | ⟨0, _⟩ => show win0_3.index _ (0 : Fin 2) * 1024 ≤ (i 0).val ∧ (i 0).val < win0_3.index _ (0 : Fin 2) * 1024 + 1024
              rw [e6]; dsimp only; omega
  | ⟨1, _⟩ => show win0_3.index _ (1 : Fin 2) * 768 ≤ (i 1).val ∧ (i 1).val < win0_3.index _ (1 : Fin 2) * 768 + 768
              rw [e7]; dsimp only; omega

/-- The result array after the run. -/
theorem final (c : Dev nD) : (dats m 0 c).arrAt 3 cfg0.N = prod (m ((c : Thread nD τ).loc main_arg0)) (m ((c : Thread nD τ).loc main_arg1)) (m ((c : Thread nD τ).loc main_arg2)) :=
  ((dats m 0 c).arrAt_eq_of_cover 3 (prod (V m c main_arg0) (V m c main_arg1) (V m c main_arg2)) (fun t _ => block_eq m c t) covered).trans
    (by rw [V_main_arg0, V_main_arg1, V_main_arg2])

/-- The reference's term. -/
theorem ref_eq (n : FVec Ideal S4096x1024 .bf16) (w : FVec Ideal S768x1024 .bf16) (b : FVec Ideal S1x768 .f32) :
    Cert.ReferenceProjAIdeal.Read.val_main_v6 (F := Ideal) n w b = prod n w b := by
  funext i
  rw [Cert.ReferenceProjAIdeal.Read.val_main_v6_apply, Cert.ReferenceProjAIdeal.Read.val_main_v5_apply]
  refine congrArg₂ (· + ·) ?_ ?_
  swap
  · rw [Cert.ReferenceProjAIdeal.Read.val_main_v4_apply]
    refine congrArg b (funext fun a => Fin.ext ?_)
    match a with
    | ⟨0, _⟩ => rfl
    | ⟨1, _⟩ => rfl
  rw [Cert.ReferenceProjAIdeal.Read.val_main_v3_apply]
  refine Finset.sum_congr rfl fun k _ => ?_
  rw [Cert.ReferenceProjAIdeal.Read.val_main_v2_apply]
  refine congrArg₂ (· * ·) (congrArg n (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product computes what the reference computes: from memories agreeing on the arguments both run, end with equal
    results and leave the arguments as they were. -/
theorem agree (m' : (ℓ : Loc Cert.ReferenceProjAIdeal.nD Cert.ReferenceProjAIdeal.τ Cert.ReferenceProjAIdeal.sig) → Buf (Elt Ideal) ℓ)
    (ρ' : Dev Cert.ReferenceProjAIdeal.nD → PrngReg)
    (h : ∀ c : Dev nD,
      m' ((c.tc : Thread Cert.ReferenceProjAIdeal.nD Cert.ReferenceProjAIdeal.τ).loc Cert.ReferenceProjAIdeal.main_arg0) = m ((c.tc : Thread nD τ).loc main_arg0)
      ∧ m' ((c.tc : Thread Cert.ReferenceProjAIdeal.nD Cert.ReferenceProjAIdeal.τ).loc Cert.ReferenceProjAIdeal.main_arg1) = m ((c.tc : Thread nD τ).loc main_arg1)
      ∧ m' ((c.tc : Thread Cert.ReferenceProjAIdeal.nD Cert.ReferenceProjAIdeal.τ).loc Cert.ReferenceProjAIdeal.main_arg2) = m ((c.tc : Thread nD τ).loc main_arg2)) :
    ∃ v0 : (c : Dev nD) → Buf (Elt Ideal) ((c.tc : Thread nD τ).loc main_v0),
      θ_run (defs (F := Ideal)) (onTc (τ := τ) (main (F := Ideal))) ⟨m, fun _ => 0, ρ⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.ReferenceProjAIdeal.defs (F := Ideal)) (onTc (τ := Cert.ReferenceProjAIdeal.τ) (Cert.ReferenceProjAIdeal.main (F := Ideal)))
          ⟨m', fun _ => 0, ρ'⟩ (fun r => ∀ c : Dev Cert.ReferenceProjAIdeal.nD,
          r.2.mem ((c.tc : Thread Cert.ReferenceProjAIdeal.nD Cert.ReferenceProjAIdeal.τ).loc Cert.ReferenceProjAIdeal.main_v6) = v0 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1)
          ∧ r.2.mem ((c.tc : Thread Cert.ReferenceProjAIdeal.nD Cert.ReferenceProjAIdeal.τ).loc Cert.ReferenceProjAIdeal.main_arg2) = m' ((c.tc : Thread Cert.ReferenceProjAIdeal.nD Cert.ReferenceProjAIdeal.τ).loc Cert.ReferenceProjAIdeal.main_arg2)) := by
  refine ⟨fun c => prod (m ((c.tc : Thread nD τ).loc main_arg0)) (m ((c.tc : Thread nD τ).loc main_arg1)) (m ((c.tc : Thread nD τ).loc main_arg2)),
    (θ_run (defs (F := Ideal)) _ _).mono (fun _ h c => ⟨(h c).1.trans (final m c), (h c).2⟩) (run_blocks m ρ),
    (θ_run (Cert.ReferenceProjAIdeal.defs (F := Ideal)) _ _).mono (fun _ k c => ⟨(k c).1.trans ?_, (k c).2⟩) (Cert.ReferenceProjAIdeal.Value.run m' ρ')⟩
  rw [Cert.ReferenceProjAIdeal.Read.val_main_v6_eq (F := Ideal), ref_eq, (h c).1, (h c).2.1, (h c).2.2]

end Cert.Proof.ProdProjA

end
-- ==== Proof.Ffn.FirstBlock.lean ====
/- The norm's gradients of one block of 512 rows, in its two halves, where no projection comes before: what each store of the
   body holds, and what the block leaves in each result, as functions of the block's rows. -/
module

public import proofs.«01_k».proof.Proof.Gen.KernelFirstIdeal.Value
public import proofs.«01_k».proof.Proof.Ffn.NormsRow
public import Idealize.ShloMosaic.Lib.Pipeline.ReadBack

@[expose] public section

set_option maxRecDepth 16384

noncomputable section

namespace Cert.Proof.First

open Cert.KernelFirstIdeal Cert.KernelFirstIdeal.Gen Cert.KernelFirstIdeal.Value Idealize.ShloMosaic Idealize.ShloMosaic.TcCoe
  Idealize.SL.Sem
open Cert.Proof.Norms (rms back Row)

theorem hz2 : (![0, 0] : Fin 2 → Nat) = fun _ => 0 := funext fun a => by fin_cases a <;> rfl

/-! ## The values of a half -/

section

variable (a0 a1 a2 a3 : Vec Ideal S256x1408 .bf16) (w0 w1 w2 w3 : Vec Ideal S1x1024x1408 .bf16)
  (h di : Vec Ideal S256x1024 .f32) (g acc : Vec Ideal S1x1024 .f32) (y : FVec Ideal S256x1024 .f32) (r : Fin 256) (x : Fin 1024)

theorem pay4_apply : k0_pay4 (F := Ideal) a0 w0 a1 w1 a2 w2 a3 w3 (ix2 r x)
    = (∑ k, a0 (ix2 r k) * w0 (ix3 0 x k)) + (∑ k, a1 (ix2 r k) * w1 (ix3 0 x k)) + (∑ k, a2 (ix2 r k) * w2 (ix3 0 x k))
      + (∑ k, a3 (ix2 r k) * w3 (ix3 0 x k)) := by
  pointwise [k0_pay4]

theorem pay6_apply : k0_pay6 (F := Ideal) (k0_pay5 h) (ix2 r 0) = rms (fun x => h (ix2 r x)) := by
  unfold rms
  pointwise [k0_pay6, k0_pay5]

theorem pay8_apply : k0_pay8 (F := Ideal) y h (k0_pay5 h) di g (ix2 r x)
    = di (ix2 r x) + back (fun x => y (ix2 r x) * g (ix2 0 x)) (fun x => h (ix2 r x)) x := by
  unfold back
  rw [← pay6_apply]
  unfold k0_pay8 k0_pay7
  generalize k0_pay6 (F := Ideal) (k0_pay5 h) = v
  pointwise

theorem pay9_apply : k0_pay9 (F := Ideal) y h (k0_pay5 h) acc (ix2 0 x)
    = acc (ix2 0 x) + ∑ r : Fin 256, y (ix2 r x) * (h (ix2 r x) * rms (fun x => h (ix2 r x))) := by
  simp only [← pay6_apply h]
  unfold k0_pay9 k0_pay7
  generalize k0_pay6 (F := Ideal) (k0_pay5 h) = v
  pointwise

/-- The second half's values are the first half's, of its own rows. -/
theorem pay1_eq : k0_pay1 (F := Ideal) (k0_pay12 h) di (k0_pay14 (k0_pay10 a0 w0) a1 w1 a2 w2 a3 w3 g)
    (k0_pay15 (k0_pay10 a0 w0) a1 w1 a2 w2 a3 w3 h g) = k0_pay8 (k0_pay4 a0 w0 a1 w1 a2 w2 a3 w3) h (k0_pay5 h) di g := rfl

theorem pay2_eq : k0_pay2 (F := Ideal) (k0_pay11 (k0_pay10 a0 w0) a1 w1 a2 w2 a3 w3) (k0_pay13 h) acc
    = k0_pay9 (k0_pay4 a0 w0 a1 w1 a2 w2 a3 w3) h (k0_pay5 h) acc := rfl

end

/-- The operands of one half hold the rows `R`, the weight `W` and the gain `G`. -/
structure Half (R : Fin 256 → Row) (W : Fin 4 → Fin 1024 → Fin 1408 → EReal) (G : Fin 1024 → EReal)
    (a0 a1 a2 a3 : Vec Ideal S256x1408 .bf16) (w0 w1 w2 w3 : Vec Ideal S1x1024x1408 .bf16)
    (h di : Vec Ideal S256x1024 .f32) (g : Vec Ideal S1x1024 .f32) : Prop where
  dn : ∀ r x, k0_pay4 (F := Ideal) a0 w0 a1 w1 a2 w2 a3 w3 (ix2 r x) = (R r).dn W x
  h : ∀ r x, h (ix2 r x) = (R r).h x
  di : ∀ r x, di (ix2 r x) = (R r).di x
  g : ∀ x, g (ix2 0 x) = G x

section

variable {R R₁ : Fin 256 → Row} {W : Fin 4 → Fin 1024 → Fin 1408 → EReal} {G : Fin 1024 → EReal}
  {a0 a1 a2 a3 a0₁ a1₁ a2₁ a3₁ : Vec Ideal S256x1408 .bf16} {w0 w1 w2 w3 w0₁ w1₁ w2₁ w3₁ : Vec Ideal S1x1024x1408 .bf16}
  {h di h₁ di₁ : Vec Ideal S256x1024 .f32} {g g₁ : Vec Ideal S1x1024 .f32}

/-- A half's gradient of the rows. -/
abbrev dhOf (a0 a1 a2 a3 : Vec Ideal S256x1408 .bf16) (w0 w1 w2 w3 : Vec Ideal S1x1024x1408 .bf16)
    (h di : Vec Ideal S256x1024 .f32) (g : Vec Ideal S1x1024 .f32) : FVec Ideal S256x1024 .f32 :=
  k0_pay8 (F := Ideal) (k0_pay4 a0 w0 a1 w1 a2 w2 a3 w3) h (k0_pay5 h) di g

section

variable (H : Half R W G a0 a1 a2 a3 w0 w1 w2 w3 h di g) (acc : Vec Ideal S1x1024 .f32) (r : Fin 256) (x : Fin 1024)

include H

theorem Half.dh_apply : dhOf a0 a1 a2 a3 w0 w1 w2 w3 h di g (ix2 r x) = (R r).dh W G x := by
  unfold dhOf
  rw [pay8_apply, H.di]
  simp only [H.dn, H.h, H.g]
  rfl

theorem Half.gpre_apply : k0_pay9 (F := Ideal) (k0_pay4 a0 w0 a1 w1 a2 w2 a3 w3) h (k0_pay5 h) acc (ix2 0 x)
    = acc (ix2 0 x) + ∑ r, (R r).gpre W x := by
  rw [pay9_apply]
  simp only [H.dn, H.h]
  rfl

end

/-- What the two halves add to a sum over the rows. -/
def sums (F : Row → Fin 1024 → EReal) (R R₁ : Fin 256 → Row) (acc : Vec Ideal S1x1024 .f32) : Vec Ideal S1x1024 .f32 :=
  fun y => acc y + (∑ r, F (R r) (y 1)) + ∑ r, F (R₁ r) (y 1)

theorem sums_of (F : Row → Fin 1024 → EReal) (R R₁ : Fin 256 → Row) (acc u v : Vec Ideal S1x1024 .f32)
    (hu : ∀ x, u (ix2 0 x) = acc (ix2 0 x) + ∑ r, F (R r) x) (hv : ∀ x, v (ix2 0 x) = u (ix2 0 x) + ∑ r, F (R₁ r) x) :
    v = sums F R R₁ acc := by
  funext y
  obtain ⟨x, rfl⟩ : ∃ x : Fin 1024, y = ix2 0 x := ⟨y 1, (eq_ix2 (n0 := 1) (n1 := 1024) y).trans (by
    congr 1; exact Subsingleton.elim (α := Fin 1) _ _)⟩
  rw [hv, hu]
  rfl

variable (H : Half R W G a0 a1 a2 a3 w0 w1 w2 w3 h di g) (H₁ : Half R₁ W G a0₁ a1₁ a2₁ a3₁ w0₁ w1₁ w2₁ w3₁ h₁ di₁ g₁) (acc : Vec Ideal S1x1024 .f32)

include H H₁

theorem step_gpre : k0_pay2 (F := Ideal) (k0_pay11 (k0_pay10 a0₁ w0₁) a1₁ w1₁ a2₁ w2₁ a3₁ w3₁) (k0_pay13 h₁)
      (k0_pay9 (k0_pay4 a0 w0 a1 w1 a2 w2 a3 w3) h (k0_pay5 h) acc)
    = sums (fun R => R.gpre W) R R₁ acc :=
  sums_of (fun R => R.gpre W) R R₁ acc _ _ (H.gpre_apply acc)
    (fun x => (congrFun (pay2_eq ..) (ix2 0 x)).trans (H₁.gpre_apply _ x))

end

/-! ## The operands a block's half loads -/

section

variable (x0 : Vec Ideal S512x5632 .bf16) (x1 : Vec Ideal S4x1024x1408 .bf16) (x2 x3 : Vec Ideal S512x1024 .f32)
  (x4 : Vec Ideal S1x1024 .f32)

/-- A row of the block. -/
def blkRow (r : Fin 512) : Row where
  a s k := x0 (ix2 r ⟨s.val * 1408 + k.val, by omega⟩)
  di x := x2 (ix2 r x)
  h x := x3 (ix2 r x)
  f _ := 0

def blkW : Fin 4 → Fin 1024 → Fin 1408 → EReal := fun s x k => x1 (ix3 s x k)

def blkG : Fin 1024 → EReal := fun x => x4 (ix2 0 x)

/-- The rows of the half that begins at row `o`. -/
def rows (o : ℕ) (ho : o ≤ 256) (r : Fin 256) : Row := blkRow x0 x2 x3 ⟨o + r.val, by omega⟩

theorem ld_rows (X : Vec Ideal S512x1024 .f32) (o : ℕ) (ho : o ≤ 256) (i : ∀ a, ![o, 0] a + S256x1024.size a ≤ S512x1024.size a)
    (r : Fin 256) (x : Fin 1024) :
    View.ld X (Rect.unit (s := S512x1024) ![o, 0] S256x1024.size i) (ix2 r x) = X (ix2 ⟨o + r.val, by omega⟩ x) := by
  refine congrArg X (funext fun a => Fin.ext ?_)
  match a with
  | ⟨0, _⟩ => show o + 1 * r.val = o + r.val; omega
  | ⟨1, _⟩ => show 0 + 1 * x.val = x.val; omega

theorem ld_wide (o : ℕ) (ho : o ≤ 256) (s : Fin 4) (q : ℕ) (hq : q = s.val * 1408)
    (i : ∀ a, ![o, q] a + S256x1408.size a ≤ S512x5632.size a) (r : Fin 256) (k : Fin 1408) :
    View.ld x0 (Rect.unit (s := S512x5632) ![o, q] S256x1408.size i) (ix2 r k) = (rows x0 x2 x3 o ho r).a s k := by
  refine congrArg x0 (funext fun a => Fin.ext ?_)
  match a with
  | ⟨0, _⟩ => show o + 1 * r.val = o + r.val; omega
  | ⟨1, _⟩ => show q + 1 * k.val = s.val * 1408 + k.val; omega

theorem ld_weight (s : Fin 4) (q : ℕ) (hq : q = s.val) (i : ∀ a, ![q, 0, 0] a + S1x1024x1408.size a ≤ S4x1024x1408.size a)
    (x : Fin 1024) (k : Fin 1408) :
    View.ld x1 (Rect.unit (s := S4x1024x1408) ![q, 0, 0] S1x1024x1408.size i) (ix3 0 x k) = blkW x1 s x k := by
  refine congrArg x1 (funext fun a => Fin.ext ?_)
  match a with
  | ⟨0, _⟩ => show q + 1 * 0 = s.val; omega
  | ⟨1, _⟩ => show 0 + 1 * x.val = x.val; omega
  | ⟨2, _⟩ => show 0 + 1 * k.val = k.val; omega

theorem ld_gain (i : ∀ a, ![0, 0] a + S1x1024.size a ≤ S1x1024.size a) (x : Fin 1024) :
    View.ld x4 (Rect.unit (s := S1x1024) ![0, 0] S1x1024.size i) (ix2 0 x) = blkG x4 x := by
  rw [View.ld_unit_zero hz2]
  rfl

theorem half (o : ℕ) (ho : o ≤ 256)
    (i0 : ∀ a, ![o, 0] a + S256x1408.size a ≤ S512x5632.size a) (i1 : ∀ a, ![o, 1408] a + S256x1408.size a ≤ S512x5632.size a)
    (i2 : ∀ a, ![o, 2816] a + S256x1408.size a ≤ S512x5632.size a) (i3 : ∀ a, ![o, 4224] a + S256x1408.size a ≤ S512x5632.size a)
    (i : ∀ a, ![o, 0] a + S256x1024.size a ≤ S512x1024.size a) :
    Half (rows x0 x2 x3 o ho) (blkW x1) (blkG x4)
      (View.ld x0 (Rect.unit (s := S512x5632) ![o, 0] S256x1408.size i0)) (View.ld x0 (Rect.unit (s := S512x5632) ![o, 1408] S256x1408.size i1))
      (View.ld x0 (Rect.unit (s := S512x5632) ![o, 2816] S256x1408.size i2)) (View.ld x0 (Rect.unit (s := S512x5632) ![o, 4224] S256x1408.size i3))
      (View.ld x1 (Rect.unit (s := S4x1024x1408) ![0, 0, 0] S1x1024x1408.size inb_S4x1024x1408_S1x1024x1408_0_0_0))
      (View.ld x1 (Rect.unit (s := S4x1024x1408) ![1, 0, 0] S1x1024x1408.size inb_S4x1024x1408_S1x1024x1408_1_0_0))
      (View.ld x1 (Rect.unit (s := S4x1024x1408) ![2, 0, 0] S1x1024x1408.size inb_S4x1024x1408_S1x1024x1408_2_0_0))
      (View.ld x1 (Rect.unit (s := S4x1024x1408) ![3, 0, 0] S1x1024x1408.size inb_S4x1024x1408_S1x1024x1408_3_0_0))
      (View.ld x3 (Rect.unit (s := S512x1024) ![o, 0] S256x1024.size i)) (View.ld x2 (Rect.unit (s := S512x1024) ![o, 0] S256x1024.size i))
      (View.ld x4 (Rect.unit (s := S1x1024) ![0, 0] S1x1024.size inb_S1x1024_S1x1024_0_0)) where
  dn r x := by
    rw [pay4_apply]
    simp only [ld_wide x0 x2 x3 o ho 0 0 rfl, ld_wide x0 x2 x3 o ho 1 1408 rfl, ld_wide x0 x2 x3 o ho 2 2816 rfl,
      ld_wide x0 x2 x3 o ho 3 4224 rfl, ld_weight x1 0 0 rfl, ld_weight x1 1 1 rfl, ld_weight x1 2 2 rfl, ld_weight x1 3 3 rfl]
    rfl
  h r x := ld_rows x3 o ho i r x
  di r x := ld_rows x2 o ho i r x
  g x := ld_gain x4 _ x

/-- The lower and the upper half of the block. -/
abbrev lo := half x0 x1 x2 x3 x4 0 (by norm_num) inb_S512x5632_S256x1408_0_0 inb_S512x5632_S256x1408_0_1408
  inb_S512x5632_S256x1408_0_2816 inb_S512x5632_S256x1408_0_4224 inb_S512x1024_S256x1024_0_0
abbrev hi := half x0 x1 x2 x3 x4 256 (by norm_num) inb_S512x5632_S256x1408_256_0 inb_S512x5632_S256x1408_256_1408
  inb_S512x5632_S256x1408_256_2816 inb_S512x5632_S256x1408_256_4224 inb_S512x1024_S256x1024_256_0

/-! ## What the block leaves -/

def blkDh : Vec Ideal S512x1024 .f32 := fun y => (blkRow x0 x2 x3 (y 0)).dh (blkW x1) (blkG x4) (y 1)

def blkSums (F : Row → Fin 1024 → EReal) (acc : Vec Ideal S1x1024 .f32) : Vec Ideal S1x1024 .f32 :=
  sums F (rows x0 x2 x3 0 (by norm_num)) (rows x0 x2 x3 256 (by norm_num)) acc

theorem piece (F : Row → Fin 1024 → EReal) (o : ℕ) (ho : o ≤ 256) (i : ∀ a, ![o, 0] a + S256x1024.size a ≤ S512x1024.size a)
    (u : S256x1024.Idx → EReal) (hu : ∀ r x, u (ix2 r x) = F (rows x0 x2 x3 o ho r) x) (y : S256x1024.Idx) :
    u y = (fun y : S512x1024.Idx => F (blkRow x0 x2 x3 (y 0)) (y 1)) ((Rect.unit (s := S512x1024) ![o, 0] S256x1024.size i).emb y) := by
  refine (congrArg u (eq_ix2 (n0 := 256) (n1 := 1024) y)).trans ((hu _ _).trans (congrArg₂ (fun r x => F (blkRow x0 x2 x3 r) x) (Fin.ext ?_) (Fin.ext ?_)))
  · show o + (y 0).val = o + 1 * (y 0).val; omega
  · show (y 1).val = 0 + 1 * (y 1).val; omega

end

/-! ## The body's results, at the first block and at the others -/

theorem zero_acc : (k0_pay3 (F := Ideal) : Vec Ideal S1x1024 .f32) = fun _ => 0 := funext fun _ => Ideal.ofBits_zero_f32

theorem piecesA_5 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : cond0_0 i) (x0 : Vec Ideal S512x5632 .bf16) (x1 : Vec Ideal S4x1024x1408 .bf16) (x2 x3 : Vec Ideal S512x1024 .f32) (x4 : Vec Ideal S1x1024 .f32) :
    View.PiecesOf (blkDh x0 x1 x2 x3 x4) (kernelRun0_A c i arg1 harg1 arg2 harg2 arg3 harg3 arg4 harg4 arg5 harg5 arg6 harg6 arg7 harg7 hc0 x0 x1 x2 x3 x4).1 := by
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread]
  exact ⟨fun y => (congrFun (pay1_eq ..) y).trans (piece x0 x2 x3 (fun R => R.dh (blkW x1) (blkG x4)) 256 (by norm_num) inb_S512x1024_S256x1024_256_0 _
      (hi x0 x1 x2 x3 x4).dh_apply y),
    fun y => piece x0 x2 x3 (fun R => R.dh (blkW x1) (blkG x4)) 0 (by norm_num) inb_S512x1024_S256x1024_0_0 _ (lo x0 x1 x2 x3 x4).dh_apply y, trivial⟩

theorem outA_5 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : cond0_0 i) (x0 : Vec Ideal S512x5632 .bf16) (x1 : Vec Ideal S4x1024x1408 .bf16) (x2 x3 : Vec Ideal S512x1024 .f32) (x4 : Vec Ideal S1x1024 .f32) :
    out0_A_5 c i arg1 harg1 arg2 harg2 arg3 harg3 arg4 harg4 arg5 harg5 arg6 harg6 arg7 harg7 hc0 x0 x1 x2 x3 x4 = blkDh x0 x1 x2 x3 x4 := by
  unfold out0_A_5
  rw [View.read_writes_junk_eq_canon]
  exact funext fun y => View.canon_apply_of_pieces (blkDh x0 x1 x2 x3 x4) _
    (piecesA_5 c i arg1 harg1 arg2 harg2 arg3 harg3 arg4 harg4 arg5 harg5 arg6 harg6 arg7 harg7 hc0 x0 x1 x2 x3 x4).mem y
    (cover0_A_5 c i arg1 harg1 arg2 harg2 arg3 harg3 arg4 harg4 arg5 harg5 arg6 harg6 arg7 harg7 hc0 x0 x1 x2 x3 x4 y)

theorem outA_6 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : cond0_0 i) (x0 : Vec Ideal S512x5632 .bf16) (x1 : Vec Ideal S4x1024x1408 .bf16) (x2 x3 : Vec Ideal S512x1024 .f32) (x4 : Vec Ideal S1x1024 .f32) :
    out0_A_6 c i arg1 harg1 arg2 harg2 arg3 harg3 arg4 harg4 arg5 harg5 arg6 harg6 arg7 harg7 hc0 x0 x1 x2 x3 x4 = blkSums x0 x2 x3 (fun R => R.gpre (blkW x1)) (fun _ => 0) := by
  unfold out0_A_6
  rw [View.read_writes_junk_eq_canon]
  unfold kernelRun0_A
  dsimp only
  sl_unfold_words
  simp (disch := decide) only [↓View.readCov_skip, ↓View.readCov_cons_toLoadRect, View.readAt_eq_ld, harg1.read_unread, harg2.read_unread,
    harg3.read_unread, harg4.read_unread, harg5.read_unread]
  exact (View.canon_cons_unit_zero hz2 _ _ _).trans
    ((step_gpre (lo x0 x1 x2 x3 x4) (hi x0 x1 x2 x3 x4) _).trans (congrArg (blkSums x0 x2 x3 (fun R => R.gpre (blkW x1))) zero_acc))

theorem piecesB_5 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (xo6 : Vec Ideal S1x1024 .f32) :
    View.PiecesOf (blkDh x0 x1 x2 x3 x4) (kernelRun0_B c i arg1 harg1 arg2 harg2 arg3 harg3 arg4 harg4 arg5 harg5 arg6 harg6 arg7 harg7 hc0 x0 x1 x2 x3 x4 xo6).1 := by
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg7.read_unread]
  exact ⟨fun y => (congrFun (pay1_eq ..) y).trans (piece x0 x2 x3 (fun R => R.dh (blkW x1) (blkG x4)) 256 (by norm_num) inb_S512x1024_S256x1024_256_0 _
      (hi x0 x1 x2 x3 x4).dh_apply y),
    fun y => piece x0 x2 x3 (fun R => R.dh (blkW x1) (blkG x4)) 0 (by norm_num) inb_S512x1024_S256x1024_0_0 _ (lo x0 x1 x2 x3 x4).dh_apply y, trivial⟩

theorem outB_5 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (xo6 : Vec Ideal S1x1024 .f32) :
    out0_B_5 c i arg1 harg1 arg2 harg2 arg3 harg3 arg4 harg4 arg5 harg5 arg6 harg6 arg7 harg7 hc0 x0 x1 x2 x3 x4 xo6 = blkDh x0 x1 x2 x3 x4 := by
  unfold out0_B_5
  rw [View.read_writes_junk_eq_canon]
  exact funext fun y => View.canon_apply_of_pieces (blkDh x0 x1 x2 x3 x4) _
    (piecesB_5 c i arg1 harg1 arg2 harg2 arg3 harg3 arg4 harg4 arg5 harg5 arg6 harg6 arg7 harg7 hc0 x0 x1 x2 x3 x4 xo6).mem y
    (cover0_B_5 c i arg1 harg1 arg2 harg2 arg3 harg3 arg4 harg4 arg5 harg5 arg6 harg6 arg7 harg7 hc0 x0 x1 x2 x3 x4 xo6 y)

theorem outB_6 (c : Dev nD) (i : grid0.Coords)
    (arg1 : Memref sig .tc .vmem S512x5632 .bf16) (harg1 : arg1.IsWhole) (arg2 : Memref sig .tc .vmem S4x1024x1408 .bf16) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole)
    (hc0 : ¬cond0_0 i) (x0 : Vec Ideal S512x5632 .bf16) (x1 : Vec Ideal S4x1024x1408 .bf16) (x2 x3 : Vec Ideal S512x1024 .f32) (x4 : Vec Ideal S1x1024 .f32)
    (xo6 : Vec Ideal S1x1024 .f32) :
    out0_B_6 c i arg1 harg1 arg2 harg2 arg3 harg3 arg4 harg4 arg5 harg5 arg6 harg6 arg7 harg7 hc0 x0 x1 x2 x3 x4 xo6 = blkSums x0 x2 x3 (fun R => R.gpre (blkW x1)) xo6 := by
  unfold out0_B_6
  rw [View.read_writes_junk_eq_canon]
  unfold kernelRun0_B
  dsimp only
  sl_unfold_words
  simp (disch := decide) only [↓View.readCov_skip, ↓View.readCov_cons_toLoadRect, View.readAt_eq_ld, harg1.read_unread, harg2.read_unread,
    harg3.read_unread, harg4.read_unread, harg5.read_unread, harg7.read_unread]
  exact (View.canon_cons_unit_zero hz2 _ _ _).trans
    ((step_gpre (lo x0 x1 x2 x3 x4) (hi x0 x1 x2 x3 x4) _).trans (by rw [View.ld_unit_zero hz2]; rfl))

end Cert.Proof.First

end
-- ==== Proof.Ffn.FirstRun.lean ====
/- The two result arrays of the norm's gradients after the run, where no projection comes before: each grid point writes 512
   rows of the gradient of the tokens, and the sum over the tokens is added up over the grid points. -/
module

public import proofs.«01_k».proof.Proof.Ffn.FirstBlock
public import Idealize.ShloMosaic.Lib.Pipeline.ValueKit.Acc

@[expose] public section

set_option maxRecDepth 16384

noncomputable section

namespace Cert.Proof.First

open Cert.KernelFirstIdeal Cert.KernelFirstIdeal.Gen Cert.KernelFirstIdeal.Value Idealize.ShloMosaic Idealize.ShloMosaic.TcCoe
  Idealize.SL.Sem
open Cert.Proof.Norms (rms back Row)

/-! ## The results as functions of the operands -/

section

variable (a0 : FVec Ideal S4096x5632 .bf16) (a1 : FVec Ideal S4x1024x1408 .bf16) (a2 a3 : FVec Ideal S4096x1024 .f32)
  (a4 : FVec Ideal S1x1024 .f32)

/-- Row `n` of the operands. -/
def tok (n : ℕ) : Row where
  a s k := a0 (ix2 (⟨n % 4096, by omega⟩ : Fin 4096) (⟨s.val * 1408 + k.val, by omega⟩ : Fin 5632))
  di x := a2 (ix2 (⟨n % 4096, by omega⟩ : Fin 4096) x)
  h x := a3 (ix2 (⟨n % 4096, by omega⟩ : Fin 4096) x)
  f _ := 0

def outDh : FVec Ideal S4096x1024 .f32 := fun i => (tok a0 a2 a3 (i 0).val).dh (blkW a1) (blkG a4) (i 1)

/-- A sum over all rows. -/
def outSum (F : Row → Fin 1024 → EReal) : FVec Ideal S1x1024 .f32 := fun i => ∑ n : Fin 4096, F (tok a0 a2 a3 n.val) (i 1)

end

/-- Rows taken 512 at a time, each 512 in two halves. -/
theorem sum_blocks (f : ℕ → EReal) (n : ℕ) :
    (∑ t ∈ Finset.range n, ((∑ r : Fin 256, f (t * 512 + (0 + r.val))) + ∑ r : Fin 256, f (t * 512 + (256 + r.val))))
      = ∑ r ∈ Finset.range (n * 512), f r := by
  induction n with
  | zero => simp
  | succ n ih =>
    rw [Finset.sum_range_succ, ih, show (n + 1) * 512 = n * 512 + 256 + 256 by ring, Finset.sum_range_add, Finset.sum_range_add,
      Fin.sum_univ_eq_sum_range (fun r => f (n * 512 + (0 + r))), Fin.sum_univ_eq_sum_range (fun r => f (n * 512 + (256 + r))), add_assoc]
    refine congrArg₂ (· + ·) rfl (congrArg₂ (· + ·) ?_ ?_) <;> exact Finset.sum_congr rfl fun r _ => congrArg f (by omega)

/-! ## What a block reads -/

variable (m : (ℓ : Loc nD τ sig) → Buf (Elt Ideal) ℓ)

theorem index_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem index_out : ∀ t : Fin cfg0.N,
    (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem tlt (t : Fin cfg0.N) : t.val < 8 := lt_of_lt_of_eq t.isLt N_0

theorem blk_a (c : Dev nD) (t : Fin cfg0.N) (r : Fin 512) (k : Fin 5632) (r' : Fin 4096) (hr : r'.val = t.val * 512 + r.val) :
    iblk m c 0 t (ix2 r k) = V m c main_arg0 (ix2 r' k) := by
  obtain ⟨e0, e1, -⟩ := index_facts t
  show V m c main_arg0 (((cfg0.win 0).blk t).view.emb _) = _
  refine congrArg (V m c main_arg0) (funext fun a => Fin.ext ?_)
  match a with
  | ⟨0, _⟩ => show win0_0.index t (0 : Fin 2) * 512 + 1 * r.val = r'.val; omega
  | ⟨1, _⟩ => show win0_0.index t (1 : Fin 2) * 5632 + 1 * k.val = k.val; omega

theorem blk_w (c : Dev nD) (t : Fin cfg0.N) : blkW (iblk m c 1 t) = blkW (V m c main_arg1) := by
  obtain ⟨-, -, e0, e1, e2, -⟩ := index_facts t
  funext s x k
  show V m c main_arg1 (((cfg0.win 1).blk t).view.emb _) = _
  refine congrArg (V m c main_arg1) (funext fun a => Fin.ext ?_)
  match a with
  | ⟨0, _⟩ => show win0_1.index t (0 : Fin 3) * 4 + 1 * s.val = s.val; omega
  | ⟨1, _⟩ => show win0_1.index t (1 : Fin 3) * 1024 + 1 * x.val = x.val; omega
  | ⟨2, _⟩ => show win0_1.index t (2 : Fin 3) * 1408 + 1 * k.val = k.val; omega

theorem blk_2 (c : Dev nD) (t : Fin cfg0.N) (r : Fin 512) (x : Fin 1024) (r' : Fin 4096) (hr : r'.val = t.val * 512 + r.val) :
    iblk m c 2 t (ix2 r x) = V m c main_arg2 (ix2 r' x) := by
  obtain ⟨-, -, -, -, -, e0, e1, -⟩ := index_facts t
  show V m c main_arg2 (((cfg0.win 2).blk t).view.emb _) = _
  refine congrArg (V m c main_arg2) (funext fun a => Fin.ext ?_)
  match a with
  | ⟨0, _⟩ => show win0_2.index t (0 : Fin 2) * 512 + 1 * r.val = r'.val; omega
  | ⟨1, _⟩ => show win0_2.index t (1 : Fin 2) * 1024 + 1 * x.val = x.val; omega

theorem blk_3 (c : Dev nD) (t : Fin cfg0.N) (r : Fin 512) (x : Fin 1024) (r' : Fin 4096) (hr : r'.val = t.val * 512 + r.val) :
    iblk m c 3 t (ix2 r x) = V m c main_arg3 (ix2 r' x) := by
  obtain ⟨-, -, -, -, -, -, -, e0, e1, -⟩ := index_facts t
  show V m c main_arg3 (((cfg0.win 3).blk t).view.emb _) = _
  refine congrArg (V m c main_arg3) (funext fun a => Fin.ext ?_)
  match a with
  | ⟨0, _⟩ => show win0_3.index t (0 : Fin 2) * 512 + 1 * r.val = r'.val; omega
  | ⟨1, _⟩ => show win0_3.index t (1 : Fin 2) * 1024 + 1 * x.val = x.val; omega

theorem blk_g4 (c : Dev nD) (t : Fin cfg0.N) : blkG (iblk m c 4 t) = blkG (V m c main_arg4) := by
  obtain ⟨-, -, -, -, -, -, -, -, -, e0, e1⟩ := index_facts t
  funext x
  show V m c main_arg4 (((cfg0.win 4).blk t).view.emb _) = _
  refine congrArg (V m c main_arg4) (funext fun a => Fin.ext ?_)
  match a with
  | ⟨0, _⟩ => show win0_4.index t (0 : Fin 2) * 1 + 1 * 0 = 0; omega
  | ⟨1, _⟩ => show win0_4.index t (1 : Fin 2) * 1024 + 1 * x.val = x.val; omega

theorem blk_row (c : Dev nD) (t : Fin cfg0.N) (r : Fin 512) :
    blkRow (iblk m c 0 t) (iblk m c 2 t) (iblk m c 3 t) r
      = tok (V m c main_arg0) (V m c main_arg2) (V m c main_arg3) (t.val * 512 + r.val) := by
  have ht := tlt t
  have hr : (t.val * 512 + r.val) % 4096 = t.val * 512 + r.val := Nat.mod_eq_of_lt (by omega)
  unfold blkRow tok
  congr 1
  · funext s k; exact blk_a m c t r _ _ hr
  · funext x; exact blk_2 m c t r x _ hr
  · funext x; exact blk_3 m c t r x _ hr

theorem dh_congr {W W₁ : Fin 4 → Fin 1024 → Fin 1408 → EReal} {G G₁ : Fin 1024 → EReal} {R R₁ : Row} (hW : W = W₁) (hG : G = G₁)
    (hR : R = R₁) (x : Fin 1024) : R.dh W G x = R₁.dh W₁ G₁ x := by
  subst hW; subst hG; subst hR; rfl

/-! ## The gradients of the tokens -/

theorem blkDh_eq (c : Dev nD) (t : Fin cfg0.N) (y : S512x1024.Idx) :
    blkDh (iblk m c 0 t) (iblk m c 1 t) (iblk m c 2 t) (iblk m c 3 t) (iblk m c 4 t) y
      = (tok (V m c main_arg0) (V m c main_arg2) (V m c main_arg3) (t.val * 512 + (y 0).val)).dh (blkW (V m c main_arg1)) (blkG (V m c main_arg4)) (y 1) := by
  exact dh_congr (blk_w m c t) (blk_g4 m c t) (blk_row m c t (y 0)) (y 1)

theorem flushed5_eq (c : Dev nD) (t : Fin cfg0.N) :
    (dats m 0 c).flushed 5 t = ((cfg0.win 5).blk t).view.read (Elt Ideal)
      (outDh (V m c main_arg0) (V m c main_arg1) (V m c main_arg2) (V m c main_arg3) (V m c main_arg4)) := by
  obtain ⟨⟨e0, e1⟩, -⟩ := index_out t
  have e : (dats m 0 c).flushed 5 t = (cfg0.win 5).cut (grid0.coords t) (blkDh (iblk m c 0 t) (iblk m c 1 t) (iblk m c 2 t) (iblk m c 3 t) (iblk m c 4 t)) := by
    by_cases h0 : t.val % 8 = 0
    · exact (flushed5_A m c t h0).trans (congrArg ((cfg0.win 5).cut (grid0.coords t)) (outA_5 c ..))
    · exact (flushed5_B m c t h0).trans (congrArg ((cfg0.win 5).cut (grid0.coords t)) (outB_5 c ..))
  rw [e]
  funext y
  rw [View.read_apply]
  refine (blkDh_eq m c t y).trans ?_
  refine congrArg₂ (fun n x => (tok (V m c main_arg0) (V m c main_arg2) (V m c main_arg3) n).dh _ _ x) ?_ (Fin.ext ?_)
  · show t.val * 512 + (y 0).val = win0_5.index t (0 : Fin 2) * 512 + 1 * (y 0).val; omega
  · show (y 1).val = win0_5.index t (1 : Fin 2) * 1024 + 1 * (y 1).val; omega

theorem covered5 (i : S4096x1024.Idx) :
    ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 8 := N_0
  refine ⟨⟨(i 0).val / 512, by omega⟩, flush0_5 _, ?_⟩
  obtain ⟨⟨e0, e1⟩, -⟩ := index_out ⟨(i 0).val / 512, by omega⟩
  refine (Finset.ext_iff.mp (View.set_slice_whole main_v0_0 (win0_5.rect _)) i).mpr ?_
  rw [Rect.mem_set_unit]
  intro a
  match a with
  | ⟨0, _⟩ => show win0_5.index _ (0 : Fin 2) * 512 ≤ (i 0).val ∧ (i 0).val < win0_5.index _ (0 : Fin 2) * 512 + 512
              rw [e0]; dsimp only; omega
  | ⟨1, _⟩ => show win0_5.index _ (1 : Fin 2) * 1024 ≤ (i 1).val ∧ (i 1).val < win0_5.index _ (1 : Fin 2) * 1024 + 1024
              rw [e1]; omega

theorem final5 (c : Dev nD) : (dats m 0 c).arrAt 5 cfg0.N
    = outDh (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (outDh (V m c main_arg0) (V m c main_arg1) (V m c main_arg2) (V m c main_arg3) (V m c main_arg4))
    (fun t _ => flushed5_eq m c t) covered5).trans (by rw [V_main_arg0, V_main_arg1, V_main_arg2, V_main_arg3, V_main_arg4])

/-! ## The sums over the tokens -/

/-- What a row adds to this sum. -/
def F6 (c : Dev nD) : Row → Fin 1024 → EReal := (fun R => R.gpre (blkW (V m c main_arg1)))

theorem step6_A (c : Dev nD) (t : Fin cfg0.N) (h0 : t.val % 8 = 0) (y : S1x1024.Idx) :
    (outsAt0 m c t.val t.isLt).2 y = 0 + (((∑ r : Fin 256, F6 m c (tok (V m c main_arg0) (V m c main_arg2) (V m c main_arg3) (t.val * 512 + (0 + r.val))) (y 1)) + ∑ r : Fin 256, F6 m c (tok (V m c main_arg0) (V m c main_arg2) (V m c main_arg3) (t.val * 512 + (256 + r.val))) (y 1))) := by
  rw [outsAt0_A m c t h0]
  dsimp only
  refine (congrFun (outA_6 c ..) y).trans ?_
  unfold blkSums sums rows F6
  simp only [blk_row, blk_w]
  rw [add_assoc]

theorem step6_B (c : Dev nD) (t : Fin cfg0.N) (h0 : ¬t.val % 8 = 0) (y : S1x1024.Idx) :
    (outsAt0 m c t.val t.isLt).2 y = (outsAt0 m c (t.val - 1) (Nat.lt_of_le_of_lt (Nat.sub_le _ _) t.isLt)).2 y
      + ((∑ r : Fin 256, F6 m c (tok (V m c main_arg0) (V m c main_arg2) (V m c main_arg3) (t.val * 512 + (0 + r.val))) (y 1)) + ∑ r : Fin 256, F6 m c (tok (V m c main_arg0) (V m c main_arg2) (V m c main_arg3) (t.val * 512 + (256 + r.val))) (y 1)) := by
  rw [outsAt0_B m c t h0]
  dsimp only
  refine (congrFun (outB_6 c ..) y).trans ?_
  unfold blkSums sums rows F6
  simp only [blk_row, blk_w]
  rw [add_assoc]

theorem last6 (c : Dev nD) (t : Fin cfg0.N) (ht : t.val + 1 = cfg0.N) (y : S1x1024.Idx) :
    (outsAt0 m c t.val t.isLt).2 y = outSum (V m c main_arg0) (V m c main_arg2) (V m c main_arg3) (F6 m c) y := by
  have hN : cfg0.N = 8 := N_0
  refine (Pipeline.eq_sum_fin_of_reset_step_apply_last (fun n h => (outsAt0 m c n h).2) 8 (fun _ => (0 : EReal))
    (fun (t : Fin cfg0.N) (y : S1x1024.Idx) => (∑ r : Fin 256, F6 m c (tok (V m c main_arg0) (V m c main_arg2) (V m c main_arg3) (t.val * 512 + (0 + r.val))) (y 1)) + ∑ r : Fin 256, F6 m c (tok (V m c main_arg0) (V m c main_arg2) (V m c main_arg3) (t.val * 512 + (256 + r.val))) (y 1))
    (fun t h y => step6_A m c t h y) (fun t h y => step6_B m c t h y) hN.le t ht y).trans ?_
  rw [zero_add, Fin.sum_univ_eq_sum_range (fun n => (∑ r : Fin 256, F6 m c (tok (V m c main_arg0) (V m c main_arg2) (V m c main_arg3) (n * 512 + (0 + r.val))) (y 1)) + ∑ r : Fin 256, F6 m c (tok (V m c main_arg0) (V m c main_arg2) (V m c main_arg3) (n * 512 + (256 + r.val))) (y 1)) cfg0.N, hN]
  refine (sum_blocks (fun n => F6 m c (tok (V m c main_arg0) (V m c main_arg2) (V m c main_arg3) n) (y 1)) 8).trans ?_
  rw [← Fin.sum_univ_eq_sum_range]
  rfl

theorem flushed6_eq (c : Dev nD) (t : Fin cfg0.N) (hf : (cfg0.win 6).flush t = true) :
    (dats m 0 c).flushed 6 t = ((cfg0.win 6).blk t).view.read (Elt Ideal) (outSum (V m c main_arg0) (V m c main_arg2) (V m c main_arg3) (F6 m c)) := by
  have hN : cfg0.N = 8 := N_0
  have ht : t.val % 8 = 7 := (flush0_6 t).mp hf
  have htl : t.val < cfg0.N := t.isLt
  obtain ⟨-, e0, e1⟩ := index_out t
  rw [flushed6]
  funext y
  rw [View.read_apply]
  refine (last6 m c t (by omega) y).trans (congrArg (outSum (V m c main_arg0) (V m c main_arg2) (V m c main_arg3) (F6 m c)) (funext fun a => Fin.ext ?_))
  match a with
  | ⟨0, _⟩ => show (y 0).val = win0_6.index t (0 : Fin 2) * 1 + 1 * (y 0).val; rw [e0]; omega
  | ⟨1, _⟩ => show (y 1).val = win0_6.index t (1 : Fin 2) * 1024 + 1 * (y 1).val; rw [e1]; omega

theorem covered6 (i : S1x1024.Idx) :
    ∃ t : Fin cfg0.N, (cfg0.win 6).flush t = true ∧ i ∈ ((cfg0.win 6).blk t).view.set := by
  have h0 : (i 0).val < 1 := (i 0).isLt
  have h1 : (i 1).val < 1024 := (i 1).isLt
  have hN : cfg0.N = 8 := N_0
  refine ⟨⟨7, by omega⟩, (flush0_6 _).mpr rfl, ?_⟩
  obtain ⟨-, e0, e1⟩ := index_out ⟨7, by omega⟩
  refine (Finset.ext_iff.mp (View.set_slice_whole main_v0_1 (win0_6.rect _)) i).mpr ?_
  rw [Rect.mem_set_unit]
  intro a
  match a with
  | ⟨0, _⟩ => show win0_6.index _ (0 : Fin 2) * 1 ≤ (i 0).val ∧ (i 0).val < win0_6.index _ (0 : Fin 2) * 1 + 1
              rw [e0]; omega
  | ⟨1, _⟩ => show win0_6.index _ (1 : Fin 2) * 1024 ≤ (i 1).val ∧ (i 1).val < win0_6.index _ (1 : Fin 2) * 1024 + 1024
              rw [e1]; omega

theorem final6 (c : Dev nD) : (dats m 0 c).arrAt 6 cfg0.N
    = outSum (m ((c : Thread nD τ).loc main_arg0)) (m ((c : Thread nD τ).loc main_arg2)) (m ((c : Thread nD τ).loc main_arg3)) (fun R => R.gpre (blkW (m ((c : Thread nD τ).loc main_arg1)))) :=
  ((dats m 0 c).arrAt_eq_of_cover 6 (outSum (V m c main_arg0) (V m c main_arg2) (V m c main_arg3) (F6 m c)) (fun t hf => flushed6_eq m c t hf) covered6).trans
    (by unfold F6; rw [V_main_arg0, V_main_arg1, V_main_arg2, V_main_arg3])

end Cert.Proof.First

end
-- ==== Proof.Ffn.FirstRef.lean ====
/- The reference's stages of the norm's gradients where no projection comes before, row by row. On real operands its gradients
   are the kernel's. -/
module

public import proofs.«01_k».proof.Proof.Ffn.NormsMath
public import proofs.«01_k».proof.Proof.Ffn.FirstRun
public import proofs.«01_k».proof.Proof.Gen.ReferenceFirstIdeal.Run
public import proofs.«01_k».proof.Proof.Gen.ReferenceFirstIdeal.Read

@[expose] public section

set_option maxRecDepth 16384

noncomputable section

namespace Cert.Proof.First

open Cert.KernelFirstIdeal Idealize.ShloMosaic Cert.ReferenceFirstIdeal.Read
open Cert.Proof.Norms (rms back Row ms dms rback sum_shards dh_eq)

/-- The reference's sums start at zero. -/
theorem sum0 {n : ℕ} (f : Fin n → EReal) : FloatOps.ofBits (F := Ideal) .f32 0x00000000#32 + ∑ k, f k = ∑ k, f k := by
  rw [show FloatOps.ofBits (F := Ideal) .f32 0x00000000#32 = (0 : EReal) from Ideal.ofBits_zero_f32, zero_add]

variable (x0 : FVec Ideal S4096x5632 .bf16) (x1 : FVec Ideal S4x1024x1408 .bf16) (x2 x3 : FVec Ideal S4096x1024 .f32) (x4 : FVec Ideal S1x1024 .f32) (r : Fin 4096) (x : Fin 1024)

theorem tok_h : (tok x0 x2 x3 r.val).h = fun x => x3 (ix2 r x) := by
  have hr : (⟨r.val % 4096, by omega⟩ : Fin 4096) = r := Fin.ext (Nat.mod_eq_of_lt r.isLt)
  unfold tok
  simp only [hr]

theorem tok_di : (tok x0 x2 x3 r.val).di = fun x => x2 (ix2 r x) := by
  have hr : (⟨r.val % 4096, by omega⟩ : Fin 4096) = r := Fin.ext (Nat.mod_eq_of_lt r.isLt)
  unfold tok
  simp only [hr]

theorem tok_a : (tok x0 x2 x3 r.val).a = fun s k => x0 (ix2 r (⟨s.val * 1408 + k.val, by omega⟩ : Fin 5632)) := by
  have hr : (⟨r.val % 4096, by omega⟩ : Fin 4096) = r := Fin.ext (Nat.mod_eq_of_lt r.isLt)
  unfold tok
  simp only [hr]

/-! ## The norm of the half's input -/

theorem ref_ms : val_main_v6 (F := Ideal) x3 (ix2 r 0) = ms (fun x => x3 (ix2 r x)) := by
  rw [val_main_v6_apply, val_main_v5_apply, val_main_v4_apply, val_main_v3_apply, val_main_v2_apply, val_main_v1_apply, val_main_cst_apply, val_main_cst_0_apply, val_main_cst_1_apply, sum0]
  refine congrArg (fun s => Ideal.div s _ + _) (Finset.sum_congr rfl fun k _ => ?_)
  rw [val_main_v0_apply]
  have e : idx_main_v1 (idx_main_v2 (ix2 r 0)) k = ix2 r k := funext fun b => Fin.ext (by
    match b with
    | ⟨0, _⟩ => rfl
    | ⟨1, _⟩ => rfl)
  rw [e]
  rfl

theorem ref_rms : val_main_v7 (F := Ideal) x3 (ix2 r 0) = rms (fun x => x3 (ix2 r x)) := by
  rw [val_main_v7_apply, ref_ms]
  rfl

theorem ref_v10 : val_main_v10 (F := Ideal) x3 (ix2 r 0)
    = Ideal.ofBits .f32 0xBF000000#32 * Ideal.div (rms (fun x => x3 (ix2 r x))) (ms (fun x => x3 (ix2 r x))) := by
  rw [val_main_v10_apply, val_main_v9_apply, val_main_cst_2_apply, val_main_v8_apply, ref_ms, ref_rms]
  rfl

theorem ref_v12 : val_main_v12 (F := Ideal) x3 (ix2 r x) = x3 (ix2 r x) * rms (fun x => x3 (ix2 r x)) := by
  have e : idx_main_v11 (ix2 r x) = ix2 r 0 := funext fun b => Fin.ext (by
    match b with
    | ⟨0, _⟩ => rfl
    | ⟨1, _⟩ => rfl)
  rw [val_main_v12_apply, val_main_v11_apply, e, ref_rms]
  rfl

/-! ## The gradient of the normed rows -/

/-- The `n`-th term of a row's product with the weights of all devices. -/
def term (n : ℕ) : EReal :=
  x0 (ix2 r (⟨n % 5632, by omega⟩ : Fin 5632)) * x1 (ix3 (⟨n / 1408 % 4, by omega⟩ : Fin 4) x (⟨n % 1408, by omega⟩ : Fin 1408))

theorem ref_dn : val_main_v20 (F := Ideal) x0 x1 (ix2 r x) = (tok x0 x2 x3 r.val).dn (blkW x1) x := by
  rw [val_main_v20_apply]
  refine (Finset.sum_congr rfl (g := fun k : Fin 5632 => term x0 x1 r x k.val) fun k _ => ?_).trans ?_
  · rw [val_main_v19_apply, val_main_v17_apply, val_main_v16_apply, val_main_v15_apply]
    refine congrArg₂ (· * ·) (congrArg x0 (funext fun b => Fin.ext ?_)) (congrArg x1 (funext fun b => Fin.ext ?_))
    · match b with
      | ⟨0, _⟩ => rfl
      | ⟨1, _⟩ => show k.val = k.val % 5632; omega
    · match b with
      | ⟨0, _⟩ => show (x.val * 5632 + k.val) / 1408 % 4 = k.val / 1408 % 4; omega
      | ⟨1, _⟩ => show (x.val * 5632 + k.val) / 5632 = x.val; omega
      | ⟨2, _⟩ => show (x.val * 5632 + k.val) % 1408 = k.val % 1408; omega
  · refine (sum_shards (term x0 x1 r x)).trans ?_
    unfold Row.dn
    rw [tok_a]
    refine congrArg₂ (· + ·) (congrArg₂ (· + ·) (congrArg₂ (· + ·) ?_ ?_) ?_) ?_
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (0 * 1408 + k.val) % 5632 = 0 * 1408 + k.val; omega
      · show (0 * 1408 + k.val) / 1408 % 4 = 0; omega
      · show (0 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (1 * 1408 + k.val) % 5632 = 1 * 1408 + k.val; omega
      · show (1 * 1408 + k.val) / 1408 % 4 = 1; omega
      · show (1 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (2 * 1408 + k.val) % 5632 = 2 * 1408 + k.val; omega
      · show (2 * 1408 + k.val) / 1408 % 4 = 2; omega
      · show (2 * 1408 + k.val) % 1408 = k.val; omega
    · refine Finset.sum_congr rfl fun k _ => congrArg₂ (· * ·) (congrArg (fun z => x0 (ix2 r z)) (Fin.ext ?_))
        (congrArg₂ (fun y z => x1 (ix3 y x z)) (Fin.ext ?_) (Fin.ext ?_))
      · show (3 * 1408 + k.val) % 5632 = 3 * 1408 + k.val; omega
      · show (3 * 1408 + k.val) / 1408 % 4 = 3; omega
      · show (3 * 1408 + k.val) % 1408 = k.val; omega

theorem ref_gpre (y : S1x1024.Idx) : val_main_v23 (F := Ideal) x0 x1 x3 y = outSum x0 x2 x3 (fun R => R.gpre (blkW x1)) y := by
  rw [val_main_v23_apply, val_main_v22_apply, val_main_cst_3_apply, sum0]
  refine Finset.sum_congr rfl fun r _ => ?_
  have e : idx_main_v22 (idx_main_v23 y) r = ix2 r (y 1) := funext fun b => Fin.ext (by
    match b with
    | ⟨0, _⟩ => rfl
    | ⟨1, _⟩ => show (y 0).val * 1024 + (y 1).val = (y 1).val; have h : (y 0).val < 1 := (y 0).isLt; omega)
  rw [e]
  refine (val_main_v21_apply (F := Ideal) x0 x1 x3 _).trans ?_
  refine (congrArg₂ (· * ·) (ref_v12 x3 r (y 1)) (ref_dn x0 x1 x2 x3 r (y 1))).trans ?_
  refine (mul_comm _ _).trans ?_
  exact congrArg (fun z : Fin 1024 → EReal => (tok x0 x2 x3 r.val).dn (blkW x1) (y 1) * (z (y 1) * rms z)) (tok_h x0 x2 x3 r).symm

/-! ## The gradient of the half's input -/

theorem ref_v25 : val_main_v25 (F := Ideal) x0 x1 x4 (ix2 r x) = (tok x0 x2 x3 r.val).dn (blkW x1) x * blkG x4 x := by
  have e : idx_main_v24 (ix2 r x) = ix2 0 x := funext fun b => Fin.ext (by
    match b with
    | ⟨0, _⟩ => rfl
    | ⟨1, _⟩ => rfl)
  rw [val_main_v25_apply, val_main_v24_apply, ref_dn x0 x1 x2 x3, e]
  rfl

theorem ref_v36 : val_main_v36 (F := Ideal) x0 x1 x3 x4 (ix2 r x)
    = dms (fun x => (tok x0 x2 x3 r.val).dn (blkW x1) x * blkG x4 x) (fun x => x3 (ix2 r x)) := by
  rw [val_main_v36_apply, val_main_v35_apply, val_main_cst_6_apply, sum0, Fin.sum_univ_one]
  have e : idx_main_v35 (idx_main_v36 (ix2 r x)) 0 = ix2 r 0 := funext fun b => Fin.ext (by
    match b with
    | ⟨0, _⟩ => rfl
    | ⟨1, _⟩ => rfl)
  rw [e, val_main_v34_apply, val_main_v33_apply, val_main_cst_5_apply, val_main_v32_apply, ref_v10, val_main_v28_apply, val_main_v27_apply, val_main_cst_4_apply, sum0]
  refine congrArg (fun s => Ideal.div (s * _) _) (Finset.sum_congr rfl fun k _ => ?_)
  have e' : idx_main_v27 (idx_main_v28 (ix2 r 0)) k = ix2 r k := funext fun b => Fin.ext (by
    match b with
    | ⟨0, _⟩ => show r.val * 1 + 0 = r.val; omega
    | ⟨1, _⟩ => rfl)
  rw [e', val_main_v26_apply, ref_v25 x0 x1 x2 x3 x4]
  rfl

theorem ref_v40 : val_main_v40 (F := Ideal) x0 x1 x2 x3 x4 (ix2 r x)
    = (tok x0 x2 x3 r.val).di x + rback (fun x => (tok x0 x2 x3 r.val).dn (blkW x1) x * blkG x4 x) (tok x0 x2 x3 r.val).h x := by
  have e : idx_main_v29 (ix2 r x) = ix2 r 0 := funext fun b => Fin.ext (by
    match b with
    | ⟨0, _⟩ => rfl
    | ⟨1, _⟩ => rfl)
  rw [val_main_v40_apply, val_main_v39_apply, val_main_v38_apply, val_main_v37_apply, val_main_v31_apply, val_main_v30_apply, val_main_v29_apply, e, ref_rms, ref_v36 x0 x1 x2 x3 x4, ref_v25 x0 x1 x2 x3 x4, tok_di, tok_h]
  unfold rback
  refine (add_assoc (G := EReal) _ _ _).trans ((add_assoc (G := EReal) _ _ _).trans (congrArg _ (add_assoc (G := EReal) _ _ _).symm))

/-! ## On real operands -/

variable (h0 : ∀ i, ∃ a : ℝ, x0 i = ((a : ℝ) : EReal)) (h1 : ∀ i, ∃ a : ℝ, x1 i = ((a : ℝ) : EReal))
  (h3 : ∀ i, ∃ a : ℝ, x3 i = ((a : ℝ) : EReal)) (h4 : ∀ i, ∃ a : ℝ, x4 i = ((a : ℝ) : EReal))

include h0 h1 h3 h4

theorem ref_dh_at : val_main_v40 (F := Ideal) x0 x1 x2 x3 x4 (ix2 r x) = (tok x0 x2 x3 r.val).dh (blkW x1) (blkG x4) x :=
  (ref_v40 x0 x1 x2 x3 x4 r x).trans (dh_eq (fun _ _ => h0 _) (fun _ _ _ => h1 _) (fun _ => h3 _) (fun _ => h4 _) x)

theorem ref_dh : val_main_v40 (F := Ideal) x0 x1 x2 x3 x4 = outDh x0 x1 x2 x3 x4 := by
  funext i
  rw [congrArg (val_main_v40 (F := Ideal) x0 x1 x2 x3 x4) (eq_ix2 (n0 := 4096) (n1 := 1024) i)]
  exact ref_dh_at x0 x1 x2 x3 x4 (i 0) (i 1) h0 h1 h3 h4

end Cert.Proof.First

end
-- ==== Proof.Ffn.FirstAgree.lean ====
/- The gradients of the first half's norm are what the reference's differentiation gives, on real operands. -/
module

public import proofs.«01_k».proof.Defs
public import proofs.«01_k».proof.Proof.Band.Finite
public import proofs.«01_k».proof.Proof.Ffn.FirstRef

@[expose] public section

set_option maxRecDepth 16384

noncomputable section

namespace Cert.Proof.First

open Cert.KernelFirstIdeal Idealize.ShloMosaic Idealize.ShloMosaic.TcCoe Idealize.SL.Sem Cert.ReferenceFirstIdeal.Read
open Cert.Proof.Norms (Row)

section

variable [Cert.Pre_first_finite.Facts]

/-- What the precondition says: every operand is a real number. -/
theorem real_of (x0 : FVec Ideal S4096x5632 .bf16) (x1 : FVec Ideal S4x1024x1408 .bf16) (x2 x3 : FVec Ideal S4096x1024 .f32)
    (x4 : FVec Ideal S1x1024 .f32)
    (h : Cert.Pre_first_finite.fn (F := Ideal) x0 x1 x2 x3 x4 = fun _ => 1#1) :
    (∀ i, ∃ a : ℝ, x0 i = ((a : ℝ) : EReal)) ∧ (∀ i, ∃ a : ℝ, x1 i = ((a : ℝ) : EReal)) ∧ (∀ i, ∃ a : ℝ, x2 i = ((a : ℝ) : EReal))
      ∧ (∀ i, ∃ a : ℝ, x3 i = ((a : ℝ) : EReal)) ∧ (∀ i, ∃ a : ℝ, x4 i = ((a : ℝ) : EReal)) := by
  have e := congrFun h (fun a => a.elim0)
  unfold Cert.Pre_first_finite.fn Cert.Pre_first_finite.fn_part1 at e
  dsimp only at e
  obtain ⟨e, e4⟩ := Band.and_one e
  obtain ⟨e, e3⟩ := Band.and_one e
  obtain ⟨e, e2⟩ := Band.and_one e
  obtain ⟨e, e1⟩ := Band.and_one e
  obtain ⟨-, e0⟩ := Band.and_one e
  exact ⟨fun i => ⟨_, Band.all_real (s := S4096x5632) x0 _ _ _ _ _ e0 i⟩, fun i => ⟨_, Band.all_real (s := S4x1024x1408) x1 _ _ _ _ _ e1 i⟩,
    fun i => ⟨_, Band.all_real x2 _ _ _ _ _ e2 i⟩, fun i => ⟨_, Band.all_real x3 _ _ _ _ _ e3 i⟩, fun i => ⟨_, Band.all_real x4 _ _ _ _ _ e4 i⟩⟩

end

variable (m : (ℓ : Loc nD τ sig) → Buf (Elt Ideal) ℓ) (ρ : Dev nD → PrngReg)

/-- The call computes what the reference computes: from memories agreeing on the arguments, all of them real numbers, both
    run, end with equal results and leave the arguments as they were. -/
theorem agree [Cert.Pre_first_finite.Facts] (m' : (ℓ : Loc Cert.ReferenceFirstIdeal.nD Cert.ReferenceFirstIdeal.τ Cert.ReferenceFirstIdeal.sig) → Buf (Elt Ideal) ℓ)
    (ρ' : Dev Cert.ReferenceFirstIdeal.nD → PrngReg) (hp : Cert.Pre_KernelFirstIdeal_first_finite m)
    (h : ∀ c : Dev nD,
      m' ((c.tc : Thread Cert.ReferenceFirstIdeal.nD Cert.ReferenceFirstIdeal.τ).loc Cert.ReferenceFirstIdeal.main_arg0) = m ((c.tc : Thread nD τ).loc main_arg0)
      ∧ m' ((c.tc : Thread Cert.ReferenceFirstIdeal.nD Cert.ReferenceFirstIdeal.τ).loc Cert.ReferenceFirstIdeal.main_arg1) = m ((c.tc : Thread nD τ).loc main_arg1)
      ∧ m' ((c.tc : Thread Cert.ReferenceFirstIdeal.nD Cert.ReferenceFirstIdeal.τ).loc Cert.ReferenceFirstIdeal.main_arg2) = m ((c.tc : Thread nD τ).loc main_arg2)
      ∧ m' ((c.tc : Thread Cert.ReferenceFirstIdeal.nD Cert.ReferenceFirstIdeal.τ).loc Cert.ReferenceFirstIdeal.main_arg3) = m ((c.tc : Thread nD τ).loc main_arg3)
      ∧ m' ((c.tc : Thread Cert.ReferenceFirstIdeal.nD Cert.ReferenceFirstIdeal.τ).loc Cert.ReferenceFirstIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, ρ⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.ReferenceFirstIdeal.defs (F := Ideal)) (onTc (τ := Cert.ReferenceFirstIdeal.τ) (Cert.ReferenceFirstIdeal.main (F := Ideal)))
          ⟨m', fun _ => 0, ρ'⟩ (fun r => ∀ c : Dev Cert.ReferenceFirstIdeal.nD,
          r.2.mem ((c.tc : Thread Cert.ReferenceFirstIdeal.nD Cert.ReferenceFirstIdeal.τ).loc Cert.ReferenceFirstIdeal.main_v40) = v0 c
          ∧ r.2.mem ((c.tc : Thread Cert.ReferenceFirstIdeal.nD Cert.ReferenceFirstIdeal.τ).loc Cert.ReferenceFirstIdeal.main_v23) = v1 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)) := by
  refine ⟨fun c => outDh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => outSum (m ((c.tc : Thread nD τ).loc main_arg0)) (m ((c.tc : Thread nD τ).loc main_arg2)) (m ((c.tc : Thread nD τ).loc main_arg3)) (fun R => R.gpre (blkW (m ((c.tc : Thread nD τ).loc main_arg1)))),
    (θ_run (defs (F := Ideal)) _ _).mono (fun _ k c => ⟨(k c).1.trans (final5 m c), (k c).2.1.trans (final6 m c), (k c).2.2⟩)
      (Cert.KernelFirstIdeal.Value.run_blocks m ρ),
    (θ_run (Cert.ReferenceFirstIdeal.defs (F := Ideal)) _ _).mono (fun _ k c => ?_) (Cert.ReferenceFirstIdeal.Value.run m' ρ')⟩
  obtain ⟨h0, h1, -, h3, h4⟩ := real_of _ _ _ _ _ (hp c)
  refine ⟨(k c).1.trans ?_, (k c).2.1.trans ?_, (k c).2.2⟩
  · rw [val_main_v40_eq (F := Ideal), (h c).1, (h c).2.1, (h c).2.2.1, (h c).2.2.2.1, (h c).2.2.2.2]
    exact ref_dh _ _ _ _ _ h0 h1 h3 h4
  · rw [val_main_v23_eq (F := Ideal), (h c).1, (h c).2.1, (h c).2.2.2.1]
    exact funext fun y => ref_gpre _ _ _ _ y

end Cert.Proof.First

end
-- ==== Proof.Adam.Formulas.lean ====
/- One step of AdamW of a weight, element by element, and that the host's operations compute it at any shape. -/
module

public import proofs.«01_k».proof.Proof.Gen.ReferenceLargeIdeal
public import Idealize.ShloMosaic.Lib.StableHlo.Run
public import Idealize.ShloMosaic.Lib.Pointwise

@[expose] public section

noncomputable section

namespace Cert.Proof.Adam

open Idealize.ShloMosaic Idealize.ShloMosaic.StableHlo

variable {s : Shape} (w g m v : FVec Ideal s .f32)

/-- The first moment after the step. -/
def mom : FVec Ideal s .f32 :=
  fun i => (Ideal.ofBits .f32 0x3F666666#32 * m i + Ideal.ofBits .f32 0x3DCCCCCD#32 * g i : EReal)

/-- The second moment after the step. -/
def vel : FVec Ideal s .f32 :=
  fun i => (Ideal.ofBits .f32 0x3F7FBE77#32 * v i + Ideal.ofBits .f32 0x3A83126F#32 * (g i * g i) : EReal)

/-- What the step adds to the weight: the first moment over the root of the second, both corrected for their start, and the
    decay of the weight, times the rate. -/
def step : FVec Ideal s .f32 := fun i =>
  (Ideal.ofBits .f32 0xBA83126F#32
    * (Ideal.div (Ideal.div (mom g m i) (Ideal.ofBits .f32 0x3F26BD02#32))
        (Ideal.sqrt (Ideal.div (vel g v i) (Ideal.ofBits .f32 0x3C231ACC#32)) + Ideal.ofBits .f32 0x322BCC77#32)
      + Ideal.ofBits .f32 0x3C23D70A#32 * w i) : EReal)

variable (hb : Shape.BroadcastsInDim ⟨0, ![]⟩ s (![] : Fin 0 → Fin s.rank))

theorem host_mom :
    addf (mulf (broadcastInDim s ![] hb (constant (F := Ideal) ⟨0, ![]⟩ .f32 0x3F666666#32)) m)
      (mulf (broadcastInDim s ![] hb (constant (F := Ideal) ⟨0, ![]⟩ .f32 0x3DCCCCCD#32)) g) = mom g m := rfl

theorem host_vel :
    addf (mulf (broadcastInDim s ![] hb (constant (F := Ideal) ⟨0, ![]⟩ .f32 0x3F7FBE77#32)) v)
      (mulf (broadcastInDim s ![] hb (constant (F := Ideal) ⟨0, ![]⟩ .f32 0x3A83126F#32)) (mulf g g)) = vel g v := rfl

theorem host_step :
    mulf (broadcastInDim s ![] hb (constant (F := Ideal) ⟨0, ![]⟩ .f32 0xBA83126F#32))
      (addf (Host.divf
        (Host.divf
          (addf (mulf (broadcastInDim s ![] hb (constant (F := Ideal) ⟨0, ![]⟩ .f32 0x3F666666#32)) m)
            (mulf (broadcastInDim s ![] hb (constant (F := Ideal) ⟨0, ![]⟩ .f32 0x3DCCCCCD#32)) g))
          (broadcastInDim s ![] hb (constant (F := Ideal) ⟨0, ![]⟩ .f32 0x3F26BD02#32)))
        (addf (Host.sqrt (Host.divf
            (addf (mulf (broadcastInDim s ![] hb (constant (F := Ideal) ⟨0, ![]⟩ .f32 0x3F7FBE77#32)) v)
              (mulf (broadcastInDim s ![] hb (constant (F := Ideal) ⟨0, ![]⟩ .f32 0x3A83126F#32)) (mulf g g)))
            (broadcastInDim s ![] hb (constant (F := Ideal) ⟨0, ![]⟩ .f32 0x3C231ACC#32))))
          (broadcastInDim s ![] hb (constant (F := Ideal) ⟨0, ![]⟩ .f32 0x322BCC77#32))))
        (mulf (broadcastInDim s ![] hb (constant (F := Ideal) ⟨0, ![]⟩ .f32 0x3C23D70A#32)) w)) = step w g m v := rfl

variable {w g m v} {w' g' m' v' : FVec Ideal s .f32}

theorem mom_congr (hg : g = g') (hm : m = m') : mom g m = mom g' m' := by rw [hg, hm]

theorem vel_congr (hg : g = g') (hv : v = v') : vel g v = vel g' v' := by rw [hg, hv]

theorem step_congr (hw : w = w') (hg : g = g') (hm : m = m') (hv : v = v') : step w g m v = step w' g' m' v' := by
  rw [hw, hg, hm, hv]

end Cert.Proof.Adam

end
-- ==== Proof.Adam.Large.lean ====
/- The optimiser's step of two of the large weights, eight blocks of rows each. -/
module

public import proofs.«01_k».proof.Defs
public import proofs.«01_k».proof.Proof.Adam.Formulas
public import proofs.«01_k».proof.Proof.Gen.KernelLargeIdeal.Value
public import proofs.«01_k».proof.Proof.Gen.ReferenceLargeIdeal.Run

@[expose] public section

set_option maxRecDepth 16384

noncomputable section

namespace Cert.Proof.Adam

open Cert.KernelLargeIdeal Cert.KernelLargeIdeal.Gen Cert.KernelLargeIdeal.Value Idealize.ShloMosaic Idealize.ShloMosaic.TcCoe
  Idealize.SL.Sem

/-- An argument as launched. -/
abbrev ALarge (m : (ℓ : Loc nD τ sig) → Buf (Elt Ideal) ℓ) (r : Ref sig .tc) (c : Dev nD) : Buf (Elt Ideal) ((c.tc : Thread nD τ).loc r) :=
  m ((c.tc : Thread nD τ).loc r)

theorem hz2 : (![0, 0] : Fin 2 → Nat) = fun _ => 0 := funext fun a => by fin_cases a <;> rfl

variable (m : (ℓ : Loc nD τ sig) → Buf (Elt Ideal) ℓ)

/-! Each window's block at a point is that point's rows of its array, so a block of a result is the step of the same blocks of
    the arguments; and the points' rows are all the rows. -/

theorem at8 : ∀ t : Fin cfg0.N, win0_8.index t (0 : Fin 2) = t.val ∧ win0_8.index t (1 : Fin 2) = 0 :=
  (by decide +kernel : ∀ t : Fin grid0.N, _)

theorem final8 (c : Dev nD) : (dats m 0 c).arrAt 8 cfg0.N = ALarge m main_arg2 c := by
  refine (dats m 0 c).arrAt_eq_of_cover 8 (V m c main_arg2) (fun t _ => ?_) (fun i => ?_)
  · rw [flushed8]; unfold out0_8; rw [View.canon_unit_zero hz2, View.ld_unit_zero hz2]; rfl
  · have h0 : (i 0).val < 1024 := (i 0).isLt
    have h1 : (i 1).val < 1408 := (i 1).isLt
    have hN : cfg0.N = 8 := N_0
    refine ⟨⟨(i 0).val / 128, by omega⟩, flush0_8 _, ?_⟩
    obtain ⟨e0, e1⟩ := at8 ⟨(i 0).val / 128, by omega⟩
    refine (Finset.ext_iff.mp (View.set_slice_whole main_v0_0 (win0_8.rect _)) i).mpr ((Rect.mem_set_unit ..).mpr fun a => ?_)
    match a with
    | ⟨0, _⟩ => show win0_8.index _ (0 : Fin 2) * 128 ≤ (i 0).val ∧ (i 0).val < win0_8.index _ (0 : Fin 2) * 128 + 128; rw [e0]; dsimp only; omega
    | ⟨1, _⟩ => show win0_8.index _ (1 : Fin 2) * 1408 ≤ (i 1).val ∧ (i 1).val < win0_8.index _ (1 : Fin 2) * 1408 + 1408; rw [e1]; dsimp only; omega

theorem at9 : ∀ t : Fin cfg0.N, win0_9.index t (0 : Fin 2) = t.val ∧ win0_9.index t (1 : Fin 2) = 0 :=
  (by decide +kernel : ∀ t : Fin grid0.N, _)

theorem final9 (c : Dev nD) : (dats m 0 c).arrAt 9 cfg0.N = ALarge m main_arg3 c := by
  refine (dats m 0 c).arrAt_eq_of_cover 9 (V m c main_arg3) (fun t _ => ?_) (fun i => ?_)
  · rw [flushed9]; unfold out0_9; rw [View.canon_unit_zero hz2, View.ld_unit_zero hz2]; rfl
  · have h0 : (i 0).val < 704 := (i 0).isLt
    have h1 : (i 1).val < 1024 := (i 1).isLt
    have hN : cfg0.N = 8 := N_0
    refine ⟨⟨(i 0).val / 88, by omega⟩, flush0_9 _, ?_⟩
    obtain ⟨e0, e1⟩ := at9 ⟨(i 0).val / 88, by omega⟩
    refine (Finset.ext_iff.mp (View.set_slice_whole main_v0_1 (win0_9.rect _)) i).mpr ((Rect.mem_set_unit ..).mpr fun a => ?_)
    match a with
    | ⟨0, _⟩ => show win0_9.index _ (0 : Fin 2) * 88 ≤ (i 0).val ∧ (i 0).val < win0_9.index _ (0 : Fin 2) * 88 + 88; rw [e0]; dsimp only; omega
    | ⟨1, _⟩ => show win0_9.index _ (1 : Fin 2) * 1024 ≤ (i 1).val ∧ (i 1).val < win0_9.index _ (1 : Fin 2) * 1024 + 1024; rw [e1]; dsimp only; omega

theorem at10 : ∀ t : Fin cfg0.N, win0_10.index t (0 : Fin 2) = t.val ∧ win0_10.index t (1 : Fin 2) = 0 :=
  (by decide +kernel : ∀ t : Fin grid0.N, _)

theorem final10 (c : Dev nD) : (dats m 0 c).arrAt 10 cfg0.N = (step (ALarge m main_arg0 c) (ALarge m main_arg2 c) (ALarge m main_arg4 c) (ALarge m main_arg6 c)) := by
  refine (dats m 0 c).arrAt_eq_of_cover 10 (step (V m c main_arg0) (V m c main_arg2) (V m c main_arg4) (V m c main_arg6)) (fun t _ => ?_) (fun i => ?_)
  · rw [flushed10]; unfold out0_10; rw [View.canon_unit_zero hz2, View.ld_unit_zero hz2, View.ld_unit_zero hz2, View.ld_unit_zero hz2, View.ld_unit_zero hz2]; rfl
  · have h0 : (i 0).val < 1024 := (i 0).isLt
    have h1 : (i 1).val < 1408 := (i 1).isLt
    have hN : cfg0.N = 8 := N_0
    refine ⟨⟨(i 0).val / 128, by omega⟩, flush0_10 _, ?_⟩
    obtain ⟨e0, e1⟩ := at10 ⟨(i 0).val / 128, by omega⟩
    refine (Finset.ext_iff.mp (View.set_slice_whole main_v0_2 (win0_10.rect _)) i).mpr ((Rect.mem_set_unit ..).mpr fun a => ?_)
    match a with
    | ⟨0, _⟩ => show win0_10.index _ (0 : Fin 2) * 128 ≤ (i 0).val ∧ (i 0).val < win0_10.index _ (0 : Fin 2) * 128 + 128; rw [e0]; dsimp only; omega
    | ⟨1, _⟩ => show win0_10.index _ (1 : Fin 2) * 1408 ≤ (i 1).val ∧ (i 1).val < win0_10.index _ (1 : Fin 2) * 1408 + 1408; rw [e1]; dsimp only; omega

theorem at11 : ∀ t : Fin cfg0.N, win0_11.index t (0 : Fin 2) = t.val ∧ win0_11.index t (1 : Fin 2) = 0 :=
  (by decide +kernel : ∀ t : Fin grid0.N, _)

theorem final11 (c : Dev nD) : (dats m 0 c).arrAt 11 cfg0.N = (step (ALarge m main_arg1 c) (ALarge m main_arg3 c) (ALarge m main_arg5 c) (ALarge m main_arg7 c)) := by
  refine (dats m 0 c).arrAt_eq_of_cover 11 (step (V m c main_arg1) (V m c main_arg3) (V m c main_arg5) (V m c main_arg7)) (fun t _ => ?_) (fun i => ?_)
  · rw [flushed11]; unfold out0_11; rw [View.canon_unit_zero hz2, View.ld_unit_zero hz2, View.ld_unit_zero hz2, View.ld_unit_zero hz2, View.ld_unit_zero hz2]; rfl
  · have h0 : (i 0).val < 704 := (i 0).isLt
    have h1 : (i 1).val < 1024 := (i 1).isLt
    have hN : cfg0.N = 8 := N_0
    refine ⟨⟨(i 0).val / 88, by omega⟩, flush0_11 _, ?_⟩
    obtain ⟨e0, e1⟩ := at11 ⟨(i 0).val / 88, by omega⟩
    refine (Finset.ext_iff.mp (View.set_slice_whole main_v0_3 (win0_11.rect _)) i).mpr ((Rect.mem_set_unit ..).mpr fun a => ?_)
    match a with
    | ⟨0, _⟩ => show win0_11.index _ (0 : Fin 2) * 88 ≤ (i 0).val ∧ (i 0).val < win0_11.index _ (0 : Fin 2) * 88 + 88; rw [e0]; dsimp only; omega
    | ⟨1, _⟩ => show win0_11.index _ (1 : Fin 2) * 1024 ≤ (i 1).val ∧ (i 1).val < win0_11.index _ (1 : Fin 2) * 1024 + 1024; rw [e1]; dsimp only; omega

theorem at12 : ∀ t : Fin cfg0.N, win0_12.index t (0 : Fin 2) = t.val ∧ win0_12.index t (1 : Fin 2) = 0 :=
  (by decide +kernel : ∀ t : Fin grid0.N, _)

theorem final12 (c : Dev nD) : (dats m 0 c).arrAt 12 cfg0.N = (mom (ALarge m main_arg2 c) (ALarge m main_arg4 c)) := by
  refine (dats m 0 c).arrAt_eq_of_cover 12 (mom (V m c main_arg2) (V m c main_arg4)) (fun t _ => ?_) (fun i => ?_)
  · rw [flushed12]; unfold out0_12; rw [View.canon_unit_zero hz2, View.ld_unit_zero hz2, View.ld_unit_zero hz2]; rfl
  · have h0 : (i 0).val < 1024 := (i 0).isLt
    have h1 : (i 1).val < 1408 := (i 1).isLt
    have hN : cfg0.N = 8 := N_0
    refine ⟨⟨(i 0).val / 128, by omega⟩, flush0_12 _, ?_⟩
    obtain ⟨e0, e1⟩ := at12 ⟨(i 0).val / 128, by omega⟩
    refine (Finset.ext_iff.mp (View.set_slice_whole main_v0_4 (win0_12.rect _)) i).mpr ((Rect.mem_set_unit ..).mpr fun a => ?_)
    match a with
    | ⟨0, _⟩ => show win0_12.index _ (0 : Fin 2) * 128 ≤ (i 0).val ∧ (i 0).val < win0_12.index _ (0 : Fin 2) * 128 + 128; rw [e0]; dsimp only; omega
    | ⟨1, _⟩ => show win0_12.index _ (1 : Fin 2) * 1408 ≤ (i 1).val ∧ (i 1).val < win0_12.index _ (1 : Fin 2) * 1408 + 1408; rw [e1]; dsimp only; omega

theorem at13 : ∀ t : Fin cfg0.N, win0_13.index t (0 : Fin 2) = t.val ∧ win0_13.index t (1 : Fin 2) = 0 :=
  (by decide +kernel : ∀ t : Fin grid0.N, _)

theorem final13 (c : Dev nD) : (dats m 0 c).arrAt 13 cfg0.N = (mom (ALarge m main_arg3 c) (ALarge m main_arg5 c)) := by
  refine (dats m 0 c).arrAt_eq_of_cover 13 (mom (V m c main_arg3) (V m c main_arg5)) (fun t _ => ?_) (fun i => ?_)
  · rw [flushed13]; unfold out0_13; rw [View.canon_unit_zero hz2, View.ld_unit_zero hz2, View.ld_unit_zero hz2]; rfl
  · have h0 : (i 0).val < 704 := (i 0).isLt
    have h1 : (i 1).val < 1024 := (i 1).isLt
    have hN : cfg0.N = 8 := N_0
    refine ⟨⟨(i 0).val / 88, by omega⟩, flush0_13 _, ?_⟩
    obtain ⟨e0, e1⟩ := at13 ⟨(i 0).val / 88, by omega⟩
    refine (Finset.ext_iff.mp (View.set_slice_whole main_v0_5 (win0_13.rect _)) i).mpr ((Rect.mem_set_unit ..).mpr fun a => ?_)
    match a with
    | ⟨0, _⟩ => show win0_13.index _ (0 : Fin 2) * 88 ≤ (i 0).val ∧ (i 0).val < win0_13.index _ (0 : Fin 2) * 88 + 88; rw [e0]; dsimp only; omega
    | ⟨1, _⟩ => show win0_13.index _ (1 : Fin 2) * 1024 ≤ (i 1).val ∧ (i 1).val < win0_13.index _ (1 : Fin 2) * 1024 + 1024; rw [e1]; dsimp only; omega

theorem at14 : ∀ t : Fin cfg0.N, win0_14.index t (0 : Fin 2) = t.val ∧ win0_14.index t (1 : Fin 2) = 0 :=
  (by decide +kernel : ∀ t : Fin grid0.N, _)

theorem final14 (c : Dev nD) : (dats m 0 c).arrAt 14 cfg0.N = (vel (ALarge m main_arg2 c) (ALarge m main_arg6 c)) := by
  refine (dats m 0 c).arrAt_eq_of_cover 14 (vel (V m c main_arg2) (V m c main_arg6)) (fun t _ => ?_) (fun i => ?_)
  · rw [flushed14]; unfold out0_14; rw [View.canon_unit_zero hz2, View.ld_unit_zero hz2, View.ld_unit_zero hz2]; rfl
  · have h0 : (i 0).val < 1024 := (i 0).isLt
    have h1 : (i 1).val < 1408 := (i 1).isLt
    have hN : cfg0.N = 8 := N_0
    refine ⟨⟨(i 0).val / 128, by omega⟩, flush0_14 _, ?_⟩
    obtain ⟨e0, e1⟩ := at14 ⟨(i 0).val / 128, by omega⟩
    refine (Finset.ext_iff.mp (View.set_slice_whole main_v0_6 (win0_14.rect _)) i).mpr ((Rect.mem_set_unit ..).mpr fun a => ?_)
    match a with
    | ⟨0, _⟩ => show win0_14.index _ (0 : Fin 2) * 128 ≤ (i 0).val ∧ (i 0).val < win0_14.index _ (0 : Fin 2) * 128 + 128; rw [e0]; dsimp only; omega
    | ⟨1, _⟩ => show win0_14.index _ (1 : Fin 2) * 1408 ≤ (i 1).val ∧ (i 1).val < win0_14.index _ (1 : Fin 2) * 1408 + 1408; rw [e1]; dsimp only; omega

theorem at15 : ∀ t : Fin cfg0.N, win0_15.index t (0 : Fin 2) = t.val ∧ win0_15.index t (1 : Fin 2) = 0 :=
  (by decide +kernel : ∀ t : Fin grid0.N, _)

theorem final15 (c : Dev nD) : (dats m 0 c).arrAt 15 cfg0.N = (vel (ALarge m main_arg3 c) (ALarge m main_arg7 c)) := by
  refine (dats m 0 c).arrAt_eq_of_cover 15 (vel (V m c main_arg3) (V m c main_arg7)) (fun t _ => ?_) (fun i => ?_)
  · rw [flushed15]; unfold out0_15; rw [View.canon_unit_zero hz2, View.ld_unit_zero hz2, View.ld_unit_zero hz2]; rfl
  · have h0 : (i 0).val < 704 := (i 0).isLt
    have h1 : (i 1).val < 1024 := (i 1).isLt
    have hN : cfg0.N = 8 := N_0
    refine ⟨⟨(i 0).val / 88, by omega⟩, flush0_15 _, ?_⟩
    obtain ⟨e0, e1⟩ := at15 ⟨(i 0).val / 88, by omega⟩
    refine (Finset.ext_iff.mp (View.set_slice_whole main_v0_7 (win0_15.rect _)) i).mpr ((Rect.mem_set_unit ..).mpr fun a => ?_)
    match a with
    | ⟨0, _⟩ => show win0_15.index _ (0 : Fin 2) * 88 ≤ (i 0).val ∧ (i 0).val < win0_15.index _ (0 : Fin 2) * 88 + 88; rw [e0]; dsimp only; omega
    | ⟨1, _⟩ => show win0_15.index _ (1 : Fin 2) * 1024 ≤ (i 1).val ∧ (i 1).val < win0_15.index _ (1 : Fin 2) * 1024 + 1024; rw [e1]; dsimp only; omega

/-- The step of the large weights is the reference's. -/
theorem large : algebraic_KernelLargeIdeal_ReferenceLargeIdeal (hKernelLargeIdeal := Cert.KernelLargeIdeal.Gen.facts)
    (hReferenceLargeIdeal := Cert.ReferenceLargeIdeal.Gen.facts) := by
  intro m g m' g' _ h
  refine ⟨
    ALarge m main_arg2, ALarge m main_arg3,
    fun c => step (ALarge m main_arg0 c) (ALarge m main_arg2 c) (ALarge m main_arg4 c) (ALarge m main_arg6 c),
    fun c => step (ALarge m main_arg1 c) (ALarge m main_arg3 c) (ALarge m main_arg5 c) (ALarge m main_arg7 c),
    fun c => mom (ALarge m main_arg2 c) (ALarge m main_arg4 c), fun c => mom (ALarge m main_arg3 c) (ALarge m main_arg5 c),
    fun c => vel (ALarge m main_arg2 c) (ALarge m main_arg6 c), fun c => vel (ALarge m main_arg3 c) (ALarge m main_arg7 c),
    (θ_run (defs (F := Ideal)) _ _).mono (fun r k c => ?_) (run_blocks m g),
    (θ_run (Cert.ReferenceLargeIdeal.defs (F := Ideal)) _ _).mono (fun r k c => ?_) (Cert.ReferenceLargeIdeal.Value.run m' g')⟩
  · obtain ⟨
      k0, k1, k2, k3, k4, k5, k6, k7, k⟩ := k c
    exact ⟨
      k0.trans (final8 m c), k1.trans (final9 m c), k2.trans (final10 m c), k3.trans (final11 m c), k4.trans (final12 m c),
      k5.trans (final13 m c), k6.trans (final14 m c), k7.trans (final15 m c), k⟩
  · obtain ⟨
      h0, h1, h2, h3, h4, h5, h6, h7⟩ := h c
    obtain ⟨
      k0, k1, k2, k3, k4, k5, k6, k7, k⟩ := k c
    exact ⟨
      k0.trans h2, k1.trans h3, k2.trans ((host_step _ _ _ _ _).trans (step_congr h0 h2 h4 h6)),
      k3.trans ((host_step _ _ _ _ _).trans (step_congr h1 h3 h5 h7)), k4.trans ((host_mom _ _ _).trans (mom_congr h2 h4)),
      k5.trans ((host_mom _ _ _).trans (mom_congr h3 h5)), k6.trans ((host_vel _ _ _).trans (vel_congr h2 h6)),
      k7.trans ((host_vel _ _ _).trans (vel_congr h3 h7)), k⟩

/-- The reference of the large weights' step runs, keeps its arguments and ends at rest. -/
theorem largeFrame : quiescent_ReferenceLargeIdeal (hReferenceLargeIdeal := Cert.ReferenceLargeIdeal.Gen.facts) := fun m g _ =>
  (θ_run (Cert.ReferenceLargeIdeal.defs (F := Ideal)) _ _).mono (fun _ h => ⟨fun c =>
    (h c).2.2.2.2.2.2.2.2, funext fun p => by
    rcases p with ⟨_, s | s⟩ <;> exact s.elim0⟩) (Cert.ReferenceLargeIdeal.Value.run m g)

end Cert.Proof.Adam

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelUpIdeal.Value
public import proofs.«01_k».proof.Proof.Gen.KernelDownIdeal.Value
public import proofs.«01_k».proof.Proof.Gen.ReferenceUpIdeal.Run
public import proofs.«01_k».proof.Proof.Gen.ReferenceUpIdeal.Read
public import proofs.«01_k».proof.Proof.Gen.ReferenceDownIdeal.Run
public import proofs.«01_k».proof.Proof.Gen.ReferenceDownIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelGate.Frame
public import proofs.«01_k».proof.Proof.Gen.KernelGateIdeal.Frame
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gen.KernelResid.Frame
public import proofs.«01_k».proof.Proof.Gen.KernelResidIdeal.Frame
public import proofs.«01_k».proof.Proof.Gen.KernelResidIdeal.Value
public import proofs.«01_k».proof.Proof.Gen.ReferenceResidIdeal.Run
public import proofs.«01_k».proof.Proof.Gen.ReferenceResidIdeal.Read
public import proofs.«01_k».proof.Proof.Gen.KernelNorms.Frame
public import proofs.«01_k».proof.Proof.Gen.KernelNormsIdeal.Frame
public import proofs.«01_k».proof.Proof.Gen.KernelNormsIdeal.Value
public import proofs.«01_k».proof.Proof.Gen.ReferenceNormsIdeal.Run
public import proofs.«01_k».proof.Proof.Gen.ReferenceNormsIdeal.Read
public import proofs.«01_k».proof.Proof.Gen.Pre_all_finite
public import proofs.«01_k».proof.Proof.Gen.KernelSquare.Frame
public import proofs.«01_k».proof.Proof.Gen.KernelSquareIdeal.Frame
public import proofs.«01_k».proof.Proof.Gen.KernelSquareIdeal.Value
public import proofs.«01_k».proof.Proof.Gen.ReferenceSquareIdeal.Run
public import proofs.«01_k».proof.Proof.Gen.ReferenceSquareIdeal.Read
public import proofs.«01_k».proof.Proof.Gen.KernelPle.Frame
public import proofs.«01_k».proof.Proof.Gen.KernelPleIdeal.Frame
public import proofs.«01_k».proof.Proof.Gen.KernelPleIdeal.Value
public import proofs.«01_k».proof.Proof.Gen.ReferencePleIdeal.Run
public import proofs.«01_k».proof.Proof.Gen.ReferencePleIdeal.Read
public import proofs.«01_k».proof.Proof.Gen.KernelInA.Frame
public import proofs.«01_k».proof.Proof.Gen.KernelInAIdeal.Frame
public import proofs.«01_k».proof.Proof.Gen.KernelInAIdeal.Value
public import proofs.«01_k».proof.Proof.Gen.ReferenceInAIdeal.Run
public import proofs.«01_k».proof.Proof.Gen.ReferenceInAIdeal.Read
public import proofs.«01_k».proof.Proof.Gen.KernelInB.Frame
public import proofs.«01_k».proof.Proof.Gen.KernelInBIdeal.Frame
public import proofs.«01_k».proof.Proof.Gen.KernelInBIdeal.Value
public import proofs.«01_k».proof.Proof.Gen.ReferenceInBIdeal.Run
public import proofs.«01_k».proof.Proof.Gen.ReferenceInBIdeal.Read
public import proofs.«01_k».proof.Proof.Gen.KernelMix.Frame
public import proofs.«01_k».proof.Proof.Gen.KernelMixIdeal.Frame
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Gen.KernelRowsA.Frame
public import proofs.«01_k».proof.Proof.Gen.KernelRowsAIdeal.Frame
public import proofs.«01_k».proof.Proof.Gen.KernelRowsAIdeal.Value
public import proofs.«01_k».proof.Proof.Gen.ReferenceRowsAIdeal.Run
public import proofs.«01_k».proof.Proof.Gen.ReferenceRowsAIdeal.Read
public import proofs.«01_k».proof.Proof.Gen.KernelProjA.Frame
public import proofs.«01_k».proof.Proof.Gen.KernelProjAIdeal.Frame
public import proofs.«01_k».proof.Proof.Gen.KernelProjAIdeal.Value
public import proofs.«01_k».proof.Proof.Gen.ReferenceProjAIdeal.Run
public import proofs.«01_k».proof.Proof.Gen.ReferenceProjAIdeal.Read
public import proofs.«01_k».proof.Proof.Gen.KernelFirst.Frame
public import proofs.«01_k».proof.Proof.Gen.KernelFirstIdeal.Frame
public import proofs.«01_k».proof.Proof.Gen.KernelFirstIdeal.Value
public import proofs.«01_k».proof.Proof.Gen.ReferenceFirstIdeal.Run
public import proofs.«01_k».proof.Proof.Gen.ReferenceFirstIdeal.Read
public import proofs.«01_k».proof.Proof.Gen.KernelLarge.Frame
public import proofs.«01_k».proof.Proof.Gen.KernelLargeIdeal.Frame
public import proofs.«01_k».proof.Proof.Gen.Pre_first_finite
public import proofs.«01_k».proof.Proof.RefFrames
public import proofs.«01_k».proof.Proof.UpGrad
public import proofs.«01_k».proof.Proof.DownGrad
public import proofs.«01_k».proof.Proof.Band.Agree
public import proofs.«01_k».proof.Proof.Ffn.Gate
public import proofs.«01_k».proof.Proof.Ffn.Resid
public import proofs.«01_k».proof.Proof.Ffn.NormsAgree
public import proofs.«01_k».proof.Proof.Prod.Square
public import proofs.«01_k».proof.Proof.Prod.Ple
public import proofs.«01_k».proof.Proof.Prod.InA
public import proofs.«01_k».proof.Proof.Prod.InB
public import proofs.«01_k».proof.Proof.Prod.Mix
public import proofs.«01_k».proof.Proof.Prod.RowsA
public import proofs.«01_k».proof.Proof.Prod.ProjA
public import proofs.«01_k».proof.Proof.Ffn.FirstAgree
public import proofs.«01_k».proof.Proof.Adam.Large

@[expose] public section

noncomputable section

namespace Cert.Proof

theorem claim : Cert.Claim :=
  ⟨Cert.Kernel.Gen.facts, Cert.KernelIdeal.Gen.facts, Cert.ReferenceIdeal.Gen.facts, Cert.KernelUp.Gen.facts,
    Cert.KernelUpIdeal.Gen.facts, Cert.ReferenceUpIdeal.Gen.facts, Cert.KernelDown.Gen.facts, Cert.KernelDownIdeal.Gen.facts,
    Cert.ReferenceDownIdeal.Gen.facts, Cert.KernelGate.Gen.facts, Cert.KernelGateIdeal.Gen.facts, Cert.ReferenceGateIdeal.Gen.facts,
    Cert.KernelResid.Gen.facts, Cert.KernelResidIdeal.Gen.facts, Cert.ReferenceResidIdeal.Gen.facts, Cert.KernelNorms.Gen.facts,
    Cert.KernelNormsIdeal.Gen.facts, Cert.ReferenceNormsIdeal.Gen.facts,
    Cert.KernelSquare.Gen.facts, Cert.KernelSquareIdeal.Gen.facts, Cert.ReferenceSquareIdeal.Gen.facts, Cert.KernelPle.Gen.facts, Cert.KernelPleIdeal.Gen.facts, Cert.ReferencePleIdeal.Gen.facts,
    Cert.KernelInA.Gen.facts, Cert.KernelInAIdeal.Gen.facts, Cert.ReferenceInAIdeal.Gen.facts, Cert.KernelInB.Gen.facts, Cert.KernelInBIdeal.Gen.facts, Cert.ReferenceInBIdeal.Gen.facts,
    Cert.KernelMix.Gen.facts, Cert.KernelMixIdeal.Gen.facts, Cert.ReferenceMixIdeal.Gen.facts, Cert.KernelRowsA.Gen.facts, Cert.KernelRowsAIdeal.Gen.facts, Cert.ReferenceRowsAIdeal.Gen.facts,
    Cert.KernelProjA.Gen.facts, Cert.KernelProjAIdeal.Gen.facts, Cert.ReferenceProjAIdeal.Gen.facts, Cert.KernelFirst.Gen.facts, Cert.KernelFirstIdeal.Gen.facts, Cert.ReferenceFirstIdeal.Gen.facts,
    Cert.KernelLarge.Gen.facts, Cert.KernelLargeIdeal.Gen.facts, Cert.ReferenceLargeIdeal.Gen.facts,
    Cert.Pre_finite.Gen.facts, Cert.Pre_all_finite.Gen.facts, Cert.Pre_first_finite.Gen.facts,
    fun m ρ _ => Cert.Kernel.Gen.frame m ρ, fun m ρ _ => Cert.KernelIdeal.Gen.frame m ρ,
    fun m ρ _ => Cert.KernelIdeal.Gen.frame m ρ, fun m g _ => RefFrames.band m g, fun m g _ => RefFrames.band m g,
    fun m ρ _ => Cert.KernelUp.Gen.frame m ρ, fun m ρ _ => Cert.KernelUpIdeal.Gen.frame m ρ, fun m g _ => RefFrames.up m g,
    fun m ρ _ => Cert.KernelDown.Gen.frame m ρ, fun m ρ _ => Cert.KernelDownIdeal.Gen.frame m ρ, fun m g _ => RefFrames.down m g,
    fun m ρ _ => Cert.KernelGate.Gen.frame m ρ, fun m ρ _ => Cert.KernelGateIdeal.Gen.frame m ρ, fun m g _ => RefFrames.gate m g,
    fun m ρ _ => Cert.KernelResid.Gen.frame m ρ, fun m ρ _ => Cert.KernelResidIdeal.Gen.frame m ρ, fun m g _ => RefFrames.resid m g,
    fun m ρ _ => Cert.KernelNorms.Gen.frame m ρ, fun m ρ _ => Cert.KernelNormsIdeal.Gen.frame m ρ,
    fun m ρ _ => Cert.KernelNormsIdeal.Gen.frame m ρ, fun m g _ => RefFrames.norms m g, fun m g _ => RefFrames.norms m g,
    fun m ρ _ => Cert.KernelSquare.Gen.frame m ρ, fun m ρ _ => Cert.KernelSquareIdeal.Gen.frame m ρ, fun m g _ => RefFrames.square m g,
    fun m ρ _ => Cert.KernelPle.Gen.frame m ρ, fun m ρ _ => Cert.KernelPleIdeal.Gen.frame m ρ, fun m g _ => RefFrames.ple m g,
    fun m ρ _ => Cert.KernelInA.Gen.frame m ρ, fun m ρ _ => Cert.KernelInAIdeal.Gen.frame m ρ, fun m g _ => RefFrames.inA m g,
    fun m ρ _ => Cert.KernelInB.Gen.frame m ρ, fun m ρ _ => Cert.KernelInBIdeal.Gen.frame m ρ, fun m g _ => RefFrames.inB m g,
    fun m ρ _ => Cert.KernelMix.Gen.frame m ρ, fun m ρ _ => Cert.KernelMixIdeal.Gen.frame m ρ, fun m g _ => RefFrames.mix m g,
    fun m ρ _ => Cert.KernelRowsA.Gen.frame m ρ, fun m ρ _ => Cert.KernelRowsAIdeal.Gen.frame m ρ, fun m g _ => RefFrames.rowsA m g,
    fun m ρ _ => Cert.KernelProjA.Gen.frame m ρ, fun m ρ _ => Cert.KernelProjAIdeal.Gen.frame m ρ, fun m g _ => RefFrames.projA m g,
    fun m ρ _ => Cert.KernelFirst.Gen.frame m ρ, fun m ρ _ => Cert.KernelFirstIdeal.Gen.frame m ρ,
    fun m ρ _ => Cert.KernelFirstIdeal.Gen.frame m ρ, fun m g _ => RefFrames.first m g, fun m g _ => RefFrames.first m g,
    fun m ρ _ => Cert.KernelLarge.Gen.frame m ρ, fun m ρ _ => Cert.KernelLargeIdeal.Gen.frame m ρ, Adam.largeFrame,
    trivial, fun m g m' g' hp h => haveI := Cert.Pre_finite.Gen.facts; Band.agree m g m' g' hp h,
    trivial, fun m g m' g' _ h => UpGrad.agree m g m' g' h,
    trivial, fun m g m' g' _ h => DownGrad.agree m g m' g' h,
    trivial, fun m g m' g' _ h => Gate.agree m g m' g' h,
    trivial, fun m g m' g' _ h => Resid.agree m g m' g' h,
    trivial, fun m g m' g' hp h => haveI := Cert.Pre_all_finite.Gen.facts; Norms.agree m g m' g' hp h,
    trivial, fun m g m' g' _ h => ProdSquare.agree m g m' g' h,
    trivial, fun m g m' g' _ h => ProdPle.agree m g m' g' h,
    trivial, fun m g m' g' _ h => ProdInA.agree m g m' g' h,
    trivial, fun m g m' g' _ h => ProdInB.agree m g m' g' h,
    trivial, fun m g m' g' _ h => ProdMix.agree m g m' g' h,
    trivial, fun m g m' g' _ h => ProdRowsA.agree m g m' g' h,
    trivial, fun m g m' g' _ h => ProdProjA.agree m g m' g' h,
    trivial, fun m g m' g' hp h => haveI := Cert.Pre_first_finite.Gen.facts; First.agree m g m' g' hp h,
    trivial, Adam.large⟩

end Cert.Proof

end
